-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_bounded [hPre_bounded : Cert.Pre_bounded.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_bounded.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_bounded [hPre_bounded : Cert.Pre_bounded.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_bounded.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_bounded [hKernel4Ideal : Cert.Kernel4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_bounded m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_bounded [hReference4Ideal : Cert.Reference4Ideal.Facts] [hPre_bounded : Cert.Pre_bounded.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_bounded m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal_pre_bounded [hKernel4Ideal : Cert.Kernel4Ideal.Facts] [hReference4Ideal : Cert.Reference4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_bounded m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_bounded (hKernel4Ideal := hKernel4Ideal) (hPre_bounded := hPre_bounded)
    ∧ quiescent_Reference4Ideal (hReference4Ideal := hReference4Ideal)
    ∧ quiescent_Reference4Ideal_pre_bounded (hReference4Ideal := hReference4Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_bounded (hKernel4Ideal := hKernel4Ideal) (hReference4Ideal := hReference4Ideal) (hPre_bounded := hPre_bounded)
-- ==== Pre_bounded.lean ====
abbrev S32x2048x8x64 : Shape := ⟨4, ![32, 2048, 8, 64]⟩
abbrev S1x64 : Shape := ⟨2, ![1, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048x2048 : Shape := ⟨4, ![32, 8, 2048, 2048]⟩
abbrev S_ : Shape := ⟨0, ![]⟩

class Facts : Prop where
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S32x8x2048x2048 : S_.BroadcastsInDim S32x8x2048x2048 (![] : Fin 0 → Fin S32x8x2048x2048.rank)
  bcast_S2048x2048_S32x8x2048x2048_2_3 : S2048x2048.BroadcastsInDim S32x8x2048x2048 (![2, 3] : Fin 2 → Fin S32x8x2048x2048.rank)
  reducesTo_S32x8x2048x2048_S_d0_1_2_3 : S32x8x2048x2048.ReducesTo [0, 1, 2, 3] S_
  h_S_ : 0 < S_.numel
  dot_S32x2048x8x64_S32x2048x8x64_S32x8x2048x2048_3_3_1_1_02_02_wf : DotDims.WF S32x2048x8x64 S32x2048x8x64 S32x8x2048x2048 [3] [3] [1] [1] [0, 2] [0, 2]

variable [Facts]

def dot_S32x2048x8x64_S32x2048x8x64_S32x8x2048x2048_3_3_1_1_02_02 : DotDims S32x2048x8x64 S32x2048x8x64 S32x8x2048x2048 where
  lhsContracting := [3]
  rhsContracting := [3]
  lhsNonContracting := [1]
  rhsNonContracting := [1]
  lhsBatch := [0, 2]
  rhsBatch := [0, 2]
  wf := dot_S32x2048x8x64_S32x2048x8x64_S32x8x2048x2048_3_3_1_1_02_02_wf
def fn_where {F : FTy → Type} [FloatOps F] (arg0 : IVec S2048x2048 1) (arg1 : FVec F S32x8x2048x2048 .f32) (arg2 : FVec F S_ .f32) : FVec F S32x8x2048x2048 .f32 :=
  let v0 : FVec F S_ .f32 := id arg2
  let v1 : IVec S32x8x2048x2048 1 := broadcastInDim S32x8x2048x2048 ![2, 3] bcast_S2048x2048_S32x8x2048x2048_2_3 arg0
  let v2 : FVec F S32x8x2048x2048 .f32 := broadcastInDim S32x8x2048x2048 ![] bcast_S_S32x8x2048x2048 v0
  let v3 : FVec F S32x8x2048x2048 .f32 := select v1 arg1 v2
  v3

def fn {F : FTy → Type} [FloatOps F] (main_arg0 : FVec F S32x2048x8x64 .f32) (main_arg1 : FVec F S32x2048x8x64 .f32) (main_arg2 : FVec F S32x2048x8x64 .f32) (main_arg3 : FVec F S1x64 .f32) : IVec S_ 1 :=
  let main_v0 : IVec S2048 32 := iotaInDim S2048 32 0
  let main_v1 : IVec S1x2048 32 := broadcastInDim S1x2048 ![1] bcast_S2048_S1x2048_1 main_v0
  let main_v2 : IVec S2048x1 32 := broadcastInDim S2048x1 ![0] bcast_S2048_S2048x1_0 main_v0
  let main_v3 : IVec S2048x2048 32 := broadcastInDim S2048x2048 ![0, 1] bcast_S1x2048_S2048x2048_0_1 main_v1
  let main_v4 : IVec S2048x2048 32 := broadcastInDim S2048x2048 ![0, 1] bcast_S2048x1_S2048x2048_0_1 main_v2
  let main_v5 : IVec S2048x2048 1 := cmpi .slt main_v3 main_v4
  let main_v6 : FVec F S32x8x2048x2048 .f32 := (fun l r => Host.dotGeneral dot_S32x2048x8x64_S32x2048x8x64_S32x8x2048x2048_3_3_1_1_02_02 none l r) main_arg0 main_arg1
  let main_cst : FVec F S_ .f32 := constant S_ .f32 0x40000000#32
  let main_v7 : FVec F S_ .f32 := Host.log main_cst
  let main_cst_0 : FVec F S_ .f32 := constant S_ .f32 0x3E000000#32
  let main_v8 : FVec F S_ .f32 := Host.divf main_cst_0 main_v7
  let main_v9 : FVec F S32x8x2048x2048 .f32 := broadcastInDim S32x8x2048x2048 ![] bcast_S_S32x8x2048x2048 main_v8
  let main_v10 : FVec F S32x8x2048x2048 .f32 := mulf main_v6 main_v9
  let main_cst_1 : FVec F S_ .f32 := constant S_ .f32 0x00000000#32
  let main_v11 : FVec F S32x8x2048x2048 .f32 := fn_where (F := F) main_v5 main_v10 main_cst_1
  let main_cst_2 : FVec F S_ .f32 := constant S_ .f32 0x42800000#32
  let main_v12 : FVec F S32x8x2048x2048 .f32 := broadcastInDim S32x8x2048x2048 ![] bcast_S_S32x8x2048x2048 main_cst_2
  let main_v13 : IVec S32x8x2048x2048 1 := cmpf .ole main_v11 main_v12
  let main_c : IVec S_ 1 := constantI S_ 1 1#1
  let main_v14 : IVec S_ 1 := (fun x v => Host.reduce IntOp.andi x v reducesTo_S32x8x2048x2048_S_d0_1_2_3 h_S_) main_v13 main_c
  main_v14
-- ==== Pre_finite.lean ====
abbrev S32x2048x8x64 : Shape := ⟨4, ![32, 2048, 8, 64]⟩
abbrev S32x2048x4x128 : Shape := ⟨4, ![32, 2048, 4, 128]⟩
abbrev S1x64 : Shape := ⟨2, ![1, 64]⟩
abbrev S1x128 : Shape := ⟨2, ![1, 128]⟩
abbrev S_ : Shape := ⟨0, ![]⟩

class Facts : Prop where
  bcast_S_S32x2048x8x64 : S_.BroadcastsInDim S32x2048x8x64 (![] : Fin 0 → Fin S32x2048x8x64.rank)
  reducesTo_S32x2048x8x64_S_d0_1_2_3 : S32x2048x8x64.ReducesTo [0, 1, 2, 3] S_
  h_S_ : 0 < S_.numel
  bcast_S_S32x2048x4x128 : S_.BroadcastsInDim S32x2048x4x128 (![] : Fin 0 → Fin S32x2048x4x128.rank)
  reducesTo_S32x2048x4x128_S_d0_1_2_3 : S32x2048x4x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S32x2048x8x64 .f32) (main_arg1 : FVec F S32x2048x8x64 .f32) (main_arg2 : FVec F S32x2048x4x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S32x2048x8x64 .f32 := Host.absf main_arg0
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_c : IVec S_ 1 := constantI S_ 1 1#1
  let main_v3 : IVec S_ 1 := (fun x v => Host.reduce IntOp.andi x v reducesTo_S32x2048x8x64_S_d0_1_2_3 h_S_) main_v2 main_c
  let main_v4 : FVec F S32x2048x8x64 .f32 := Host.absf main_arg1
  let main_cst_0 : FVec F S_ .f32 := constant S_ .f32 0x7F800000#32
  let main_v5 : FVec F S32x2048x8x64 .f32 := broadcastInDim S32x2048x8x64 ![] bcast_S_S32x2048x8x64 main_cst_0
  let main_v6 : IVec S32x2048x8x64 1 := cmpf .olt main_v4 main_v5
  let main_c_1 : IVec S_ 1 := constantI S_ 1 1#1
  let main_v7 : IVec S_ 1 := (fun x v => Host.reduce IntOp.andi x v reducesTo_S32x2048x8x64_S_d0_1_2_3 h_S_) main_v6 main_c_1
  let main_v8 : IVec S_ 1 := andi main_v3 main_v7
  let main_v9 : FVec F S32x2048x4x128 .f32 := Host.absf main_arg2
  let main_cst_2 : FVec F S_ .f32 := constant S_ .f32 0x7F800000#32
  let main_v10 : FVec F S32x2048x4x128 .f32 := broadcastInDim S32x2048x4x128 ![] bcast_S_S32x2048x4x128 main_cst_2
  let main_v11 : IVec S32x2048x4x128 1 := cmpf .olt main_v9 main_v10
  let main_c_3 : IVec S_ 1 := constantI S_ 1 1#1
  let main_v12 : IVec S_ 1 := (fun x v => Host.reduce IntOp.andi x v reducesTo_S32x2048x4x128_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S32x2048x8x64 : Shape := ⟨4, ![32, 2048, 8, 64]⟩
abbrev S32x2048x4x128 : Shape := ⟨4, ![32, 2048, 4, 128]⟩
abbrev S1x64 : Shape := ⟨2, ![1, 64]⟩
abbrev S1x128 : Shape := ⟨2, ![1, 128]⟩
abbrev S_ : Shape := ⟨0, ![]⟩
abbrev S65536x2x256 : Shape := ⟨3, ![65536, 2, 256]⟩
abbrev S65536x4x256 : Shape := ⟨3, ![65536, 4, 256]⟩
abbrev S4x65536x256 : Shape := ⟨3, ![4, 65536, 256]⟩
abbrev S65536x512 : Shape := ⟨2, ![65536, 512]⟩
abbrev S512x65536 : Shape := ⟨2, ![512, 65536]⟩
abbrev S64 : Shape := ⟨1, ![64]⟩
abbrev S4x64 : Shape := ⟨2, ![4, 64]⟩
abbrev S128 : Shape := ⟨1, ![128]⟩
abbrev S2x65536x256 : Shape := ⟨3, ![2, 65536, 256]⟩
abbrev S1x2048x256 : Shape := ⟨3, ![1, 2048, 256]⟩
abbrev S256x2048 : Shape := ⟨2, ![256, 2048]⟩
abbrev S4x512x512 : Shape := ⟨3, ![4, 512, 512]⟩
abbrev S4x1x512 : Shape := ⟨3, ![4, 1, 512]⟩
abbrev S4x128x512 : Shape := ⟨3, ![4, 128, 512]⟩
abbrev S512x512 : Shape := ⟨2, ![512, 512]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S1x512x512 : Shape := ⟨3, ![1, 512, 512]⟩
abbrev S1x512 : Shape := ⟨2, ![1, 512]⟩
abbrev S1x1x512 : Shape := ⟨3, ![1, 1, 512]⟩
abbrev S128x512 : Shape := ⟨2, ![128, 512]⟩
abbrev S1x128x512 : Shape := ⟨3, ![1, 128, 512]⟩
abbrev S512 : Shape := ⟨1, ![512]⟩

abbrev nBuf : Space → Nat
  | .hbm => 35
  | .vmem => 15
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048x8x64, .f32⟩
  | .hbm, ⟨13, _⟩ => ⟨S32x2048x8x64, .f32⟩
  | .hbm, ⟨14, _⟩ => ⟨S32x2048x8x64, .bf16⟩
  | .hbm, ⟨15, _⟩ => ⟨S65536x2x256, .bf16⟩
  | .hbm, ⟨16, _⟩ => ⟨S32x2048x8x64, .bf16⟩
  | .hbm, ⟨17, _⟩ => ⟨S65536x2x256, .bf16⟩
  | .hbm, ⟨18, _⟩ => ⟨S65536x4x256, .bf16⟩
  | .hbm, ⟨19, _⟩ => ⟨S4x65536x256, .bf16⟩
  | .hbm, ⟨20, _⟩ => ⟨S32x2048x4x128, .bf16⟩
  | .hbm, ⟨21, _⟩ => ⟨S65536x512, .bf16⟩
  | .hbm, ⟨22, _⟩ => ⟨S512x65536, .bf16⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S4x64, .f32⟩
  | .hbm, ⟨32, _⟩ => ⟨S128, .f32⟩
  | .hbm, ⟨33, _⟩ => ⟨S1x128, .f32⟩
  | .hbm, ⟨34, _⟩ => ⟨S2x65536x256, .bf16⟩
  | .local _ .vmem, ⟨0, _⟩ => ⟨S4x64, .f32⟩
  | .local _ .vmem, ⟨1, _⟩ => ⟨S1x128, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S256x2048, .bf16⟩
  | .local _ .vmem, ⟨7, _⟩ => ⟨S256x2048, .bf16⟩
  | .local _ .vmem, ⟨8, _⟩ => ⟨S1x2048x256, .bf16⟩
  | .local _ .vmem, ⟨9, _⟩ => ⟨S1x2048x256, .bf16⟩
  | .local _ .vmem, ⟨10, _⟩ => ⟨S4x512x512, .f32⟩
  | .local _ .vmem, ⟨11, _⟩ => ⟨S4x512x512, .f32⟩
  | .local _ .vmem, ⟨12, _⟩ => ⟨S4x1x512, .f32⟩
  | .local _ .vmem, ⟨13, _⟩ => ⟨S4x1x512, .f32⟩
  | .local _ .vmem, ⟨14, _⟩ => ⟨S4x128x512, .f32⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def k0_mult1 : BitVec 32 :=
  let c0_i32 : BitVec 32 := 0#32
  c0_i32
def k0_mult2 : BitVec 32 :=
  let c0_i32_5 : BitVec 32 := 0#32
  c0_i32_5
def k0_mult3 : BitVec 32 :=
  let c0_i32_13 : BitVec 32 := 0#32
  c0_i32_13
def k0_mult4 : BitVec 32 :=
  let c0_i32_16 : BitVec 32 := 0#32
  c0_i32_16
def k0_mult5 : BitVec 32 :=
  let c0_i32_23 : BitVec 32 := 0#32
  c0_i32_23
def k0_mult6 : BitVec 32 :=
  let c0_i32_25 : BitVec 32 := 0#32
  c0_i32_25
def k0_mult7 : BitVec 32 :=
  let c0_i32_32 : BitVec 32 := 0#32
  c0_i32_32
def k0_mult8 : BitVec 32 :=
  let c0_i32_35 : BitVec 32 := 0#32
  c0_i32_35
@[reducible] def k0_t1_loop : Scf.Loop 32 :=
  let c0_i32_42 : BitVec 32 := 0#32
  let c4_i32 : BitVec 32 := 4#32
  let v86 : BitVec 32 := Scalar.addi c0_i32_42 c4_i32
  let c1_i32 : BitVec 32 := 1#32
  ⟨c0_i32_42, v86, c1_i32⟩
def k0_mult9 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_92 : BitVec 32 := 1#32
  let v136 : BitVec 32 := Scalar.subi arg13 c1_i32_92
  let c0_i32_93 : BitVec 32 := 0#32
  let v137 : BitVec 32 := Scalar.maxsi v136 c0_i32_93
  let c512_i32 : BitVec 32 := 512#32
  let v138 : BitVec 32 := Scalar.muli v137 c512_i32
  v138
def k0_off1 (k0_t1 : Fin k0_t1_loop.trips) : Fin 3 → Nat :=
  let c0_94 : Index := 0#32
  let c0_i32_42 : BitVec 32 := 0#32
  let c1_i32 : BitVec 32 := 1#32
  let arg13 : BitVec 32 := Scf.iv c0_i32_42 c1_i32 k0_t1
  let c1_i32_92 : BitVec 32 := 1#32
  let v136 : BitVec 32 := Scalar.subi arg13 c1_i32_92
  let c0_i32_93 : BitVec 32 := 0#32
  let v137 : BitVec 32 := Scalar.maxsi v136 c0_i32_93
  let c512_i32 : BitVec 32 := 512#32
  let v138 : BitVec 32 := Scalar.muli v137 c512_i32
  let v139 : BitVec 32 := v138
  let v140 : Index := Scalar.indexCast v139
  let c0_95 : Index := 0#32
  ![0, v140.toNat, 0]
def k0_mult10 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_96 : BitVec 32 := 512#32
  let v143 : BitVec 32 := Scalar.muli arg13 c512_i32_96
  v143
def k0_off2 (k0_t1 : Fin k0_t1_loop.trips) : Fin 3 → Nat :=
  let c0_97 : Index := 0#32
  let c0_i32_42 : BitVec 32 := 0#32
  let c1_i32 : BitVec 32 := 1#32
  let arg13 : BitVec 32 := Scf.iv c0_i32_42 c1_i32 k0_t1
  let c512_i32_96 : BitVec 32 := 512#32
  let v143 : BitVec 32 := Scalar.muli arg13 c512_i32_96
  let v144 : BitVec 32 := v143
  let v145 : Index := Scalar.indexCast v144
  let c0_98 : Index := 0#32
  ![0, v145.toNat, 0]
def k0_mult11 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_92 : BitVec 32 := 1#32
  let v136 : BitVec 32 := Scalar.subi arg13 c1_i32_92
  let c0_i32_93 : BitVec 32 := 0#32
  let v137 : BitVec 32 := Scalar.maxsi v136 c0_i32_93
  let c512_i32_104 : BitVec 32 := 512#32
  let v156 : BitVec 32 := Scalar.muli v137 c512_i32_104
  v156
def k0_mult12 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_107 : BitVec 32 := 512#32
  let v161 : BitVec 32 := Scalar.muli arg13 c512_i32_107
  v161
def k0_mult13 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_92 : BitVec 32 := 1#32
  let v136 : BitVec 32 := Scalar.subi arg13 c1_i32_92
  let c0_i32_93 : BitVec 32 := 0#32
  let v137 : BitVec 32 := Scalar.maxsi v136 c0_i32_93
  let c512_i32_115 : BitVec 32 := 512#32
  let v174 : BitVec 32 := Scalar.muli v137 c512_i32_115
  v174
def k0_off3 (k0_t1 : Fin k0_t1_loop.trips) : Fin 3 → Nat :=
  let c0_116 : Index := 0#32
  let c0_i32_42 : BitVec 32 := 0#32
  let c1_i32 : BitVec 32 := 1#32
  let arg13 : BitVec 32 := Scf.iv c0_i32_42 c1_i32 k0_t1
  let c1_i32_92 : BitVec 32 := 1#32
  let v136 : BitVec 32 := Scalar.subi arg13 c1_i32_92
  let c0_i32_93 : BitVec 32 := 0#32
  let v137 : BitVec 32 := Scalar.maxsi v136 c0_i32_93
  let c512_i32_115 : BitVec 32 := 512#32
  let v174 : BitVec 32 := Scalar.muli v137 c512_i32_115
  let v175 : BitVec 32 := v174
  let v176 : Index := Scalar.indexCast v175
  let c128_117 : Index := 128#32
  ![0, v176.toNat, 128]
def k0_mult14 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_118 : BitVec 32 := 512#32
  let v179 : BitVec 32 := Scalar.muli arg13 c512_i32_118
  v179
def k0_off4 (k0_t1 : Fin k0_t1_loop.trips) : Fin 3 → Nat :=
  let c0_119 : Index := 0#32
  let c0_i32_42 : BitVec 32 := 0#32
  let c1_i32 : BitVec 32 := 1#32
  let arg13 : BitVec 32 := Scf.iv c0_i32_42 c1_i32 k0_t1
  let c512_i32_118 : BitVec 32 := 512#32
  let v179 : BitVec 32 := Scalar.muli arg13 c512_i32_118
  let v180 : BitVec 32 := v179
  let v181 : Index := Scalar.indexCast v180
  let c128_120 : Index := 128#32
  ![0, v181.toNat, 128]
def k0_mult15 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_92 : BitVec 32 := 1#32
  let v136 : BitVec 32 := Scalar.subi arg13 c1_i32_92
  let c0_i32_93 : BitVec 32 := 0#32
  let v137 : BitVec 32 := Scalar.maxsi v136 c0_i32_93
  let c512_i32_126 : BitVec 32 := 512#32
  let v192 : BitVec 32 := Scalar.muli v137 c512_i32_126
  v192
def k0_mult16 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_129 : BitVec 32 := 512#32
  let v197 : BitVec 32 := Scalar.muli arg13 c512_i32_129
  v197
def k0_mult17 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_155 : BitVec 32 := 512#32
  let v236 : BitVec 32 := Scalar.muli arg13 c512_i32_155
  v236
def k0_off5 (k0_t1 : Fin k0_t1_loop.trips) : Fin 2 → Nat :=
  let c0_156 : Index := 0#32
  let c0_i32_42 : BitVec 32 := 0#32
  let c1_i32 : BitVec 32 := 1#32
  let arg13 : BitVec 32 := Scf.iv c0_i32_42 c1_i32 k0_t1
  let c512_i32_155 : BitVec 32 := 512#32
  let v236 : BitVec 32 := Scalar.muli arg13 c512_i32_155
  let v237 : BitVec 32 := v236
  let v238 : Index := Scalar.indexCast v237
  ![0, v238.toNat]
def k0_mult18 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_182 : BitVec 32 := 512#32
  let v277 : BitVec 32 := Scalar.muli arg13 c512_i32_182
  v277
def k0_mult19 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_209 : BitVec 32 := 512#32
  let v318 : BitVec 32 := Scalar.muli arg13 c512_i32_209
  v318
def k0_off6 (k0_t1 : Fin k0_t1_loop.trips) : Fin 2 → Nat :=
  let c128_210 : Index := 128#32
  let c0_i32_42 : BitVec 32 := 0#32
  let c1_i32 : BitVec 32 := 1#32
  let arg13 : BitVec 32 := Scf.iv c0_i32_42 c1_i32 k0_t1
  let c512_i32_209 : BitVec 32 := 512#32
  let v318 : BitVec 32 := Scalar.muli arg13 c512_i32_209
  let v319 : BitVec 32 := v318
  let v320 : Index := Scalar.indexCast v319
  ![128, v320.toNat]
def k0_mult20 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_236 : BitVec 32 := 512#32
  let v359 : BitVec 32 := Scalar.muli arg13 c512_i32_236
  v359
@[reducible] def k0_t2_loop (k0_t1 : Fin k0_t1_loop.trips) : Scf.Loop 32 :=
  let c0_i32_253 : BitVec 32 := 0#32
  let c0_i32_42 : BitVec 32 := 0#32
  let c1_i32 : BitVec 32 := 1#32
  let arg13 : BitVec 32 := Scf.iv c0_i32_42 c1_i32 k0_t1
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_256 : BitVec 32 := 1#32
  ⟨c0_i32_253, v397, c1_i32_256⟩
def k0_mult21 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_366 : BitVec 32 := 512#32
  let v585 : BitVec 32 := Scalar.muli v584 c512_i32_366
  v585
def k0_off7 (k0_t1 : Fin k0_t1_loop.trips) (k0_t2 : Fin (k0_t2_loop k0_t1).trips) : Fin 3 → Nat :=
  let c0_367 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_366 : BitVec 32 := 512#32
  let v585 : BitVec 32 := Scalar.muli v584 c512_i32_366
  let v586 : BitVec 32 := v585
  let v587 : Index := Scalar.indexCast v586
  let c0_368 : Index := 0#32
  ![0, v587.toNat, 0]
def k0_mult22 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_369 : BitVec 32 := 512#32
  let v590 : BitVec 32 := Scalar.muli arg13 c512_i32_369
  v590
def k0_off8 (k0_t1 : Fin k0_t1_loop.trips) : Fin 3 → Nat :=
  let c0_370 : Index := 0#32
  let c0_i32_42 : BitVec 32 := 0#32
  let c1_i32 : BitVec 32 := 1#32
  let arg13 : BitVec 32 := Scf.iv c0_i32_42 c1_i32 k0_t1
  let c512_i32_369 : BitVec 32 := 512#32
  let v590 : BitVec 32 := Scalar.muli arg13 c512_i32_369
  let v591 : BitVec 32 := v590
  let v592 : Index := Scalar.indexCast v591
  let c0_371 : Index := 0#32
  ![0, v592.toNat, 0]
def k0_mult23 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_377 : BitVec 32 := 512#32
  let v603 : BitVec 32 := Scalar.muli v584 c512_i32_377
  v603
def k0_mult24 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_380 : BitVec 32 := 512#32
  let v608 : BitVec 32 := Scalar.muli arg13 c512_i32_380
  v608
def k0_mult25 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_388 : BitVec 32 := 512#32
  let v621 : BitVec 32 := Scalar.muli v584 c512_i32_388
  v621
def k0_off9 (k0_t1 : Fin k0_t1_loop.trips) (k0_t2 : Fin (k0_t2_loop k0_t1).trips) : Fin 3 → Nat :=
  let c0_389 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_388 : BitVec 32 := 512#32
  let v621 : BitVec 32 := Scalar.muli v584 c512_i32_388
  let v622 : BitVec 32 := v621
  let v623 : Index := Scalar.indexCast v622
  let c128_390 : Index := 128#32
  ![0, v623.toNat, 128]
def k0_mult26 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_391 : BitVec 32 := 512#32
  let v626 : BitVec 32 := Scalar.muli arg13 c512_i32_391
  v626
def k0_off10 (k0_t1 : Fin k0_t1_loop.trips) : Fin 3 → Nat :=
  let c0_392 : Index := 0#32
  let c0_i32_42 : BitVec 32 := 0#32
  let c1_i32 : BitVec 32 := 1#32
  let arg13 : BitVec 32 := Scf.iv c0_i32_42 c1_i32 k0_t1
  let c512_i32_391 : BitVec 32 := 512#32
  let v626 : BitVec 32 := Scalar.muli arg13 c512_i32_391
  let v627 : BitVec 32 := v626
  let v628 : Index := Scalar.indexCast v627
  let c128_393 : Index := 128#32
  ![0, v628.toNat, 128]
def k0_mult27 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_399 : BitVec 32 := 512#32
  let v639 : BitVec 32 := Scalar.muli v584 c512_i32_399
  v639
def k0_mult28 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_402 : BitVec 32 := 512#32
  let v644 : BitVec 32 := Scalar.muli arg13 c512_i32_402
  v644
def k0_mult29 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c512_i32_427 : BitVec 32 := 512#32
  let v681 : BitVec 32 := Scalar.muli v582 c512_i32_427
  v681
def k0_off11 (k0_t1 : Fin k0_t1_loop.trips) (k0_t2 : Fin (k0_t2_loop k0_t1).trips) : Fin 2 → Nat :=
  let c0_428 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c512_i32_427 : BitVec 32 := 512#32
  let v681 : BitVec 32 := Scalar.muli v582 c512_i32_427
  let v682 : BitVec 32 := v681
  let v683 : Index := Scalar.indexCast v682
  ![0, v683.toNat]
def k0_mult30 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c512_i32_453 : BitVec 32 := 512#32
  let v720 : BitVec 32 := Scalar.muli v582 c512_i32_453
  v720
def k0_mult31 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c512_i32_479 : BitVec 32 := 512#32
  let v759 : BitVec 32 := Scalar.muli v582 c512_i32_479
  v759
def k0_off12 (k0_t1 : Fin k0_t1_loop.trips) (k0_t2 : Fin (k0_t2_loop k0_t1).trips) : Fin 2 → Nat :=
  let c128_480 : Index := 128#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c512_i32_479 : BitVec 32 := 512#32
  let v759 : BitVec 32 := Scalar.muli v582 c512_i32_479
  let v760 : BitVec 32 := v759
  let v761 : Index := Scalar.indexCast v760
  ![128, v761.toNat]
def k0_mult32 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c512_i32_505 : BitVec 32 := 512#32
  let v798 : BitVec 32 := Scalar.muli v582 c512_i32_505
  v798
def k0_mult33 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_517 : BitVec 32 := 512#32
  let v816 : BitVec 32 := Scalar.muli v815 c512_i32_517
  v816
def k0_off13 (k0_t1 : Fin k0_t1_loop.trips) (k0_t2 : Fin (k0_t2_loop k0_t1).trips) : Fin 3 → Nat :=
  let c0_518 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_517 : BitVec 32 := 512#32
  let v816 : BitVec 32 := Scalar.muli v815 c512_i32_517
  let v817 : BitVec 32 := v816
  let v818 : Index := Scalar.indexCast v817
  let c0_519 : Index := 0#32
  ![0, v818.toNat, 0]
def k0_mult34 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_520 : BitVec 32 := 512#32
  let v821 : BitVec 32 := Scalar.muli arg13 c512_i32_520
  v821
def k0_mult35 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_528 : BitVec 32 := 512#32
  let v834 : BitVec 32 := Scalar.muli v815 c512_i32_528
  v834
def k0_mult36 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_531 : BitVec 32 := 512#32
  let v839 : BitVec 32 := Scalar.muli arg13 c512_i32_531
  v839
def k0_mult37 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_539 : BitVec 32 := 512#32
  let v852 : BitVec 32 := Scalar.muli v815 c512_i32_539
  v852
def k0_off14 (k0_t1 : Fin k0_t1_loop.trips) (k0_t2 : Fin (k0_t2_loop k0_t1).trips) : Fin 3 → Nat :=
  let c0_540 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_539 : BitVec 32 := 512#32
  let v852 : BitVec 32 := Scalar.muli v815 c512_i32_539
  let v853 : BitVec 32 := v852
  let v854 : Index := Scalar.indexCast v853
  let c128_541 : Index := 128#32
  ![0, v854.toNat, 128]
def k0_mult38 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_542 : BitVec 32 := 512#32
  let v857 : BitVec 32 := Scalar.muli arg13 c512_i32_542
  v857
def k0_mult39 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_550 : BitVec 32 := 512#32
  let v870 : BitVec 32 := Scalar.muli v815 c512_i32_550
  v870
def k0_mult40 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_553 : BitVec 32 := 512#32
  let v875 : BitVec 32 := Scalar.muli arg13 c512_i32_553
  v875
def k0_mult41 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_578 : BitVec 32 := 512#32
  let v912 : BitVec 32 := Scalar.muli v813 c512_i32_578
  v912
def k0_off15 (k0_t1 : Fin k0_t1_loop.trips) (k0_t2 : Fin (k0_t2_loop k0_t1).trips) : Fin 2 → Nat :=
  let c0_579 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_578 : BitVec 32 := 512#32
  let v912 : BitVec 32 := Scalar.muli v813 c512_i32_578
  let v913 : BitVec 32 := v912
  let v914 : Index := Scalar.indexCast v913
  ![0, v914.toNat]
def k0_mult42 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_604 : BitVec 32 := 512#32
  let v951 : BitVec 32 := Scalar.muli v813 c512_i32_604
  v951
def k0_mult43 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_630 : BitVec 32 := 512#32
  let v990 : BitVec 32 := Scalar.muli v813 c512_i32_630
  v990
def k0_off16 (k0_t1 : Fin k0_t1_loop.trips) (k0_t2 : Fin (k0_t2_loop k0_t1).trips) : Fin 2 → Nat :=
  let c128_631 : Index := 128#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_630 : BitVec 32 := 512#32
  let v990 : BitVec 32 := Scalar.muli v813 c512_i32_630
  let v991 : BitVec 32 := v990
  let v992 : Index := Scalar.indexCast v991
  ![128, v992.toNat]
def k0_mult44 (k0_t1 : Fin k0_t1_loop.trips) (k0_t2 : Fin (k0_t2_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_256 : BitVec 32 := 1#32
  let arg14 : BitVec 32 := Scf.iv c0_i32_253 c1_i32_256 k0_t2
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_656 : BitVec 32 := 512#32
  let v1029 : BitVec 32 := Scalar.muli v813 c512_i32_656
  v1029
@[reducible] def k0_t3_loop (k0_t1 : Fin k0_t1_loop.trips) : Scf.Loop 32 :=
  let c0_i32_253 : BitVec 32 := 0#32
  let c0_i32_42 : BitVec 32 := 0#32
  let c1_i32 : BitVec 32 := 1#32
  let arg13 : BitVec 32 := Scf.iv c0_i32_42 c1_i32 k0_t1
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let v394 : BitVec 32 := Scalar.addi c0_i32_253 v393
  let c1_i32_257 : BitVec 32 := 1#32
  ⟨v397, v394, c1_i32_257⟩
def k0_mult45 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_366 : BitVec 32 := 512#32
  let v585 : BitVec 32 := Scalar.muli v584 c512_i32_366
  v585
def k0_off17 (k0_t1 : Fin k0_t1_loop.trips) (k0_t3 : Fin (k0_t3_loop k0_t1).trips) : Fin 3 → Nat :=
  let c0_367 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_366 : BitVec 32 := 512#32
  let v585 : BitVec 32 := Scalar.muli v584 c512_i32_366
  let v586 : BitVec 32 := v585
  let v587 : Index := Scalar.indexCast v586
  let c0_368 : Index := 0#32
  ![0, v587.toNat, 0]
def k0_mult46 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_369 : BitVec 32 := 512#32
  let v590 : BitVec 32 := Scalar.muli arg13 c512_i32_369
  v590
def k0_off18 (k0_t1 : Fin k0_t1_loop.trips) : Fin 3 → Nat :=
  let c0_370 : Index := 0#32
  let c0_i32_42 : BitVec 32 := 0#32
  let c1_i32 : BitVec 32 := 1#32
  let arg13 : BitVec 32 := Scf.iv c0_i32_42 c1_i32 k0_t1
  let c512_i32_369 : BitVec 32 := 512#32
  let v590 : BitVec 32 := Scalar.muli arg13 c512_i32_369
  let v591 : BitVec 32 := v590
  let v592 : Index := Scalar.indexCast v591
  let c0_371 : Index := 0#32
  ![0, v592.toNat, 0]
def k0_mult47 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_377 : BitVec 32 := 512#32
  let v603 : BitVec 32 := Scalar.muli v584 c512_i32_377
  v603
def k0_mult48 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_380 : BitVec 32 := 512#32
  let v608 : BitVec 32 := Scalar.muli arg13 c512_i32_380
  v608
def k0_mult49 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_388 : BitVec 32 := 512#32
  let v621 : BitVec 32 := Scalar.muli v584 c512_i32_388
  v621
def k0_off19 (k0_t1 : Fin k0_t1_loop.trips) (k0_t3 : Fin (k0_t3_loop k0_t1).trips) : Fin 3 → Nat :=
  let c0_389 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_388 : BitVec 32 := 512#32
  let v621 : BitVec 32 := Scalar.muli v584 c512_i32_388
  let v622 : BitVec 32 := v621
  let v623 : Index := Scalar.indexCast v622
  let c128_390 : Index := 128#32
  ![0, v623.toNat, 128]
def k0_mult50 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_391 : BitVec 32 := 512#32
  let v626 : BitVec 32 := Scalar.muli arg13 c512_i32_391
  v626
def k0_off20 (k0_t1 : Fin k0_t1_loop.trips) : Fin 3 → Nat :=
  let c0_392 : Index := 0#32
  let c0_i32_42 : BitVec 32 := 0#32
  let c1_i32 : BitVec 32 := 1#32
  let arg13 : BitVec 32 := Scf.iv c0_i32_42 c1_i32 k0_t1
  let c512_i32_391 : BitVec 32 := 512#32
  let v626 : BitVec 32 := Scalar.muli arg13 c512_i32_391
  let v627 : BitVec 32 := v626
  let v628 : Index := Scalar.indexCast v627
  let c128_393 : Index := 128#32
  ![0, v628.toNat, 128]
def k0_mult51 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_364 : BitVec 32 := 1#32
  let v583 : BitVec 32 := Scalar.subi v582 c1_i32_364
  let c0_i32_365 : BitVec 32 := 0#32
  let v584 : BitVec 32 := Scalar.maxsi v583 c0_i32_365
  let c512_i32_399 : BitVec 32 := 512#32
  let v639 : BitVec 32 := Scalar.muli v584 c512_i32_399
  v639
def k0_mult52 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_402 : BitVec 32 := 512#32
  let v644 : BitVec 32 := Scalar.muli arg13 c512_i32_402
  v644
def k0_mult53 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c512_i32_427 : BitVec 32 := 512#32
  let v681 : BitVec 32 := Scalar.muli v582 c512_i32_427
  v681
def k0_off21 (k0_t1 : Fin k0_t1_loop.trips) (k0_t3 : Fin (k0_t3_loop k0_t1).trips) : Fin 2 → Nat :=
  let c0_428 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c512_i32_427 : BitVec 32 := 512#32
  let v681 : BitVec 32 := Scalar.muli v582 c512_i32_427
  let v682 : BitVec 32 := v681
  let v683 : Index := Scalar.indexCast v682
  ![0, v683.toNat]
def k0_mult54 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c512_i32_453 : BitVec 32 := 512#32
  let v720 : BitVec 32 := Scalar.muli v582 c512_i32_453
  v720
def k0_mult55 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c512_i32_479 : BitVec 32 := 512#32
  let v759 : BitVec 32 := Scalar.muli v582 c512_i32_479
  v759
def k0_off22 (k0_t1 : Fin k0_t1_loop.trips) (k0_t3 : Fin (k0_t3_loop k0_t1).trips) : Fin 2 → Nat :=
  let c128_480 : Index := 128#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c512_i32_479 : BitVec 32 := 512#32
  let v759 : BitVec 32 := Scalar.muli v582 c512_i32_479
  let v760 : BitVec 32 := v759
  let v761 : Index := Scalar.indexCast v760
  ![128, v761.toNat]
def k0_mult56 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c512_i32_505 : BitVec 32 := 512#32
  let v798 : BitVec 32 := Scalar.muli v582 c512_i32_505
  v798
def k0_mult57 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_517 : BitVec 32 := 512#32
  let v816 : BitVec 32 := Scalar.muli v815 c512_i32_517
  v816
def k0_off23 (k0_t1 : Fin k0_t1_loop.trips) (k0_t3 : Fin (k0_t3_loop k0_t1).trips) : Fin 3 → Nat :=
  let c0_518 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_517 : BitVec 32 := 512#32
  let v816 : BitVec 32 := Scalar.muli v815 c512_i32_517
  let v817 : BitVec 32 := v816
  let v818 : Index := Scalar.indexCast v817
  let c0_519 : Index := 0#32
  ![0, v818.toNat, 0]
def k0_mult58 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_520 : BitVec 32 := 512#32
  let v821 : BitVec 32 := Scalar.muli arg13 c512_i32_520
  v821
def k0_mult59 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_528 : BitVec 32 := 512#32
  let v834 : BitVec 32 := Scalar.muli v815 c512_i32_528
  v834
def k0_mult60 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_531 : BitVec 32 := 512#32
  let v839 : BitVec 32 := Scalar.muli arg13 c512_i32_531
  v839
def k0_mult61 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_539 : BitVec 32 := 512#32
  let v852 : BitVec 32 := Scalar.muli v815 c512_i32_539
  v852
def k0_off24 (k0_t1 : Fin k0_t1_loop.trips) (k0_t3 : Fin (k0_t3_loop k0_t1).trips) : Fin 3 → Nat :=
  let c0_540 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_539 : BitVec 32 := 512#32
  let v852 : BitVec 32 := Scalar.muli v815 c512_i32_539
  let v853 : BitVec 32 := v852
  let v854 : Index := Scalar.indexCast v853
  let c128_541 : Index := 128#32
  ![0, v854.toNat, 128]
def k0_mult62 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_542 : BitVec 32 := 512#32
  let v857 : BitVec 32 := Scalar.muli arg13 c512_i32_542
  v857
def k0_mult63 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c1_i32_515 : BitVec 32 := 1#32
  let v814 : BitVec 32 := Scalar.subi v813 c1_i32_515
  let c0_i32_516 : BitVec 32 := 0#32
  let v815 : BitVec 32 := Scalar.maxsi v814 c0_i32_516
  let c512_i32_550 : BitVec 32 := 512#32
  let v870 : BitVec 32 := Scalar.muli v815 c512_i32_550
  v870
def k0_mult64 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_553 : BitVec 32 := 512#32
  let v875 : BitVec 32 := Scalar.muli arg13 c512_i32_553
  v875
def k0_mult65 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_578 : BitVec 32 := 512#32
  let v912 : BitVec 32 := Scalar.muli v813 c512_i32_578
  v912
def k0_off25 (k0_t1 : Fin k0_t1_loop.trips) (k0_t3 : Fin (k0_t3_loop k0_t1).trips) : Fin 2 → Nat :=
  let c0_579 : Index := 0#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_578 : BitVec 32 := 512#32
  let v912 : BitVec 32 := Scalar.muli v813 c512_i32_578
  let v913 : BitVec 32 := v912
  let v914 : Index := Scalar.indexCast v913
  ![0, v914.toNat]
def k0_mult66 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_604 : BitVec 32 := 512#32
  let v951 : BitVec 32 := Scalar.muli v813 c512_i32_604
  v951
def k0_mult67 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_630 : BitVec 32 := 512#32
  let v990 : BitVec 32 := Scalar.muli v813 c512_i32_630
  v990
def k0_off26 (k0_t1 : Fin k0_t1_loop.trips) (k0_t3 : Fin (k0_t3_loop k0_t1).trips) : Fin 2 → Nat :=
  let c128_631 : Index := 128#32
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_630 : BitVec 32 := 512#32
  let v990 : BitVec 32 := Scalar.muli v813 c512_i32_630
  let v991 : BitVec 32 := v990
  let v992 : Index := Scalar.indexCast v991
  ![128, v992.toNat]
def k0_mult68 (k0_t1 : Fin k0_t1_loop.trips) (k0_t3 : Fin (k0_t3_loop k0_t1).trips) : BitVec 32 :=
  let c0_i32_42 : BitVec 32 := 0#32
  let c1_i32 : BitVec 32 := 1#32
  let arg13 : BitVec 32 := Scf.iv c0_i32_42 c1_i32 k0_t1
  let c1_i32_362 : BitVec 32 := 1#32
  let v580 : BitVec 32 := Scalar.subi arg13 c1_i32_362
  let c2_i32_363 : BitVec 32 := 2#32
  let c0_i32_253 : BitVec 32 := 0#32
  let c1_i32_245 : BitVec 32 := 1#32
  let v374 : BitVec 32 := Scalar.subi arg13 c1_i32_245
  let c0_i32_246 : BitVec 32 := 0#32
  let v375 : BitVec 32 := Scalar.maxsi v374 c0_i32_246
  let c0_i32_247 : BitVec 32 := 0#32
  let v377 : BitVec 1 := Scalar.cmpi .sgt v375 c0_i32_247
  let v378 : BitVec 32 := Scalar.extui v377
  let c0_i32_248 : BitVec 32 := 0#32
  let v379 : BitVec 1 := Scalar.cmpi .slt v375 c0_i32_248
  let v380 : BitVec 32 := Scalar.extui v379
  let v381 : BitVec 32 := Scalar.subi v378 v380
  let c2_i32 : BitVec 32 := 2#32
  let c0_i32_249 : BitVec 32 := 0#32
  let v382 : BitVec 1 := Scalar.cmpi .sgt c2_i32 c0_i32_249
  let v383 : BitVec 32 := Scalar.extui v382
  let c0_i32_250 : BitVec 32 := 0#32
  let v384 : BitVec 1 := Scalar.cmpi .slt c2_i32 c0_i32_250
  let v385 : BitVec 32 := Scalar.extui v384
  let v386 : BitVec 32 := Scalar.subi v383 v385
  let v387 : BitVec 1 := Scalar.cmpi .ne v381 v386
  let v388 : BitVec 32 := Scalar.remsi v375 c2_i32
  let c0_i32_251 : BitVec 32 := 0#32
  let v389 : BitVec 1 := Scalar.cmpi .ne v388 c0_i32_251
  let v390 : BitVec 1 := Scalar.andi v387 v389
  let v376 : BitVec 32 := Scalar.divsi v375 c2_i32
  let c1_i32_252 : BitVec 32 := 1#32
  let v391 : BitVec 32 := Scalar.subi v376 c1_i32_252
  let v392 : BitVec 32 := Scalar.select v390 v391 v376
  let v393 : BitVec 32 := Scalar.subi v392 c0_i32_253
  let c1_i32_255 : BitVec 32 := 1#32
  let v395 : BitVec 32 := Scalar.divsi v393 c1_i32_255
  let v396 : BitVec 32 := Scalar.muli v395 c1_i32_255
  let v397 : BitVec 32 := Scalar.addi c0_i32_253 v396
  let c1_i32_257 : BitVec 32 := 1#32
  let arg14 : BitVec 32 := Scf.iv v397 c1_i32_257 k0_t3
  let v581 : BitVec 32 := Scalar.muli c2_i32_363 arg14
  let v582 : BitVec 32 := Scalar.subi v580 v581
  let c1_i32_514 : BitVec 32 := 1#32
  let v813 : BitVec 32 := Scalar.subi v582 c1_i32_514
  let c512_i32_656 : BitVec 32 := 512#32
  let v1029 : BitVec 32 := Scalar.muli v813 c512_i32_656
  v1029
def k0_cond1 (k0_t1 : Fin k0_t1_loop.trips) : BitVec 1 :=
  let c0_i32_42 : BitVec 32 := 0#32
  let c1_i32 : BitVec 32 := 1#32
  let arg13 : BitVec 32 := Scf.iv c0_i32_42 c1_i32 k0_t1
  let c2_i32_258 : BitVec 32 := 2#32
  let c0_i32_259 : BitVec 32 := 0#32
  let v400 : BitVec 1 := Scalar.cmpi .eq c2_i32_258 c0_i32_259
  let c1_i32_260 : BitVec 32 := 1#32
  let v401 : BitVec 32 := Scalar.select v400 c1_i32_260 c2_i32_258
  let v402 : BitVec 32 := Scalar.remsi arg13 v401
  let c0_i32_262 : BitVec 32 := 0#32
  let v404 : BitVec 1 := Scalar.cmpi .slt v402 c0_i32_262
  let c0_i32_263 : BitVec 32 := 0#32
  let v405 : BitVec 1 := Scalar.cmpi .slt v401 c0_i32_263
  let v406 : BitVec 1 := Scalar.xori v404 v405
  let c0_i32_261 : BitVec 32 := 0#32
  let v403 : BitVec 1 := Scalar.cmpi .ne v402 c0_i32_261
  let v407 : BitVec 1 := Scalar.andi v406 v403
  let v408 : BitVec 32 := Scalar.addi v402 v401
  let v409 : BitVec 32 := Scalar.select v407 v408 v402
  let c1_i32_264 : BitVec 32 := 1#32
  let v410 : BitVec 1 := Scalar.cmpi .eq v409 c1_i32_264
  let v411 : BitVec 32 := Scalar.extui v410
  let c0_i32_265 : BitVec 32 := 0#32
  let v412 : BitVec 1 := Scalar.cmpi .ne v411 c0_i32_265
  v412

def k0_mult69 : BitVec 32 :=
  let c0_i32_379 : BitVec 32 := 0#32
  c0_i32_379
def k0_mult70 : BitVec 32 :=
  let c0_i32_405 : BitVec 32 := 0#32
  c0_i32_405
def k0_mult71 : BitVec 32 :=
  let c0_i32_431 : BitVec 32 := 0#32
  c0_i32_431
def k0_mult72 : BitVec 32 :=
  let c0_i32_457 : BitVec 32 := 0#32
  c0_i32_457
def k0_cond2 (k0_t1 : Fin k0_t1_loop.trips) : BitVec 1 :=
  let c0_i32_42 : BitVec 32 := 0#32
  let c1_i32 : BitVec 32 := 1#32
  let arg13 : BitVec 32 := Scf.iv c0_i32_42 c1_i32 k0_t1
  let c2_i32_266 : BitVec 32 := 2#32
  let c0_i32_267 : BitVec 32 := 0#32
  let v413 : BitVec 1 := Scalar.cmpi .eq c2_i32_266 c0_i32_267
  let c1_i32_268 : BitVec 32 := 1#32
  let v414 : BitVec 32 := Scalar.select v413 c1_i32_268 c2_i32_266
  let v415 : BitVec 32 := Scalar.remsi arg13 v414
  let c0_i32_270 : BitVec 32 := 0#32
  let v417 : BitVec 1 := Scalar.cmpi .slt v415 c0_i32_270
  let c0_i32_271 : BitVec 32 := 0#32
  let v418 : BitVec 1 := Scalar.cmpi .slt v414 c0_i32_271
  let v419 : BitVec 1 := Scalar.xori v417 v418
  let c0_i32_269 : BitVec 32 := 0#32
  let v416 : BitVec 1 := Scalar.cmpi .ne v415 c0_i32_269
  let v420 : BitVec 1 := Scalar.andi v419 v416
  let v421 : BitVec 32 := Scalar.addi v415 v414
  let v422 : BitVec 32 := Scalar.select v420 v421 v415
  let c0_i32_272 : BitVec 32 := 0#32
  let v423 : BitVec 1 := Scalar.cmpi .eq v422 c0_i32_272
  let c2_i32_273 : BitVec 32 := 2#32
  let v424 : BitVec 1 := Scalar.cmpi .sge arg13 c2_i32_273
  let v425 : BitVec 1 := Scalar.andi v423 v424
  let v426 : BitVec 32 := Scalar.extui v425
  let c0_i32_274 : BitVec 32 := 0#32
  let v427 : BitVec 1 := Scalar.cmpi .ne v426 c0_i32_274
  v427

def k0_mult73 : BitVec 32 :=
  let c0_i32_362 : BitVec 32 := 0#32
  let c0_i32_363 : BitVec 32 := 0#32
  let v580 : BitVec 32 := Scalar.maxsi c0_i32_362 c0_i32_363
  let c512_i32_364 : BitVec 32 := 512#32
  let v581 : BitVec 32 := Scalar.muli v580 c512_i32_364
  v581
def k0_off27 : Fin 3 → Nat :=
  let c0_365 : Index := 0#32
  let c0_i32_362 : BitVec 32 := 0#32
  let c0_i32_363 : BitVec 32 := 0#32
  let v580 : BitVec 32 := Scalar.maxsi c0_i32_362 c0_i32_363
  let c512_i32_364 : BitVec 32 := 512#32
  let v581 : BitVec 32 := Scalar.muli v580 c512_i32_364
  let v582 : BitVec 32 := v581
  let v583 : Index := Scalar.indexCast v582
  let c0_366 : Index := 0#32
  ![0, v583.toNat, 0]
def k0_mult74 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_367 : BitVec 32 := 512#32
  let v586 : BitVec 32 := Scalar.muli arg13 c512_i32_367
  v586
def k0_off28 (k0_t1 : Fin k0_t1_loop.trips) : Fin 3 → Nat :=
  let c0_368 : Index := 0#32
  let c0_i32_42 : BitVec 32 := 0#32
  let c1_i32 : BitVec 32 := 1#32
  let arg13 : BitVec 32 := Scf.iv c0_i32_42 c1_i32 k0_t1
  let c512_i32_367 : BitVec 32 := 512#32
  let v586 : BitVec 32 := Scalar.muli arg13 c512_i32_367
  let v587 : BitVec 32 := v586
  let v588 : Index := Scalar.indexCast v587
  let c0_369 : Index := 0#32
  ![0, v588.toNat, 0]
def k0_mult75 : BitVec 32 :=
  let c0_i32_362 : BitVec 32 := 0#32
  let c0_i32_363 : BitVec 32 := 0#32
  let v580 : BitVec 32 := Scalar.maxsi c0_i32_362 c0_i32_363
  let c512_i32_375 : BitVec 32 := 512#32
  let v599 : BitVec 32 := Scalar.muli v580 c512_i32_375
  v599
def k0_mult76 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_378 : BitVec 32 := 512#32
  let v604 : BitVec 32 := Scalar.muli arg13 c512_i32_378
  v604
def k0_mult77 : BitVec 32 :=
  let c0_i32_362 : BitVec 32 := 0#32
  let c0_i32_363 : BitVec 32 := 0#32
  let v580 : BitVec 32 := Scalar.maxsi c0_i32_362 c0_i32_363
  let c512_i32_386 : BitVec 32 := 512#32
  let v617 : BitVec 32 := Scalar.muli v580 c512_i32_386
  v617
def k0_off29 : Fin 3 → Nat :=
  let c0_387 : Index := 0#32
  let c0_i32_362 : BitVec 32 := 0#32
  let c0_i32_363 : BitVec 32 := 0#32
  let v580 : BitVec 32 := Scalar.maxsi c0_i32_362 c0_i32_363
  let c512_i32_386 : BitVec 32 := 512#32
  let v617 : BitVec 32 := Scalar.muli v580 c512_i32_386
  let v618 : BitVec 32 := v617
  let v619 : Index := Scalar.indexCast v618
  let c128_388 : Index := 128#32
  ![0, v619.toNat, 128]
def k0_mult78 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_389 : BitVec 32 := 512#32
  let v622 : BitVec 32 := Scalar.muli arg13 c512_i32_389
  v622
def k0_off30 (k0_t1 : Fin k0_t1_loop.trips) : Fin 3 → Nat :=
  let c0_390 : Index := 0#32
  let c0_i32_42 : BitVec 32 := 0#32
  let c1_i32 : BitVec 32 := 1#32
  let arg13 : BitVec 32 := Scf.iv c0_i32_42 c1_i32 k0_t1
  let c512_i32_389 : BitVec 32 := 512#32
  let v622 : BitVec 32 := Scalar.muli arg13 c512_i32_389
  let v623 : BitVec 32 := v622
  let v624 : Index := Scalar.indexCast v623
  let c128_391 : Index := 128#32
  ![0, v624.toNat, 128]
def k0_mult79 : BitVec 32 :=
  let c0_i32_362 : BitVec 32 := 0#32
  let c0_i32_363 : BitVec 32 := 0#32
  let v580 : BitVec 32 := Scalar.maxsi c0_i32_362 c0_i32_363
  let c512_i32_397 : BitVec 32 := 512#32
  let v635 : BitVec 32 := Scalar.muli v580 c512_i32_397
  v635
def k0_mult80 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_400 : BitVec 32 := 512#32
  let v640 : BitVec 32 := Scalar.muli arg13 c512_i32_400
  v640
def k0_mult81 : BitVec 32 :=
  let c512_i32_425 : BitVec 32 := 512#32
  c512_i32_425
def k0_mult82 : BitVec 32 :=
  let c512_i32_451 : BitVec 32 := 512#32
  c512_i32_451
def k0_mult83 : BitVec 32 :=
  let c512_i32_477 : BitVec 32 := 512#32
  c512_i32_477
def k0_mult84 : BitVec 32 :=
  let c512_i32_503 : BitVec 32 := 512#32
  c512_i32_503
def k0_mult85 : BitVec 32 :=
  let c0_i32_529 : BitVec 32 := 0#32
  c0_i32_529
def k0_mult86 : BitVec 32 :=
  let c0_i32_555 : BitVec 32 := 0#32
  c0_i32_555
def k0_mult87 : BitVec 32 :=
  let c0_i32_581 : BitVec 32 := 0#32
  c0_i32_581
def k0_mult88 : BitVec 32 :=
  let c0_i32_607 : BitVec 32 := 0#32
  c0_i32_607
def k0_mult89 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_276 : BitVec 32 := 512#32
  let v430 : BitVec 32 := Scalar.muli v429 c512_i32_276
  v430
def k0_off31 (k0_t1 : Fin k0_t1_loop.trips) : Fin 3 → Nat :=
  let c0_277 : Index := 0#32
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_276 : BitVec 32 := 512#32
  let v430 : BitVec 32 := Scalar.muli v429 c512_i32_276
  let v431 : BitVec 32 := v430
  let v432 : Index := Scalar.indexCast v431
  let c0_278 : Index := 0#32
  ![0, v432.toNat, 0]
def k0_mult90 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_279 : BitVec 32 := 512#32
  let v435 : BitVec 32 := Scalar.muli v429 c512_i32_279
  v435
def k0_mult91 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_287 : BitVec 32 := 512#32
  let v448 : BitVec 32 := Scalar.muli v429 c512_i32_287
  v448
def k0_mult92 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_290 : BitVec 32 := 512#32
  let v453 : BitVec 32 := Scalar.muli v429 c512_i32_290
  v453
def k0_mult93 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_298 : BitVec 32 := 512#32
  let v466 : BitVec 32 := Scalar.muli v429 c512_i32_298
  v466
def k0_off32 (k0_t1 : Fin k0_t1_loop.trips) : Fin 3 → Nat :=
  let c0_299 : Index := 0#32
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_298 : BitVec 32 := 512#32
  let v466 : BitVec 32 := Scalar.muli v429 c512_i32_298
  let v467 : BitVec 32 := v466
  let v468 : Index := Scalar.indexCast v467
  let c128_300 : Index := 128#32
  ![0, v468.toNat, 128]
def k0_mult94 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_301 : BitVec 32 := 512#32
  let v471 : BitVec 32 := Scalar.muli v429 c512_i32_301
  v471
def k0_mult95 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_309 : BitVec 32 := 512#32
  let v484 : BitVec 32 := Scalar.muli v429 c512_i32_309
  v484
def k0_mult96 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c1_i32_275 : BitVec 32 := 1#32
  let v428 : BitVec 32 := Scalar.addi arg13 c1_i32_275
  let c3_i32 : BitVec 32 := 3#32
  let v429 : BitVec 32 := Scalar.minsi v428 c3_i32
  let c512_i32_312 : BitVec 32 := 512#32
  let v489 : BitVec 32 := Scalar.muli v429 c512_i32_312
  v489
def k0_mult97 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_338 : BitVec 32 := 512#32
  let v535 : BitVec 32 := Scalar.muli arg13 c512_i32_338
  v535
def k0_mult98 (k0_t1 : Fin k0_t1_loop.trips) : BitVec 32 :=
  let c0_i32_42 : BitVec 32 := 0#32
  let c1_i32 : BitVec 32 := 1#32
  let arg13 : BitVec 32 := Scf.iv c0_i32_42 c1_i32 k0_t1
  let c512_i32_359 : BitVec 32 := 512#32
  let v574 : BitVec 32 := Scalar.muli arg13 c512_i32_359
  v574
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x2048x8x64 : Shape := ⟨4, ![32, 2048, 8, 64]⟩
abbrev S32x2048x4x128 : Shape := ⟨4, ![32, 2048, 4, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S32x8x2048x2048 : Shape := ⟨4, ![32, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x4x2x2048x2048 : Shape := ⟨5, ![32, 4, 2, 2048, 2048]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S128 : Shape := ⟨1, ![128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S65536x2x256 : Shape := ⟨3, ![65536, 2, 256]⟩
abbrev S2x65536x256 : Shape := ⟨3, ![2, 65536, 256]⟩

abbrev nBuf : Space → Nat
  | .hbm => 85
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32x8x2048x2048, .f32⟩
  | .hbm, ⟨24, _⟩ => ⟨S_, .f32⟩
  | .hbm, ⟨25, _⟩ => ⟨S32x8x2048x2048, .f32⟩
  | .hbm, ⟨26, _⟩ => ⟨S32x8x2048x2048, .f32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S32x8x2048x2048, .i1⟩
  | .hbm, ⟨36, _⟩ => ⟨S32x8x2048x2048, .f32⟩
  | .hbm, ⟨37, _⟩ => ⟨S32x8x2048x2048, .f32⟩
  | .hbm, ⟨38, _⟩ => ⟨S_, .f32⟩
  | .hbm, ⟨39, _⟩ => ⟨S32x8x2048, .f32⟩
  | .hbm, ⟨40, _⟩ => ⟨S_, .f32⟩
  | .hbm, ⟨41, _⟩ => ⟨S32x8x2048, .f32⟩
  | .hbm, ⟨42, _⟩ => ⟨S32x8x2048, .f32⟩
  | .hbm, ⟨43, _⟩ => ⟨S32x8x2048x1, .f32⟩
  | .hbm, ⟨44, _⟩ => ⟨S32x8x2048x2048, .f32⟩
  | .hbm, ⟨45, _⟩ => ⟨S32x8x2048x2048, .f32⟩
  | .hbm, ⟨46, _⟩ => ⟨S32x8x2048x2048, .f32⟩
  | .hbm, ⟨47, _⟩ => ⟨S_, .f32⟩
  | .hbm, ⟨48, _⟩ => ⟨S32x8x2048, .f32⟩
  | .hbm, ⟨49, _⟩ => ⟨S32x8x2048x1, .f32⟩
  | .hbm, ⟨50, _⟩ => ⟨S32x8x2048x2048, .f32⟩
  | .hbm, ⟨51, _⟩ => ⟨S32x8x2048x2048, .f32⟩
  | .hbm, ⟨52, _⟩ => ⟨S32x4x2x2048x2048, .f32⟩
  | .hbm, ⟨53, _⟩ => ⟨S32x4x1x2048x2048, .f32⟩
  | .hbm, ⟨54, _⟩ => ⟨S32x4x2048x2048, .f32⟩
  | .hbm, ⟨55, _⟩ => ⟨S32x4x1x2048x2048, .f32⟩
  | .hbm, ⟨56, _⟩ => ⟨S32x4x2048x2048, .f32⟩
  | .hbm, ⟨57, _⟩ => ⟨S32x4x2048x2048, .f32⟩
  | .hbm, ⟨58, _⟩ => ⟨S32x4x2048x2048, .f32⟩
  | .hbm, ⟨59, _⟩ => ⟨S32x4x2048x2048, .f32⟩
  | .hbm, ⟨60, _⟩ => ⟨S32x4x128x2048, .f32⟩
  | .hbm, ⟨61, _⟩ => ⟨S32x2048x4x128, .f32⟩
  | .hbm, ⟨62, _⟩ => ⟨S128, .f32⟩
  | .hbm, ⟨63, _⟩ => ⟨S32x2048x4x128, .f32⟩
  | .hbm, ⟨64, _⟩ => ⟨S_, .f32⟩
  | .hbm, ⟨65, _⟩ => ⟨S32x2048x4, .f32⟩
  | .hbm, ⟨66, _⟩ => ⟨S32x2048x4x1, .f32⟩
  | .hbm, ⟨67, _⟩ => ⟨S_, .f32⟩
  | .hbm, ⟨68, _⟩ => ⟨S32x2048x4x1, .f32⟩
  | .hbm, ⟨69, _⟩ => ⟨S32x2048x4x1, .f32⟩
  | .hbm, ⟨70, _⟩ => ⟨S_, .f32⟩
  | .hbm, ⟨71, _⟩ => ⟨S32x2048x4x1, .f32⟩
  | .hbm, ⟨72, _⟩ => ⟨S32x2048x4x1, .f32⟩
  | .hbm, ⟨73, _⟩ => ⟨S32x2048x4x1, .f32⟩
  | .hbm, ⟨74, _⟩ => ⟨S32x2048x4x128, .f32⟩
  | .hbm, ⟨75, _⟩ => ⟨S32x2048x4x128, .f32⟩
  | .hbm, ⟨76, _⟩ => ⟨S1x1x1x128, .f32⟩
  | .hbm, ⟨77, _⟩ => ⟨S32x2048x4x128, .f32⟩
  | .hbm, ⟨78, _⟩ => ⟨S32x2048x4x128, .f32⟩
  | .hbm, ⟨79, _⟩ => ⟨S_, .f32⟩
  | .hbm, ⟨80, _⟩ => ⟨S32x2048x4x128, .f32⟩
  | .hbm, ⟨81, _⟩ => ⟨S32x2048x4x128, .f32⟩
  | .hbm, ⟨82, _⟩ => ⟨S65536x2x256, .f32⟩
  | .hbm, ⟨83, _⟩ => ⟨S2x65536x256, .f32⟩
  | .hbm, ⟨84, _⟩ => ⟨S2x65536x256, .bf16⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S65536x2x256 : Shape := ⟨3, ![65536, 2, 256]⟩
abbrev S2x65536x256 : Shape := ⟨3, ![2, 65536, 256]⟩
abbrev S65536x1024 : Shape := ⟨2, ![65536, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S2x512x256 : Shape := ⟨3, ![2, 512, 256]⟩
abbrev S512x2816 : Shape := ⟨2, ![512, 2816]⟩
abbrev S1x512x256 : Shape := ⟨3, ![1, 512, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 28
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S32x2048x512, .bf16⟩
  | .hbm, ⟨10, _⟩ => ⟨S65536x2x256, .bf16⟩
  | .hbm, ⟨11, _⟩ => ⟨S2x65536x256, .bf16⟩
  | .hbm, ⟨12, _⟩ => ⟨S32x2048x512, .bf16⟩
  | .hbm, ⟨13, _⟩ => ⟨S65536x2x256, .bf16⟩
  | .hbm, ⟨14, _⟩ => ⟨S2x65536x256, .bf16⟩
  | .hbm, ⟨15, _⟩ => ⟨S65536x1024, .f32⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S2x512x256, .bf16⟩
  | .local _ .vmem, ⟨3, _⟩ => ⟨S2x512x256, .bf16⟩
  | .local _ .vmem, ⟨4, _⟩ => ⟨S2x512x256, .bf16⟩
  | .local _ .vmem, ⟨5, _⟩ => ⟨S2x512x256, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S32x2048x2816 : Shape := ⟨3, ![32, 2048, 2816]⟩
abbrev S2816x1024 : Shape := ⟨2, ![2816, 1024]⟩
abbrev S65536x1024 : Shape := ⟨2, ![65536, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S32x2048x1024, .f32⟩
  | .hbm, ⟨10, _⟩ => ⟨S1024x1024, .f32⟩
  | .hbm, ⟨11, _⟩ => ⟨S32x2048x1024, .f32⟩
  | .hbm, ⟨12, _⟩ => ⟨S32x2048x1024, .f32⟩
  | .hbm, ⟨13, _⟩ => ⟨S1024, .f32⟩
  | .hbm, ⟨14, _⟩ => ⟨S32x2048x1024, .f32⟩
  | .hbm, ⟨15, _⟩ => ⟨S_, .f32⟩
  | .hbm, ⟨16, _⟩ => ⟨S32x2048, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S1x1x1024, .f32⟩
  | .hbm, ⟨28, _⟩ => ⟨S32x2048x1024, .f32⟩
  | .hbm, ⟨29, _⟩ => ⟨S32x2048x1024, .f32⟩
  | .hbm, ⟨30, _⟩ => ⟨S1024x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S_, .f32⟩
  | .hbm, ⟨35, _⟩ => ⟨S32x2048x2816, .f32⟩
  | .hbm, ⟨36, _⟩ => ⟨S32x2048x2816, .f32⟩
  | .hbm, ⟨37, _⟩ => ⟨S_, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S1024x2816, .f32⟩
  | .hbm, ⟨42, _⟩ => ⟨S32x2048x2816, .f32⟩
  | .hbm, ⟨43, _⟩ => ⟨S32x2048x2816, .f32⟩
  | .hbm, ⟨44, _⟩ => ⟨S2816x1024, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x2048, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S32x2048x1, .f32⟩
  | .hbm, ⟨58, _⟩ => ⟨S32x2048x1024, .f32⟩
  | .hbm, ⟨59, _⟩ => ⟨S32x2048x1024, .f32⟩
  | .hbm, ⟨60, _⟩ => ⟨S1x1x1024, .f32⟩
  | .hbm, ⟨61, _⟩ => ⟨S32x2048x1024, .f32⟩
  | .hbm, ⟨62, _⟩ => ⟨S32x2048x1024, .f32⟩
  | .hbm, ⟨63, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x2048 : Shape := ⟨2, ![32, 2048]⟩
abbrev S1x1024 : Shape := ⟨2, ![1, 1024]⟩
abbrev S1x1024x3072 : Shape := ⟨3, ![1, 1024, 3072]⟩
abbrev S65536x1024 : Shape := ⟨2, ![65536, 1024]⟩
abbrev S64x1x1024 : Shape := ⟨3, ![64, 1, 1024]⟩
abbrev S8 : Shape := ⟨1, ![8]⟩
abbrev S_ : Shape := ⟨0, ![]⟩
abbrev S8x1 : Shape := ⟨2, ![8, 1]⟩
abbrev S1024x3072 : Shape := ⟨2, ![1024, 3072]⟩
abbrev S1024x1024 : Shape := ⟨2, ![1024, 1024]⟩
abbrev S1024x2048 : Shape := ⟨2, ![1024, 2048]⟩
abbrev S1024x512 : Shape := ⟨2, ![1024, 512]⟩
abbrev S1024 : Shape := ⟨1, ![1024]⟩
abbrev S8x65536x256 : Shape := ⟨3, ![8, 65536, 256]⟩
abbrev S1024x65536 : Shape := ⟨2, ![1024, 65536]⟩
abbrev S1x1x1024 : Shape := ⟨3, ![1, 1, 1024]⟩
abbrev S8x1024x256 : Shape := ⟨3, ![8, 1024, 256]⟩
abbrev S1024x1 : Shape := ⟨2, ![1024, 1]⟩
abbrev S8x1024 : Shape := ⟨2, ![8, 1024]⟩
abbrev S128x1024 : Shape := ⟨2, ![128, 1024]⟩
abbrev S1024x128 : Shape := ⟨2, ![1024, 128]⟩
abbrev S1x128 : Shape := ⟨2, ![1, 128]⟩
abbrev S1024x256 : Shape := ⟨2, ![1024, 256]⟩
abbrev S1x1024x128 : Shape := ⟨3, ![1, 1024, 128]⟩

abbrev nBuf : Space → Nat
  | .hbm => 29
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1x1024, .f32⟩
  | .hbm, ⟨3, _⟩ => ⟨S1x1024x3072, .f32⟩
  | .hbm, ⟨4, _⟩ => ⟨S65536x1024, .f32⟩
  | .hbm, ⟨5, _⟩ => ⟨S32x2048, .f32⟩
  | .hbm, ⟨6, _⟩ => ⟨S64x1x1024, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8x1, .f32⟩
  | .hbm, ⟨16, _⟩ => ⟨S1024x3072, .f32⟩
  | .hbm, ⟨17, _⟩ => ⟨S1024x3072, .bf16⟩
  | .hbm, ⟨18, _⟩ => ⟨S1024x1024, .bf16⟩
  | .hbm, ⟨19, _⟩ => ⟨S1024x1024, .bf16⟩
  | .hbm, ⟨20, _⟩ => ⟨S1024x2048, .bf16⟩
  | .hbm, ⟨21, _⟩ => ⟨S1024x512, .bf16⟩
  | .hbm, ⟨22, _⟩ => ⟨S1024x512, .bf16⟩
  | .hbm, ⟨23, _⟩ => ⟨S1024x1024, .bf16⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S8x65536x256, .bf16⟩
  | .hbm, ⟨28, _⟩ => ⟨S1024x65536, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S8x1, .f32⟩
  | .local _ .vmem, ⟨6, _⟩ => ⟨S1024x2048, .bf16⟩
  | .local _ .vmem, ⟨7, _⟩ => ⟨S1024x1024, .bf16⟩
  | .local _ .vmem, ⟨8, _⟩ => ⟨S8x1024x256, .bf16⟩
  | .local _ .vmem, ⟨9, _⟩ => ⟨S8x1024x256, .bf16⟩
  | .local _ .vmem, ⟨10, _⟩ => ⟨S1024x1024, .bf16⟩
  | .local _ .vmem, ⟨11, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32x2048x1024 : Shape := ⟨3, ![32, 2048, 1024]⟩
abbrev S32x2048 : Shape := ⟨2, ![32, 2048]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S32x2048x1 : Shape := ⟨3, ![32, 2048, 1]⟩
abbrev S1x1x1024 : Shape := ⟨3, ![1, 1, 1024]⟩
abbrev S1024x3072 : Shape := ⟨2, ![1024, 3072]⟩
abbrev S32x2048x3072 : Shape := ⟨3, ![32, 2048, 3072]⟩
abbrev S32x2048x512 : Shape := ⟨3, ![32, 2048, 512]⟩
abbrev S32x2048x8x64 : Shape := ⟨4, ![32, 2048, 8, 64]⟩
abbrev S8 : Shape := ⟨1, ![8]⟩
abbrev S1x1x8 : Shape := ⟨3, ![1, 1, 8]⟩
abbrev S32x2048x8 : Shape := ⟨3, ![32, 2048, 8]⟩
abbrev S32x2048x1x8 : Shape := ⟨4, ![32, 2048, 1, 8]⟩
abbrev S32x2048x8x8 : Shape := ⟨4, ![32, 2048, 8, 8]⟩
abbrev S32x2048x8x48 : Shape := ⟨4, ![32, 2048, 8, 48]⟩
abbrev S32x2048x2048 : Shape := ⟨3, ![32, 2048, 2048]⟩
abbrev S65536x8x256 : Shape := ⟨3, ![65536, 8, 256]⟩
abbrev S65536x1024 : Shape := ⟨2, ![65536, 1024]⟩
abbrev S1024x65536 : Shape := ⟨2, ![1024, 65536]⟩
abbrev S8x65536x256 : Shape := ⟨3, ![8, 65536, 256]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1x1024, .f32⟩
  | .hbm, ⟨3, _⟩ => ⟨S1x1024x3072, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S1024x3072, .f32⟩
  | .hbm, ⟨22, _⟩ => ⟨S32x2048x3072, .f32⟩
  | .hbm, ⟨23, _⟩ => ⟨S32x2048x512, .f32⟩
  | .hbm, ⟨24, _⟩ => ⟨S32x2048x8x64, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S32x2048, .f32⟩
  | .hbm, ⟨34, _⟩ => ⟨S32x2048x1, .f32⟩
  | .hbm, ⟨35, _⟩ => ⟨S1x1x8, .f32⟩
  | .hbm, ⟨36, _⟩ => ⟨S32x2048x8, .f32⟩
  | .hbm, ⟨37, _⟩ => ⟨S32x2048x8, .f32⟩
  | .hbm, ⟨38, _⟩ => ⟨S32x2048x8, .f32⟩
  | .hbm, ⟨39, _⟩ => ⟨S32x2048x8, .f32⟩
  | .hbm, ⟨40, _⟩ => ⟨S32x2048x1x8, .f32⟩
  | .hbm, ⟨41, _⟩ => ⟨S32x2048x8, .f32⟩
  | .hbm, ⟨42, _⟩ => ⟨S32x2048x1x8, .f32⟩
  | .hbm, ⟨43, _⟩ => ⟨S32x2048x8x8, .f32⟩
  | .hbm, ⟨44, _⟩ => ⟨S32x2048x8x8, .f32⟩
  | .hbm, ⟨45, _⟩ => ⟨S32x2048x8x48, .f32⟩
  | .hbm, ⟨46, _⟩ => ⟨S32x2048x8x8, .f32⟩
  | .hbm, ⟨47, _⟩ => ⟨S32x2048x8x8, .f32⟩
  | .hbm, ⟨48, _⟩ => ⟨S32x2048x8x8, .f32⟩
  | .hbm, ⟨49, _⟩ => ⟨S32x2048x8x8, .f32⟩
  | .hbm, ⟨50, _⟩ => ⟨S32x2048x8x8, .f32⟩
  | .hbm, ⟨51, _⟩ => ⟨S32x2048x8x8, .f32⟩
  | .hbm, ⟨52, _⟩ => ⟨S32x2048x8x8, .f32⟩
  | .hbm, ⟨53, _⟩ => ⟨S32x2048x8x8, .f32⟩
  | .hbm, ⟨54, _⟩ => ⟨S32x2048x8x8, .f32⟩
  | .hbm, ⟨55, _⟩ => ⟨S32x2048x8x8, .f32⟩
  | .hbm, ⟨56, _⟩ => ⟨S32x2048x8x64, .f32⟩
  | .hbm, ⟨57, _⟩ => ⟨S32x2048x512, .f32⟩
  | .hbm, ⟨58, _⟩ => ⟨S32x2048x512, .f32⟩
  | .hbm, ⟨59, _⟩ => ⟨S32x2048x8x64, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S32x2048, .f32⟩
  | .hbm, ⟨69, _⟩ => ⟨S32x2048x1, .f32⟩
  | .hbm, ⟨70, _⟩ => ⟨S1x1x8, .f32⟩
  | .hbm, ⟨71, _⟩ => ⟨S32x2048x8, .f32⟩
  | .hbm, ⟨72, _⟩ => ⟨S32x2048x8, .f32⟩
  | .hbm, ⟨73, _⟩ => ⟨S32x2048x8, .f32⟩
  | .hbm, ⟨74, _⟩ => ⟨S32x2048x8, .f32⟩
  | .hbm, ⟨75, _⟩ => ⟨S32x2048x1x8, .f32⟩
  | .hbm, ⟨76, _⟩ => ⟨S32x2048x8, .f32⟩
  | .hbm, ⟨77, _⟩ => ⟨S32x2048x1x8, .f32⟩
  | .hbm, ⟨78, _⟩ => ⟨S32x2048x8x8, .f32⟩
  | .hbm, ⟨79, _⟩ => ⟨S32x2048x8x8, .f32⟩
  | .hbm, ⟨80, _⟩ => ⟨S32x2048x8x48, .f32⟩
  | .hbm, ⟨81, _⟩ => ⟨S32x2048x8x8, .f32⟩
  | .hbm, ⟨82, _⟩ => ⟨S32x2048x8x8, .f32⟩
  | .hbm, ⟨83, _⟩ => ⟨S32x2048x8x8, .f32⟩
  | .hbm, ⟨84, _⟩ => ⟨S32x2048x8x8, .f32⟩
  | .hbm, ⟨85, _⟩ => ⟨S32x2048x8x8, .f32⟩
  | .hbm, ⟨86, _⟩ => ⟨S32x2048x8x8, .f32⟩
  | .hbm, ⟨87, _⟩ => ⟨S32x2048x8x8, .f32⟩
  | .hbm, ⟨88, _⟩ => ⟨S32x2048x8x8, .f32⟩
  | .hbm, ⟨89, _⟩ => ⟨S32x2048x8x8, .f32⟩
  | .hbm, ⟨90, _⟩ => ⟨S32x2048x8x8, .f32⟩
  | .hbm, ⟨91, _⟩ => ⟨S32x2048x8x64, .f32⟩
  | .hbm, ⟨92, _⟩ => ⟨S32x2048x512, .f32⟩
  | .hbm, ⟨93, _⟩ => ⟨S32x2048x512, .f32⟩
  | .hbm, ⟨94, _⟩ => ⟨S32x2048x512, .f32⟩
  | .hbm, ⟨95, _⟩ => ⟨S32x2048x512, .f32⟩
  | .hbm, ⟨96, _⟩ => ⟨S32x2048x512, .f32⟩
  | .hbm, ⟨97, _⟩ => ⟨S_, .f32⟩
  | .hbm, ⟨98, _⟩ => ⟨S32x2048x512, .f32⟩
  | .hbm, ⟨99, _⟩ => ⟨S32x2048x512, .f32⟩
  | .hbm, ⟨100, _⟩ => ⟨S_, .f32⟩
  | .hbm, ⟨101, _⟩ => ⟨S32x2048x512, .f32⟩
  | .hbm, ⟨102, _⟩ => ⟨S32x2048x512, .f32⟩
  | .hbm, ⟨103, _⟩ => ⟨S32x2048x2048, .f32⟩
  | .hbm, ⟨104, _⟩ => ⟨S65536x8x256, .f32⟩
  | .hbm, ⟨105, _⟩ => ⟨S32x2048x1024, .f32⟩
  | .hbm, ⟨106, _⟩ => ⟨S65536x1024, .f32⟩
  | .hbm, ⟨107, _⟩ => ⟨S1024x65536, .f32⟩
  | .hbm, ⟨108, _⟩ => ⟨S8x65536x256, .f32⟩
  | .hbm, ⟨109, _⟩ => ⟨S8x65536x256, .bf16⟩
  | .hbm, ⟨110, _⟩ => ⟨S1024x65536, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_6 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩

abbrev nD : Nat := 1
abbrev τ : Topo := Topo.v7x

variable {F : FTy → Type} [FloatOps F]
-- ==== Kernel4.lean ====
abbrev S32x2048x8x64 : Shape := ⟨4, ![32, 2048, 8, 64]⟩
abbrev S1x64 : Shape := ⟨2, ![1, 64]⟩
abbrev S_ : Shape := ⟨0, ![]⟩
abbrev S65536x2x256 : Shape := ⟨3, ![65536, 2, 256]⟩
abbrev S65536x4x256 : Shape := ⟨3, ![65536, 4, 256]⟩
abbrev S4x65536x256 : Shape := ⟨3, ![4, 65536, 256]⟩
abbrev S65536x512 : Shape := ⟨2, ![65536, 512]⟩
abbrev S512x65536 : Shape := ⟨2, ![512, 65536]⟩
abbrev S64 : Shape := ⟨1, ![64]⟩
abbrev S2x64 : Shape := ⟨2, ![2, 64]⟩
abbrev S128 : Shape := ⟨1, ![128]⟩
abbrev S1x128 : Shape := ⟨2, ![1, 128]⟩
abbrev S2x65536x256 : Shape := ⟨3, ![2, 65536, 256]⟩
abbrev S1x2048x256 : Shape := ⟨3, ![1, 2048, 256]⟩
abbrev S256x2048 : Shape := ⟨2, ![256, 2048]⟩
abbrev S4x256x256 : Shape := ⟨3, ![4, 256, 256]⟩
abbrev S4x1x256 : Shape := ⟨3, ![4, 1, 256]⟩
abbrev S4x64x256 : Shape := ⟨3, ![4, 64, 256]⟩
abbrev S256x256 : Shape := ⟨2, ![256, 256]⟩
abbrev S1x256x128 : Shape := ⟨3, ![1, 256, 128]⟩
abbrev S256x128 : Shape := ⟨2, ![256, 128]⟩
abbrev S1x256x256 : Shape := ⟨3, ![1, 256, 256]⟩
abbrev S1x256 : Shape := ⟨2, ![1, 256]⟩
abbrev S1x1x256 : Shape := ⟨3, ![1, 1, 256]⟩
abbrev S64x256 : Shape := ⟨2, ![64, 256]⟩
abbrev S1x64x256 : Shape := ⟨3, ![1, 64, 256]⟩
abbrev S256 : Shape := ⟨1, ![256]⟩
abbrev S128x256 : Shape := ⟨2, ![128, 256]⟩

abbrev nBuf : Space → Nat
  | .hbm => 25
  | .vmem => 16
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S1x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x2048x8x64, .f32⟩
  | .hbm, ⟨9, _⟩ => ⟨S32x2048x8x64, .f32⟩
  | .hbm, ⟨10, _⟩ => ⟨S32x2048x8x64, .bf16⟩
  | .hbm, ⟨11, _⟩ => ⟨S65536x2x256, .bf16⟩
  | .hbm, ⟨12, _⟩ => ⟨S32x2048x8x64, .bf16⟩
  | .hbm, ⟨13, _⟩ => ⟨S65536x2x256, .bf16⟩
  | .hbm, ⟨14, _⟩ => ⟨S65536x4x256, .bf16⟩
  | .hbm, ⟨15, _⟩ => ⟨S4x65536x256, .bf16⟩
  | .hbm, ⟨16, _⟩ => ⟨S32x2048x8x64, .bf16⟩
  | .hbm, ⟨17, _⟩ => ⟨S65536x512, .bf16⟩
  | .hbm, ⟨18, _⟩ => ⟨S512x65536, .bf16⟩
  | .hbm, ⟨19, _⟩ => ⟨S64, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S1x128, .f32⟩
  | .hbm, ⟨24, _⟩ => ⟨S2x65536x256, .bf16⟩
  | .local _ .vmem, ⟨0, _⟩ => ⟨S1x128, .f32⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S256x2048, .bf16⟩
  | .local _ .vmem, ⟨6, _⟩ => ⟨S256x2048, .bf16⟩
  | .local _ .vmem, ⟨7, _⟩ => ⟨S1x2048x256, .bf16⟩
  | .local _ .vmem, ⟨8, _⟩ => ⟨S1x2048x256, .bf16⟩
  | .local _ .vmem, ⟨9, _⟩ => ⟨S4x256x256, .f32⟩
  | .local _ .vmem, ⟨10, _⟩ => ⟨S4x256x256, .f32⟩
  | .local _ .vmem, ⟨11, _⟩ => ⟨S4x1x256, .f32⟩
  | .local _ .vmem, ⟨12, _⟩ => ⟨S4x1x256, .f32⟩
  | .local _ .vmem, ⟨13, _⟩ => ⟨S4x256x256, .bf16⟩
  | .local _ .vmem, ⟨14, _⟩ => ⟨S4x64x256, .f32⟩
  | .local _ .vmem, ⟨15, _⟩ => ⟨S4x1x256, .f32⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_mult1 : BitVec 32 :=
  let c0_i32 : BitVec 32 := 0#32
  c0_i32
def k0_mult2 : BitVec 32 :=
  let c0_i32_1 : BitVec 32 := 0#32
  c0_i32_1
def k0_mult3 : BitVec 32 :=
  let c0_i32_8 : BitVec 32 := 0#32
  c0_i32_8
def k0_mult4 : BitVec 32 :=
  let c0_i32_11 : BitVec 32 := 0#32
  c0_i32_11
def k0_mult5 : BitVec 32 :=
  let c0_i32_18 : BitVec 32 := 0#32
  c0_i32_18
def k0_mult6 : BitVec 32 :=
  let c0_i32_20 : BitVec 32 := 0#32
  c0_i32_20
def k0_mult7 : BitVec 32 :=
  let c0_i32_27 : BitVec 32 := 0#32
  c0_i32_27
def k0_mult8 : BitVec 32 :=
  let c0_i32_30 : BitVec 32 := 0#32
  c0_i32_30
@[reducible] def k0_t1_loop : Scf.Loop 32 :=
  let c0_i32_37 : BitVec 32 := 0#32
  let c8_i32 : BitVec 32 := 8#32
  let v73 : BitVec 32 := Scalar.addi c0_i32_37 c8_i32
  let c1_i32 : BitVec 32 := 1#32
  ⟨c0_i32_37, v73, c1_i32⟩
def k0_mult9 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_71 : BitVec 32 := 1#32
  let v107 : BitVec 32 := Scalar.subi arg14 c1_i32_71
  let c0_i32_72 : BitVec 32 := 0#32
  let v108 : BitVec 32 := Scalar.maxsi v107 c0_i32_72
  let c256_i32 : BitVec 32 := 256#32
  let v109 : BitVec 32 := Scalar.muli v108 c256_i32
  v109
def k0_off1 (k0_t1 : Fin k0_t1_loop.trips) : Fin 3 → Nat :=
  let c0_73 : Index := 0#32
  let c0_i32_37 : BitVec 32 := 0#32
  let c1_i32 : BitVec 32 := 1#32
  let arg14 : BitVec 32 := Scf.iv c0_i32_37 c1_i32 k0_t1
  let c1_i32_71 : BitVec 32 := 1#32
  let v107 : BitVec 32 := Scalar.subi arg14 c1_i32_71
  let c0_i32_72 : BitVec 32 := 0#32
  let v108 : BitVec 32 := Scalar.maxsi v107 c0_i32_72
  let c256_i32 : BitVec 32 := 256#32
  let v109 : BitVec 32 := Scalar.muli v108 c256_i32
  let v110 : BitVec 32 := v109
  let v111 : Index := Scalar.indexCast v110
  let c0_74 : Index := 0#32
  ![0, v111.toNat, 0]
def k0_mult10 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_75 : BitVec 32 := 256#32
  let v114 : BitVec 32 := Scalar.muli arg14 c256_i32_75
  v114
def k0_off2 (k0_t1 : Fin k0_t1_loop.trips) : Fin 3 → Nat :=
  let c0_76 : Index := 0#32
  let c0_i32_37 : BitVec 32 := 0#32
  let c1_i32 : BitVec 32 := 1#32
  let arg14 : BitVec 32 := Scf.iv c0_i32_37 c1_i32 k0_t1
  let c256_i32_75 : BitVec 32 := 256#32
  let v114 : BitVec 32 := Scalar.muli arg14 c256_i32_75
  let v115 : BitVec 32 := v114
  let v116 : Index := Scalar.indexCast v115
  let c0_77 : Index := 0#32
  ![0, v116.toNat, 0]
def k0_mult11 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_71 : BitVec 32 := 1#32
  let v107 : BitVec 32 := Scalar.subi arg14 c1_i32_71
  let c0_i32_72 : BitVec 32 := 0#32
  let v108 : BitVec 32 := Scalar.maxsi v107 c0_i32_72
  let c256_i32_83 : BitVec 32 := 256#32
  let v127 : BitVec 32 := Scalar.muli v108 c256_i32_83
  v127
def k0_mult12 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_86 : BitVec 32 := 256#32
  let v132 : BitVec 32 := Scalar.muli arg14 c256_i32_86
  v132
def k0_mult13 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_71 : BitVec 32 := 1#32
  let v107 : BitVec 32 := Scalar.subi arg14 c1_i32_71
  let c0_i32_72 : BitVec 32 := 0#32
  let v108 : BitVec 32 := Scalar.maxsi v107 c0_i32_72
  let c256_i32_108 : BitVec 32 := 256#32
  let v167 : BitVec 32 := Scalar.muli v108 c256_i32_108
  v167
def k0_off3 (k0_t1 : Fin k0_t1_loop.trips) : Fin 3 → Nat :=
  let c0_109 : Index := 0#32
  let c0_i32_37 : BitVec 32 := 0#32
  let c1_i32 : BitVec 32 := 1#32
  let arg14 : BitVec 32 := Scf.iv c0_i32_37 c1_i32 k0_t1
  let c1_i32_71 : BitVec 32 := 1#32
  let v107 : BitVec 32 := Scalar.subi arg14 c1_i32_71
  let c0_i32_72 : BitVec 32 := 0#32
  let v108 : BitVec 32 := Scalar.maxsi v107 c0_i32_72
  let c256_i32_108 : BitVec 32 := 256#32
  let v167 : BitVec 32 := Scalar.muli v108 c256_i32_108
  let v168 : BitVec 32 := v167
  let v169 : Index := Scalar.indexCast v168
  let c128_110 : Index := 128#32
  ![0, v169.toNat, 128]
def k0_mult14 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_111 : BitVec 32 := 256#32
  let v172 : BitVec 32 := Scalar.muli arg14 c256_i32_111
  v172
def k0_off4 (k0_t1 : Fin k0_t1_loop.trips) : Fin 3 → Nat :=
  let c0_112 : Index := 0#32
  let c0_i32_37 : BitVec 32 := 0#32
  let c1_i32 : BitVec 32 := 1#32
  let arg14 : BitVec 32 := Scf.iv c0_i32_37 c1_i32 k0_t1
  let c256_i32_111 : BitVec 32 := 256#32
  let v172 : BitVec 32 := Scalar.muli arg14 c256_i32_111
  let v173 : BitVec 32 := v172
  let v174 : Index := Scalar.indexCast v173
  let c128_113 : Index := 128#32
  ![0, v174.toNat, 128]
def k0_mult15 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_71 : BitVec 32 := 1#32
  let v107 : BitVec 32 := Scalar.subi arg14 c1_i32_71
  let c0_i32_72 : BitVec 32 := 0#32
  let v108 : BitVec 32 := Scalar.maxsi v107 c0_i32_72
  let c256_i32_133 : BitVec 32 := 256#32
  let v207 : BitVec 32 := Scalar.muli v108 c256_i32_133
  v207
def k0_mult16 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_136 : BitVec 32 := 256#32
  let v212 : BitVec 32 := Scalar.muli arg14 c256_i32_136
  v212
@[reducible] def k0_t2_loop (k0_t1 : Fin k0_t1_loop.trips) : Scf.Loop 32 :=
  let c0_i32_236 : BitVec 32 := 0#32
  let c0_i32_37 : BitVec 32 := 0#32
  let c1_i32 : BitVec 32 := 1#32
  let arg14 : BitVec 32 := Scf.iv c0_i32_37 c1_i32 k0_t1
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_239 : BitVec 32 := 1#32
  ⟨c0_i32_236, v364, c1_i32_239⟩
def k0_mult17 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_399 : BitVec 32 := 256#32
  let v616 : BitVec 32 := Scalar.muli v615 c256_i32_399
  v616
def k0_off5 (k0_t1 : Fin k0_t1_loop.trips) (k0_t2 : Fin (k0_t2_loop k0_t1).trips) : Fin 3 → Nat :=
  let c0_400 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_399 : BitVec 32 := 256#32
  let v616 : BitVec 32 := Scalar.muli v615 c256_i32_399
  let v617 : BitVec 32 := v616
  let v618 : Index := Scalar.indexCast v617
  let c0_401 : Index := 0#32
  ![0, v618.toNat, 0]
def k0_mult18 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_402 : BitVec 32 := 256#32
  let v621 : BitVec 32 := Scalar.muli arg14 c256_i32_402
  v621
def k0_off6 (k0_t1 : Fin k0_t1_loop.trips) : Fin 3 → Nat :=
  let c0_403 : Index := 0#32
  let c0_i32_37 : BitVec 32 := 0#32
  let c1_i32 : BitVec 32 := 1#32
  let arg14 : BitVec 32 := Scf.iv c0_i32_37 c1_i32 k0_t1
  let c256_i32_402 : BitVec 32 := 256#32
  let v621 : BitVec 32 := Scalar.muli arg14 c256_i32_402
  let v622 : BitVec 32 := v621
  let v623 : Index := Scalar.indexCast v622
  let c0_404 : Index := 0#32
  ![0, v623.toNat, 0]
def k0_mult19 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_410 : BitVec 32 := 256#32
  let v634 : BitVec 32 := Scalar.muli v615 c256_i32_410
  v634
def k0_mult20 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_413 : BitVec 32 := 256#32
  let v639 : BitVec 32 := Scalar.muli arg14 c256_i32_413
  v639
def k0_mult21 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_434 : BitVec 32 := 1#32
  let v672 : BitVec 32 := Scalar.addi v613 c1_i32_434
  let c256_i32_435 : BitVec 32 := 256#32
  let v673 : BitVec 32 := Scalar.muli v672 c256_i32_435
  v673
def k0_off7 (k0_t1 : Fin k0_t1_loop.trips) (k0_t2 : Fin (k0_t2_loop k0_t1).trips) : Fin 2 → Nat :=
  let c0_436 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_434 : BitVec 32 := 1#32
  let v672 : BitVec 32 := Scalar.addi v613 c1_i32_434
  let c256_i32_435 : BitVec 32 := 256#32
  let v673 : BitVec 32 := Scalar.muli v672 c256_i32_435
  let v674 : BitVec 32 := v673
  let v675 : Index := Scalar.indexCast v674
  ![0, v675.toNat]
def k0_mult22 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_450 : BitVec 32 := 256#32
  let v691 : BitVec 32 := Scalar.muli v615 c256_i32_450
  v691
def k0_off8 (k0_t1 : Fin k0_t1_loop.trips) (k0_t2 : Fin (k0_t2_loop k0_t1).trips) : Fin 3 → Nat :=
  let c0_451 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_450 : BitVec 32 := 256#32
  let v691 : BitVec 32 := Scalar.muli v615 c256_i32_450
  let v692 : BitVec 32 := v691
  let v693 : Index := Scalar.indexCast v692
  let c128_452 : Index := 128#32
  ![0, v693.toNat, 128]
def k0_mult23 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_453 : BitVec 32 := 256#32
  let v696 : BitVec 32 := Scalar.muli arg14 c256_i32_453
  v696
def k0_off9 (k0_t1 : Fin k0_t1_loop.trips) : Fin 3 → Nat :=
  let c0_454 : Index := 0#32
  let c0_i32_37 : BitVec 32 := 0#32
  let c1_i32 : BitVec 32 := 1#32
  let arg14 : BitVec 32 := Scf.iv c0_i32_37 c1_i32 k0_t1
  let c256_i32_453 : BitVec 32 := 256#32
  let v696 : BitVec 32 := Scalar.muli arg14 c256_i32_453
  let v697 : BitVec 32 := v696
  let v698 : Index := Scalar.indexCast v697
  let c128_455 : Index := 128#32
  ![0, v698.toNat, 128]
def k0_mult24 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_474 : BitVec 32 := 1#32
  let v729 : BitVec 32 := Scalar.addi v613 c1_i32_474
  let c256_i32_475 : BitVec 32 := 256#32
  let v730 : BitVec 32 := Scalar.muli v729 c256_i32_475
  v730
def k0_off10 (k0_t1 : Fin k0_t1_loop.trips) (k0_t2 : Fin (k0_t2_loop k0_t1).trips) : Fin 2 → Nat :=
  let c64_476 : Index := 64#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_474 : BitVec 32 := 1#32
  let v729 : BitVec 32 := Scalar.addi v613 c1_i32_474
  let c256_i32_475 : BitVec 32 := 256#32
  let v730 : BitVec 32 := Scalar.muli v729 c256_i32_475
  let v731 : BitVec 32 := v730
  let v732 : Index := Scalar.indexCast v731
  ![64, v732.toNat]
def k0_mult25 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_490 : BitVec 32 := 256#32
  let v748 : BitVec 32 := Scalar.muli v615 c256_i32_490
  v748
def k0_mult26 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_493 : BitVec 32 := 256#32
  let v753 : BitVec 32 := Scalar.muli arg14 c256_i32_493
  v753
def k0_mult27 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_514 : BitVec 32 := 1#32
  let v786 : BitVec 32 := Scalar.addi v613 c1_i32_514
  let c256_i32_515 : BitVec 32 := 256#32
  let v787 : BitVec 32 := Scalar.muli v786 c256_i32_515
  v787
def k0_off11 (k0_t1 : Fin k0_t1_loop.trips) (k0_t2 : Fin (k0_t2_loop k0_t1).trips) : Fin 2 → Nat :=
  let c128_516 : Index := 128#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_514 : BitVec 32 := 1#32
  let v786 : BitVec 32 := Scalar.addi v613 c1_i32_514
  let c256_i32_515 : BitVec 32 := 256#32
  let v787 : BitVec 32 := Scalar.muli v786 c256_i32_515
  let v788 : BitVec 32 := v787
  let v789 : Index := Scalar.indexCast v788
  ![128, v789.toNat]
def k0_mult28 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_543 : BitVec 32 := 1#32
  let v825 : BitVec 32 := Scalar.addi v613 c1_i32_543
  let c256_i32_544 : BitVec 32 := 256#32
  let v826 : BitVec 32 := Scalar.muli v825 c256_i32_544
  v826
def k0_off12 (k0_t1 : Fin k0_t1_loop.trips) (k0_t2 : Fin (k0_t2_loop k0_t1).trips) : Fin 2 → Nat :=
  let c192_545 : Index := 192#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_543 : BitVec 32 := 1#32
  let v825 : BitVec 32 := Scalar.addi v613 c1_i32_543
  let c256_i32_544 : BitVec 32 := 256#32
  let v826 : BitVec 32 := Scalar.muli v825 c256_i32_544
  let v827 : BitVec 32 := v826
  let v828 : Index := Scalar.indexCast v827
  ![192, v828.toNat]
def k0_mult29 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_614 : BitVec 32 := 256#32
  let v911 : BitVec 32 := Scalar.muli v910 c256_i32_614
  v911
def k0_off13 (k0_t1 : Fin k0_t1_loop.trips) (k0_t2 : Fin (k0_t2_loop k0_t1).trips) : Fin 3 → Nat :=
  let c0_615 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_614 : BitVec 32 := 256#32
  let v911 : BitVec 32 := Scalar.muli v910 c256_i32_614
  let v912 : BitVec 32 := v911
  let v913 : Index := Scalar.indexCast v912
  let c0_616 : Index := 0#32
  ![0, v913.toNat, 0]
def k0_mult30 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_617 : BitVec 32 := 256#32
  let v916 : BitVec 32 := Scalar.muli arg14 c256_i32_617
  v916
def k0_mult31 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_625 : BitVec 32 := 256#32
  let v929 : BitVec 32 := Scalar.muli v910 c256_i32_625
  v929
def k0_mult32 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_628 : BitVec 32 := 256#32
  let v934 : BitVec 32 := Scalar.muli arg14 c256_i32_628
  v934
def k0_mult33 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_649 : BitVec 32 := 1#32
  let v967 : BitVec 32 := Scalar.addi v908 c1_i32_649
  let c256_i32_650 : BitVec 32 := 256#32
  let v968 : BitVec 32 := Scalar.muli v967 c256_i32_650
  v968
def k0_off14 (k0_t1 : Fin k0_t1_loop.trips) (k0_t2 : Fin (k0_t2_loop k0_t1).trips) : Fin 2 → Nat :=
  let c0_651 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_649 : BitVec 32 := 1#32
  let v967 : BitVec 32 := Scalar.addi v908 c1_i32_649
  let c256_i32_650 : BitVec 32 := 256#32
  let v968 : BitVec 32 := Scalar.muli v967 c256_i32_650
  let v969 : BitVec 32 := v968
  let v970 : Index := Scalar.indexCast v969
  ![0, v970.toNat]
def k0_mult34 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_665 : BitVec 32 := 256#32
  let v986 : BitVec 32 := Scalar.muli v910 c256_i32_665
  v986
def k0_off15 (k0_t1 : Fin k0_t1_loop.trips) (k0_t2 : Fin (k0_t2_loop k0_t1).trips) : Fin 3 → Nat :=
  let c0_666 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_665 : BitVec 32 := 256#32
  let v986 : BitVec 32 := Scalar.muli v910 c256_i32_665
  let v987 : BitVec 32 := v986
  let v988 : Index := Scalar.indexCast v987
  let c128_667 : Index := 128#32
  ![0, v988.toNat, 128]
def k0_mult35 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_668 : BitVec 32 := 256#32
  let v991 : BitVec 32 := Scalar.muli arg14 c256_i32_668
  v991
def k0_mult36 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_689 : BitVec 32 := 1#32
  let v1024 : BitVec 32 := Scalar.addi v908 c1_i32_689
  let c256_i32_690 : BitVec 32 := 256#32
  let v1025 : BitVec 32 := Scalar.muli v1024 c256_i32_690
  v1025
def k0_off16 (k0_t1 : Fin k0_t1_loop.trips) (k0_t2 : Fin (k0_t2_loop k0_t1).trips) : Fin 2 → Nat :=
  let c64_691 : Index := 64#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_689 : BitVec 32 := 1#32
  let v1024 : BitVec 32 := Scalar.addi v908 c1_i32_689
  let c256_i32_690 : BitVec 32 := 256#32
  let v1025 : BitVec 32 := Scalar.muli v1024 c256_i32_690
  let v1026 : BitVec 32 := v1025
  let v1027 : Index := Scalar.indexCast v1026
  ![64, v1027.toNat]
def k0_mult37 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_705 : BitVec 32 := 256#32
  let v1043 : BitVec 32 := Scalar.muli v910 c256_i32_705
  v1043
def k0_mult38 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_708 : BitVec 32 := 256#32
  let v1048 : BitVec 32 := Scalar.muli arg14 c256_i32_708
  v1048
def k0_mult39 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_729 : BitVec 32 := 1#32
  let v1081 : BitVec 32 := Scalar.addi v908 c1_i32_729
  let c256_i32_730 : BitVec 32 := 256#32
  let v1082 : BitVec 32 := Scalar.muli v1081 c256_i32_730
  v1082
def k0_off17 (k0_t1 : Fin k0_t1_loop.trips) (k0_t2 : Fin (k0_t2_loop k0_t1).trips) : Fin 2 → Nat :=
  let c128_731 : Index := 128#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_729 : BitVec 32 := 1#32
  let v1081 : BitVec 32 := Scalar.addi v908 c1_i32_729
  let c256_i32_730 : BitVec 32 := 256#32
  let v1082 : BitVec 32 := Scalar.muli v1081 c256_i32_730
  let v1083 : BitVec 32 := v1082
  let v1084 : Index := Scalar.indexCast v1083
  ![128, v1084.toNat]
def k0_mult40 (k0_t1 : Fin k0_t1_loop.trips) (k0_t2 : Fin (k0_t2_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_758 : BitVec 32 := 1#32
  let v1120 : BitVec 32 := Scalar.addi v908 c1_i32_758
  let c256_i32_759 : BitVec 32 := 256#32
  let v1121 : BitVec 32 := Scalar.muli v1120 c256_i32_759
  v1121
def k0_off18 (k0_t1 : Fin k0_t1_loop.trips) (k0_t2 : Fin (k0_t2_loop k0_t1).trips) : Fin 2 → Nat :=
  let c192_760 : Index := 192#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_239 : BitVec 32 := 1#32
  let arg15 : BitVec 32 := Scf.iv c0_i32_236 c1_i32_239 k0_t2
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_758 : BitVec 32 := 1#32
  let v1120 : BitVec 32 := Scalar.addi v908 c1_i32_758
  let c256_i32_759 : BitVec 32 := 256#32
  let v1121 : BitVec 32 := Scalar.muli v1120 c256_i32_759
  let v1122 : BitVec 32 := v1121
  let v1123 : Index := Scalar.indexCast v1122
  ![192, v1123.toNat]
@[reducible] def k0_t3_loop (k0_t1 : Fin k0_t1_loop.trips) : Scf.Loop 32 :=
  let c0_i32_236 : BitVec 32 := 0#32
  let c0_i32_37 : BitVec 32 := 0#32
  let c1_i32 : BitVec 32 := 1#32
  let arg14 : BitVec 32 := Scf.iv c0_i32_37 c1_i32 k0_t1
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let v361 : BitVec 32 := Scalar.addi c0_i32_236 v360
  let c1_i32_240 : BitVec 32 := 1#32
  ⟨v364, v361, c1_i32_240⟩
def k0_mult41 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_399 : BitVec 32 := 256#32
  let v616 : BitVec 32 := Scalar.muli v615 c256_i32_399
  v616
def k0_off19 (k0_t1 : Fin k0_t1_loop.trips) (k0_t3 : Fin (k0_t3_loop k0_t1).trips) : Fin 3 → Nat :=
  let c0_400 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_399 : BitVec 32 := 256#32
  let v616 : BitVec 32 := Scalar.muli v615 c256_i32_399
  let v617 : BitVec 32 := v616
  let v618 : Index := Scalar.indexCast v617
  let c0_401 : Index := 0#32
  ![0, v618.toNat, 0]
def k0_mult42 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_402 : BitVec 32 := 256#32
  let v621 : BitVec 32 := Scalar.muli arg14 c256_i32_402
  v621
def k0_off20 (k0_t1 : Fin k0_t1_loop.trips) : Fin 3 → Nat :=
  let c0_403 : Index := 0#32
  let c0_i32_37 : BitVec 32 := 0#32
  let c1_i32 : BitVec 32 := 1#32
  let arg14 : BitVec 32 := Scf.iv c0_i32_37 c1_i32 k0_t1
  let c256_i32_402 : BitVec 32 := 256#32
  let v621 : BitVec 32 := Scalar.muli arg14 c256_i32_402
  let v622 : BitVec 32 := v621
  let v623 : Index := Scalar.indexCast v622
  let c0_404 : Index := 0#32
  ![0, v623.toNat, 0]
def k0_mult43 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_410 : BitVec 32 := 256#32
  let v634 : BitVec 32 := Scalar.muli v615 c256_i32_410
  v634
def k0_mult44 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_413 : BitVec 32 := 256#32
  let v639 : BitVec 32 := Scalar.muli arg14 c256_i32_413
  v639
def k0_mult45 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_434 : BitVec 32 := 1#32
  let v672 : BitVec 32 := Scalar.addi v613 c1_i32_434
  let c256_i32_435 : BitVec 32 := 256#32
  let v673 : BitVec 32 := Scalar.muli v672 c256_i32_435
  v673
def k0_off21 (k0_t1 : Fin k0_t1_loop.trips) (k0_t3 : Fin (k0_t3_loop k0_t1).trips) : Fin 2 → Nat :=
  let c0_436 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_434 : BitVec 32 := 1#32
  let v672 : BitVec 32 := Scalar.addi v613 c1_i32_434
  let c256_i32_435 : BitVec 32 := 256#32
  let v673 : BitVec 32 := Scalar.muli v672 c256_i32_435
  let v674 : BitVec 32 := v673
  let v675 : Index := Scalar.indexCast v674
  ![0, v675.toNat]
def k0_mult46 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_450 : BitVec 32 := 256#32
  let v691 : BitVec 32 := Scalar.muli v615 c256_i32_450
  v691
def k0_off22 (k0_t1 : Fin k0_t1_loop.trips) (k0_t3 : Fin (k0_t3_loop k0_t1).trips) : Fin 3 → Nat :=
  let c0_451 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_450 : BitVec 32 := 256#32
  let v691 : BitVec 32 := Scalar.muli v615 c256_i32_450
  let v692 : BitVec 32 := v691
  let v693 : Index := Scalar.indexCast v692
  let c128_452 : Index := 128#32
  ![0, v693.toNat, 128]
def k0_mult47 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_453 : BitVec 32 := 256#32
  let v696 : BitVec 32 := Scalar.muli arg14 c256_i32_453
  v696
def k0_off23 (k0_t1 : Fin k0_t1_loop.trips) : Fin 3 → Nat :=
  let c0_454 : Index := 0#32
  let c0_i32_37 : BitVec 32 := 0#32
  let c1_i32 : BitVec 32 := 1#32
  let arg14 : BitVec 32 := Scf.iv c0_i32_37 c1_i32 k0_t1
  let c256_i32_453 : BitVec 32 := 256#32
  let v696 : BitVec 32 := Scalar.muli arg14 c256_i32_453
  let v697 : BitVec 32 := v696
  let v698 : Index := Scalar.indexCast v697
  let c128_455 : Index := 128#32
  ![0, v698.toNat, 128]
def k0_mult48 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_474 : BitVec 32 := 1#32
  let v729 : BitVec 32 := Scalar.addi v613 c1_i32_474
  let c256_i32_475 : BitVec 32 := 256#32
  let v730 : BitVec 32 := Scalar.muli v729 c256_i32_475
  v730
def k0_off24 (k0_t1 : Fin k0_t1_loop.trips) (k0_t3 : Fin (k0_t3_loop k0_t1).trips) : Fin 2 → Nat :=
  let c64_476 : Index := 64#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_474 : BitVec 32 := 1#32
  let v729 : BitVec 32 := Scalar.addi v613 c1_i32_474
  let c256_i32_475 : BitVec 32 := 256#32
  let v730 : BitVec 32 := Scalar.muli v729 c256_i32_475
  let v731 : BitVec 32 := v730
  let v732 : Index := Scalar.indexCast v731
  ![64, v732.toNat]
def k0_mult49 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_397 : BitVec 32 := 1#32
  let v614 : BitVec 32 := Scalar.subi v613 c1_i32_397
  let c0_i32_398 : BitVec 32 := 0#32
  let v615 : BitVec 32 := Scalar.maxsi v614 c0_i32_398
  let c256_i32_490 : BitVec 32 := 256#32
  let v748 : BitVec 32 := Scalar.muli v615 c256_i32_490
  v748
def k0_mult50 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_493 : BitVec 32 := 256#32
  let v753 : BitVec 32 := Scalar.muli arg14 c256_i32_493
  v753
def k0_mult51 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_514 : BitVec 32 := 1#32
  let v786 : BitVec 32 := Scalar.addi v613 c1_i32_514
  let c256_i32_515 : BitVec 32 := 256#32
  let v787 : BitVec 32 := Scalar.muli v786 c256_i32_515
  v787
def k0_off25 (k0_t1 : Fin k0_t1_loop.trips) (k0_t3 : Fin (k0_t3_loop k0_t1).trips) : Fin 2 → Nat :=
  let c128_516 : Index := 128#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_514 : BitVec 32 := 1#32
  let v786 : BitVec 32 := Scalar.addi v613 c1_i32_514
  let c256_i32_515 : BitVec 32 := 256#32
  let v787 : BitVec 32 := Scalar.muli v786 c256_i32_515
  let v788 : BitVec 32 := v787
  let v789 : Index := Scalar.indexCast v788
  ![128, v789.toNat]
def k0_mult52 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_543 : BitVec 32 := 1#32
  let v825 : BitVec 32 := Scalar.addi v613 c1_i32_543
  let c256_i32_544 : BitVec 32 := 256#32
  let v826 : BitVec 32 := Scalar.muli v825 c256_i32_544
  v826
def k0_off26 (k0_t1 : Fin k0_t1_loop.trips) (k0_t3 : Fin (k0_t3_loop k0_t1).trips) : Fin 2 → Nat :=
  let c192_545 : Index := 192#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_543 : BitVec 32 := 1#32
  let v825 : BitVec 32 := Scalar.addi v613 c1_i32_543
  let c256_i32_544 : BitVec 32 := 256#32
  let v826 : BitVec 32 := Scalar.muli v825 c256_i32_544
  let v827 : BitVec 32 := v826
  let v828 : Index := Scalar.indexCast v827
  ![192, v828.toNat]
def k0_mult53 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_614 : BitVec 32 := 256#32
  let v911 : BitVec 32 := Scalar.muli v910 c256_i32_614
  v911
def k0_off27 (k0_t1 : Fin k0_t1_loop.trips) (k0_t3 : Fin (k0_t3_loop k0_t1).trips) : Fin 3 → Nat :=
  let c0_615 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_614 : BitVec 32 := 256#32
  let v911 : BitVec 32 := Scalar.muli v910 c256_i32_614
  let v912 : BitVec 32 := v911
  let v913 : Index := Scalar.indexCast v912
  let c0_616 : Index := 0#32
  ![0, v913.toNat, 0]
def k0_mult54 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_617 : BitVec 32 := 256#32
  let v916 : BitVec 32 := Scalar.muli arg14 c256_i32_617
  v916
def k0_mult55 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_625 : BitVec 32 := 256#32
  let v929 : BitVec 32 := Scalar.muli v910 c256_i32_625
  v929
def k0_mult56 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_628 : BitVec 32 := 256#32
  let v934 : BitVec 32 := Scalar.muli arg14 c256_i32_628
  v934
def k0_mult57 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_649 : BitVec 32 := 1#32
  let v967 : BitVec 32 := Scalar.addi v908 c1_i32_649
  let c256_i32_650 : BitVec 32 := 256#32
  let v968 : BitVec 32 := Scalar.muli v967 c256_i32_650
  v968
def k0_off28 (k0_t1 : Fin k0_t1_loop.trips) (k0_t3 : Fin (k0_t3_loop k0_t1).trips) : Fin 2 → Nat :=
  let c0_651 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_649 : BitVec 32 := 1#32
  let v967 : BitVec 32 := Scalar.addi v908 c1_i32_649
  let c256_i32_650 : BitVec 32 := 256#32
  let v968 : BitVec 32 := Scalar.muli v967 c256_i32_650
  let v969 : BitVec 32 := v968
  let v970 : Index := Scalar.indexCast v969
  ![0, v970.toNat]
def k0_mult58 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_665 : BitVec 32 := 256#32
  let v986 : BitVec 32 := Scalar.muli v910 c256_i32_665
  v986
def k0_off29 (k0_t1 : Fin k0_t1_loop.trips) (k0_t3 : Fin (k0_t3_loop k0_t1).trips) : Fin 3 → Nat :=
  let c0_666 : Index := 0#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_665 : BitVec 32 := 256#32
  let v986 : BitVec 32 := Scalar.muli v910 c256_i32_665
  let v987 : BitVec 32 := v986
  let v988 : Index := Scalar.indexCast v987
  let c128_667 : Index := 128#32
  ![0, v988.toNat, 128]
def k0_mult59 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_668 : BitVec 32 := 256#32
  let v991 : BitVec 32 := Scalar.muli arg14 c256_i32_668
  v991
def k0_mult60 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_689 : BitVec 32 := 1#32
  let v1024 : BitVec 32 := Scalar.addi v908 c1_i32_689
  let c256_i32_690 : BitVec 32 := 256#32
  let v1025 : BitVec 32 := Scalar.muli v1024 c256_i32_690
  v1025
def k0_off30 (k0_t1 : Fin k0_t1_loop.trips) (k0_t3 : Fin (k0_t3_loop k0_t1).trips) : Fin 2 → Nat :=
  let c64_691 : Index := 64#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_689 : BitVec 32 := 1#32
  let v1024 : BitVec 32 := Scalar.addi v908 c1_i32_689
  let c256_i32_690 : BitVec 32 := 256#32
  let v1025 : BitVec 32 := Scalar.muli v1024 c256_i32_690
  let v1026 : BitVec 32 := v1025
  let v1027 : Index := Scalar.indexCast v1026
  ![64, v1027.toNat]
def k0_mult61 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_612 : BitVec 32 := 1#32
  let v909 : BitVec 32 := Scalar.subi v908 c1_i32_612
  let c0_i32_613 : BitVec 32 := 0#32
  let v910 : BitVec 32 := Scalar.maxsi v909 c0_i32_613
  let c256_i32_705 : BitVec 32 := 256#32
  let v1043 : BitVec 32 := Scalar.muli v910 c256_i32_705
  v1043
def k0_mult62 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_708 : BitVec 32 := 256#32
  let v1048 : BitVec 32 := Scalar.muli arg14 c256_i32_708
  v1048
def k0_mult63 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_729 : BitVec 32 := 1#32
  let v1081 : BitVec 32 := Scalar.addi v908 c1_i32_729
  let c256_i32_730 : BitVec 32 := 256#32
  let v1082 : BitVec 32 := Scalar.muli v1081 c256_i32_730
  v1082
def k0_off31 (k0_t1 : Fin k0_t1_loop.trips) (k0_t3 : Fin (k0_t3_loop k0_t1).trips) : Fin 2 → Nat :=
  let c128_731 : Index := 128#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_729 : BitVec 32 := 1#32
  let v1081 : BitVec 32 := Scalar.addi v908 c1_i32_729
  let c256_i32_730 : BitVec 32 := 256#32
  let v1082 : BitVec 32 := Scalar.muli v1081 c256_i32_730
  let v1083 : BitVec 32 := v1082
  let v1084 : Index := Scalar.indexCast v1083
  ![128, v1084.toNat]
def k0_mult64 (k0_t1 : Fin k0_t1_loop.trips) (k0_t3 : Fin (k0_t3_loop k0_t1).trips) : BitVec 32 :=
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_758 : BitVec 32 := 1#32
  let v1120 : BitVec 32 := Scalar.addi v908 c1_i32_758
  let c256_i32_759 : BitVec 32 := 256#32
  let v1121 : BitVec 32 := Scalar.muli v1120 c256_i32_759
  v1121
def k0_off32 (k0_t1 : Fin k0_t1_loop.trips) (k0_t3 : Fin (k0_t3_loop k0_t1).trips) : Fin 2 → Nat :=
  let c192_760 : Index := 192#32
  let c0_i32_37 : BitVec 32 := 0#32
  let c1_i32 : BitVec 32 := 1#32
  let arg14 : BitVec 32 := Scf.iv c0_i32_37 c1_i32 k0_t1
  let c1_i32_395 : BitVec 32 := 1#32
  let v611 : BitVec 32 := Scalar.subi arg14 c1_i32_395
  let c2_i32_396 : BitVec 32 := 2#32
  let c0_i32_236 : BitVec 32 := 0#32
  let c1_i32_228 : BitVec 32 := 1#32
  let v341 : BitVec 32 := Scalar.subi arg14 c1_i32_228
  let c0_i32_229 : BitVec 32 := 0#32
  let v342 : BitVec 32 := Scalar.maxsi v341 c0_i32_229
  let c0_i32_230 : BitVec 32 := 0#32
  let v344 : BitVec 1 := Scalar.cmpi .sgt v342 c0_i32_230
  let v345 : BitVec 32 := Scalar.extui v344
  let c0_i32_231 : BitVec 32 := 0#32
  let v346 : BitVec 1 := Scalar.cmpi .slt v342 c0_i32_231
  let v347 : BitVec 32 := Scalar.extui v346
  let v348 : BitVec 32 := Scalar.subi v345 v347
  let c2_i32 : BitVec 32 := 2#32
  let c0_i32_232 : BitVec 32 := 0#32
  let v349 : BitVec 1 := Scalar.cmpi .sgt c2_i32 c0_i32_232
  let v350 : BitVec 32 := Scalar.extui v349
  let c0_i32_233 : BitVec 32 := 0#32
  let v351 : BitVec 1 := Scalar.cmpi .slt c2_i32 c0_i32_233
  let v352 : BitVec 32 := Scalar.extui v351
  let v353 : BitVec 32 := Scalar.subi v350 v352
  let v354 : BitVec 1 := Scalar.cmpi .ne v348 v353
  let v355 : BitVec 32 := Scalar.remsi v342 c2_i32
  let c0_i32_234 : BitVec 32 := 0#32
  let v356 : BitVec 1 := Scalar.cmpi .ne v355 c0_i32_234
  let v357 : BitVec 1 := Scalar.andi v354 v356
  let v343 : BitVec 32 := Scalar.divsi v342 c2_i32
  let c1_i32_235 : BitVec 32 := 1#32
  let v358 : BitVec 32 := Scalar.subi v343 c1_i32_235
  let v359 : BitVec 32 := Scalar.select v357 v358 v343
  let v360 : BitVec 32 := Scalar.subi v359 c0_i32_236
  let c1_i32_238 : BitVec 32 := 1#32
  let v362 : BitVec 32 := Scalar.divsi v360 c1_i32_238
  let v363 : BitVec 32 := Scalar.muli v362 c1_i32_238
  let v364 : BitVec 32 := Scalar.addi c0_i32_236 v363
  let c1_i32_240 : BitVec 32 := 1#32
  let arg15 : BitVec 32 := Scf.iv v364 c1_i32_240 k0_t3
  let v612 : BitVec 32 := Scalar.muli c2_i32_396 arg15
  let v613 : BitVec 32 := Scalar.subi v611 v612
  let c1_i32_611 : BitVec 32 := 1#32
  let v908 : BitVec 32 := Scalar.subi v613 c1_i32_611
  let c1_i32_758 : BitVec 32 := 1#32
  let v1120 : BitVec 32 := Scalar.addi v908 c1_i32_758
  let c256_i32_759 : BitVec 32 := 256#32
  let v1121 : BitVec 32 := Scalar.muli v1120 c256_i32_759
  let v1122 : BitVec 32 := v1121
  let v1123 : Index := Scalar.indexCast v1122
  ![192, v1123.toNat]
def k0_cond1 (k0_t1 : Fin k0_t1_loop.trips) : BitVec 1 :=
  let c0_i32_37 : BitVec 32 := 0#32
  let c1_i32 : BitVec 32 := 1#32
  let arg14 : BitVec 32 := Scf.iv c0_i32_37 c1_i32 k0_t1
  let c2_i32_241 : BitVec 32 := 2#32
  let c0_i32_242 : BitVec 32 := 0#32
  let v367 : BitVec 1 := Scalar.cmpi .eq c2_i32_241 c0_i32_242
  let c1_i32_243 : BitVec 32 := 1#32
  let v368 : BitVec 32 := Scalar.select v367 c1_i32_243 c2_i32_241
  let v369 : BitVec 32 := Scalar.remsi arg14 v368
  let c0_i32_245 : BitVec 32 := 0#32
  let v371 : BitVec 1 := Scalar.cmpi .slt v369 c0_i32_245
  let c0_i32_246 : BitVec 32 := 0#32
  let v372 : BitVec 1 := Scalar.cmpi .slt v368 c0_i32_246
  let v373 : BitVec 1 := Scalar.xori v371 v372
  let c0_i32_244 : BitVec 32 := 0#32
  let v370 : BitVec 1 := Scalar.cmpi .ne v369 c0_i32_244
  let v374 : BitVec 1 := Scalar.andi v373 v370
  let v375 : BitVec 32 := Scalar.addi v369 v368
  let v376 : BitVec 32 := Scalar.select v374 v375 v369
  let c1_i32_247 : BitVec 32 := 1#32
  let v377 : BitVec 1 := Scalar.cmpi .eq v376 c1_i32_247
  let v378 : BitVec 32 := Scalar.extui v377
  let c0_i32_248 : BitVec 32 := 0#32
  let v379 : BitVec 1 := Scalar.cmpi .ne v378 c0_i32_248
  v379

def k0_mult65 : BitVec 32 :=
  let c256_i32_408 : BitVec 32 := 256#32
  c256_i32_408
def k0_mult66 : BitVec 32 :=
  let c256_i32_436 : BitVec 32 := 256#32
  c256_i32_436
def k0_mult67 : BitVec 32 :=
  let c256_i32_464 : BitVec 32 := 256#32
  c256_i32_464
def k0_mult68 : BitVec 32 :=
  let c256_i32_492 : BitVec 32 := 256#32
  c256_i32_492
def k0_cond2 (k0_t1 : Fin k0_t1_loop.trips) : BitVec 1 :=
  let c0_i32_37 : BitVec 32 := 0#32
  let c1_i32 : BitVec 32 := 1#32
  let arg14 : BitVec 32 := Scf.iv c0_i32_37 c1_i32 k0_t1
  let c2_i32_249 : BitVec 32 := 2#32
  let c0_i32_250 : BitVec 32 := 0#32
  let v380 : BitVec 1 := Scalar.cmpi .eq c2_i32_249 c0_i32_250
  let c1_i32_251 : BitVec 32 := 1#32
  let v381 : BitVec 32 := Scalar.select v380 c1_i32_251 c2_i32_249
  let v382 : BitVec 32 := Scalar.remsi arg14 v381
  let c0_i32_253 : BitVec 32 := 0#32
  let v384 : BitVec 1 := Scalar.cmpi .slt v382 c0_i32_253
  let c0_i32_254 : BitVec 32 := 0#32
  let v385 : BitVec 1 := Scalar.cmpi .slt v381 c0_i32_254
  let v386 : BitVec 1 := Scalar.xori v384 v385
  let c0_i32_252 : BitVec 32 := 0#32
  let v383 : BitVec 1 := Scalar.cmpi .ne v382 c0_i32_252
  let v387 : BitVec 1 := Scalar.andi v386 v383
  let v388 : BitVec 32 := Scalar.addi v382 v381
  let v389 : BitVec 32 := Scalar.select v387 v388 v382
  let c0_i32_255 : BitVec 32 := 0#32
  let v390 : BitVec 1 := Scalar.cmpi .eq v389 c0_i32_255
  let c2_i32_256 : BitVec 32 := 2#32
  let v391 : BitVec 1 := Scalar.cmpi .sge arg14 c2_i32_256
  let v392 : BitVec 1 := Scalar.andi v390 v391
  let v393 : BitVec 32 := Scalar.extui v392
  let c0_i32_257 : BitVec 32 := 0#32
  let v394 : BitVec 1 := Scalar.cmpi .ne v393 c0_i32_257
  v394

def k0_mult69 : BitVec 32 :=
  let c0_i32_395 : BitVec 32 := 0#32
  let c0_i32_396 : BitVec 32 := 0#32
  let v611 : BitVec 32 := Scalar.maxsi c0_i32_395 c0_i32_396
  let c256_i32_397 : BitVec 32 := 256#32
  let v612 : BitVec 32 := Scalar.muli v611 c256_i32_397
  v612
def k0_off33 : Fin 3 → Nat :=
  let c0_398 : Index := 0#32
  let c0_i32_395 : BitVec 32 := 0#32
  let c0_i32_396 : BitVec 32 := 0#32
  let v611 : BitVec 32 := Scalar.maxsi c0_i32_395 c0_i32_396
  let c256_i32_397 : BitVec 32 := 256#32
  let v612 : BitVec 32 := Scalar.muli v611 c256_i32_397
  let v613 : BitVec 32 := v612
  let v614 : Index := Scalar.indexCast v613
  let c0_399 : Index := 0#32
  ![0, v614.toNat, 0]
def k0_mult70 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_400 : BitVec 32 := 256#32
  let v617 : BitVec 32 := Scalar.muli arg14 c256_i32_400
  v617
def k0_off34 (k0_t1 : Fin k0_t1_loop.trips) : Fin 3 → Nat :=
  let c0_401 : Index := 0#32
  let c0_i32_37 : BitVec 32 := 0#32
  let c1_i32 : BitVec 32 := 1#32
  let arg14 : BitVec 32 := Scf.iv c0_i32_37 c1_i32 k0_t1
  let c256_i32_400 : BitVec 32 := 256#32
  let v617 : BitVec 32 := Scalar.muli arg14 c256_i32_400
  let v618 : BitVec 32 := v617
  let v619 : Index := Scalar.indexCast v618
  let c0_402 : Index := 0#32
  ![0, v619.toNat, 0]
def k0_mult71 : BitVec 32 :=
  let c0_i32_395 : BitVec 32 := 0#32
  let c0_i32_396 : BitVec 32 := 0#32
  let v611 : BitVec 32 := Scalar.maxsi c0_i32_395 c0_i32_396
  let c256_i32_408 : BitVec 32 := 256#32
  let v630 : BitVec 32 := Scalar.muli v611 c256_i32_408
  v630
def k0_mult72 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_411 : BitVec 32 := 256#32
  let v635 : BitVec 32 := Scalar.muli arg14 c256_i32_411
  v635
def k0_mult73 : BitVec 32 :=
  let c512_i32 : BitVec 32 := 512#32
  c512_i32
def k0_mult74 : BitVec 32 :=
  let c0_i32_395 : BitVec 32 := 0#32
  let c0_i32_396 : BitVec 32 := 0#32
  let v611 : BitVec 32 := Scalar.maxsi c0_i32_395 c0_i32_396
  let c256_i32_446 : BitVec 32 := 256#32
  let v685 : BitVec 32 := Scalar.muli v611 c256_i32_446
  v685
def k0_off35 : Fin 3 → Nat :=
  let c0_447 : Index := 0#32
  let c0_i32_395 : BitVec 32 := 0#32
  let c0_i32_396 : BitVec 32 := 0#32
  let v611 : BitVec 32 := Scalar.maxsi c0_i32_395 c0_i32_396
  let c256_i32_446 : BitVec 32 := 256#32
  let v685 : BitVec 32 := Scalar.muli v611 c256_i32_446
  let v686 : BitVec 32 := v685
  let v687 : Index := Scalar.indexCast v686
  let c128_448 : Index := 128#32
  ![0, v687.toNat, 128]
def k0_mult75 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_449 : BitVec 32 := 256#32
  let v690 : BitVec 32 := Scalar.muli arg14 c256_i32_449
  v690
def k0_off36 (k0_t1 : Fin k0_t1_loop.trips) : Fin 3 → Nat :=
  let c0_450 : Index := 0#32
  let c0_i32_37 : BitVec 32 := 0#32
  let c1_i32 : BitVec 32 := 1#32
  let arg14 : BitVec 32 := Scf.iv c0_i32_37 c1_i32 k0_t1
  let c256_i32_449 : BitVec 32 := 256#32
  let v690 : BitVec 32 := Scalar.muli arg14 c256_i32_449
  let v691 : BitVec 32 := v690
  let v692 : Index := Scalar.indexCast v691
  let c128_451 : Index := 128#32
  ![0, v692.toNat, 128]
def k0_mult76 : BitVec 32 :=
  let c512_i32_470 : BitVec 32 := 512#32
  c512_i32_470
def k0_mult77 : BitVec 32 :=
  let c0_i32_395 : BitVec 32 := 0#32
  let c0_i32_396 : BitVec 32 := 0#32
  let v611 : BitVec 32 := Scalar.maxsi c0_i32_395 c0_i32_396
  let c256_i32_485 : BitVec 32 := 256#32
  let v740 : BitVec 32 := Scalar.muli v611 c256_i32_485
  v740
def k0_mult78 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_488 : BitVec 32 := 256#32
  let v745 : BitVec 32 := Scalar.muli arg14 c256_i32_488
  v745
def k0_mult79 : BitVec 32 :=
  let c512_i32_509 : BitVec 32 := 512#32
  c512_i32_509
def k0_mult80 : BitVec 32 :=
  let c512_i32_537 : BitVec 32 := 512#32
  c512_i32_537
def k0_mult81 : BitVec 32 :=
  let c256_i32_617 : BitVec 32 := 256#32
  c256_i32_617
def k0_mult82 : BitVec 32 :=
  let c256_i32_645 : BitVec 32 := 256#32
  c256_i32_645
def k0_mult83 : BitVec 32 :=
  let c256_i32_673 : BitVec 32 := 256#32
  c256_i32_673
def k0_mult84 : BitVec 32 :=
  let c256_i32_701 : BitVec 32 := 256#32
  c256_i32_701
def k0_mult85 : BitVec 32 :=
  let c0_i32_258 : BitVec 32 := 0#32
  c0_i32_258
def k0_mult86 : BitVec 32 :=
  let c0_i32_273 : BitVec 32 := 0#32
  c0_i32_273
def k0_mult87 : BitVec 32 :=
  let c0_i32_287 : BitVec 32 := 0#32
  c0_i32_287
def k0_mult88 : BitVec 32 :=
  let c0_i32_302 : BitVec 32 := 0#32
  c0_i32_302
def k0_mult89 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_317 : BitVec 32 := 256#32
  let v465 : BitVec 32 := Scalar.muli v464 c256_i32_317
  v465
def k0_off37 (k0_t1 : Fin k0_t1_loop.trips) : Fin 3 → Nat :=
  let c0_318 : Index := 0#32
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_317 : BitVec 32 := 256#32
  let v465 : BitVec 32 := Scalar.muli v464 c256_i32_317
  let v466 : BitVec 32 := v465
  let v467 : Index := Scalar.indexCast v466
  let c0_319 : Index := 0#32
  ![0, v467.toNat, 0]
def k0_mult90 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_320 : BitVec 32 := 256#32
  let v470 : BitVec 32 := Scalar.muli v464 c256_i32_320
  v470
def k0_mult91 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_328 : BitVec 32 := 256#32
  let v483 : BitVec 32 := Scalar.muli v464 c256_i32_328
  v483
def k0_mult92 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_331 : BitVec 32 := 256#32
  let v488 : BitVec 32 := Scalar.muli v464 c256_i32_331
  v488
def k0_mult93 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_339 : BitVec 32 := 256#32
  let v501 : BitVec 32 := Scalar.muli v464 c256_i32_339
  v501
def k0_off38 (k0_t1 : Fin k0_t1_loop.trips) : Fin 3 → Nat :=
  let c0_340 : Index := 0#32
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_339 : BitVec 32 := 256#32
  let v501 : BitVec 32 := Scalar.muli v464 c256_i32_339
  let v502 : BitVec 32 := v501
  let v503 : Index := Scalar.indexCast v502
  let c128_341 : Index := 128#32
  ![0, v503.toNat, 128]
def k0_mult94 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_342 : BitVec 32 := 256#32
  let v506 : BitVec 32 := Scalar.muli v464 c256_i32_342
  v506
def k0_mult95 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_350 : BitVec 32 := 256#32
  let v519 : BitVec 32 := Scalar.muli v464 c256_i32_350
  v519
def k0_mult96 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c1_i32_316 : BitVec 32 := 1#32
  let v463 : BitVec 32 := Scalar.addi arg14 c1_i32_316
  let c7_i32 : BitVec 32 := 7#32
  let v464 : BitVec 32 := Scalar.minsi v463 c7_i32
  let c256_i32_353 : BitVec 32 := 256#32
  let v524 : BitVec 32 := Scalar.muli v464 c256_i32_353
  v524
def k0_mult97 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_375 : BitVec 32 := 256#32
  let v568 : BitVec 32 := Scalar.muli arg14 c256_i32_375
  v568
def k0_mult98 (k0_t1 : Fin k0_t1_loop.trips) : BitVec 32 :=
  let c0_i32_37 : BitVec 32 := 0#32
  let c1_i32 : BitVec 32 := 1#32
  let arg14 : BitVec 32 := Scf.iv c0_i32_37 c1_i32 k0_t1
  let c256_i32_392 : BitVec 32 := 256#32
  let v605 : BitVec 32 := Scalar.muli arg14 c256_i32_392
  v605
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S32x2048x8x64 : Shape := ⟨4, ![32, 2048, 8, 64]⟩
abbrev S1x64 : Shape := ⟨2, ![1, 64]⟩
abbrev S32x8x2048x2048 : Shape := ⟨4, ![32, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x64x2048 : Shape := ⟨4, ![32, 8, 64, 2048]⟩
abbrev S64 : Shape := ⟨1, ![64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S65536x2x256 : Shape := ⟨3, ![65536, 2, 256]⟩
abbrev S2x65536x256 : Shape := ⟨3, ![2, 65536, 256]⟩

abbrev nBuf : Space → Nat
  | .hbm => 85
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S1x64, .f32⟩
  | .hbm, ⟨4, _⟩ => ⟨S32x8x2048x2048, .f32⟩
  | .hbm, ⟨5, _⟩ => ⟨S_, .f32⟩
  | .hbm, ⟨6, _⟩ => ⟨S32x8x2048x2048, .f32⟩
  | .hbm, ⟨7, _⟩ => ⟨S32x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S32x8x2048x2048, .f32⟩
  | .hbm, ⟨15, _⟩ => ⟨S_, .f32⟩
  | .hbm, ⟨16, _⟩ => ⟨S32x8x2048x2048, .f32⟩
  | .hbm, ⟨17, _⟩ => ⟨S32x8x2048x2048, .f32⟩
  | .hbm, ⟨18, _⟩ => ⟨S32x8x2048x2048, .f32⟩
  | .hbm, ⟨19, _⟩ => ⟨S32x8x2048x2048, .f32⟩
  | .hbm, ⟨20, _⟩ => ⟨S32x8x2048x2048, .i1⟩
  | .hbm, ⟨21, _⟩ => ⟨S32x8x2048x2048, .f32⟩
  | .hbm, ⟨22, _⟩ => ⟨S32x8x2048x2048, .f32⟩
  | .hbm, ⟨23, _⟩ => ⟨S32x8x2048x2048, .f32⟩
  | .hbm, ⟨24, _⟩ => ⟨S32x8x2048x2048, .f32⟩
  | .hbm, ⟨25, _⟩ => ⟨S32x8x2048x2048, .f32⟩
  | .hbm, ⟨26, _⟩ => ⟨S32x8x2048x2048, .f32⟩
  | .hbm, ⟨27, _⟩ => ⟨S32x8x2048x2048, .f32⟩
  | .hbm, ⟨28, _⟩ => ⟨S32x8x2048x2048, .f32⟩
  | .hbm, ⟨29, _⟩ => ⟨S32x8x2048x2048, .f32⟩
  | .hbm, ⟨30, _⟩ => ⟨S32x8x2048x2048, .f32⟩
  | .hbm, ⟨31, _⟩ => ⟨S32x8x2048x2048, .f32⟩
  | .hbm, ⟨32, _⟩ => ⟨S_, .f32⟩
  | .hbm, ⟨33, _⟩ => ⟨S32x8x2048x2048, .f32⟩
  | .hbm, ⟨34, _⟩ => ⟨S32x8x2048x2048, .f32⟩
  | .hbm, ⟨35, _⟩ => ⟨S32x8x2048x2048, .f32⟩
  | .hbm, ⟨36, _⟩ => ⟨S32x8x2048x2048, .f32⟩
  | .hbm, ⟨37, _⟩ => ⟨S32x8x2048x2048, .i1⟩
  | .hbm, ⟨38, _⟩ => ⟨S32x8x2048x2048, .f32⟩
  | .hbm, ⟨39, _⟩ => ⟨S32x8x2048x2048, .f32⟩
  | .hbm, ⟨40, _⟩ => ⟨S32x8x2048x2048, .f32⟩
  | .hbm, ⟨41, _⟩ => ⟨S32x8x2048x2048, .f32⟩
  | .hbm, ⟨42, _⟩ => ⟨S32x8x2048x2048, .f32⟩
  | .hbm, ⟨43, _⟩ => ⟨S32x8x2048x2048, .f32⟩
  | .hbm, ⟨44, _⟩ => ⟨S32x8x2048x2048, .f32⟩
  | .hbm, ⟨45, _⟩ => ⟨S32x8x2048x2048, .f32⟩
  | .hbm, ⟨46, _⟩ => ⟨S32x8x2048x2048, .f32⟩
  | .hbm, ⟨47, _⟩ => ⟨S_, .f32⟩
  | .hbm, ⟨48, _⟩ => ⟨S_, .f32⟩
  | .hbm, ⟨49, _⟩ => ⟨S32x8x2048x2048, .i1⟩
  | .hbm, ⟨50, _⟩ => ⟨S32x8x2048x2048, .f32⟩
  | .hbm, ⟨51, _⟩ => ⟨S32x8x2048x2048, .f32⟩
  | .hbm, ⟨52, _⟩ => ⟨S_, .f32⟩
  | .hbm, ⟨53, _⟩ => ⟨S_, .f32⟩
  | .hbm, ⟨54, _⟩ => ⟨S32x8x2048x2048, .f32⟩
  | .hbm, ⟨55, _⟩ => ⟨S32x8x2048x2048, .f32⟩
  | .hbm, ⟨56, _⟩ => ⟨S32x8x2048x2048, .f32⟩
  | .hbm, ⟨57, _⟩ => ⟨S32x8x2048x2048, .f32⟩
  | .hbm, ⟨58, _⟩ => ⟨S_, .f32⟩
  | .hbm, ⟨59, _⟩ => ⟨S_, .f32⟩
  | .hbm, ⟨60, _⟩ => ⟨S32x8x2048x2048, .i1⟩
  | .hbm, ⟨61, _⟩ => ⟨S32x8x2048x2048, .f32⟩
  | .hbm, ⟨62, _⟩ => ⟨S32x8x2048x2048, .f32⟩
  | .hbm, ⟨63, _⟩ => ⟨S32x8x64x2048, .f32⟩
  | .hbm, ⟨64, _⟩ => ⟨S32x2048x8x64, .f32⟩
  | .hbm, ⟨65, _⟩ => ⟨S64, .f32⟩
  | .hbm, ⟨66, _⟩ => ⟨S32x2048x8x64, .f32⟩
  | .hbm, ⟨67, _⟩ => ⟨S_, .f32⟩
  | .hbm, ⟨68, _⟩ => ⟨S32x2048x8, .f32⟩
  | .hbm, ⟨69, _⟩ => ⟨S32x2048x8x1, .f32⟩
  | .hbm, ⟨70, _⟩ => ⟨S_, .f32⟩
  | .hbm, ⟨71, _⟩ => ⟨S32x2048x8x1, .f32⟩
  | .hbm, ⟨72, _⟩ => ⟨S32x2048x8x1, .f32⟩
  | .hbm, ⟨73, _⟩ => ⟨S_, .f32⟩
  | .hbm, ⟨74, _⟩ => ⟨S32x2048x8x1, .f32⟩
  | .hbm, ⟨75, _⟩ => ⟨S32x2048x8x1, .f32⟩
  | .hbm, ⟨76, _⟩ => ⟨S32x2048x8x1, .f32⟩
  | .hbm, ⟨77, _⟩ => ⟨S32x2048x8x64, .f32⟩
  | .hbm, ⟨78, _⟩ => ⟨S32x2048x8x64, .f32⟩
  | .hbm, ⟨79, _⟩ => ⟨S1x1x1x64, .f32⟩
  | .hbm, ⟨80, _⟩ => ⟨S32x2048x8x64, .f32⟩
  | .hbm, ⟨81, _⟩ => ⟨S32x2048x8x64, .f32⟩
  | .hbm, ⟨82, _⟩ => ⟨S65536x2x256, .f32⟩
  | .hbm, ⟨83, _⟩ => ⟨S2x65536x256, .f32⟩
  | .hbm, ⟨84, _⟩ => ⟨S2x65536x256, .bf16⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_v10 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v11 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v12 : Ref sig .tc := ⟨.hbm, 51, rfl⟩
abbrev main_call3_cst : Ref sig .tc := ⟨.hbm, 52, rfl⟩
abbrev main_call3_v0 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_2 : Ref sig .tc := ⟨.hbm, 67, rfl⟩
abbrev main_v22 : Ref sig .tc := ⟨.hbm, 68, rfl⟩
abbrev main_v23 : Ref sig .tc := ⟨.hbm, 69, rfl⟩
abbrev main_cst_3 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩

abbrev nD : Nat := 1
abbrev τ : Topo := Topo.v7x

variable {F : FTy → Type} [FloatOps F]
-- ==== Proof.Diff.Rules.lean ====
/-
  A small program logic for the attention call's body. The body works on eleven memory references: five inputs, the
  result and five scratch arrays of four slots each, one slot per attention map. `St` is what the result and the
  scratch slots hold; `WP X p σ Q` says that the program `p`, run where the references of `X` hold the inputs of `X`
  and the state `σ`, ends with an answer and a state that satisfy `Q`. One rule per memory operation of the body.
-/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Tactic

@[expose] public section

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Four slots -/

/-- Four values, one per attention map. -/
@[ext] structure Four (α : Type) where
  (x0 x1 x2 x3 : α)

namespace Four
variable {α : Type}

/-- The value of map `c`. -/
def get (f : Four α) : Fin 4 → α
  | 0 => f.x0 | 1 => f.x1 | 2 => f.x2 | 3 => f.x3
/-- The values with map `c`'s replaced. -/
def set (f : Four α) : Fin 4 → α → Four α
  | 0, a => ⟨a, f.x1, f.x2, f.x3⟩ | 1, a => ⟨f.x0, a, f.x2, f.x3⟩ | 2, a => ⟨f.x0, f.x1, a, f.x3⟩ | 3, a => ⟨f.x0, f.x1, f.x2, a⟩
/-- The four values of a function. -/
def of (g : Fin 4 → α) : Four α := ⟨g 0, g 1, g 2, g 3⟩

theorem get_of (g : Fin 4 → α) (c : Fin 4) : (of g).get c = g c := by fin_cases c <;> rfl
theorem get_set_self (f : Four α) (c : Fin 4) (a : α) : (f.set c a).get c = a := by fin_cases c <;> rfl
theorem get_set_ne (f : Four α) {c d : Fin 4} (a : α) (h : d ≠ c) : (f.set c a).get d = f.get d := by
  revert h; fin_cases c <;> fin_cases d <;> intro h <;> first | rfl | exact absurd rfl h

end Four

/-! ## Blocks of the inputs and slots of the scratch arrays -/

/-- The offsets of row block `b`, head `h` of the queries, keys and results. -/
abbrev offRow (b : Fin 4) (h : Fin 2) : Fin 3 → Nat := ![0, 512 * b.val, 128 * h.val]
theorem offRow_inb (b : Fin 4) (h : Fin 2) : ∀ a, offRow b h a + S1x512x128.size a ≤ S1x2048x256.size a := by
  revert b h; decide
/-- The offsets of head `h`, column block `b` of the transposed values. -/
abbrev offCol (b : Fin 4) (h : Fin 2) : Fin 2 → Nat := ![128 * h.val, 512 * b.val]
theorem offCol_inb (b : Fin 4) (h : Fin 2) : ∀ a, offCol b h a + S128x512.size a ≤ S256x2048.size a := by
  revert b h; decide

section Blocks
variable {Val : EltTy → Type} {e : EltTy}
/-- Row block `b`, head `h` of a queries', keys' or results' array. -/
def rowBlk (X : S1x2048x256.Idx → Val e) (b : Fin 4) (h : Fin 2) : S1x512x128.Idx → Val e :=
  View.ld X (Rect.unit (s := S1x2048x256) (offRow b h) S1x512x128.size (offRow_inb b h))
/-- Head `h`, column block `b` of the transposed values. -/
def colBlk (X : S256x2048.Idx → Val e) (b : Fin 4) (h : Fin 2) : S128x512.Idx → Val e :=
  View.ld X (Rect.unit (s := S256x2048) (offCol b h) S128x512.size (offCol_inb b h))
/-- A results' array with its row block `b`, head `h` replaced. -/
def setRow (X : S1x2048x256.Idx → Val e) (b : Fin 4) (h : Fin 2) (w : S1x512x128.Idx → Val e) : S1x2048x256.Idx → Val e :=
  (Rect.unit (s := S1x2048x256) (offRow b h) S1x512x128.size (offRow_inb b h)).overlay X w
end Blocks

/-- The offsets of slot `c`. -/
abbrev offSlot (c : Fin 4) : Fin 3 → Nat := ![c.val, 0, 0]
theorem offSlot_inb {a b : Nat} (c : Fin 4) :
    ∀ i, offSlot c i + (![1, a, b] : Fin 3 → Nat) i ≤ (⟨3, ![4, a, b]⟩ : Shape).size i := by
  intro i; fin_cases i
  · exact Nat.succ_le_of_lt c.isLt
  · exact (Nat.zero_add _).le
  · exact (Nat.zero_add _).le

/-- The four slots of a scratch array hold `f`. -/
def Slots {Val : EltTy → Type} {e : EltTy} {a b : Nat} (X : (⟨3, ![4, a, b]⟩ : Shape).Idx → Val e)
    (f : Four ((⟨3, ![1, a, b]⟩ : Shape).Idx → Val e)) : Prop :=
  ∀ c : Fin 4, View.ld X (Rect.unit (s := ⟨3, ![4, a, b]⟩) (offSlot c) ![1, a, b] (offSlot_inb c)) = f.get c

section SlotLemmas
variable {Val : EltTy → Type} {e : EltTy} {a b : Nat}

/-- Every array's slots hold something. -/
theorem Slots.exists (X : (⟨3, ![4, a, b]⟩ : Shape).Idx → Val e) : ∃ f, Slots X f :=
  ⟨Four.of fun c => View.ld X (Rect.unit (s := ⟨3, ![4, a, b]⟩) (offSlot c) ![1, a, b] (offSlot_inb c)), fun c => by rw [Four.get_of]⟩

/-- What a load of a slot reads. -/
theorem Slots.ld {X : (⟨3, ![4, a, b]⟩ : Shape).Idx → Val e} {f} (h : Slots X f) (c : Fin 4) {off : Fin 3 → Nat}
    (ho : off = offSlot c) (inb : ∀ i, off i + (![1, a, b] : Fin 3 → Nat) i ≤ (⟨3, ![4, a, b]⟩ : Shape).size i) :
    View.ld X (Rect.unit (s := ⟨3, ![4, a, b]⟩) off ![1, a, b] inb) = f.get c := by
  subst ho; exact h c

/-- What a store to a slot leaves. -/
theorem Slots.overlay {X : (⟨3, ![4, a, b]⟩ : Shape).Idx → Val e} {f} (h : Slots X f) (c : Fin 4) {off : Fin 3 → Nat}
    (ho : off = offSlot c) (inb : ∀ i, off i + (![1, a, b] : Fin 3 → Nat) i ≤ (⟨3, ![4, a, b]⟩ : Shape).size i)
    (w : (⟨3, ![1, a, b]⟩ : Shape).Idx → Val e) :
    Slots ((Rect.unit (s := ⟨3, ![4, a, b]⟩) off ![1, a, b] inb).overlay X w) (f.set c w) := by
  subst ho
  intro d
  by_cases hd : d = c
  · subst hd
    rw [Four.get_set_self]
    funext x
    exact Rect.overlay_emb _ _ _ x
  · rw [Four.get_set_ne _ _ hd, ← h d]
    funext x
    refine Rect.overlay_of_not_mem _ _ _ ?_
    rw [Rect.mem_set_unit]
    intro hm
    have h0 := hm 0
    have h1 : ((Rect.unit (s := ⟨3, ![4, a, b]⟩) (offSlot d) ![1, a, b] (offSlot_inb d)).idx x 0 : Nat) = d.val + 1 * (x 0).val := rfl
    have h2 : (x 0).val < 1 := (x 0).isLt
    have h3 : offSlot c 0 = c.val := rfl
    have h4 : (![1, a, b] : Fin 3 → Nat) 0 = 1 := rfl
    refine hd (Fin.ext ?_)
    rw [h1, h3, h4] at h0
    omega
end SlotLemmas

/-! ## The state and the logic -/

/-- What the body computes with: the memory references it is called on and the inputs they hold. -/
structure Ctx (F : FTy → Type) where
  c : Dev nD
  a2 : Memref sig .tc .vmem S4x64 .f32
  a3 : Memref sig .tc .vmem S1x128 .f32
  a4 : Memref sig .tc .vmem S1x2048x256 .bf16
  a5 : Memref sig .tc .vmem S1x2048x256 .bf16
  a6 : Memref sig .tc .vmem S256x2048 .bf16
  a7 : Memref sig .tc .vmem S1x2048x256 .bf16
  a8 : Memref sig .tc .vmem S4x512x512 .f32
  a9 : Memref sig .tc .vmem S4x512x512 .f32
  a10 : Memref sig .tc .vmem S4x1x512 .f32
  a11 : Memref sig .tc .vmem S4x1x512 .f32
  a12 : Memref sig .tc .vmem S4x128x512 .f32
  lam : Vec F S4x64 .f32
  g : Vec F S1x128 .f32
  q : Vec F S1x2048x256 .bf16
  k : Vec F S1x2048x256 .bf16
  v : Vec F S256x2048 .bf16

/-- What the body changes: the result, the two score buffers, and the running maxima, sums and products. -/
@[ext] structure St (F : FTy → Type) where
  O : Vec F S1x2048x256 .bf16
  SA : Four (Vec F S1x512x512 .f32)
  SB : Four (Vec F S1x512x512 .f32)
  M : Four (Vec F S1x1x512 .f32)
  L : Four (Vec F S1x1x512 .f32)
  A : Four (Vec F S1x128x512 .f32)

variable (X : Ctx F)

/-- A reference owned whole at contents that satisfy `φ`. -/
def cell (c : Dev nD) {s : Shape} {e : EltTy} (m : Memref sig .tc .vmem s e) (φ : (s.Idx → Elt F e) → Prop) : sProp 𝕄 :=
  iprop(∃ Y, ⌜φ Y⌝ ∗ owns (c : Thread nD τ) m fullShare Y)

/-- The body's eleven references one by one. -/
def cells (σ : St F) : Fin 11 → sProp 𝕄
  | 0 => cell X.c X.a2 (· = X.lam)
  | 1 => cell X.c X.a3 (· = X.g)
  | 2 => cell X.c X.a4 (· = X.q)
  | 3 => cell X.c X.a5 (· = X.k)
  | 4 => cell X.c X.a6 (· = X.v)
  | 5 => cell X.c X.a7 (· = σ.O)
  | 6 => cell X.c X.a8 (Slots · σ.SA)
  | 7 => cell X.c X.a9 (Slots · σ.SB)
  | 8 => cell X.c X.a10 (Slots · σ.M)
  | 9 => cell X.c X.a11 (Slots · σ.L)
  | 10 => cell X.c X.a12 (Slots · σ.A)

/-- All of them. -/
def own (σ : St F) : sProp 𝕄 := bigSep Finset.univ (cells X σ)

/-- `p` from state `σ` ends with an answer and a state in `Q`. -/
def WP {α : Type} (p : Prog (TpuEff nD τ sig (Elt F) Λ₀ .tc) α) (σ : St F) (Q : α → St F → Prop) : Prop :=
  ∀ (𝒱₀ : Variants) (E : Set ℕ), own X σ ⊢ wp (M := 𝕄) frame (wpE (defs₀ (F := F)) 𝒱₀ (X.c : Thread nD τ) none) E p
    (fun a => iprop(∃ σ', ⌜Q a σ'⌝ ∗ own X σ'))

variable {X} {α β : Type} {σ : St F}

theorem WP.ret {a : α} {Q : α → St F → Prop} (h : Q a σ) : WP X (.ret a) σ Q := by
  intro 𝒱₀ E
  rw [wp_ret]
  iintro H
  imodintro
  iexists σ
  isplitr
  · ipureintro; exact h
  · iexact H

theorem WP.pure {a : α} {Q : α → St F → Prop} (h : Q a σ) : WP X (Pure.pure a) σ Q := WP.ret h

theorem WP.bind {p : Prog (TpuEff nD τ sig (Elt F) Λ₀ .tc) α} {f : α → Prog (TpuEff nD τ sig (Elt F) Λ₀ .tc) β}
    {Q : β → St F → Prop} (h : WP X p σ fun a σ' => WP X (f a) σ' Q) : WP X (p >>= f) σ Q := by
  intro 𝒱₀ E
  rw [wp_bind]
  refine (h 𝒱₀ E).trans (wp_mono _ _ _ fun a => ?_)
  iintro ⟨%σ', %h', H⟩
  iapply (h' 𝒱₀ E)
  iexact H

/-- A last operation, as one that an answer follows. -/
theorem WP.tail {o : TpuEff nD τ sig (Elt F) Λ₀ .tc α} {Q : α → St F → Prop}
    (h : WP X (Prog.lift o >>= fun a => Pure.pure a) σ Q) : WP X (Prog.lift o) σ Q := h

theorem WP.mono {p : Prog (TpuEff nD τ sig (Elt F) Λ₀ .tc) α} {Q Q' : α → St F → Prop} (h : WP X p σ Q)
    (hQ : ∀ a σ', Q a σ' → Q' a σ') : WP X p σ Q' := by
  intro 𝒱₀ E
  refine (h 𝒱₀ E).trans (wp_mono _ _ _ fun a => ?_)
  iintro ⟨%σ', %h', H⟩
  iexists σ'
  isplitr
  · ipureintro; exact hQ a σ' h'
  · iexact H

/-- One reference taken out of the eleven, and put back where another state agrees on the others. -/
theorem own_split (j : Fin 11) (σ : St F) : own X σ = iprop(cells X σ j ∗ bigSep (Finset.univ.erase j) (cells X σ)) :=
  bigSep_univ_split j

theorem own_join (j : Fin 11) (σ σ' : St F) (h : ∀ i, i ≠ j → cells X σ' i = cells X σ i) :
    iprop(cells X σ' j ∗ bigSep (Finset.univ.erase j) (cells X σ)) = own X σ' := by
  rw [own_split j σ']
  congr 1
  exact (bigSep_congr fun i hi => h i (Finset.ne_of_mem_erase hi)).symm

section Step
variable {s : Shape} {e : EltTy} {m : Memref sig .tc .vmem s e} {Q : α → St F → Prop}

/-- A load of reference `j`: the program goes on at the block read. -/
theorem WP.load (j : Fin 11) {φ : (s.Idx → Elt F e) → Prop} (hj : cells X σ j = cell X.c m φ) {r : Rect s}
    {hl : m.view.LoadsAt r.toLoadRect} {k : (r.shape.Idx → Elt F e) → Prog (TpuEff nD τ sig (Elt F) Λ₀ .tc) α}
    {v : r.shape.Idx → Elt F e} (hv : ∀ Y, φ Y → View.ld Y r = v) (h : WP X (k v) σ Q) :
    WP X (Prog.lift (.load m r.toLoadRect hl) >>= k) σ Q := by
  intro 𝒱₀ E
  have hk := h 𝒱₀ E
  rw [own_split j, hj] at hk ⊢
  rw [Prog.bind_lift]
  unfold cell owns at hk ⊢
  iintro ⟨⟨%Y, %hY, %f, %hf, H⟩, HR⟩
  have hval : m.view.readAt (Elt F) r.toLoadRect f = v := by
    rw [← hv Y hY, ← hf]; rfl
  iapply (wp_load (defs := defs₀ (F := F)) 𝒱₀ (X.c : Thread nD τ) none E (m := m) (r := r.toLoadRect) (hl := hl) (k := k) (f := f)
    (m.view.setOn_subset_set _)) $$ H
  iintro H
  rw [hval]
  iapply hk
  isplitl [H]
  · iexists Y
    isplitr; · ipureintro; exact hY
    iexists f
    isplitr; · ipureintro; exact hf
    iexact H
  · iexact HR

/-- A store to reference `j`. -/
theorem WP.store (j : Fin 11) {φ φ' : (s.Idx → Elt F e) → Prop} (hj : cells X σ j = cell X.c m φ) {r : Rect s}
    {w : r.shape.Idx → Elt F e} {hx : (m.access r).Stores Finset.univ} {hm : Finset.univ = Finset.univ ∨ ∀ a, r.stride a = 1}
    {k : PUnit → Prog (TpuEff nD τ sig (Elt F) Λ₀ .tc) α} (σ' : St F)
    (hj' : cells X σ' j = cell X.c m φ') (hne : ∀ i, i ≠ j → cells X σ' i = cells X σ i)
    (hw : ∀ Y, φ Y → φ' (r.overlay Y w)) (h : WP X (k ⟨⟩) σ' Q) :
    WP X (Prog.lift (.store m r w Finset.univ hx hm) >>= k) σ Q := by
  intro 𝒱₀ E
  have hk := h 𝒱₀ E
  rw [← own_join j σ σ' hne, hj'] at hk
  rw [own_split j, hj]
  rw [Prog.bind_lift]
  unfold cell owns at hk ⊢
  iintro ⟨⟨%Y, %hY, %f, %hf, H⟩, HR⟩
  iapply (wp_store (defs := defs₀ (F := F)) 𝒱₀ (X.c : Thread nD τ) none E (m := m) (r := r) (w := w) (Mk := Finset.univ) (hx := hx) (hm := hm)
    (k := k) (f := f) (Memref.setOn_access_subset m r Finset.univ)) $$ H
  iintro H
  iapply hk
  isplitl [H]
  · iexists r.overlay Y w
    isplitr; · ipureintro; exact hw Y hY
    iexists ((m.access r).write (Elt F) f w Finset.univ)
    isplitr
    · ipureintro
      funext y
      by_cases hy : y ∈ Finset.univ.map r.emb
      · obtain ⟨x, -, rfl⟩ := Finset.mem_map.mp hy
        rw [Rect.overlay_emb]
        exact View.read_slice_write_emb r f w (Finset.mem_univ x)
      · rw [Rect.overlay_of_not_mem _ _ _ (by rwa [Rect.map_emb_univ] at hy), ← hf]
        exact View.read_slice_write_of_not_mem r f w Finset.univ hy
    iexact H
  · iexact HR

end Step

/-! ## The rules for the body's references -/

/-- The body's programs. -/
abbrev Pg (F : FTy → Type) (α : Type) : Type 1 := Prog (TpuEff nD τ sig (Elt F) Λ₀ .tc) α

/-! Changing one reference's contents leaves the others' cells. -/

theorem cells_O (σ : St F) (y) : ∀ i, i ≠ (5 : Fin 11) → cells X { σ with O := y } i = cells X σ i := by
  intro i hi
  fin_cases i <;> first | rfl | exact absurd rfl hi

theorem cells_SA (σ : St F) (y) : ∀ i, i ≠ (6 : Fin 11) → cells X { σ with SA := y } i = cells X σ i := by
  intro i hi
  fin_cases i <;> first | rfl | exact absurd rfl hi

theorem cells_SB (σ : St F) (y) : ∀ i, i ≠ (7 : Fin 11) → cells X { σ with SB := y } i = cells X σ i := by
  intro i hi
  fin_cases i <;> first | rfl | exact absurd rfl hi

theorem cells_M (σ : St F) (y) : ∀ i, i ≠ (8 : Fin 11) → cells X { σ with M := y } i = cells X σ i := by
  intro i hi
  fin_cases i <;> first | rfl | exact absurd rfl hi

theorem cells_L (σ : St F) (y) : ∀ i, i ≠ (9 : Fin 11) → cells X { σ with L := y } i = cells X σ i := by
  intro i hi
  fin_cases i <;> first | rfl | exact absurd rfl hi

theorem cells_A (σ : St F) (y) : ∀ i, i ≠ (10 : Fin 11) → cells X { σ with A := y } i = cells X σ i := by
  intro i hi
  fin_cases i <;> first | rfl | exact absurd rfl hi

section Named
variable {Q : α → St F → Prop}

theorem WP.load2 {r : Rect S4x64} {hl} {k : (r.shape.Idx → Elt F .f32) → Pg F α} (h : WP X (k (View.ld X.lam r)) σ Q) :
    WP X (Prog.lift (.load X.a2 r.toLoadRect hl) >>= k) σ Q :=
  WP.load 0 rfl (fun _ hY => by rw [hY]) h

theorem WP.load3 {r : Rect S1x128} {hl} {k : (r.shape.Idx → Elt F .f32) → Pg F α} (h : WP X (k (View.ld X.g r)) σ Q) :
    WP X (Prog.lift (.load X.a3 r.toLoadRect hl) >>= k) σ Q :=
  WP.load 1 rfl (fun _ hY => by rw [hY]) h

theorem WP.load4 (b : Fin 4) (hd : Fin 2) {off : Fin 3 → Nat} {inb : ∀ i, off i + S1x512x128.size i ≤ S1x2048x256.size i} {hl : X.a4.view.LoadsAt (Rect.unit (s := S1x2048x256) off S1x512x128.size inb).toLoadRect} {k : (S1x512x128.Idx → Elt F .bf16) → Pg F α}
    (ho : off = offRow b hd) (h : WP X (k (rowBlk X.q b hd)) σ Q) :
    WP X (Prog.lift (.load X.a4 (Rect.unit (s := S1x2048x256) off S1x512x128.size inb).toLoadRect hl) >>= k) σ Q := by
  subst ho
  exact WP.load (m := X.a4) (r := Rect.unit (s := S1x2048x256) (offRow b hd) S1x512x128.size inb) (hl := hl) (k := k) (v := rowBlk X.q b hd) 2 rfl (fun _ hY => by rw [hY]; rfl) h

theorem WP.load5 (b : Fin 4) (hd : Fin 2) {off : Fin 3 → Nat} {inb : ∀ i, off i + S1x512x128.size i ≤ S1x2048x256.size i} {hl : X.a5.view.LoadsAt (Rect.unit (s := S1x2048x256) off S1x512x128.size inb).toLoadRect} {k : (S1x512x128.Idx → Elt F .bf16) → Pg F α}
    (ho : off = offRow b hd) (h : WP X (k (rowBlk X.k b hd)) σ Q) :
    WP X (Prog.lift (.load X.a5 (Rect.unit (s := S1x2048x256) off S1x512x128.size inb).toLoadRect hl) >>= k) σ Q := by
  subst ho
  exact WP.load (m := X.a5) (r := Rect.unit (s := S1x2048x256) (offRow b hd) S1x512x128.size inb) (hl := hl) (k := k) (v := rowBlk X.k b hd) 3 rfl (fun _ hY => by rw [hY]; rfl) h

theorem WP.load6 (b : Fin 4) (hd : Fin 2) {off : Fin 2 → Nat} {inb : ∀ i, off i + S128x512.size i ≤ S256x2048.size i} {hl : X.a6.view.LoadsAt (Rect.unit (s := S256x2048) off S128x512.size inb).toLoadRect} {k : (S128x512.Idx → Elt F .bf16) → Pg F α}
    (ho : off = offCol b hd) (h : WP X (k (colBlk X.v b hd)) σ Q) :
    WP X (Prog.lift (.load X.a6 (Rect.unit (s := S256x2048) off S128x512.size inb).toLoadRect hl) >>= k) σ Q := by
  subst ho
  exact WP.load (m := X.a6) (r := Rect.unit (s := S256x2048) (offCol b hd) S128x512.size inb) (hl := hl) (k := k) (v := colBlk X.v b hd) 4 rfl (fun _ hY => by rw [hY]; rfl) h

theorem WP.load7 {r : Rect S1x2048x256} {hl} {k : (r.shape.Idx → Elt F .bf16) → Pg F α} (h : WP X (k (View.ld σ.O r)) σ Q) :
    WP X (Prog.lift (.load X.a7 r.toLoadRect hl) >>= k) σ Q :=
  WP.load 5 rfl (fun _ hY => by rw [hY]) h

theorem WP.load8 (d : Fin 4) {off : Fin 3 → Nat} {inb : ∀ i, off i + S1x512x512.size i ≤ S4x512x512.size i} {hl : X.a8.view.LoadsAt (Rect.unit (s := S4x512x512) off S1x512x512.size inb).toLoadRect} {k : (S1x512x512.Idx → Elt F .f32) → Pg F α}
    (ho : off = offSlot d) (h : WP X (k (σ.SA.get d)) σ Q) :
    WP X (Prog.lift (.load X.a8 (Rect.unit (s := S4x512x512) off S1x512x512.size inb).toLoadRect hl) >>= k) σ Q :=
  WP.load (m := X.a8) (r := Rect.unit (s := S4x512x512) off S1x512x512.size inb) (hl := hl) (k := k) (v := σ.SA.get d) 6 rfl (fun _ hY => Slots.ld hY d ho inb) h

theorem WP.store8 (d : Fin 4) {off : Fin 3 → Nat} {inb : ∀ i, off i + S1x512x512.size i ≤ S4x512x512.size i} {w : S1x512x512.Idx → Elt F .f32} {hx : (X.a8.access (Rect.unit (s := S4x512x512) off S1x512x512.size inb)).Stores Finset.univ}
    {hm : (Finset.univ : Finset (Rect.unit (s := S4x512x512) off S1x512x512.size inb).shape.Idx) = Finset.univ ∨ ∀ i, (Rect.unit (s := S4x512x512) off S1x512x512.size inb).stride i = 1} {k : PUnit → Pg F α}
    (ho : off = offSlot d) (h : WP X (k ⟨⟩) { σ with SA := σ.SA.set d w } Q) :
    WP X (Prog.lift (.store X.a8 (Rect.unit (s := S4x512x512) off S1x512x512.size inb) w Finset.univ hx hm) >>= k) σ Q :=
  WP.store (k := k) 6 rfl { σ with SA := σ.SA.set d w } rfl
    (cells_SA σ _) (fun _ hY => Slots.overlay hY d ho inb w) h

theorem WP.load9 (d : Fin 4) {off : Fin 3 → Nat} {inb : ∀ i, off i + S1x512x512.size i ≤ S4x512x512.size i} {hl : X.a9.view.LoadsAt (Rect.unit (s := S4x512x512) off S1x512x512.size inb).toLoadRect} {k : (S1x512x512.Idx → Elt F .f32) → Pg F α}
    (ho : off = offSlot d) (h : WP X (k (σ.SB.get d)) σ Q) :
    WP X (Prog.lift (.load X.a9 (Rect.unit (s := S4x512x512) off S1x512x512.size inb).toLoadRect hl) >>= k) σ Q :=
  WP.load (m := X.a9) (r := Rect.unit (s := S4x512x512) off S1x512x512.size inb) (hl := hl) (k := k) (v := σ.SB.get d) 7 rfl (fun _ hY => Slots.ld hY d ho inb) h

theorem WP.store9 (d : Fin 4) {off : Fin 3 → Nat} {inb : ∀ i, off i + S1x512x512.size i ≤ S4x512x512.size i} {w : S1x512x512.Idx → Elt F .f32} {hx : (X.a9.access (Rect.unit (s := S4x512x512) off S1x512x512.size inb)).Stores Finset.univ}
    {hm : (Finset.univ : Finset (Rect.unit (s := S4x512x512) off S1x512x512.size inb).shape.Idx) = Finset.univ ∨ ∀ i, (Rect.unit (s := S4x512x512) off S1x512x512.size inb).stride i = 1} {k : PUnit → Pg F α}
    (ho : off = offSlot d) (h : WP X (k ⟨⟩) { σ with SB := σ.SB.set d w } Q) :
    WP X (Prog.lift (.store X.a9 (Rect.unit (s := S4x512x512) off S1x512x512.size inb) w Finset.univ hx hm) >>= k) σ Q :=
  WP.store (k := k) 7 rfl { σ with SB := σ.SB.set d w } rfl
    (cells_SB σ _) (fun _ hY => Slots.overlay hY d ho inb w) h

theorem WP.load10 (d : Fin 4) {off : Fin 3 → Nat} {inb : ∀ i, off i + S1x1x512.size i ≤ S4x1x512.size i} {hl : X.a10.view.LoadsAt (Rect.unit (s := S4x1x512) off S1x1x512.size inb).toLoadRect} {k : (S1x1x512.Idx → Elt F .f32) → Pg F α}
    (ho : off = offSlot d) (h : WP X (k (σ.M.get d)) σ Q) :
    WP X (Prog.lift (.load X.a10 (Rect.unit (s := S4x1x512) off S1x1x512.size inb).toLoadRect hl) >>= k) σ Q :=
  WP.load (m := X.a10) (r := Rect.unit (s := S4x1x512) off S1x1x512.size inb) (hl := hl) (k := k) (v := σ.M.get d) 8 rfl (fun _ hY => Slots.ld hY d ho inb) h

theorem WP.store10 (d : Fin 4) {off : Fin 3 → Nat} {inb : ∀ i, off i + S1x1x512.size i ≤ S4x1x512.size i} {w : S1x1x512.Idx → Elt F .f32} {hx : (X.a10.access (Rect.unit (s := S4x1x512) off S1x1x512.size inb)).Stores Finset.univ}
    {hm : (Finset.univ : Finset (Rect.unit (s := S4x1x512) off S1x1x512.size inb).shape.Idx) = Finset.univ ∨ ∀ i, (Rect.unit (s := S4x1x512) off S1x1x512.size inb).stride i = 1} {k : PUnit → Pg F α}
    (ho : off = offSlot d) (h : WP X (k ⟨⟩) { σ with M := σ.M.set d w } Q) :
    WP X (Prog.lift (.store X.a10 (Rect.unit (s := S4x1x512) off S1x1x512.size inb) w Finset.univ hx hm) >>= k) σ Q :=
  WP.store (k := k) 8 rfl { σ with M := σ.M.set d w } rfl
    (cells_M σ _) (fun _ hY => Slots.overlay hY d ho inb w) h

theorem WP.load11 (d : Fin 4) {off : Fin 3 → Nat} {inb : ∀ i, off i + S1x1x512.size i ≤ S4x1x512.size i} {hl : X.a11.view.LoadsAt (Rect.unit (s := S4x1x512) off S1x1x512.size inb).toLoadRect} {k : (S1x1x512.Idx → Elt F .f32) → Pg F α}
    (ho : off = offSlot d) (h : WP X (k (σ.L.get d)) σ Q) :
    WP X (Prog.lift (.load X.a11 (Rect.unit (s := S4x1x512) off S1x1x512.size inb).toLoadRect hl) >>= k) σ Q :=
  WP.load (m := X.a11) (r := Rect.unit (s := S4x1x512) off S1x1x512.size inb) (hl := hl) (k := k) (v := σ.L.get d) 9 rfl (fun _ hY => Slots.ld hY d ho inb) h

theorem WP.store11 (d : Fin 4) {off : Fin 3 → Nat} {inb : ∀ i, off i + S1x1x512.size i ≤ S4x1x512.size i} {w : S1x1x512.Idx → Elt F .f32} {hx : (X.a11.access (Rect.unit (s := S4x1x512) off S1x1x512.size inb)).Stores Finset.univ}
    {hm : (Finset.univ : Finset (Rect.unit (s := S4x1x512) off S1x1x512.size inb).shape.Idx) = Finset.univ ∨ ∀ i, (Rect.unit (s := S4x1x512) off S1x1x512.size inb).stride i = 1} {k : PUnit → Pg F α}
    (ho : off = offSlot d) (h : WP X (k ⟨⟩) { σ with L := σ.L.set d w } Q) :
    WP X (Prog.lift (.store X.a11 (Rect.unit (s := S4x1x512) off S1x1x512.size inb) w Finset.univ hx hm) >>= k) σ Q :=
  WP.store (k := k) 9 rfl { σ with L := σ.L.set d w } rfl
    (cells_L σ _) (fun _ hY => Slots.overlay hY d ho inb w) h

theorem WP.load12 (d : Fin 4) {off : Fin 3 → Nat} {inb : ∀ i, off i + S1x128x512.size i ≤ S4x128x512.size i} {hl : X.a12.view.LoadsAt (Rect.unit (s := S4x128x512) off S1x128x512.size inb).toLoadRect} {k : (S1x128x512.Idx → Elt F .f32) → Pg F α}
    (ho : off = offSlot d) (h : WP X (k (σ.A.get d)) σ Q) :
    WP X (Prog.lift (.load X.a12 (Rect.unit (s := S4x128x512) off S1x128x512.size inb).toLoadRect hl) >>= k) σ Q :=
  WP.load (m := X.a12) (r := Rect.unit (s := S4x128x512) off S1x128x512.size inb) (hl := hl) (k := k) (v := σ.A.get d) 10 rfl (fun _ hY => Slots.ld hY d ho inb) h

theorem WP.store12 (d : Fin 4) {off : Fin 3 → Nat} {inb : ∀ i, off i + S1x128x512.size i ≤ S4x128x512.size i} {w : S1x128x512.Idx → Elt F .f32} {hx : (X.a12.access (Rect.unit (s := S4x128x512) off S1x128x512.size inb)).Stores Finset.univ}
    {hm : (Finset.univ : Finset (Rect.unit (s := S4x128x512) off S1x128x512.size inb).shape.Idx) = Finset.univ ∨ ∀ i, (Rect.unit (s := S4x128x512) off S1x128x512.size inb).stride i = 1} {k : PUnit → Pg F α}
    (ho : off = offSlot d) (h : WP X (k ⟨⟩) { σ with A := σ.A.set d w } Q) :
    WP X (Prog.lift (.store X.a12 (Rect.unit (s := S4x128x512) off S1x128x512.size inb) w Finset.univ hx hm) >>= k) σ Q :=
  WP.store (k := k) 10 rfl { σ with A := σ.A.set d w } rfl
    (cells_A σ _) (fun _ hY => Slots.overlay hY d ho inb w) h

/-- A store to the result, the array it leaves given by an equation. -/
theorem WP.storeO {r : Rect S1x2048x256} {w : r.shape.Idx → Elt F .bf16} {hx : (X.a7.access r).Stores Finset.univ}
    {hm : (Finset.univ : Finset r.shape.Idx) = Finset.univ ∨ ∀ i, r.stride i = 1} {k : PUnit → Pg F α} (o : Vec F S1x2048x256 .bf16)
    (ho : r.overlay σ.O w = o) (h : WP X (k ⟨⟩) { σ with O := o } Q) :
    WP X (Prog.lift (.store X.a7 r w Finset.univ hx hm) >>= k) σ Q :=
  WP.store (k := k) 5 rfl { σ with O := o } rfl (cells_O σ _) (fun Y hY => by rw [hY]; exact ho) h

theorem WP.store7 (b : Fin 4) (hd : Fin 2) {off : Fin 3 → Nat} {inb : ∀ i, off i + S1x512x128.size i ≤ S1x2048x256.size i} {w : S1x512x128.Idx → Elt F .bf16} {hx : (X.a7.access (Rect.unit (s := S1x2048x256) off S1x512x128.size inb)).Stores Finset.univ}
    {hm : (Finset.univ : Finset (Rect.unit (s := S1x2048x256) off S1x512x128.size inb).shape.Idx) = Finset.univ ∨ ∀ i, (Rect.unit (s := S1x2048x256) off S1x512x128.size inb).stride i = 1} {k : PUnit → Pg F α}
    (ho : off = offRow b hd) (h : WP X (k ⟨⟩) { σ with O := setRow σ.O b hd w } Q) :
    WP X (Prog.lift (.store X.a7 (Rect.unit (s := S1x2048x256) off S1x512x128.size inb) w Finset.univ hx hm) >>= k) σ Q := by
  subst ho
  exact WP.storeO (k := k) (setRow σ.O b hd w) rfl h

/-- A counted loop, by an invariant on the answer and the state. -/
theorem WP.loop {n : Nat} {γ : Type} (L : Scf.Loop n) (ok) (init : γ) (body : Fin L.trips → γ → Pg F γ)
    (J : Nat → γ → St F → Prop) (h0 : J 0 init σ)
    (hstep : ∀ (t : Fin L.trips) (a : γ) (σ' : St F), J t a σ' → WP X (body t a) σ' fun a' σ'' => J (t.val + 1) a' σ'')
    {Q : γ → St F → Prop} (hk : ∀ a σ', J L.trips a σ' → Q a σ') :
    WP X (Scf.Loop.for L ok init body) σ Q := by
  intro 𝒱₀ E
  refine BIBase.Entails.trans ?_ (Scf.wp_for _ _ _ _ _ _ ok init body
    (fun t a => iprop(∃ σ', ⌜J t a σ'⌝ ∗ own X σ')) (fun t a => ?_))
  · iintro H
    isplitl
    · iexists σ
      isplitr; · ipureintro; exact h0
      iexact H
    · iintro %a ⟨%σ', %h, H⟩
      iexists σ'
      isplitr; · ipureintro; exact hk a σ' h
      iexact H
  · iintro ⟨%σ', %h, H⟩
    iapply (hstep t a σ' h 𝒱₀ E)
    iexact H

end Named

end Cert.KernelIdeal.Diff

end
-- ==== Proof.Diff.Step.lean ====
/-
  What one tile of the attention call computes, as plain functions of blocks: the scores of a block of keys against a
  block of queries for each of the four maps, one step of the running softmax, and the tile's result.
-/
module

public import proofs.«01_k».proof.Proof.Diff.Rules

@[expose] public section

noncomputable section

namespace Cert.KernelIdeal.Diff

open Cert.KernelIdeal Cert.KernelIdeal.Gen
open Idealize.ShloMosaic Idealize.ShloMosaic.TcCoe Idealize.ShloMosaic.Tactic

variable {F : FTy → Type} [FloatOps F]

/-- The lanes below 64: those of an even map. -/
def evenLanes : IVec S1x128 1 := cmpi .slt (iota .tc S1x128 32 [1] iota_S1x128_d1_w32) (broadcast S1x128 64#32)

/-- Entries on or above the diagonal of a block of keys (rows) against queries (columns): those that are kept. -/
def keep : IVec S512x512 1 :=
  cmpi .sle (iota .tc S512x512 32 [0] iota_S512x512_d0_w32) (iota .tc S512x512 32 [1] iota_S512x512_d1_w32)

/-- Keys (rows) against queries (columns), the queries' lanes of the odd map zeroed. -/
def scEven (kk qq : Vec F S1x512x128 .bf16) : FVec F S512x512 .f32 :=
  matmul dot_S512x128_S512x128_S512x512_1_1_0_0_n_n none (shapeCast S512x128 kk shapeCasts_S1x512x128_S512x128)
    (select (broadcastTo S512x128 (shapeCast S1x128 evenLanes shapeCasts_S1x128_S1x128) broadcasts_S1x128_S512x128)
      (shapeCast S512x128 qq shapeCasts_S1x512x128_S512x128)
      (broadcast S512x128 (Scalar.ofBits .bf16 0x0000#16))) (constant S512x512 .f32 0x00000000#32)

/-- Keys (rows) against queries (columns), the queries' lanes of the even map zeroed. -/
def scOdd (kk qq : Vec F S1x512x128 .bf16) : FVec F S512x512 .f32 :=
  matmul dot_S512x128_S512x128_S512x512_1_1_0_0_n_n none (shapeCast S512x128 kk shapeCasts_S1x512x128_S512x128)
    (select (broadcastTo S512x128 (shapeCast S1x128 evenLanes shapeCasts_S1x128_S1x128) broadcasts_S1x128_S512x128)
      (broadcast S512x128 (Scalar.ofBits .bf16 0x0000#16))
      (shapeCast S512x128 qq shapeCasts_S1x512x128_S512x128)) (constant S512x512 .f32 0x00000000#32)

/-- A slot's scores. -/
def slot (s : FVec F S512x512 .f32) : Vec F S1x512x512 .f32 := shapeCast S1x512x512 s shapeCasts_S512x512_S1x512x512
/-- The scores in a slot. -/
def unslot (s : Vec F S1x512x512 .f32) : FVec F S512x512 .f32 := shapeCast S512x512 s shapeCasts_S1x512x512_S512x512

variable (X : Ctx F)

/-- The four maps' scores of key block `b` against query block `i`, as the slots hold them. -/
def scores (i b : Fin 4) : Four (Vec F S1x512x512 .f32) :=
  ⟨slot (scEven (rowBlk X.k b 0) (rowBlk X.q i 0)), slot (scOdd (rowBlk X.k b 0) (rowBlk X.q i 0)),
   slot (scEven (rowBlk X.k b 1) (rowBlk X.q i 1)), slot (scOdd (rowBlk X.k b 1) (rowBlk X.q i 1))⟩

/-- A slot's scores, used as they are. -/
def plain (s : Vec F S1x512x512 .f32) : FVec F S512x512 .f32 := unslot s
/-- A diagonal block's scores: those of later keys replaced. -/
def masked (s : Vec F S1x512x512 .f32) : FVec F S512x512 .f32 :=
  select keep (unslot s) (broadcast S512x512 (Scalar.ofBits .f32 0xFF800000#32))

/-- The new running maximum. -/
def mx (s : FVec F S512x512 .f32) (m : Vec F S1x1x512 .f32) : FVec F S1x512 .f32 :=
  maximumf (shapeCast S1x512 m shapeCasts_S1x1x512_S1x512)
    (shapeCast S1x512 (multiReduction .maximumf [0] S512 s 0xFF800000#32 reduces_S512x512_S512 (.inl rfl) rfl) shapeCasts_S512_S1x512)
/-- The factor that what was gathered so far is scaled by. -/
def al (s : FVec F S512x512 .f32) (m : Vec F S1x1x512 .f32) : FVec F S1x512 .f32 :=
  exp2 (subf (shapeCast S1x512 m shapeCasts_S1x1x512_S1x512) (mx s m))
/-- The block's weights. -/
def pr (s : FVec F S512x512 .f32) (m : Vec F S1x1x512 .f32) : FVec F S512x512 .f32 :=
  exp2 (subf s (broadcastTo S512x512 (mx s m) broadcasts_S1x512_S512x512))

/-- One step of the running maximum, -/
def stM (s : FVec F S512x512 .f32) (m : Vec F S1x1x512 .f32) : Vec F S1x1x512 .f32 :=
  shapeCast S1x1x512 (mx s m) shapeCasts_S1x512_S1x1x512
/-- of the running sum, -/
def stL (s : FVec F S512x512 .f32) (m l : Vec F S1x1x512 .f32) : Vec F S1x1x512 .f32 :=
  shapeCast S1x1x512 (addf (mulf (al s m) (shapeCast S1x512 l shapeCasts_S1x1x512_S1x512))
    (shapeCast S1x512 (multiReduction .add [0] S512 (pr s m) 0x00000000#32 reduces_S512x512_S512 (.inl rfl) rfl) shapeCasts_S512_S1x512))
    shapeCasts_S1x512_S1x1x512
/-- and of the running product with the values. -/
def stA (s : FVec F S512x512 .f32) (m : Vec F S1x1x512 .f32) (v : Vec F S128x512 .bf16) (a : Vec F S1x128x512 .f32) :
    Vec F S1x128x512 .f32 :=
  shapeCast S1x128x512 (addf (mulf (broadcastTo S128x512 (al s m) broadcasts_S1x512_S128x512)
      (shapeCast S128x512 a shapeCasts_S1x128x512_S128x512))
    (matmul dot_S128x512_S512x512_S128x512_1_0_0_1_n_n none (shapeCast S128x512 v shapeCasts_S128x512_S128x512)
      (truncf .bf16 (pr s m) bitsLt_bf16_f32) (constant S128x512 .f32 0x00000000#32)))
    shapeCasts_S128x512_S1x128x512

/-- What a tile gathers: running maxima, sums and products of the four maps. -/
structure Run (F : FTy → Type) where
  M : Four (Vec F S1x1x512 .f32)
  L : Four (Vec F S1x1x512 .f32)
  A : Four (Vec F S1x128x512 .f32)

/-- A step of all four maps over key block `b`, the scores read through `f` (as they are, or masked). -/
def stepBy (f : Vec F S1x512x512 .f32 → FVec F S512x512 .f32) (i b : Fin 4) (r : Run F) : Run F :=
  let S := scores X i b
  { M := ⟨stM (f S.x0) r.M.x0, stM (f S.x1) r.M.x1, stM (f S.x2) r.M.x2, stM (f S.x3) r.M.x3⟩
    L := ⟨stL (f S.x0) r.M.x0 r.L.x0, stL (f S.x1) r.M.x1 r.L.x1, stL (f S.x2) r.M.x2 r.L.x2, stL (f S.x3) r.M.x3 r.L.x3⟩
    A := ⟨stA (f S.x0) r.M.x0 (colBlk X.v b 0) r.A.x0, stA (f S.x1) r.M.x1 (colBlk X.v b 0) r.A.x1,
          stA (f S.x2) r.M.x2 (colBlk X.v b 1) r.A.x2, stA (f S.x3) r.M.x3 (colBlk X.v b 1) r.A.x3⟩ }

/-- The step over the diagonal block. -/
abbrev stepD (i : Fin 4) (r : Run F) : Run F := stepBy X masked i i r
/-- The step over an earlier block. -/
abbrev stepP (i b : Fin 4) (r : Run F) : Run F := stepBy X plain i b r

/-- Where a tile starts. -/
def run0 : Run F :=
  let m : Vec F S1x1x512 .f32 := shapeCast S1x1x512 (broadcast S1x512 (Scalar.ofBits .f32 0xFF800000#32)) shapeCasts_S1x512_S1x1x512
  let l : Vec F S1x1x512 .f32 := shapeCast S1x1x512 (broadcast S1x512 (Scalar.ofBits .f32 0x00000000#32)) shapeCasts_S1x512_S1x1x512
  let a : Vec F S1x128x512 .f32 := shapeCast S1x128x512 (broadcast S128x512 (Scalar.ofBits .f32 0x00000000#32)) shapeCasts_S128x512_S1x128x512
  ⟨⟨m, m, m, m⟩, ⟨l, l, l, l⟩, ⟨a, a, a, a⟩⟩

/-- What tile `i` has gathered at its end: the diagonal block first, then the earlier ones from the nearest on. -/
def gathered : Fin 4 → Run F
  | 0 => stepD X 0 run0
  | 1 => stepP X 1 0 (stepD X 1 run0)
  | 2 => stepP X 2 0 (stepP X 2 1 (stepD X 2 run0))
  | 3 => stepP X 3 0 (stepP X 3 1 (stepP X 3 2 (stepD X 3 run0)))

/-- The factor of the second map. -/
def lamOf : FVec F S1x1 .f32 :=
  k0_pay359 (View.ld X.lam (Rect.unit (s := S4x64) ![0, 0] S4x64.size inb_S4x64_S4x64_0_0))

/-- The norm's weights as read. -/
def gOf : Vec F S1x128 .f32 := View.ld X.g (Rect.unit (s := S1x128) ![0, 0] S1x128.size inb_S1x128_S1x128_0_0)

/-- One head's result: the two maps' quotients, their difference, its norm and the cast. -/
def outp (lam : FVec F S1x1 .f32) (g : Vec F S1x128 .f32) (a0 : Vec F S1x128x512 .f32) (l0 : Vec F S1x1x512 .f32)
    (a1 : Vec F S1x128x512 .f32) (l1 : Vec F S1x1x512 .f32) : Vec F S1x512x128 .bf16 :=
  k0_pay2 (k0_pay357 lam a0 l0 a1 l1 g)

/-- Head `h`'s result from what a tile gathered. -/
def headOut (r : Run F) : Fin 2 → Vec F S1x512x128 .bf16
  | 0 => outp (lamOf X) (gOf X) r.A.x0 r.L.x0 r.A.x1 r.L.x1
  | 1 => outp (lamOf X) (gOf X) r.A.x2 r.L.x2 r.A.x3 r.L.x3

end Cert.KernelIdeal.Diff
-- ==== Proof.Diff.Pair.lean ====
/-
  The loop over pairs of earlier key blocks: one trip takes the block `b` whose scores wait in the second buffer and
  the block `b'` before it, and leaves the scores of the block `b''` before that waiting.
-/
module

public import proofs.«01_k».proof.Proof.Diff.Step

@[expose] public section

set_option maxRecDepth 65536

noncomputable section

namespace Cert.KernelIdeal.Diff

open Cert.KernelIdeal Cert.KernelIdeal.Gen
open Idealize.ShloMosaic Idealize.ShloMosaic.TcCoe Idealize.ShloMosaic.Tactic

variable {F : FTy → Type} [FloatOps F] {X : Ctx F}
variable (gi : grid0.Coords) (h2 : X.a2.IsWhole) (h3 : X.a3.IsWhole) (h4 : X.a4.IsWhole) (h5 : X.a5.IsWhole) (h6 : X.a6.IsWhole) (h7 : X.a7.IsWhole)
  (h8 : X.a8.IsWhole) (h9 : X.a9.IsWhole) (h10 : X.a10.IsWhole) (h11 : X.a11.IsWhole) (h12 : X.a12.IsWhole)

/-- The state of a tile: the result so far, the two score buffers, and what is gathered. -/
abbrev stOf (O : Vec F S1x2048x256 .bf16) (SA SB : Four (Vec F S1x512x512 .f32)) (r : Run F) : St F := ⟨O, SA, SB, r.M, r.L, r.A⟩

theorem pair_run (t1 : Fin k0_t1_loop.trips) (t2 : Fin (k0_t2_loop t1).trips) (i b b' b'' : Fin 4) (w13 w376 w388 w15 : BitVec 32) (w387 : BitVec 1)
    (o7 : k0_off7 t1 t2 = offRow b' 0) (o8 : k0_off8 t1 = offRow i 0) (o9 : k0_off9 t1 t2 = offRow b' 1) (o10 : k0_off10 t1 = offRow i 1)
    (o11 : k0_off11 t1 t2 = offCol b 0) (o12 : k0_off12 t1 t2 = offCol b 1) (o13 : k0_off13 t1 t2 = offRow b'' 0) (o14 : k0_off14 t1 t2 = offRow b'' 1)
    (o15 : k0_off15 t1 t2 = offCol b' 0) (o16 : k0_off16 t1 t2 = offCol b' 1)
    (O : Vec F S1x2048x256 .bf16) (SA : Four (Vec F S1x512x512 .f32)) (r : Run F) (Q : BitVec 32 → St F → Prop)
    (hQ : Q 0#32 (stOf O (scores X i b') (scores X i b'') (stepP X i b' (stepP X i b r)))) :
    WP X (k0_t2_body gi X.a2 h2 X.a3 h3 X.a4 h4 X.a5 h5 X.a6 h6 X.a7 h7 X.a8 h8 X.a9 h9 X.a10 h10 X.a11 h11 X.a12 h12
      evenLanes t1 w13 w376 w387 w388 t2 w15) (stOf O SA (scores X i b) r) Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  obtain ⟨a0, a1, a2, a3⟩ := SA
  obtain ⟨⟨m0, m1, m2, m3⟩, ⟨l0, l1, l2, l3⟩, ⟨c0, c1, c2, c3⟩⟩ := r
  unfold stOf scores
  unfold k0_t2_body
  repeat first
    | with_reducible first
      | refine WP.load5 _ _ (by assumption) ?_
      | refine WP.load4 _ _ (by assumption) ?_
      | refine WP.load6 _ _ (by assumption) ?_
      | refine WP.load8 _ (by assumption) ?_
      | refine WP.load9 _ (by assumption) ?_
      | refine WP.load10 _ (by assumption) ?_
      | refine WP.load11 _ (by assumption) ?_
      | refine WP.load12 _ (by assumption) ?_
    | ((with_reducible first
      | refine WP.store8 _ (by assumption) ?_
      | refine WP.store9 _ (by assumption) ?_
      | refine WP.store10 _ (by assumption) ?_
      | refine WP.store11 _ (by assumption) ?_
      | refine WP.store12 _ (by assumption) ?_
      | refine WP.pure ?_); dsimp only [Four.get, Four.set])
    | with_reducible refine WP.bind ?_
    | with_reducible refine WP.tail ?_
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
  exact WP.pure hQ

end Cert.KernelIdeal.Diff
-- ==== Proof.Diff.Offsets.lean ====
/-
  The offsets that the tile loop computes, in closed form, and which of the tile's cases run.
-/
module

public import proofs.«01_k».proof.Proof.Diff.Step

@[expose] public section

set_option maxRecDepth 65536

namespace Cert.KernelIdeal.Diff

open Cert.KernelIdeal Cert.KernelIdeal.Gen
open Idealize.ShloMosaic Idealize.ShloMosaic.TcCoe

theorem trips1 : k0_t1_loop.trips = 4 := by decide

/-- A trip's tile, -/
def blk (t : Fin k0_t1_loop.trips) : Fin 4 := ⟨t.val, trips1 ▸ t.isLt⟩
/-- the tile before it, -/
def prv (t : Fin k0_t1_loop.trips) : Fin 4 := ⟨t.val - 1, lt_of_le_of_lt (Nat.sub_le _ _) (trips1 ▸ t.isLt)⟩
/-- and the one after it, the last one standing for its own successor. -/
def nxt (t : Fin k0_t1_loop.trips) : Fin 4 := ⟨min (t.val + 1) 3, lt_of_le_of_lt (Nat.min_le_right _ _) (by decide)⟩

theorem off1_eq : ∀ t, k0_off1 t = offRow (prv t) 0 := by decide
theorem off2_eq : ∀ t, k0_off2 t = offRow (blk t) 0 := by decide
theorem off3_eq : ∀ t, k0_off3 t = offRow (prv t) 1 := by decide
theorem off4_eq : ∀ t, k0_off4 t = offRow (blk t) 1 := by decide
theorem off5_eq : ∀ t, k0_off5 t = offCol (blk t) 0 := by decide
theorem off6_eq : ∀ t, k0_off6 t = offCol (blk t) 1 := by decide
theorem off8_eq : ∀ t, k0_off8 t = offRow (blk t) 0 := by decide
theorem off10_eq : ∀ t, k0_off10 t = offRow (blk t) 1 := by decide
theorem off27_eq : k0_off27 = offRow 0 0 := by decide
theorem off28_eq : ∀ t, k0_off28 t = offRow (blk t) 0 := by decide
theorem off29_eq : k0_off29 = offRow 0 1 := by decide
theorem off30_eq : ∀ t, k0_off30 t = offRow (blk t) 1 := by decide
theorem off31_eq : ∀ t, k0_off31 t = offRow (nxt t) 0 := by decide
theorem off32_eq : ∀ t, k0_off32 t = offRow (nxt t) 1 := by decide

/-! The pair loop runs once, at the last tile, over blocks 2 and 1. -/
theorem off7_eq : ∀ t (u : Fin (k0_t2_loop t).trips), k0_off7 t u = offRow 1 0 := by decide
theorem off9_eq : ∀ t (u : Fin (k0_t2_loop t).trips), k0_off9 t u = offRow 1 1 := by decide
theorem off11_eq : ∀ t (u : Fin (k0_t2_loop t).trips), k0_off11 t u = offCol 2 0 := by decide
theorem off12_eq : ∀ t (u : Fin (k0_t2_loop t).trips), k0_off12 t u = offCol 2 1 := by decide
theorem off13_eq : ∀ t (u : Fin (k0_t2_loop t).trips), k0_off13 t u = offRow 0 0 := by decide
theorem off14_eq : ∀ t (u : Fin (k0_t2_loop t).trips), k0_off14 t u = offRow 0 1 := by decide
theorem off15_eq : ∀ t (u : Fin (k0_t2_loop t).trips), k0_off15 t u = offCol 1 0 := by decide
theorem off16_eq : ∀ t (u : Fin (k0_t2_loop t).trips), k0_off16 t u = offCol 1 1 := by decide

theorem trips2 : ∀ t, (k0_t2_loop t).trips = if blk t = 3 then 1 else 0 := by decide
theorem trips3 : ∀ t, (k0_t3_loop t).trips = 0 := by decide
theorem cond1_iff : ∀ t, k0_cond1 t = 1#1 ↔ blk t = 1 ∨ blk t = 3 := by decide
theorem cond2_iff : ∀ t, k0_cond2 t = 1#1 ↔ blk t = 2 := by decide

end Cert.KernelIdeal.Diff
-- ==== Proof.Diff.Earlier.lean ====
/-
  The earlier key blocks of one tile: the pair loop with what follows it, and the even tile's last pair.
-/
module

public import proofs.«01_k».proof.Proof.Diff.Pair
public import proofs.«01_k».proof.Proof.Diff.Offsets

@[expose] public section

set_option maxRecDepth 65536

noncomputable section

namespace Cert.KernelIdeal.Diff

open Cert.KernelIdeal Cert.KernelIdeal.Gen
open Idealize.ShloMosaic Idealize.ShloMosaic.TcCoe Idealize.ShloMosaic.Tactic

variable {F : FTy → Type} [FloatOps F] {X : Ctx F}
variable (gi : grid0.Coords) (h2 : X.a2.IsWhole) (h3 : X.a3.IsWhole) (h4 : X.a4.IsWhole) (h5 : X.a5.IsWhole) (h6 : X.a6.IsWhole) (h7 : X.a7.IsWhole)
  (h8 : X.a8.IsWhole) (h9 : X.a9.IsWhole) (h10 : X.a10.IsWhole) (h11 : X.a11.IsWhole) (h12 : X.a12.IsWhole)

/-- What the pair loop and the odd tile's last block add. -/
def mid51 (X : Ctx F) (i : Fin 4) (r : Run F) : Run F :=
  match i with
  | 0 => r
  | 1 => stepP X 1 0 r
  | 2 => r
  | 3 => stepP X 3 0 (stepP X 3 1 (stepP X 3 2 r))

/-- What the even tile's last pair adds. -/
def mid52 (X : Ctx F) (i : Fin 4) (r : Run F) : Run F :=
  match i with
  | 2 => stepP X 2 0 (stepP X 2 1 r)
  | _ => r

theorem mid_diag (i : Fin 4) : mid52 X i (mid51 X i (stepD X i run0)) = gathered X i := by
  fin_cases i <;> rfl

theorem prv_of3 : ∀ t, blk t = 3 → prv t = 2 := by decide
theorem prv_of1 : ∀ t, blk t = 1 → prv t = 0 := by decide
theorem prv_of2 : ∀ t, blk t = 2 → prv t = 1 := by decide

theorem part51_run (t : Fin k0_t1_loop.trips) (w13 w376 w388 : BitVec 32) (w387 : BitVec 1)
    (O : Vec F S1x2048x256 .bf16) (SA : Four (Vec F S1x512x512 .f32)) (r : Run F) (Q : _ → St F → Prop)
    (hQ : ∀ a SA' SB', (blk t = 2 → SB' = scores X (blk t) (prv t)) → Q a (stOf O SA' SB' (mid51 X (blk t) r))) :
    WP X (k0_part51 gi X.a2 h2 X.a3 h3 X.a4 h4 X.a5 h5 X.a6 h6 X.a7 h7 X.a8 h8 X.a9 h9 X.a10 h10 X.a11 h11 X.a12 h12 evenLanes t w13 w376 w387 w388)
      (stOf O SA (scores X (blk t) (prv t)) r) Q := by
  rw [k0_part51_eq_skeleton]; unfold k0_part51_skel
  dsimp only
  refine WP.bind ?_
  refine WP.loop _ _ _ _ (fun n _ σ => ∃ SA1, σ = if n = 0 then stOf O SA (scores X (blk t) (prv t)) r
    else stOf O SA1 (scores X (blk t) 0) (stepP X (blk t) 1 (stepP X (blk t) 2 r))) ⟨SA, rfl⟩ ?_ ?_
  · rintro u a σ' ⟨SA1, rfl⟩
    have hul := lt_of_lt_of_eq u.isLt (trips2 t)
    have hb3 : blk t = 3 := by
      by_contra hne
      rw [if_neg hne] at hul
      exact absurd hul (Nat.not_lt_zero _)
    have hu : u.val = 0 := by
      rw [if_pos hb3] at hul
      omega
    rw [if_pos hu, prv_of3 t hb3]
    refine pair_run gi h2 h3 h4 h5 h6 h7 h8 h9 h10 h11 h12 t u (blk t) 2 1 0 w13 w376 w388 a w387 (off7_eq t u) (off8_eq t) (off9_eq t u) (off10_eq t)
      (off11_eq t u) (off12_eq t u) (off13_eq t u) (off14_eq t u) (off15_eq t u) (off16_eq t u) O SA r _ ?_
    exact ⟨_, by rw [if_neg (Nat.succ_ne_zero _)]⟩
  · rintro a σ' ⟨SA1, hσ⟩
    refine WP.bind ?_
    refine WP.loop _ _ _ _ (fun _ _ σ => σ = σ') rfl ?_ ?_
    · intro u
      exact absurd (lt_of_lt_of_eq u.isLt (trips3 t)) (Nat.not_lt_zero _)
    · intro a' σ2 hσ2
      rw [hσ2]
      by_cases ho : blk t = 1 ∨ blk t = 3
      · rw [dif_pos ((cond1_iff t).mpr ho)]
        obtain ⟨SA2, r2, hs, hr⟩ : ∃ SA2 r2, σ' = stOf O SA2 (scores X (blk t) 0) r2 ∧ mid51 X (blk t) r = stepP X (blk t) 0 r2 := by
          rcases ho with h1 | h3
          · refine ⟨SA, r, ?_, ?_⟩
            · rw [hσ, if_pos ((trips2 t).trans (if_neg (by rw [h1]; decide))), prv_of1 t h1]
            · rw [h1]; rfl
          · refine ⟨SA1, stepP X 3 1 (stepP X 3 2 r), ?_, ?_⟩
            · rw [hσ, if_neg (by rw [(trips2 t).trans (if_pos h3)]; exact Nat.one_ne_zero), h3]
            · rw [h3]; rfl
        have hQ' := fun a => hQ a SA2 (scores X (blk t) 0) (fun h => by rcases ho with h' | h' <;> rw [h'] at h <;> exact absurd h (by decide))
        rw [hr] at hQ'
        subst hs
        clear hσ hQ hr
        obtain ⟨⟨m0, m1, m2, m3⟩, ⟨l0, l1, l2, l3⟩, ⟨d0, d1, d2, d3⟩⟩ := r2
        have s0 : (![0, 0, 0] : Fin 3 → Nat) = offSlot 0 := rfl
        have s1 : (![1, 0, 0] : Fin 3 → Nat) = offSlot 1 := rfl
        have s2 : (![2, 0, 0] : Fin 3 → Nat) = offSlot 2 := rfl
        have s3 : (![3, 0, 0] : Fin 3 → Nat) = offSlot 3 := rfl
        have c00 : (![0, 0] : Fin 2 → Nat) = offCol 0 0 := rfl
        have c01 : (![128, 0] : Fin 2 → Nat) = offCol 0 1 := rfl
        have c10 : (![0, 512] : Fin 2 → Nat) = offCol 1 0 := rfl
        have c11 : (![128, 512] : Fin 2 → Nat) = offCol 1 1 := rfl
        unfold stOf scores
        repeat first
          | with_reducible first
            | refine WP.load5 _ _ (by assumption) ?_
            | refine WP.load4 _ _ (by assumption) ?_
            | refine WP.load6 _ _ (by assumption) ?_
            | refine WP.load8 _ (by assumption) ?_
            | refine WP.load9 _ (by assumption) ?_
            | refine WP.load10 _ (by assumption) ?_
            | refine WP.load11 _ (by assumption) ?_
            | refine WP.load12 _ (by assumption) ?_
            | refine WP.load2 ?_
            | refine WP.load3 ?_
            | refine WP.load7 ?_
          | ((with_reducible first
            | refine WP.store7 _ _ (by assumption) ?_
            | refine WP.store8 _ (by assumption) ?_
            | refine WP.store9 _ (by assumption) ?_
            | refine WP.store10 _ (by assumption) ?_
            | refine WP.store11 _ (by assumption) ?_
            | refine WP.store12 _ (by assumption) ?_
            | refine WP.pure ?_); dsimp only [Four.get, Four.set])
          | (with_reducible refine WP.pure ?_; show WP _ _ _ _)
          | with_reducible refine WP.bind ?_
          | with_reducible refine WP.tail ?_
          | (rw [k0_part27_eq_skeleton]; unfold k0_part27_skel)
          | (rw [k0_part28_eq_skeleton]; unfold k0_part28_skel)
          | (rw [k0_part29_eq_skeleton]; unfold k0_part29_skel)
          | (rw [k0_part30_eq_skeleton]; unfold k0_part30_skel)
        exact WP.pure (hQ' _)
      · rw [dif_neg (fun h => ho ((cond1_iff t).mp h))]
        have h3 : blk t ≠ 3 := fun h => ho (.inr h)
        rw [if_pos ((trips2 t).trans (if_neg h3))] at hσ
        rw [hσ]
        refine WP.pure ?_
        have := fun a => hQ a SA (scores X (blk t) (prv t)) (fun _ => rfl)
        have hm : mid51 X (blk t) r = r := by
          have h1 : blk t ≠ 1 := fun h => ho (.inl h)
          generalize blk t = i at h1 h3
          fin_cases i <;> first | rfl | exact absurd rfl h1 | exact absurd rfl h3
        rw [hm] at this
        exact this _

theorem part52_run (t : Fin k0_t1_loop.trips) (w13 : BitVec 32) (w423 w424 : BitVec 1)
    (O : Vec F S1x2048x256 .bf16) (SA SB : Four (Vec F S1x512x512 .f32)) (hSB : blk t = 2 → SB = scores X (blk t) (prv t)) (r : Run F) (Q : _ → St F → Prop)
    (hQ : ∀ w (SA' SB' : Four (Vec F S1x512x512 .f32)), Q ⟨w, k0_pay348 (rowBlk X.k (nxt t) 0), k0_pay349 evenLanes (rowBlk X.q (nxt t) 0)⟩
      (stOf O ⟨(scores X (nxt t) (nxt t)).x0, SA'.x1, SA'.x2, SA'.x3⟩ SB' (mid52 X (blk t) r))) :
    WP X (k0_part52 gi X.a2 h2 X.a3 h3 X.a4 h4 X.a5 h5 X.a6 h6 X.a7 h7 X.a8 h8 X.a9 h9 X.a10 h10 X.a11 h11 X.a12 h12 evenLanes t w13 w423 w424)
      (stOf O SA SB r) Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  have c00 : (![0, 0] : Fin 2 → Nat) = offCol 0 0 := rfl
  have c01 : (![128, 0] : Fin 2 → Nat) = offCol 0 1 := rfl
  have c10 : (![0, 512] : Fin 2 → Nat) = offCol 1 0 := rfl
  have c11 : (![128, 512] : Fin 2 → Nat) = offCol 1 1 := rfl
  have o27 := off27_eq
  have o28 := off28_eq t
  have o29 := off29_eq
  have o30 := off30_eq t
  have o31 := off31_eq t
  rw [k0_part52_eq_skeleton]; unfold k0_part52_skel
  dsimp only
  by_cases he : blk t = 2
  · rw [dif_pos ((cond2_iff t).mpr he), hSB he]
    rw [show mid52 X (blk t) r = stepP X (blk t) 0 (stepP X (blk t) 1 r) by rw [he]; rfl] at hQ
    rw [prv_of2 t he]
    clear hSB
    obtain ⟨a0, a1, a2, a3⟩ := SA
    obtain ⟨⟨m0, m1, m2, m3⟩, ⟨l0, l1, l2, l3⟩, ⟨d0, d1, d2, d3⟩⟩ := r
    unfold stOf scores
    repeat first
      | with_reducible first
        | refine WP.load5 _ _ (by assumption) ?_
        | refine WP.load4 _ _ (by assumption) ?_
        | refine WP.load6 _ _ (by assumption) ?_
        | refine WP.load8 _ (by assumption) ?_
        | refine WP.load9 _ (by assumption) ?_
        | refine WP.load10 _ (by assumption) ?_
        | refine WP.load11 _ (by assumption) ?_
        | refine WP.load12 _ (by assumption) ?_
        | refine WP.load2 ?_
        | refine WP.load3 ?_
        | refine WP.load7 ?_
      | ((with_reducible first
        | refine WP.store7 _ _ (by assumption) ?_
        | refine WP.store8 _ (by assumption) ?_
        | refine WP.store9 _ (by assumption) ?_
        | refine WP.store10 _ (by assumption) ?_
        | refine WP.store11 _ (by assumption) ?_
        | refine WP.store12 _ (by assumption) ?_
        | refine WP.pure ?_); dsimp only [Four.get, Four.set])
      | (with_reducible refine WP.pure ?_; show WP _ _ _ _)
      | with_reducible refine WP.bind ?_
      | with_reducible refine WP.tail ?_
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
    exact WP.pure (hQ _ (scores X (blk t) 0) _)
  · rw [dif_neg (fun h => he ((cond2_iff t).mp h))]
    rw [show mid52 X (blk t) r = r by generalize blk t = i at he; fin_cases i <;> first | rfl | exact absurd rfl he] at hQ
    obtain ⟨a0, a1, a2, a3⟩ := SA
    repeat first
      | with_reducible first
        | refine WP.load5 _ _ (by assumption) ?_
        | refine WP.load4 _ _ (by assumption) ?_
        | refine WP.load6 _ _ (by assumption) ?_
        | refine WP.load8 _ (by assumption) ?_
        | refine WP.load9 _ (by assumption) ?_
        | refine WP.load10 _ (by assumption) ?_
        | refine WP.load11 _ (by assumption) ?_
        | refine WP.load12 _ (by assumption) ?_
        | refine WP.load2 ?_
        | refine WP.load3 ?_
        | refine WP.load7 ?_
      | ((with_reducible first
        | refine WP.store7 _ _ (by assumption) ?_
        | refine WP.store8 _ (by assumption) ?_
        | refine WP.store9 _ (by assumption) ?_
        | refine WP.store10 _ (by assumption) ?_
        | refine WP.store11 _ (by assumption) ?_
        | refine WP.store12 _ (by assumption) ?_
        | refine WP.pure ?_); dsimp only [Four.get, Four.set])
      | (with_reducible refine WP.pure ?_; show WP _ _ _ _)
      | with_reducible refine WP.bind ?_
      | with_reducible refine WP.tail ?_
    exact WP.pure (hQ _ ⟨a0, a1, a2, a3⟩ _)

end Cert.KernelIdeal.Diff
-- ==== Proof.Diff.Tile.lean ====
/-
  One tile: the diagonal block, the earlier blocks, the next tile's scores, and the tile's two results; then the body,
  which prepares the first tile's scores and runs the four tiles.
-/
module

public import proofs.«01_k».proof.Proof.Diff.Earlier

@[expose] public section

set_option maxRecDepth 65536

noncomputable section

namespace Cert.KernelIdeal.Diff

open Cert.KernelIdeal Cert.KernelIdeal.Gen
open Idealize.ShloMosaic Idealize.ShloMosaic.TcCoe Idealize.ShloMosaic.Tactic

variable {F : FTy → Type} [FloatOps F] {X : Ctx F}
variable (gi : grid0.Coords) (h2 : X.a2.IsWhole) (h3 : X.a3.IsWhole) (h4 : X.a4.IsWhole) (h5 : X.a5.IsWhole) (h6 : X.a6.IsWhole) (h7 : X.a7.IsWhole)
  (h8 : X.a8.IsWhole) (h9 : X.a9.IsWhole) (h10 : X.a10.IsWhole) (h11 : X.a11.IsWhole) (h12 : X.a12.IsWhole)

/-- The result after tile `t`. -/
def tileO (X : Ctx F) (i : Fin 4) (O : Vec F S1x2048x256 .bf16) : Vec F S1x2048x256 .bf16 :=
  setRow (setRow O i 0 (headOut X (gathered X i) 0)) i 1 (headOut X (gathered X i) 1)

theorem tile_run (t : Fin k0_t1_loop.trips) (O : Vec F S1x2048x256 .bf16) (SB : Four (Vec F S1x512x512 .f32)) (r : Run F) (Q : Unit → St F → Prop)
    (hQ : ∀ SB' r', Q ⟨⟩ (stOf (tileO X (blk t) O) (scores X (nxt t) (nxt t)) SB' r')) :
    WP X (k0_t1_body gi X.a2 h2 X.a3 h3 X.a4 h4 X.a5 h5 X.a6 h6 X.a7 h7 X.a8 h8 X.a9 h9 X.a10 h10 X.a11 h11 X.a12 h12
      evenLanes (iota .tc S512x512 32 [0] iota_S512x512_d0_w32) (iota .tc S512x512 32 [1] iota_S512x512_d1_w32) (lamOf X) t ⟨⟩)
      (stOf O (scores X (blk t) (blk t)) SB r) Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  have c00 : (![0, 0] : Fin 2 → Nat) = offCol 0 0 := rfl
  have c01 : (![128, 0] : Fin 2 → Nat) = offCol 0 1 := rfl
  have c10 : (![0, 512] : Fin 2 → Nat) = offCol 1 0 := rfl
  have c11 : (![128, 512] : Fin 2 → Nat) = offCol 1 1 := rfl
  have o1 := off1_eq t
  have o2 := off2_eq t
  have o3 := off3_eq t
  have o4 := off4_eq t
  have o5 := off5_eq t
  have o6 := off6_eq t
  have o31 := off31_eq t
  have o32 := off32_eq t
  obtain ⟨b0, b1, b2, b3⟩ := SB
  obtain ⟨⟨m0, m1, m2, m3⟩, ⟨l0, l1, l2, l3⟩, ⟨d0, d1, d2, d3⟩⟩ := r
  unfold stOf scores
  unfold k0_t1_body
  repeat first
    | with_reducible first
      | refine WP.load5 _ _ (by assumption) ?_
      | refine WP.load4 _ _ (by assumption) ?_
      | refine WP.load6 _ _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load2 ?_
      | refine WP.load3 ?_
      | refine WP.load7 ?_
    | ((with_reducible first
      | refine WP.store7 _ _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.pure ?_); dsimp only [Four.get, Four.set])
    | (with_reducible refine WP.pure ?_; show WP _ _ _ _)
    | with_reducible refine WP.bind ?_
    | with_reducible refine WP.tail ?_
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
  refine part51_run gi h2 h3 h4 h5 h6 h7 h8 h9 h10 h11 h12 t _ _ _ _ O (scores X (blk t) (blk t)) (stepD X (blk t) run0) _ ?_
  intro a SA' SB' hSB'
  refine WP.bind ?_
  refine part52_run gi h2 h3 h4 h5 h6 h7 h8 h9 h10 h11 h12 t _ _ _ O SA' SB' hSB' _ _ ?_
  intro w SA'' SB''
  rw [mid_diag]
  generalize hG : gathered X (blk t) = G
  unfold tileO at hQ
  rw [hG] at hQ
  obtain ⟨⟨m0, m1, m2, m3⟩, ⟨l0, l1, l2, l3⟩, ⟨d0, d1, d2, d3⟩⟩ := G
  obtain ⟨a0, a1, a2, a3⟩ := SA''
  obtain ⟨b0, b1, b2, b3⟩ := SB''
  unfold stOf scores
  dsimp only
  repeat first
    | with_reducible first
      | refine WP.load5 _ _ (by assumption) ?_
      | refine WP.load4 _ _ (by assumption) ?_
      | refine WP.load6 _ _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load2 ?_
      | refine WP.load3 ?_
      | refine WP.load7 ?_
    | ((with_reducible first
      | refine WP.store7 _ _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.pure ?_); dsimp only [Four.get, Four.set])
    | (with_reducible refine WP.pure ?_; show WP _ _ _ _)
    | with_reducible refine WP.bind ?_
    | with_reducible refine WP.tail ?_
    | (rw [k0_part53_eq_skeleton]; unfold k0_part53_skel)
    | (rw [k0_part54_eq_skeleton]; unfold k0_part54_skel)
    | (rw [k0_part55_eq_skeleton]; unfold k0_part55_skel)
  exact WP.pure (hQ ⟨b0, b1, b2, b3⟩ ⟨⟨m0, m1, m2, m3⟩, ⟨l0, l1, l2, l3⟩, ⟨d0, d1, d2, d3⟩⟩)

/-- A tile's number, capped at the last one. -/
def cap (n : Nat) : Fin 4 := ⟨min n 3, lt_of_le_of_lt (Nat.min_le_right _ _) (by decide)⟩
theorem blk_cap : ∀ t, blk t = cap t.val := by decide
theorem nxt_cap : ∀ t, nxt t = cap (t.val + 1) := by decide

/-- The result after `n` tiles. -/
def tilesO (X : Ctx F) (O : Vec F S1x2048x256 .bf16) : Nat → Vec F S1x2048x256 .bf16
  | 0 => O
  | n + 1 => tileO X (cap n) (tilesO X O n)

theorem body_run (σ : St F) (Q : PUnit → St F → Prop) (hQ : ∀ SA SB r, Q ⟨⟩ (stOf (tilesO X σ.O 4) SA SB r)) :
    WP X (cc0_diff_attn gi X.a2 h2 X.a3 h3 X.a4 h4 X.a5 h5 X.a6 h6 X.a7 h7 X.a8 h8 X.a9 h9 X.a10 h10 X.a11 h11 X.a12 h12) σ Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  have r0 : (![0, 0, 0] : Fin 3 → Nat) = offRow 0 0 := rfl
  have r1 : (![0, 0, 128] : Fin 3 → Nat) = offRow 0 1 := rfl
  obtain ⟨O, ⟨a0, a1, a2, a3⟩, SB, M, L, A⟩ := σ
  rw [cc0_diff_attn_eq_skeleton]; unfold cc0_diff_attn_skel
  repeat first
    | with_reducible first
      | refine WP.load5 _ _ (by assumption) ?_
      | refine WP.load4 _ _ (by assumption) ?_
      | refine WP.load6 _ _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load2 ?_
      | refine WP.load3 ?_
      | refine WP.load7 ?_
    | ((with_reducible first
      | refine WP.store7 _ _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.pure ?_); dsimp only [Four.get, Four.set])
    | (with_reducible refine WP.pure ?_; show WP _ _ _ _)
    | with_reducible refine WP.bind ?_
    | with_reducible refine WP.tail ?_
    | (rw [k0_part56_eq_skeleton]; unfold k0_part56_skel)
    | (rw [k0_part57_eq_skeleton]; unfold k0_part57_skel)
  refine WP.loop _ _ _ _ (fun n _ σ => ∃ SB r, σ = stOf (tilesO X O n) (scores X (cap n) (cap n)) SB r) ⟨SB, ⟨M, L, A⟩, rfl⟩ ?_ ?_
  · rintro t ⟨⟩ _ ⟨SB', r, rfl⟩
    rw [← blk_cap t]
    refine tile_run gi h2 h3 h4 h5 h6 h7 h8 h9 h10 h11 h12 t (tilesO X O t) SB' r _ ?_
    intro SB'' r'
    refine ⟨SB'', r', ?_⟩
    rw [← nxt_cap t, blk_cap t]; rfl
  · rintro ⟨⟩ _ ⟨SB', r, rfl⟩
    refine WP.pure ?_
    rw [trips1]
    exact hQ _ _ _

end Cert.KernelIdeal.Diff
-- ==== Proof.Diff.Result.lean ====
/-
  What the body leaves in its result, entry by entry: the tile of the entry's row, the head of its column. Nothing of
  what the result's buffer held before is left.
-/
module

public import proofs.«01_k».proof.Proof.Diff.Tile
public import Idealize.ShloMosaic.Lib.ValueIdxCore

@[expose] public section

noncomputable section

namespace Cert.KernelIdeal.Diff

open Cert.KernelIdeal Cert.KernelIdeal.Gen
open Idealize.ShloMosaic Idealize.ShloMosaic.TcCoe Idealize.ShloMosaic.Tactic

variable {F : FTy → Type} [FloatOps F]

/-- The row block of an entry, -/
def rowOf (y : S1x2048x256.Idx) : Fin 4 := ⟨(y 1).val / 512, by have h : (y 1).val < 2048 := (y 1).isLt; omega⟩
/-- its head, -/
def headOf (y : S1x2048x256.Idx) : Fin 2 := ⟨(y 2).val / 128, by have h : (y 2).val < 256 := (y 2).isLt; omega⟩
/-- and its place within them. -/
def within (y : S1x2048x256.Idx) : S1x512x128.Idx :=
  ValueIdx.ix3 0 ⟨(y 1).val % 512, Nat.mod_lt _ (by decide)⟩ ⟨(y 2).val % 128, Nat.mod_lt _ (by decide)⟩

theorem setRow_apply {Val : EltTy → Type} {e : EltTy} (X : S1x2048x256.Idx → Val e) (b : Fin 4) (h : Fin 2)
    (w : S1x512x128.Idx → Val e) (y : S1x2048x256.Idx) :
    setRow X b h w y = if rowOf y = b ∧ headOf y = h then w (within y) else X y := by
  unfold setRow
  have y0 : (y 0).val < 1 := (y 0).isLt
  split
  · next hy =>
    obtain ⟨rfl, rfl⟩ := hy
    have he : y = (Rect.unit (s := S1x2048x256) (offRow (rowOf y) (headOf y)) S1x512x128.size (offRow_inb _ _)).emb (within y) := by
      funext a
      apply Fin.ext
      match a with
      | ⟨0, _⟩ => exact (show (y 0).val = 0 + 1 * 0 by omega)
      | ⟨1, _⟩ => exact (show (y 1).val = 512 * ((y 1).val / 512) + 1 * ((y 1).val % 512) by omega)
      | ⟨2, _⟩ => exact (show (y 2).val = 128 * ((y 2).val / 128) + 1 * ((y 2).val % 128) by omega)
    have ho := Rect.overlay_emb (Rect.unit (s := S1x2048x256) (offRow (rowOf y) (headOf y)) S1x512x128.size (offRow_inb _ _)) X w (within y)
    rw [← he] at ho
    exact ho
  · next hy =>
    refine Rect.overlay_of_not_mem _ _ _ ?_
    rw [Rect.mem_set_unit]
    intro hm
    have h1 := hm 1
    have h2 := hm 2
    change 512 * b.val ≤ (y 1).val ∧ (y 1).val < 512 * b.val + 512 at h1
    change 128 * h.val ≤ (y 2).val ∧ (y 2).val < 128 * h.val + 128 at h2
    refine hy ⟨Fin.ext ?_, Fin.ext ?_⟩
    · show (y 1).val / 512 = b.val; omega
    · show (y 2).val / 128 = h.val; omega

/-- The body's result. -/
def res (X : Ctx F) : Vec F S1x2048x256 .bf16 := fun y => headOut X (gathered X (rowOf y)) (headOf y) (within y)

theorem tilesO_eq (X : Ctx F) (O : Vec F S1x2048x256 .bf16) : tilesO X O 4 = res X := by
  funext y
  unfold res
  simp only [tilesO, tileO, setRow_apply]
  generalize rowOf y = b
  generalize headOf y = h
  have c0 : cap 0 = 0 := rfl
  have c1 : cap 1 = 1 := rfl
  have c2 : cap 2 = 2 := rfl
  have c3 : cap 3 = 3 := rfl
  rw [c0, c1, c2, c3]
  fin_cases b <;> fin_cases h <;> simp

end Cert.KernelIdeal.Diff
-- ==== Proof.Diff.Run.lean ====
/-
  The attention call's run: its body at every grid point, from the point's blocks of the inputs to the body's result
  there, and from that the run of the whole program with its frame.
-/
module

public import proofs.«01_k».proof.Proof.Gen.KernelIdeal.Frame
public import proofs.«01_k».proof.Proof.Diff.Result
public import Idealize.ShloMosaic.Lib.Claim

@[expose] public section

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body works on at point `t` of core `c`. -/
def ctxAt (c : Dev nD) (t : Fin cfg0.N) : Ctx F where
  c := c
  a2 := st0_0 t
  a3 := st0_1 t
  a4 := st0_2 t
  a5 := st0_3 t
  a6 := st0_4 t
  a7 := st0_5 t
  a8 := Memref.whole cc0_scratch0
  a9 := Memref.whole cc0_scratch1
  a10 := Memref.whole cc0_scratch2
  a11 := Memref.whole cc0_scratch3
  a12 := Memref.whole cc0_scratch4
  lam := iblk m c 0 t
  g := iblk m c 1 t
  q := iblk m c 2 t
  k := iblk m c 3 t
  v := iblk m c 4 t

/-- The proof data: the arrays as the call finds them, each input's block left in place, the result's block at the
    body's result, the scratch arrays at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res (ctxAt m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = res (ctxAt m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The eleven references one by one. -/
theorem own_eq (X : Ctx F) (σ : St F) : own X σ = iprop(cell X.c X.a2 (· = X.lam) ∗ cell X.c X.a3 (· = X.g) ∗ cell X.c X.a4 (· = X.q)
    ∗ cell X.c X.a5 (· = X.k) ∗ cell X.c X.a6 (· = X.v) ∗ cell X.c X.a7 (· = σ.O) ∗ cell X.c X.a8 (Slots · σ.SA) ∗ cell X.c X.a9 (Slots · σ.SB)
    ∗ cell X.c X.a10 (Slots · σ.M) ∗ cell X.c X.a11 (Slots · σ.L) ∗ cell X.c X.a12 (Slots · σ.A)) :=
  bigSep_univ_eq_bigSepL [(0 : Fin 11), 1, 2, 3, 4, 5, 6, 7, 8, 9, 10] (by decide) (by decide) (cells X σ)

/-- The body as an entailment between what it is handed and what it hands back, each reference spelled out. -/
theorem body_triple (X : Ctx F) (gi : grid0.Coords) (h2 : X.a2.IsWhole) (h3 : X.a3.IsWhole) (h4 : X.a4.IsWhole) (h5 : X.a5.IsWhole)
    (h6 : X.a6.IsWhole) (h7 : X.a7.IsWhole) (h8 : X.a8.IsWhole) (h9 : X.a9.IsWhole) (h10 : X.a10.IsWhole) (h11 : X.a11.IsWhole) (h12 : X.a12.IsWhole)
    (K : PUnit → sProp 𝕄) :
    iprop(owns (X.c : Thread nD τ) X.a2 fullShare X.lam ∗ owns (X.c : Thread nD τ) X.a3 fullShare X.g ∗ owns (X.c : Thread nD τ) X.a4 fullShare X.q
      ∗ owns (X.c : Thread nD τ) X.a5 fullShare X.k ∗ owns (X.c : Thread nD τ) X.a6 fullShare X.v ∗ (∃ d, owns (X.c : Thread nD τ) X.a7 fullShare d)
      ∗ (∃ d, owns (X.c : Thread nD τ) X.a8 fullShare d) ∗ (∃ d, owns (X.c : Thread nD τ) X.a9 fullShare d) ∗ (∃ d, owns (X.c : Thread nD τ) X.a10 fullShare d)
      ∗ (∃ d, owns (X.c : Thread nD τ) X.a11 fullShare d) ∗ (∃ d, owns (X.c : Thread nD τ) X.a12 fullShare d)
      ∗ (iprop(owns (X.c : Thread nD τ) X.a2 fullShare X.lam ∗ owns (X.c : Thread nD τ) X.a3 fullShare X.g ∗ owns (X.c : Thread nD τ) X.a4 fullShare X.q
        ∗ owns (X.c : Thread nD τ) X.a5 fullShare X.k ∗ owns (X.c : Thread nD τ) X.a6 fullShare X.v ∗ owns (X.c : Thread nD τ) X.a7 fullShare (res X)
        ∗ (∃ d, owns (X.c : Thread nD τ) X.a8 fullShare d) ∗ (∃ d, owns (X.c : Thread nD τ) X.a9 fullShare d) ∗ (∃ d, owns (X.c : Thread nD τ) X.a10 fullShare d)
        ∗ (∃ d, owns (X.c : Thread nD τ) X.a11 fullShare d) ∗ (∃ d, owns (X.c : Thread nD τ) X.a12 fullShare d)) -∗ K ⟨⟩))
      ⊢ wp frame (wpE (defs₀ (F := F)) Variants.none X.c none) Set.univ
        (cc0_diff_attn gi X.a2 h2 X.a3 h3 X.a4 h4 X.a5 h5 X.a6 h6 X.a7 h7 X.a8 h8 X.a9 h9 X.a10 h10 X.a11 h11 X.a12 h12) K := by
  iintro ⟨H2, H3, H4, H5, H6, ⟨%d7, H7⟩, ⟨%d8, H8⟩, ⟨%d9, H9⟩, ⟨%d10, H10⟩, ⟨%d11, H11⟩, ⟨%d12, H12⟩, Hk⟩
  obtain ⟨s8, hs8⟩ := Slots.exists d8
  obtain ⟨s9, hs9⟩ := Slots.exists d9
  obtain ⟨s10, hs10⟩ := Slots.exists d10
  obtain ⟨s11, hs11⟩ := Slots.exists d11
  obtain ⟨s12, hs12⟩ := Slots.exists d12
  have hrun := body_run (X := X) gi h2 h3 h4 h5 h6 h7 h8 h9 h10 h11 h12 ⟨d7, s8, s9, s10, s11, s12⟩
    (fun _ σ' => σ'.O = res X) (fun SA SB r => tilesO_eq X d7) Variants.none Set.univ
  simp only [own_eq] at hrun
  unfold cell at hrun
  iapply (wp_wand_r frame (wpE (defs₀ (F := F)) Variants.none (X.c : Thread nD τ) none) Set.univ)
  isplitr [Hk]
  · iapply hrun
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H8]; · iexists _; isplitr; swap; (· iexact H8); ipureintro; exact hs8
    isplitl [H9]; · iexists _; isplitr; swap; (· iexact H9); ipureintro; exact hs9
    isplitl [H10]; · iexists _; isplitr; swap; (· iexact H10); ipureintro; exact hs10
    isplitl [H11]; · iexists _; isplitr; swap; (· iexact H11); ipureintro; exact hs11
    iexists _; isplitr; swap; (· iexact H12); ipureintro; exact hs12
  · iintro %a
    iintro ⟨%σ', %hσ, ⟨%Y2, %e2, H2⟩, ⟨%Y3, %e3, H3⟩, ⟨%Y4, %e4, H4⟩, ⟨%Y5, %e5, H5⟩, ⟨%Y6, %e6, H6⟩, ⟨%Y7, %e7, H7⟩,
      ⟨%Y8, %e8, H8⟩, ⟨%Y9, %e9, H9⟩, ⟨%Y10, %e10, H10⟩, ⟨%Y11, %e11, H11⟩, ⟨%Y12, %e12, H12⟩⟩
    rw [hσ] at e7
    subst e2 e3 e4 e5 e6 e7
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0, after1, after2, after3, after4, after5]
  unfold Pipeline.ΦA
  rw [scopedRest0_eq]
  iintro ⟨⟨⟨⟨%f8, S8⟩, ⟨%f9, S9⟩, ⟨%f10, S10⟩, ⟨%f11, S11⟩, ⟨%f12, S12⟩⟩, HP⟩, Ho, ⟨%d0, H0⟩, ⟨%d1, H1⟩, ⟨%d2, H2⟩, ⟨%d3, H3⟩, ⟨%d4, H4⟩, ⟨%d5, H5⟩⟩
  iapply (body_triple (ctxAt m c t) (grid0.coords t) _ _ _ _ _ _ _ _ _ _ _ _)
  simp only [ctxAt, owns_whole]
  isplitl [H0]; · iexact H0
  isplitl [H1]; · iexact H1
  isplitl [H2]; · iexact H2
  isplitl [H3]; · iexact H3
  isplitl [H4]; · iexact H4
  isplitl [H5]; · iexists _; iexact H5
  isplitl [S8]; · iexists _; iexact S8
  isplitl [S9]; · iexists _; iexact S9
  isplitl [S10]; · iexists _; iexact S10
  isplitl [S11]; · iexists _; iexact S11
  isplitl [S12]; · iexists _; iexact S12
  iintro ⟨H0, H1, H2, H3, H4, H5, S8, S9, S10, S11, S12⟩
  isplitl [HP S8 S9 S10 S11 S12]
  · isplitr [HP]
    · isplitl [S8]; · iexact S8
      isplitl [S9]; · iexact S9
      isplitl [S10]; · iexact S10
      isplitl [S11]; · iexact S11
      iexact S12
    · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: the arrays at what the grid points leave, every other buffer as the call found it, every
    semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its argument arrays end unchanged, and every semaphore counter is zero again. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Diff
-- ==== Proof.Diff.Bits.lean ====
/-
  The attention call as compiled has the text of its ideal reading, so that the run proved once gives its frame too.
-/
module

public import proofs.«01_k».proof.Kernel
public import proofs.«01_k».proof.Proof.Gen.Kernel
public import proofs.«01_k».proof.Proof.Diff.Run

@[expose] public section

set_option maxRecDepth 65536

noncomputable section

namespace Cert.Kernel.Diff

open Idealize.ShloMosaic Idealize.ShloMosaic.TcCoe Idealize.SL.Sem

variable {F : FTy → Type} [FloatOps F]

theorem body_eq : @Cert.Kernel.cc0_diff_attn F _ _ = @Cert.KernelIdeal.cc0_diff_attn F _ _ := rfl

theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => exact congrFun rfl _
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [defs₀_eq]; rfl

theorem main_eq : Cert.Kernel.main (F := F) = Cert.KernelIdeal.main (F := F) := rfl

/-- What the program leaves is what its ideal reading leaves, at any floats. -/
theorem run_of {m : (ℓ : Loc Cert.Kernel.nD Cert.Kernel.τ Cert.Kernel.sig) → Buf (Elt F) ℓ} {ρ : Dev Cert.Kernel.nD → PrngReg}
    {Q : PUnit × MemSt Cert.KernelIdeal.nD Cert.KernelIdeal.τ Cert.KernelIdeal.sig (Elt F) → Prop}
    (h : θ_run Cert.KernelIdeal.defs (onTc (τ := Cert.KernelIdeal.τ) (Cert.KernelIdeal.main (F := F))) ⟨m, fun _ => 0, ρ⟩ Q) :
    θ_run Cert.Kernel.defs (onTc (τ := Cert.Kernel.τ) (Cert.Kernel.main (F := F))) ⟨m, fun _ => 0, ρ⟩ Q := by
  rw [defs_eq]
  exact h

end Cert.Kernel.Diff
-- ==== Proof.Diff.Finite.lean ====
/-
  What the claim's precondition says: every entry of the queries, the keys, the values and the four rows of lam is a real number.
-/
module

public import proofs.«01_k».proof.Proof.Gen.Pre_finite
public import Idealize.ShloMosaic.Lib.Pointwise
public import Idealize.ShloMosaic.Lib.ReduceAll

@[expose] public section

set_option maxRecDepth 16384

noncomputable section

namespace Cert.Pre_finite.Read

open Cert.Pre_finite Cert.Pre_finite.Gen
open Idealize.ShloMosaic

theorem both {x y : BitVec 1} : IntOp.andi x y = 1#1 → x = 1#1 ∧ y = 1#1 := by
  revert x y; decide

theorem inf_word : Ideal.ofBits .f32 0x7F800000#32 = ⊤ := by
  simp [Ideal.ofBits, Ideal.ieee]

/-- An extended real below infinity in absolute value is a real number. -/
theorem real_of_lt (x : EReal) (h : Ideal.cmp .olt (max x (-x)) (Ideal.ofBits .f32 0x7F800000#32) = 1#1) :
    x = ((x.toReal : ℝ) : EReal) := by
  rw [inf_word] at h
  have l : max x (-x) < ⊤ := by
    rcases Classical.em (max x (-x) < ⊤) with p | p
    · exact p
    · simp only [Ideal.cmp, p, decide_false] at h
      exact absurd h (by decide)
  refine (EReal.coe_toReal ?_ ?_).symm
  · rintro rfl
    simp at l
  · rintro rfl
    simp at l

variable {a0 a1 : FVec Ideal S32x2048x8x64 .f32} {a2 : FVec Ideal S32x2048x4x128 .f32}
variable {a3 a4 a5 a6 : FVec Ideal S1x64 .f32} {a7 : FVec Ideal S1x128 .f32}

instance : Subsingleton S_.Idx := ⟨fun a b => funext fun i => i.elim0⟩

theorem reals (h : fn (F := Ideal) a0 a1 a2 a3 a4 a5 a6 a7 = fun _ => 1#1) :
    (∀ i, a0 i = (((a0 i : EReal).toReal : ℝ) : EReal)) ∧ (∀ i, a1 i = (((a1 i : EReal).toReal : ℝ) : EReal))
    ∧ (∀ i, a2 i = (((a2 i : EReal).toReal : ℝ) : EReal)) ∧ (∀ i, a3 i = (((a3 i : EReal).toReal : ℝ) : EReal))
    ∧ (∀ i, a4 i = (((a4 i : EReal).toReal : ℝ) : EReal)) ∧ (∀ i, a5 i = (((a5 i : EReal).toReal : ℝ) : EReal))
    ∧ (∀ i, a6 i = (((a6 i : EReal).toReal : ℝ) : EReal)) := by
  have e := congrFun h ix0
  unfold fn fn_part1 at e
  obtain ⟨e, h6⟩ := both e
  obtain ⟨e, h5⟩ := both e
  obtain ⟨e, h4⟩ := both e
  obtain ⟨e, h3⟩ := both e
  obtain ⟨e, h2⟩ := both e
  obtain ⟨h0, h1⟩ := both e
  refine ⟨fun i => real_of_lt _ ?_, fun i => real_of_lt _ ?_, fun i => real_of_lt _ ?_, fun i => real_of_lt _ ?_, fun i => real_of_lt _ ?_,
    fun i => real_of_lt _ ?_, fun i => real_of_lt _ ?_⟩
  · exact Host.reduce_andi_all _ _ _ _ _ h0 i
  · exact Host.reduce_andi_all _ _ _ _ _ h1 i
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i

end Cert.Pre_finite.Read
-- ==== Proof.Diff.Blocks.lean ====
/-
  The blocks that the attention call's body works on at a grid point, entry by entry, in terms of the arguments.
-/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Diff

open Cert.KernelIdeal Cert.KernelIdeal.Gen
open Idealize.ShloMosaic Idealize.ShloMosaic.TcCoe

/-- The windows' blocks at a point: the batch is the point's half, the pair of heads its parity. -/
theorem idx : ∀ t : Fin cfg0.N, win0_0.index t = ![0, 0] ∧ win0_1.index t = ![0, 0]
    ∧ win0_2.index t = ![t.val % 2, t.val / 2, 0] ∧ win0_3.index t = ![2 + t.val % 2, t.val / 2, 0]
    ∧ win0_4.index t = ![t.val % 2, t.val / 2] ∧ win0_5.index t = ![t.val % 2, t.val / 2, 0] :=
  (by decide +kernel : ∀ t : Fin grid0.N, _)

/-- A point's batch. -/
def batch (t : Fin cfg0.N) : Fin 32 := ⟨t.val / 2, by have : t.val < 64 := t.isLt; omega⟩

variable (m : (ℓ : Loc nD τ sig) → Buf (Elt Ideal) ℓ) (c : Dev nD)

theorem lam_at (t : Fin cfg0.N) (a : Fin 4) (x : Fin 64) :
    (iblk m c 0 t : FVec Ideal S4x64 .f32) (ix2 a x) = (V m c main_v21 : FVec Ideal S4x64 .f32) (ix2 a x) := by
  blk_ext [iblk, idx t]

theorem g_at (t : Fin cfg0.N) (e : Fin 128) :
    (iblk m c 1 t : FVec Ideal S1x128 .f32) (ix2 0 e) = (V m c main_v23 : FVec Ideal S1x128 .f32) (ix2 0 e) := by
  blk_ext [iblk, idx t]

theorem q_at (t : Fin cfg0.N) (s : Fin 2048) (e : Fin 256) :
    (iblk m c 2 t : FVec Ideal S1x2048x256 .bf16) (ix3 0 s e)
      = (V m c main_v9 : FVec Ideal S4x65536x256 .bf16) (ix3 ⟨t.val % 2, by omega⟩ ⟨2048 * (batch t).val + s.val, by omega⟩ e) := by
  unfold batch
  blk_ext [iblk, idx t]

theorem k_at (t : Fin cfg0.N) (s : Fin 2048) (e : Fin 256) :
    (iblk m c 3 t : FVec Ideal S1x2048x256 .bf16) (ix3 0 s e)
      = (V m c main_v9 : FVec Ideal S4x65536x256 .bf16) (ix3 ⟨2 + t.val % 2, by omega⟩ ⟨2048 * (batch t).val + s.val, by omega⟩ e) := by
  unfold batch
  blk_ext [iblk, idx t]

theorem v_at (t : Fin cfg0.N) (e : Fin 256) (s : Fin 2048) :
    (iblk m c 4 t : FVec Ideal S256x2048 .bf16) (ix2 e s)
      = (V m c main_v12 : FVec Ideal S512x65536 .bf16) (ix2 ⟨256 * (t.val % 2) + e.val, by omega⟩ ⟨2048 * (batch t).val + s.val, by omega⟩) := by
  unfold batch
  blk_ext [iblk, idx t]

/-- The queries that are given, and the keys, and the values. -/
abbrev A0 : FVec Ideal S32x2048x8x64 .f32 := m (c, Proc.tc.devRef main_arg0)
abbrev A1 : FVec Ideal S32x2048x8x64 .f32 := m (c, Proc.tc.devRef main_arg1)
abbrev A2 : FVec Ideal S32x2048x4x128 .f32 := m (c, Proc.tc.devRef main_arg2)

/-- The four rows that lam is computed of. -/
abbrev A3 : FVec Ideal S1x64 .f32 := m (c, Proc.tc.devRef main_arg3)
abbrev A4 : FVec Ideal S1x64 .f32 := m (c, Proc.tc.devRef main_arg4)
abbrev A5 : FVec Ideal S1x64 .f32 := m (c, Proc.tc.devRef main_arg5)
abbrev A6 : FVec Ideal S1x64 .f32 := m (c, Proc.tc.devRef main_arg6)

/-- The gain of the normalisation. -/
abbrev A7 : FVec Ideal S1x128 .f32 := m (c, Proc.tc.devRef main_arg7)

/-- The scale that the host multiplies the queries by: 1/8 over the logarithm of two. -/
def scaleQ : EReal := Ideal.div (Ideal.ofBits .f32 0x3E000000#32) (Ideal.log (Ideal.ofBits .f32 0x40000000#32))

theorem v23_at (e : Fin 128) : (V m c main_v23 : FVec Ideal S1x128 .f32) (ix2 0 e)
    = A7 m c (ix2 0 e) := by
  entry_read
  pointwise

theorem v12_at (e : Fin 512) (s : Fin 65536) : (V m c main_v12 : FVec Ideal S512x65536 .bf16) (ix2 e s)
    = A2 m c
        (ix4 ⟨s.val / 2048, by omega⟩ ⟨s.val % 2048, by omega⟩ ⟨e.val / 128, by omega⟩ ⟨e.val % 128, by omega⟩) := by
  entry_read
  pointwise

theorem v9_query (g : Fin 4) (s : Fin 65536) (e : Fin 256) (h : g.val < 2) : (V m c main_v9 : FVec Ideal S4x65536x256 .bf16) (ix3 g s e)
    = (A0 m c
        (ix4 ⟨s.val / 2048, by omega⟩ ⟨s.val % 2048, by omega⟩ ⟨g.val * 4 + e.val / 64, by omega⟩ ⟨e.val % 64, by omega⟩) : EReal) * scaleQ := by
  entry_read
  pointwise
  rw [dif_pos h]
  rfl

theorem v9_key (g : Fin 4) (s : Fin 65536) (e : Fin 256) (h : ¬ g.val < 2) : (V m c main_v9 : FVec Ideal S4x65536x256 .bf16) (ix3 g s e)
    = A1 m c
        (ix4 ⟨s.val / 2048, by omega⟩ ⟨s.val % 2048, by omega⟩ ⟨(g.val - 2) * 4 + e.val / 64, by omega⟩ ⟨e.val % 64, by omega⟩) := by
  entry_read
  pointwise
  rw [dif_neg h]

/-- The last three host operations leave the rows that they stack, and leave the stack. -/
theorem stacked (W : Valuation τ sig (Elt Ideal)) :
    (StableHlo.after (hostOps0.drop 23) W main_v21 : FVec Ideal S4x64 .f32)
      = concatenate S4x64 0 [⟨S1x64, (W main_v17 : FVec Ideal S1x64 .f32)⟩, ⟨S1x64, (W main_v18 : FVec Ideal S1x64 .f32)⟩,
          ⟨S1x64, (W main_v19 : FVec Ideal S1x64 .f32)⟩, ⟨S1x64, (W main_v20 : FVec Ideal S1x64 .f32)⟩]
          concatenates_S1x64_S1x64_S1x64_S1x64_S4x64_d0 := by
  unfold hostOps0
  simp only [List.drop_succ_cons, List.drop_zero, StableHlo.after_cons, StableHlo.after_nil]
  rw [HloOp.result_of_not_mem _ _ (by decide), HloOp.result_of_not_mem _ _ (by decide), StableHlo.nary_result]
  rfl

theorem passed (W : Valuation τ sig (Elt Ideal)) (r : Ref sig .tc) (h : (r : DevRef τ sig) ≠ main_v21)
    (h' : (r : DevRef τ sig) ≠ main_v22) (h'' : (r : DevRef τ sig) ≠ main_v23) :
    StableHlo.after (hostOps0.drop 23) W r = W r := by
  unfold hostOps0
  simp only [List.drop_succ_cons, List.drop_zero, StableHlo.after_cons, StableHlo.after_nil]
  have n : ∀ a b : DevRef τ sig, a ≠ b → a ∉ ({b} : Finset _) := fun a b hab hm => hab (Finset.mem_singleton.mp hm)
  rw [HloOp.result_of_not_mem _ _ (n _ _ h''), HloOp.result_of_not_mem _ _ (n _ _ h'), HloOp.result_of_not_mem _ _ (n _ _ h)]

theorem v21_eq : (V m c main_v21 : FVec Ideal S4x64 .f32) = concatenate S4x64 0 [⟨S1x64, (V m c main_v17 : FVec Ideal S1x64 .f32)⟩,
    ⟨S1x64, (V m c main_v18 : FVec Ideal S1x64 .f32)⟩, ⟨S1x64, (V m c main_v19 : FVec Ideal S1x64 .f32)⟩,
    ⟨S1x64, (V m c main_v20 : FVec Ideal S1x64 .f32)⟩] concatenates_S1x64_S1x64_S1x64_S1x64_S4x64_d0 := by
  have split : ∀ b, V m c b
      = StableHlo.after (hostOps0.drop 23) (StableHlo.after (hostOps0.take 23) (fun b => m (c, b))) b := fun _ => rfl
  rw [split, split, split, split, split, stacked, passed _ main_v17 (by decide) (by decide) (by decide),
    passed _ main_v18 (by decide) (by decide) (by decide), passed _ main_v19 (by decide) (by decide) (by decide),
    passed _ main_v20 (by decide) (by decide) (by decide)]

theorem v17_at (x : Fin 64) : (V m c main_v17 : FVec Ideal S1x64 .f32) (ix2 0 x)
    = A3 m c (ix2 0 x) := by
  entry_read
  pointwise

theorem v18_at (x : Fin 64) : (V m c main_v18 : FVec Ideal S1x64 .f32) (ix2 0 x)
    = A4 m c (ix2 0 x) := by
  entry_read
  pointwise

theorem v19_at (x : Fin 64) : (V m c main_v19 : FVec Ideal S1x64 .f32) (ix2 0 x)
    = A5 m c (ix2 0 x) := by
  entry_read
  pointwise

theorem v20_at (x : Fin 64) : (V m c main_v20 : FVec Ideal S1x64 .f32) (ix2 0 x)
    = A6 m c (ix2 0 x) := by
  entry_read
  pointwise

theorem v21_at (x : Fin 64) : (V m c main_v21 : FVec Ideal S4x64 .f32) (ix2 0 x)
      = A3 m c (ix2 0 x)
    ∧ (V m c main_v21 : FVec Ideal S4x64 .f32) (ix2 1 x) = A4 m c (ix2 0 x)
    ∧ (V m c main_v21 : FVec Ideal S4x64 .f32) (ix2 2 x) = A5 m c (ix2 0 x)
    ∧ (V m c main_v21 : FVec Ideal S4x64 .f32) (ix2 3 x) = A6 m c (ix2 0 x) := by
  have e := v21_eq m c
  have r17 := v17_at m c x
  have r18 := v18_at m c x
  have r19 := v19_at m c x
  have r20 := v20_at m c x
  generalize (V m c main_v21 : FVec Ideal S4x64 .f32) = w at e ⊢
  generalize (V m c main_v17 : FVec Ideal S1x64 .f32) = w17 at e r17
  generalize (V m c main_v18 : FVec Ideal S1x64 .f32) = w18 at e r18
  generalize (V m c main_v19 : FVec Ideal S1x64 .f32) = w19 at e r19
  generalize (V m c main_v20 : FVec Ideal S1x64 .f32) = w20 at e r20
  subst e
  rw [← r17, ← r18, ← r19, ← r20]
  refine ⟨?_, ?_, ?_, ?_⟩
  · pointwise
  · pointwise
  · pointwise
  · pointwise

end Cert.KernelIdeal.Diff
-- ==== Proof.Diff.Softmax.lean ====
/-
  One column of the running softmax over the extended reals. A column has met some of its keys; what it holds are its
  weights' sum and its weighted sum of the values, both divided by a power of two that every later step changes.
-/
module

public import Idealize.ShloMosaic.PureOps.Ideal
public import Mathlib.Analysis.SpecialFunctions.Pow.Real

@[expose] public section

noncomputable section

namespace Cert.KernelIdeal.Diff

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A key's score: of a key that the query does not see, the least. -/
def seen (k : Prop) [Decidable k] (t : ℝ) : EReal := if k then (t : EReal) else ⊥

/-- A key's weight, its score in base two; of a key that the query does not see, none. -/
def wt (k : Prop) [Decidable k] (t : ℝ) : ℝ := if k then Real.exp (Real.log 2 * t) else 0

theorem wt_nonneg (k : Prop) [Decidable k] (t : ℝ) : 0 ≤ wt k t := by
  unfold wt; split
  · exact (Real.exp_pos _).le
  · exact le_rfl

theorem exp2_real (r : ℝ) : Ideal.exp2 (r : EReal) = ((Real.exp (Real.log 2 * r) : ℝ) : EReal) := by
  rw [Ideal.exp2_coe]
  exact congrArg _ (Real.rpow_def_of_pos (by norm_num) r)

theorem exp2_seen (k : Prop) [Decidable k] (t m : ℝ) :
    Ideal.exp2 (seen k t - (m : EReal)) = ((wt k t * Real.exp (-(Real.log 2 * m)) : ℝ) : EReal) := by
  unfold seen wt
  split
  · rw [← EReal.coe_sub, exp2_real, ← Real.exp_add]
    congr 2; ring
  · rw [EReal.bot_sub, Ideal.exp2_bot, zero_mul, EReal.coe_zero]

theorem exp_seen (k : Prop) [Decidable k] (t m : ℝ) :
    Ideal.exp (seen k (Real.log 2 * t) - (m : EReal)) = ((wt k t * Real.exp (-m) : ℝ) : EReal) := by
  unfold seen wt
  split
  · rw [← EReal.coe_sub, Ideal.exp_coe, ← Real.exp_add]
    congr 2
  · rw [EReal.bot_sub, Ideal.exp_bot, zero_mul, EReal.coe_zero]

/-- The greatest score of keys of which one is seen is a real number. -/
theorem sup_seen {n : ℕ} (k : Fin n → Prop) [DecidablePred k] (t : Fin n → ℝ) (j₀ : Fin n) (h₀ : k j₀) :
    ∃ r : ℝ, (Finset.univ.sup fun j => seen (k j) (t j)) = (r : EReal) := by
  have hb : (t j₀ : EReal) ≤ Finset.univ.sup fun j => seen (k j) (t j) := by
    have := Finset.le_sup (f := fun j => seen (k j) (t j)) (Finset.mem_univ j₀)
    simpa [seen, h₀] using this
  have ht : (Finset.univ.sup fun j => seen (k j) (t j)) < ⊤ := by
    rw [Finset.sup_lt_iff bot_lt_top]
    intro j _
    unfold seen
    split
    · exact EReal.coe_lt_top _
    · exact bot_lt_top
  refine ⟨EReal.toReal _, (EReal.coe_toReal ht.ne ?_).symm⟩
  exact ((EReal.bot_lt_coe _).trans_le hb).ne'

/-- What a column holds: nothing yet, or its sums `Z` and `N` over a power of two. -/
def Holds (M L A : EReal) (Z N : ℝ) : Prop :=
  (M = ⊥ ∧ L = 0 ∧ A = 0 ∧ Z = 0 ∧ N = 0) ∨
  ∃ m : ℝ, M = (m : EReal) ∧ L = ((Z * Real.exp (-(Real.log 2 * m)) : ℝ) : EReal)
    ∧ A = ((N * Real.exp (-(Real.log 2 * m)) : ℝ) : EReal)

theorem holds_start : Holds ⊥ 0 0 0 0 := .inl ⟨rfl, rfl, rfl, rfl, rfl⟩

/-- One step: the sums grow by the block's. -/
theorem holds_step {n : ℕ} {M L A : EReal} {Z N : ℝ} (h : Holds M L A Z N) (k : Fin n → Prop) [DecidablePred k]
    (t w : Fin n → ℝ) (j₀ : Fin n) (h₀ : k j₀) :
    Holds (max M (Finset.univ.sup fun j => seen (k j) (t j)))
      (Ideal.exp2 (M - max M (Finset.univ.sup fun j => seen (k j) (t j))) * L
        + ∑ j, Ideal.exp2 (seen (k j) (t j) - max M (Finset.univ.sup fun j => seen (k j) (t j))))
      (Ideal.exp2 (M - max M (Finset.univ.sup fun j => seen (k j) (t j))) * A
        + ∑ j, (w j : EReal) * Ideal.exp2 (seen (k j) (t j) - max M (Finset.univ.sup fun j => seen (k j) (t j))))
      (Z + ∑ j, wt (k j) (t j)) (N + ∑ j, w j * wt (k j) (t j)) := by
  obtain ⟨s, hs⟩ := sup_seen k t j₀ h₀
  rw [hs]
  obtain ⟨rfl, rfl, rfl, rfl, rfl⟩ | ⟨m, rfl, rfl, rfl⟩ := h
  · right
    refine ⟨s, max_eq_right bot_le, ?_, ?_⟩
    · rw [max_eq_right bot_le, mul_zero, zero_add, zero_add, Finset.sum_mul, coe_sum]
      exact Finset.sum_congr rfl fun j _ => exp2_seen _ _ _
    · rw [max_eq_right bot_le, mul_zero, zero_add, zero_add, Finset.sum_mul, coe_sum]
      refine Finset.sum_congr rfl fun j _ => ?_
      rw [exp2_seen, ← EReal.coe_mul, mul_assoc]
  · right
    have hm : max (m : EReal) (s : EReal) = ((max m s : ℝ) : EReal) := (EReal.coe_strictMono.monotone.map_max).symm
    rw [hm]
    have e : Ideal.exp2 ((m : EReal) - ((max m s : ℝ) : EReal))
        = ((Real.exp (Real.log 2 * m) * Real.exp (-(Real.log 2 * max m s)) : ℝ) : EReal) := by
      rw [← EReal.coe_sub, exp2_real, ← Real.exp_add]; congr 2; ring
    have hc : ∀ z : ℝ, Real.exp (Real.log 2 * m) * Real.exp (-(Real.log 2 * max m s)) * (z * Real.exp (-(Real.log 2 * m)))
        = z * Real.exp (-(Real.log 2 * max m s)) := fun z => by
      have : Real.exp (Real.log 2 * m) * Real.exp (-(Real.log 2 * m)) = 1 := by rw [← Real.exp_add]; simp
      linear_combination z * Real.exp (-(Real.log 2 * max m s)) * this
    refine ⟨max m s, rfl, ?_, ?_⟩
    · rw [e, ← EReal.coe_mul, hc, add_mul, EReal.coe_add, Finset.sum_mul, coe_sum]
      refine congrArg _ (Finset.sum_congr rfl fun j _ => exp2_seen _ _ _)
    · rw [e, ← EReal.coe_mul, hc, add_mul, EReal.coe_add, Finset.sum_mul, coe_sum]
      refine congrArg _ (Finset.sum_congr rfl fun j _ => ?_)
      rw [exp2_seen, ← EReal.coe_mul, mul_assoc]

theorem div_real (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The quotient a tile takes at its end. -/
theorem holds_div {M L A : EReal} {Z N : ℝ} (h : Holds M L A Z N) (hZ : 0 < Z) : Ideal.div A L = ((N / Z : ℝ) : EReal) := by
  obtain ⟨_, _, _, rfl, _⟩ | ⟨m, rfl, rfl, rfl⟩ := h
  · exact absurd hZ (lt_irrefl _)
  · have hp := Real.exp_pos (-(Real.log 2 * m))
    rw [div_real _ _ (mul_pos hZ hp).ne', mul_div_mul_right _ _ hp.ne']

/-- A key's share as the reference takes it: over all keys at once, in base e, from the greatest score. -/
theorem share_eq {n : ℕ} (k : Fin n → Prop) [DecidablePred k] (t : Fin n → ℝ) (j₀ : Fin n) (h₀ : k j₀) (j : Fin n) :
    Ideal.div (Ideal.exp (seen (k j) (Real.log 2 * t j) - max ⊥ (Finset.univ.sup fun j => seen (k j) (Real.log 2 * t j))))
      (0 + ∑ i, Ideal.exp (seen (k i) (Real.log 2 * t i) - max ⊥ (Finset.univ.sup fun j => seen (k j) (Real.log 2 * t j))))
      = ((wt (k j) (t j) / ∑ i, wt (k i) (t i) : ℝ) : EReal) := by
  obtain ⟨s, hs⟩ := sup_seen k (fun j => Real.log 2 * t j) j₀ h₀
  rw [hs, max_eq_right bot_le, zero_add]
  simp only [exp_seen]
  rw [← coe_sum, ← Finset.sum_mul]
  have hp := Real.exp_pos (-s)
  have hZ : 0 < ∑ i, wt (k i) (t i) :=
    Finset.sum_pos' (fun i _ => wt_nonneg _ _) ⟨j₀, Finset.mem_univ _, by unfold wt; rw [if_pos h₀]; exact Real.exp_pos _⟩
  rw [div_real _ _ (mul_pos hZ hp).ne', mul_div_mul_right _ _ hp.ne']

/-- The reference's sum over the keys of the two maps' shares is the difference of the two maps' quotients. -/
theorem mix_eq {n : ℕ} (w p0 p1 : Fin n → ℝ) (Z0 Z1 lam : ℝ) :
    ∑ j, (w j : EReal) * (((p0 j / Z0 : ℝ) : EReal) - (lam : EReal) * ((p1 j / Z1 : ℝ) : EReal))
      = (((∑ j, w j * p0 j) / Z0 - lam * ((∑ j, w j * p1 j) / Z1) : ℝ) : EReal) := by
  have : ∀ j, (w j : EReal) * (((p0 j / Z0 : ℝ) : EReal) - (lam : EReal) * ((p1 j / Z1 : ℝ) : EReal))
      = ((w j * p0 j / Z0 - lam * (w j * p1 j / Z1) : ℝ) : EReal) := fun j => by
    rw [← EReal.coe_mul, ← EReal.coe_sub, ← EReal.coe_mul]; congr 1; ring
  simp only [this]
  rw [← coe_sum, Finset.sum_sub_distrib, ← Finset.mul_sum, ← Finset.sum_div, ← Finset.sum_div]

end Cert.KernelIdeal.Diff
-- ==== Proof.Diff.Entry.lean ====
/-
  The attention body's arithmetic read at one entry, over the extended reals.
-/
module

public import proofs.«01_k».proof.Proof.Diff.Step
public import proofs.«01_k».proof.Proof.Diff.Softmax
public import Idealize.ShloMosaic.Lib.Pointwise
public import Idealize.ShloMosaic.Lib.WordCmp

@[expose] public section

set_option maxRecDepth 16384

noncomputable section

namespace Cert.KernelIdeal.Diff

open Cert.KernelIdeal Cert.KernelIdeal.Gen
open Idealize.ShloMosaic

theorem least_word : Ideal.ofBits .f32 0xFF800000#32 = ⊥ := by
  simp only [Ideal.ofBits, Ideal.ieee]
  rw [if_pos (by decide), if_pos (by decide), if_pos (by decide)]

theorem select_prop {α : Type} (c : BitVec 1) (p : Prop) [Decidable p] (h : c = 1#1 ↔ p) (a b : α) :
    Scalar.select c a b = if p then a else b := by
  unfold Scalar.select
  exact if_congr h rfl rfl

/-! ## Blocks -/

/-- Place `j` of block `b` of 512. -/
def at512 (b : Fin 4) (j : Fin 512) : Fin 2048 := ⟨512 * b.val + j.val, by omega⟩
/-- Lane `d` of map `c`'s 64. -/
def at64 (c : Fin 4) (d : Fin 64) : Fin 256 := ⟨64 * c.val + d.val, by omega⟩
/-- Lane `e` of head `h`'s 128. -/
def at128 (h : Fin 2) (e : Fin 128) : Fin 256 := ⟨128 * h.val + e.val, by omega⟩
/-- The even map of a head, -/
def evenOf (h : Fin 2) : Fin 4 := ⟨2 * h.val, by omega⟩
/-- and the odd one. -/
def oddOf (h : Fin 2) : Fin 4 := ⟨2 * h.val + 1, by omega⟩

theorem rowBlk_apply (X : Vec Ideal S1x2048x256 .bf16) (b : Fin 4) (h : Fin 2) (r : Fin 512) (d : Fin 128) :
    rowBlk X b h (ix3 0 r d) = X (ix3 0 (at512 b r) (at128 h d)) := by
  unfold rowBlk at512 at128
  pointwise

theorem colBlk_apply (X : Vec Ideal S256x2048 .bf16) (b : Fin 4) (h : Fin 2) (e : Fin 128) (j : Fin 512) :
    colBlk X b h (ix2 e j) = X (ix2 (at128 h e) (at512 b j)) := by
  unfold colBlk at512 at128
  pointwise

/-! ## Scores -/

theorem lane_even (x : Fin 128) : IntOp.cmpi CmpIPredicate.slt (BitVec.ofNat 32 x.val) 64#32 = 1#1 ↔ x.val < 64 := by
  rw [show (64#32 : BitVec 32) = BitVec.ofNat 32 64 from rfl]
  exact WordCmp.cmpi_slt_ofNat_eq_one_iff (by have := x.isLt; omega) (by norm_num)

/-- The product of key `K` and query `R` over map `c`'s lanes. -/
def prod (kr qr : Fin 2048 → Fin 256 → ℝ) (c : Fin 4) (K R : Fin 2048) : ℝ := ∑ d, kr K (at64 c d) * qr R (at64 c d)

variable {k q : Vec Ideal S1x2048x256 .bf16} {kr qr : Fin 2048 → Fin 256 → ℝ}

theorem scEven_apply (hk : ∀ s e, k (ix3 0 s e) = ((kr s e : ℝ) : EReal)) (hq : ∀ s e, q (ix3 0 s e) = ((qr s e : ℝ) : EReal))
    (i b : Fin 4) (h : Fin 2) (j r : Fin 512) :
    scEven (rowBlk k b h) (rowBlk q i h) (ix2 j r) = ((prod kr qr (evenOf h) (at512 b j) (at512 i r) : ℝ) : EReal) := by
  unfold scEven evenLanes
  pointwise
  simp only [select_prop _ _ (lane_even _), rowBlk_apply, hk, hq]
  rw [Fin.sum_univ_two_halves 64 64 rfl]
  simp only [Fin.is_lt, if_true, show ∀ x : Fin 64, ¬ (64 + x.val < 64) from fun x => by omega, if_false,
    Finset.sum_const_zero, add_zero]
  unfold prod
  rw [coe_sum]
  refine Finset.sum_congr rfl fun d _ => ?_
  rw [← EReal.coe_mul]
  have : at128 h ⟨d.val, by omega⟩ = at64 (evenOf h) d := Fin.ext (by simp only [at128, at64, evenOf]; omega)
  rw [this]

theorem scOdd_apply (hk : ∀ s e, k (ix3 0 s e) = ((kr s e : ℝ) : EReal)) (hq : ∀ s e, q (ix3 0 s e) = ((qr s e : ℝ) : EReal))
    (i b : Fin 4) (h : Fin 2) (j r : Fin 512) :
    scOdd (rowBlk k b h) (rowBlk q i h) (ix2 j r) = ((prod kr qr (oddOf h) (at512 b j) (at512 i r) : ℝ) : EReal) := by
  unfold scOdd evenLanes
  pointwise
  simp only [select_prop _ _ (lane_even _), rowBlk_apply, hk, hq]
  rw [Fin.sum_univ_two_halves 64 64 rfl]
  simp only [Fin.is_lt, if_true, show ∀ x : Fin 64, ¬ (64 + x.val < 64) from fun x => by omega, if_false,
    Finset.sum_const_zero, zero_add]
  unfold prod
  rw [coe_sum]
  refine Finset.sum_congr rfl fun d _ => ?_
  rw [← EReal.coe_mul]
  have : at128 h ⟨64 + d.val, by omega⟩ = at64 (oddOf h) d := Fin.ext (by simp only [at128, at64, oddOf]; omega)
  rw [this]

theorem plain_apply (s : FVec Ideal S512x512 .f32) (j r : Fin 512) : plain (slot s) (ix2 j r) = s (ix2 j r) := by
  unfold plain unslot slot
  pointwise

theorem masked_apply (s : FVec Ideal S512x512 .f32) (j r : Fin 512) :
    masked (slot s) (ix2 j r) = if j ≤ r then s (ix2 j r) else ⊥ := by
  unfold masked keep unslot slot
  pointwise
  rw [select_prop _ _ (WordCmp.cmpi_sle_ofNat_eq_one_iff (by have := j.isLt; omega) (by have := r.isLt; omega)), least_word]
  rfl

/-! ## One step -/

theorem mx_apply (s : FVec Ideal S512x512 .f32) (m : Vec Ideal S1x1x512 .f32) (r : Fin 512) :
    mx s m (ix2 0 r) = max (m (ix3 0 0 r)) (Finset.univ.sup fun j => s (ix2 j r)) := by
  unfold mx
  pointwise
  rw [least_word]
  rfl

theorem stM_apply (s : FVec Ideal S512x512 .f32) (m : Vec Ideal S1x1x512 .f32) (r : Fin 512) :
    stM s m (ix3 0 0 r) = max (m (ix3 0 0 r)) (Finset.univ.sup fun j => s (ix2 j r)) := by
  rw [← mx_apply]
  unfold stM
  pointwise

theorem stL_apply (s : FVec Ideal S512x512 .f32) (m l : Vec Ideal S1x1x512 .f32) (r : Fin 512) :
    stL s m l (ix3 0 0 r) = Ideal.exp2 (m (ix3 0 0 r) - mx s m (ix2 0 r)) * l (ix3 0 0 r)
      + ∑ j, Ideal.exp2 (s (ix2 j r) - mx s m (ix2 0 r)) := by
  unfold stL al pr
  pointwise
  rfl

theorem stA_apply (s : FVec Ideal S512x512 .f32) (m : Vec Ideal S1x1x512 .f32) (v : Vec Ideal S128x512 .bf16)
    (a : Vec Ideal S1x128x512 .f32) (e : Fin 128) (r : Fin 512) :
    stA s m v a (ix3 0 e r) = Ideal.exp2 (m (ix3 0 0 r) - mx s m (ix2 0 r)) * a (ix3 0 e r)
      + ∑ j, v (ix2 e j) * Ideal.exp2 (s (ix2 j r) - mx s m (ix2 0 r)) := by
  unfold stA al pr
  pointwise
  rfl

/-! ## The result -/

/-- Lane `e` of a head's result from the 128 lanes of its two quotients' difference: the norm, its weights, the factor. -/
def normed (o : Fin 128 → EReal) (g : EReal) (e : Fin 128) : EReal :=
  o e * Ideal.rsqrt (Ideal.div (∑ x, o x * o x) (Ideal.ofBits .f32 0x43000000#32) + Ideal.ofBits .f32 0x3727C5AC#32)
    * g * Ideal.ofBits .f32 0x3F4CCCCD#32

theorem outp_apply (lam : FVec Ideal S1x1 .f32) (g : Vec Ideal S1x128 .f32) (a0 : Vec Ideal S1x128x512 .f32)
    (l0 : Vec Ideal S1x1x512 .f32) (a1 : Vec Ideal S1x128x512 .f32) (l1 : Vec Ideal S1x1x512 .f32) (r : Fin 512) (e : Fin 128) :
    outp lam g a0 l0 a1 l1 (ix3 0 r e)
      = normed (fun x => Ideal.div (a0 (ix3 0 x r)) (l0 (ix3 0 0 r)) - lam (ix2 0 0) * Ideal.div (a1 (ix3 0 x r)) (l1 (ix3 0 0 r)))
          (g (ix2 0 e)) e := by
  unfold outp k0_pay2 k0_pay357 normed
  pointwise

theorem lamOf_apply (X : Ctx Ideal) :
    lamOf X (ix2 0 0) = Ideal.exp (∑ x, X.lam (ix2 0 x) * X.lam (ix2 1 x)) - Ideal.exp (∑ x, X.lam (ix2 2 x) * X.lam (ix2 3 x))
      + Ideal.ofBits .f32 0x3E4CCCCD#32 := by
  unfold lamOf k0_pay359
  pointwise

theorem gOf_apply (X : Ctx Ideal) (e : Fin 128) : gOf X (ix2 0 e) = X.g (ix2 0 e) := by
  unfold gOf
  pointwise

end Cert.KernelIdeal.Diff
-- ==== Proof.Diff.Total.lean ====
/-
  What a tile has gathered at its end, over the extended reals: of every column its query's sums over all the keys that
  the query sees.
-/
module

public import proofs.«01_k».proof.Proof.Diff.Entry
public import Idealize.ShloMosaic.Lib.Pipeline.ValueKit

@[expose] public section

set_option maxRecDepth 16384

noncomputable section

namespace Cert.KernelIdeal.Diff

open Cert.KernelIdeal Cert.KernelIdeal.Gen
open Idealize.ShloMosaic

/-- The inputs of one batch and pair of heads as real numbers. -/
structure RealIn (X : Ctx Ideal) where
  kr : Fin 2048 → Fin 256 → ℝ
  qr : Fin 2048 → Fin 256 → ℝ
  vr : Fin 256 → Fin 2048 → ℝ
  hk : ∀ s e, X.k (ix3 0 s e) = ((kr s e : ℝ) : EReal)
  hq : ∀ s e, X.q (ix3 0 s e) = ((qr s e : ℝ) : EReal)
  hv : ∀ e s, X.v (ix2 e s) = ((vr e s : ℝ) : EReal)

/-- A map's head. -/
def headOfMap (c : Fin 4) : Fin 2 := ⟨c.val / 2, by omega⟩

variable {X : Ctx Ideal} (D : RealIn X)

/-- Key `K`'s weight for query `R` in map `c`. -/
def weight (c : Fin 4) (K R : Fin 2048) : ℝ := wt (K ≤ R) (prod D.kr D.qr c K R)

/-- The weights' sum over key block `b`, -/
def zBlk (c : Fin 4) (R : Fin 2048) (b : Fin 4) : ℝ := ∑ j, weight D c (at512 b j) R
/-- and the weighted sum of the values' lane `e`. -/
def nBlk (c : Fin 4) (R : Fin 2048) (e : Fin 128) (b : Fin 4) : ℝ :=
  ∑ j, D.vr (at128 (headOfMap c) e) (at512 b j) * weight D c (at512 b j) R

theorem holds_of {M L A : EReal} {Z N Z' N' : ℝ} (h : Holds M L A Z N) (hZ : Z' = Z) (hN : N' = N) : Holds M L A Z' N' := by
  rw [hZ, hN]; exact h

/-- Every column of query block `i` and every lane hold the given sums in map `c`. -/
def MapHolds (c i : Fin 4) (r : Run Ideal) (Z : Fin 512 → ℝ) (N : Fin 512 → Fin 128 → ℝ) : Prop :=
  ∀ x e, Holds (r.M.get c (ix3 0 0 x)) (r.L.get c (ix3 0 0 x)) (r.A.get c (ix3 0 e x)) (Z x) (N x e)

theorem run0_holds (c i : Fin 4) : MapHolds c i run0 (fun _ => 0) (fun _ _ => 0) := by
  intro x e
  have hM : (run0 (F := Ideal)).M.get c (ix3 0 0 x) = (⊥ : EReal) := by
    have : (run0 (F := Ideal)).M.get c = shapeCast S1x1x512 (broadcast S1x512 (Scalar.ofBits (F := Ideal) .f32 0xFF800000#32)) shapeCasts_S1x512_S1x1x512 := by
      fin_cases c <;> rfl
    rw [this]; pointwise; exact least_word
  have hL : (run0 (F := Ideal)).L.get c (ix3 0 0 x) = (0 : EReal) := by
    have : (run0 (F := Ideal)).L.get c = shapeCast S1x1x512 (broadcast S1x512 (Scalar.ofBits (F := Ideal) .f32 0x00000000#32)) shapeCasts_S1x512_S1x1x512 := by
      fin_cases c <;> rfl
    rw [this]; pointwise
  have hA : (run0 (F := Ideal)).A.get c (ix3 0 e x) = (0 : EReal) := by
    have : (run0 (F := Ideal)).A.get c = shapeCast S1x128x512 (broadcast S128x512 (Scalar.ofBits (F := Ideal) .f32 0x00000000#32)) shapeCasts_S128x512_S1x128x512 := by
      fin_cases c <;> rfl
    rw [this]; pointwise
  rw [hM, hL, hA]
  exact holds_start

/-- One step at one column, the scores given. -/
theorem step_column {s : FVec Ideal S512x512 .f32} {m l : Vec Ideal S1x1x512 .f32} {v : Vec Ideal S128x512 .bf16}
    {a : Vec Ideal S1x128x512 .f32} {e : Fin 128} {x : Fin 512} {Z N : ℝ}
    (h : Holds (m (ix3 0 0 x)) (l (ix3 0 0 x)) (a (ix3 0 e x)) Z N)
    (k : Fin 512 → Prop) [DecidablePred k] (t w : Fin 512 → ℝ) (hs : ∀ j, s (ix2 j x) = seen (k j) (t j))
    (hw : ∀ j, v (ix2 e j) = ((w j : ℝ) : EReal)) (j₀ : Fin 512) (h₀ : k j₀) :
    Holds (stM s m (ix3 0 0 x)) (stL s m l (ix3 0 0 x)) (stA s m v a (ix3 0 e x))
      (Z + ∑ j, wt (k j) (t j)) (N + ∑ j, w j * wt (k j) (t j)) := by
  rw [stM_apply, stL_apply, stA_apply, mx_apply]
  simp only [hs, hw]
  exact holds_step h k t w j₀ h₀

/-- The score slots of key block `b` against query block `i`. -/
theorem scores_get (c i b : Fin 4) : ∃ s : FVec Ideal S512x512 .f32, (scores X i b).get c = slot s
    ∧ ∀ j x, s (ix2 j x) = ((prod D.kr D.qr c (at512 b j) (at512 i x) : ℝ) : EReal) := by
  fin_cases c
  · exact ⟨_, rfl, fun j x => scEven_apply D.hk D.hq i b 0 j x⟩
  · exact ⟨_, rfl, fun j x => scOdd_apply D.hk D.hq i b 0 j x⟩
  · exact ⟨_, rfl, fun j x => scEven_apply D.hk D.hq i b 1 j x⟩
  · exact ⟨_, rfl, fun j x => scOdd_apply D.hk D.hq i b 1 j x⟩

theorem stepBy_get (f : Vec Ideal S1x512x512 .f32 → FVec Ideal S512x512 .f32) (c i b : Fin 4) (r : Run Ideal) :
    (stepBy X f i b r).M.get c = stM (f ((scores X i b).get c)) (r.M.get c)
    ∧ (stepBy X f i b r).L.get c = stL (f ((scores X i b).get c)) (r.M.get c) (r.L.get c)
    ∧ (stepBy X f i b r).A.get c = stA (f ((scores X i b).get c)) (r.M.get c) (colBlk X.v b (headOfMap c)) (r.A.get c) := by
  fin_cases c <;> exact ⟨rfl, rfl, rfl⟩

/-- A step over a block of which every query sees its first key. -/
theorem step_holds (f : Vec Ideal S1x512x512 .f32 → FVec Ideal S512x512 .f32) (c i b : Fin 4) (hb : b ≤ i)
    (hf : ∀ (s : FVec Ideal S512x512 .f32) (j x : Fin 512) (t : ℝ), s (ix2 j x) = ((t : ℝ) : EReal) →
      f (slot s) (ix2 j x) = seen (at512 b j ≤ at512 i x) t)
    {r : Run Ideal} {Z : Fin 512 → ℝ} {N : Fin 512 → Fin 128 → ℝ} (h : MapHolds c i r Z N) :
    MapHolds c i (stepBy X f i b r) (fun x => Z x + zBlk D c (at512 i x) b) (fun x e => N x e + nBlk D c (at512 i x) e b) := by
  intro x e
  obtain ⟨s, hs, hv⟩ := scores_get D c i b
  obtain ⟨eM, eL, eA⟩ := stepBy_get (X := X) f c i b r
  rw [eM, eL, eA, hs]
  refine step_column (h x e) (fun j => at512 b j ≤ at512 i x) (fun j => prod D.kr D.qr c (at512 b j) (at512 i x))
    (fun j => D.vr (at128 (headOfMap c) e) (at512 b j)) (fun j => hf s j x _ (hv j x)) (fun j => ?_) 0 ?_
  · rw [colBlk_apply]; exact D.hv _ _
  · show 512 * b.val + 0 ≤ 512 * i.val + x.val
    have : b.val ≤ i.val := hb
    omega

theorem stepD_holds (c i : Fin 4) {r : Run Ideal} {Z : Fin 512 → ℝ} {N : Fin 512 → Fin 128 → ℝ} (h : MapHolds c i r Z N) :
    MapHolds c i (stepD X i r) (fun x => Z x + zBlk D c (at512 i x) i) (fun x e => N x e + nBlk D c (at512 i x) e i) :=
  step_holds D masked c i i le_rfl (fun s j x t hs => by
    rw [masked_apply, hs]
    unfold seen
    refine if_congr ?_ rfl rfl
    show j.val ≤ x.val ↔ 512 * i.val + j.val ≤ 512 * i.val + x.val
    omega) h

theorem stepP_holds (c i b : Fin 4) (hb : b < i) {r : Run Ideal} {Z : Fin 512 → ℝ} {N : Fin 512 → Fin 128 → ℝ}
    (h : MapHolds c i r Z N) :
    MapHolds c i (stepP X i b r) (fun x => Z x + zBlk D c (at512 i x) b) (fun x e => N x e + nBlk D c (at512 i x) e b) :=
  step_holds D plain c i b hb.le (fun s j x t hs => by
    rw [plain_apply, hs]
    unfold seen
    rw [if_pos]
    show 512 * b.val + j.val ≤ 512 * i.val + x.val
    have : b.val < i.val := hb
    have := j.isLt
    omega) h

/-- Later keys weigh nothing. -/
theorem weight_later (c i b : Fin 4) (hb : i < b) (j x : Fin 512) : weight D c (at512 b j) (at512 i x) = 0 := by
  unfold weight wt
  rw [if_neg]
  show ¬ 512 * b.val + j.val ≤ 512 * i.val + x.val
  have : i.val < b.val := hb
  have := x.isLt
  omega

theorem zBlk_later (c i b : Fin 4) (hb : i < b) (x : Fin 512) : zBlk D c (at512 i x) b = 0 :=
  Finset.sum_eq_zero fun j _ => weight_later D c i b hb j x

theorem nBlk_later (c i b : Fin 4) (hb : i < b) (x : Fin 512) (e : Fin 128) : nBlk D c (at512 i x) e b = 0 :=
  Finset.sum_eq_zero fun j _ => by rw [weight_later D c i b hb j x, mul_zero]

/-- Blocks of 512 keys make up the 2048. -/
theorem sum_blocks (f : Fin 2048 → ℝ) : ∑ b, ∑ j, f (at512 b j) = ∑ K, f K := by
  rw [← Fintype.sum_prod_type']
  refine Fintype.sum_equiv (finProdFinEquiv (m := 4) (n := 512)) _ _ fun p => congrArg f (Fin.ext ?_)
  show 512 * p.1.val + p.2.val = p.2.val + 512 * p.1.val
  omega

/-- What tile `i` holds at its end. -/
theorem gathered_holds (c i : Fin 4) : MapHolds c i (gathered X i)
    (fun x => ∑ K, weight D c K (at512 i x))
    (fun x e => ∑ K, D.vr (at128 (headOfMap c) e) K * weight D c K (at512 i x)) := by
  have hz : ∀ x, (∑ K, weight D c K (at512 i x)) = ∑ b, zBlk D c (at512 i x) b := fun x => (sum_blocks _).symm
  have hn : ∀ x e, (∑ K, D.vr (at128 (headOfMap c) e) K * weight D c K (at512 i x)) = ∑ b, nBlk D c (at512 i x) e b :=
    fun x e => (sum_blocks fun K => D.vr (at128 (headOfMap c) e) K * weight D c K (at512 i x)).symm
  simp only [hz, hn, Fin.sum_univ_four]
  intro x e
  have zl := fun b hb => zBlk_later D c i b hb x
  have nl := fun b hb => nBlk_later D c i b hb x e
  have hd := stepD_holds D c i (run0_holds c i)
  have hi : i = 0 ∨ i = 1 ∨ i = 2 ∨ i = 3 := (by decide : ∀ i : Fin 4, i = 0 ∨ i = 1 ∨ i = 2 ∨ i = 3) i
  obtain rfl | rfl | rfl | rfl := hi
  · refine holds_of (hd x e) ?_ ?_
    · beta_reduce; rw [zl 1 (by decide), zl 2 (by decide), zl 3 (by decide)]; ring
    · beta_reduce; rw [nl 1 (by decide), nl 2 (by decide), nl 3 (by decide)]; ring
  · refine holds_of (stepP_holds D c 1 0 (by decide) hd x e) ?_ ?_
    · beta_reduce; rw [zl 2 (by decide), zl 3 (by decide)]; ring
    · beta_reduce; rw [nl 2 (by decide), nl 3 (by decide)]; ring
  · refine holds_of (stepP_holds D c 2 0 (by decide) (stepP_holds D c 2 1 (by decide) hd) x e) ?_ ?_
    · beta_reduce; rw [zl 3 (by decide)]; ring
    · beta_reduce; rw [nl 3 (by decide)]; ring
  · refine holds_of (stepP_holds D c 3 0 (by decide) (stepP_holds D c 3 1 (by decide) (stepP_holds D c 3 2 (by decide) hd)) x e) ?_ ?_
    · beta_reduce; ring
    · beta_reduce; ring

/-- A query's weights have a positive sum: it sees itself. -/
theorem weight_sum_pos (c : Fin 4) (R : Fin 2048) : 0 < ∑ K, weight D c K R :=
  Finset.sum_pos' (fun K _ => wt_nonneg _ _) ⟨R, Finset.mem_univ _, by unfold weight wt; rw [if_pos le_rfl]; exact Real.exp_pos _⟩

/-- A map's attention: the weighted mean of the values' lane `e`. -/
def mean (c : Fin 4) (R : Fin 2048) (e : Fin 128) : ℝ :=
  (∑ K, D.vr (at128 (headOfMap c) e) K * weight D c K R) / ∑ K, weight D c K R

theorem quotient_eq (c i : Fin 4) (x : Fin 512) (e : Fin 128) :
    Ideal.div ((gathered X i).A.get c (ix3 0 e x)) ((gathered X i).L.get c (ix3 0 0 x)) = ((mean D c (at512 i x) e : ℝ) : EReal) :=
  holds_div (gathered_holds D c i x e) (weight_sum_pos D c _)

theorem headOut_get (r : Run Ideal) (h : Fin 2) : headOut X r h
    = outp (lamOf X) (gOf X) (r.A.get (evenOf h)) (r.L.get (evenOf h)) (r.A.get (oddOf h)) (r.L.get (oddOf h)) := by
  fin_cases h <;> rfl

/-- A head's result for query `x` of block `i`, in lane `e`. -/
theorem headOut_apply (i : Fin 4) (h : Fin 2) (x : Fin 512) (e : Fin 128) (lam : ℝ) (hl : lamOf X (ix2 0 0) = ((lam : ℝ) : EReal)) :
    headOut X (gathered X i) h (ix3 0 x e)
      = normed (fun a => ((mean D (evenOf h) (at512 i x) a - lam * mean D (oddOf h) (at512 i x) a : ℝ) : EReal)) (X.g (ix2 0 e)) e := by
  rw [headOut_get, outp_apply, gOf_apply, hl]
  congr 1
  funext a
  rw [quotient_eq D, quotient_eq D, ← EReal.coe_mul, ← EReal.coe_sub]

end Cert.KernelIdeal.Diff
-- ==== Proof.Diff.Inputs.lean ====
/-
  The inputs of the attention call's body at a grid point as real numbers, when the arguments' entries are real numbers.
-/
module

public import proofs.«01_k».proof.Proof.Diff.Blocks
public import proofs.«01_k».proof.Proof.Diff.Run
public import proofs.«01_k».proof.Proof.Diff.Total

@[expose] public section

set_option maxRecDepth 16384

noncomputable section

namespace Cert.KernelIdeal.Diff

open Cert.KernelIdeal Cert.KernelIdeal.Gen
open Idealize.ShloMosaic Idealize.ShloMosaic.TcCoe

theorem two_word : Ideal.ofBits .f32 0x40000000#32 = ((2 : ℝ) : EReal) := by
  simp [Ideal.ofBits, Ideal.ieee, -EReal.coe_mul]; norm_num

theorem eighth_word : Ideal.ofBits .f32 0x3E000000#32 = ((1 / 8 : ℝ) : EReal) := by
  simp [Ideal.ofBits, Ideal.ieee, -EReal.coe_mul]; norm_num

/-- The word that is added to lam is a real number. -/
theorem offset_word : ∃ r : ℝ, Ideal.ofBits .f32 0x3E4CCCCD#32 = (r : EReal) := by
  simp only [Ideal.ofBits, Ideal.ieee]
  exact ⟨13421773 * (2 ^ 26)⁻¹, by simp [-EReal.coe_mul]⟩

theorem scaleQ_eq : scaleQ = ((1 / 8 / Real.log 2 : ℝ) : EReal) := by
  unfold scaleQ
  rw [two_word, eighth_word]
  have : Ideal.log ((2 : ℝ) : EReal) = ((Real.log 2 : ℝ) : EReal) := by
    rw [Ideal.log_coe, if_neg (by norm_num)]
  rw [this]
  exact div_real _ _ (Real.log_pos (by norm_num)).ne'

theorem ix4_congr {n0 n1 n2 n3 : ℕ} {a a' : Fin n0} {b b' : Fin n1} {d d' : Fin n2} {e e' : Fin n3}
    (ha : a.val = a'.val) (hb : b.val = b'.val) (hd : d.val = d'.val) (he : e.val = e'.val) : ix4 a b d e = ix4 a' b' d' e' := by
  rw [Fin.ext ha, Fin.ext hb, Fin.ext hd, Fin.ext he]

variable (m : (ℓ : Loc nD τ sig) → Buf (Elt Ideal) ℓ) (c : Dev nD) (t : Fin cfg0.N)

theorem q_entry (s : Fin 2048) (e : Fin 256) : (ctxAt m c t).q (ix3 0 s e)
    = (A0 m c (ix4 (batch t) s ⟨4 * (t.val % 2) + e.val / 64, by omega⟩ ⟨e.val % 64, by omega⟩) : EReal) * scaleQ := by
  refine (q_at m c t s e).trans ((v9_query m c _ _ e (by dsimp only; omega)).trans ?_)
  rw [ix4_congr]
  all_goals dsimp only <;> omega

theorem k_entry (s : Fin 2048) (e : Fin 256) : (ctxAt m c t).k (ix3 0 s e)
    = A1 m c (ix4 (batch t) s ⟨4 * (t.val % 2) + e.val / 64, by omega⟩ ⟨e.val % 64, by omega⟩) := by
  refine (k_at m c t s e).trans ((v9_key m c _ _ e (by dsimp only; omega)).trans ?_)
  rw [ix4_congr]
  all_goals dsimp only <;> omega

theorem v_entry (e : Fin 256) (s : Fin 2048) : (ctxAt m c t).v (ix2 e s)
    = A2 m c (ix4 (batch t) s ⟨2 * (t.val % 2) + e.val / 128, by omega⟩ ⟨e.val % 128, by omega⟩) := by
  refine (v_at m c t e s).trans ((v12_at m c _ _).trans ?_)
  rw [ix4_congr]
  all_goals dsimp only <;> omega

theorem g_entry (e : Fin 128) : (ctxAt m c t).g (ix2 0 e) = A7 m c (ix2 0 e) := (g_at m c t e).trans (v23_at m c e)

theorem lam_entry : lamOf (ctxAt m c t) (ix2 0 0) = Ideal.exp (∑ x, (A3 m c (ix2 0 x) : EReal) * A4 m c (ix2 0 x))
    - Ideal.exp (∑ x, (A5 m c (ix2 0 x) : EReal) * A6 m c (ix2 0 x)) + Ideal.ofBits .f32 0x3E4CCCCD#32 := by
  rw [lamOf_apply]
  have e0 : ∀ x, (ctxAt m c t).lam (ix2 0 x) = A3 m c (ix2 0 x) := fun x => (lam_at m c t 0 x).trans (v21_at m c x).1
  have e1 : ∀ x, (ctxAt m c t).lam (ix2 1 x) = A4 m c (ix2 0 x) := fun x => (lam_at m c t 1 x).trans (v21_at m c x).2.1
  have e2 : ∀ x, (ctxAt m c t).lam (ix2 2 x) = A5 m c (ix2 0 x) := fun x => (lam_at m c t 2 x).trans (v21_at m c x).2.2.1
  have e3 : ∀ x, (ctxAt m c t).lam (ix2 3 x) = A6 m c (ix2 0 x) := fun x => (lam_at m c t 3 x).trans (v21_at m c x).2.2.2
  simp only [e0, e1, e2, e3]

/-- Real numbers for an array's entries. -/
def Real4 {n0 n1 n2 n3 : ℕ} (a : FVec Ideal ⟨4, ![n0, n1, n2, n3]⟩ .f32) (r : Fin n0 → Fin n1 → Fin n2 → Fin n3 → ℝ) : Prop :=
  ∀ b i h d, a (ix4 b i h d) = ((r b i h d : ℝ) : EReal)

variable {q k : Fin 32 → Fin 2048 → Fin 8 → Fin 64 → ℝ} {v : Fin 32 → Fin 2048 → Fin 4 → Fin 128 → ℝ}

/-- The body's inputs at a point. -/
def inputs (hq : Real4 (A0 m c) q) (hk : Real4 (A1 m c) k) (hv : Real4 (A2 m c) v) : RealIn (ctxAt m c t) where
  kr s e := k (batch t) s ⟨4 * (t.val % 2) + e.val / 64, by omega⟩ ⟨e.val % 64, by omega⟩
  qr s e := q (batch t) s ⟨4 * (t.val % 2) + e.val / 64, by omega⟩ ⟨e.val % 64, by omega⟩ * (1 / 8 / Real.log 2)
  vr e s := v (batch t) s ⟨2 * (t.val % 2) + e.val / 128, by omega⟩ ⟨e.val % 128, by omega⟩
  hk s e := (k_entry m c t s e).trans (hk _ _ _ _)
  hq s e := by rw [q_entry, hq, scaleQ_eq, EReal.coe_mul]
  hv e s := (v_entry m c t e s).trans (hv _ _ _ _)

end Cert.KernelIdeal.Diff
-- ==== Proof.Diff.Reference.lean ====
/-
  The reference in stages — scores under the mask, softmax, the difference of a head's two maps, the product with the values, the
  normalisation — and each stage read at an index.
-/
module

public import proofs.«01_k».proof.Proof.Gen.ReferenceIdeal.Run
public import proofs.«01_k».proof.Proof.Diff.Entry
public import Idealize.ShloMosaic.Lib.Pointwise
public import Idealize.ShloMosaic.Lib.WordCmp
public import Idealize.ShloMosaic.Lib.Pipeline.ValueKit
public import Idealize.ShloMosaic.Lib.Claim

@[expose] public section

set_option maxRecDepth 16384

noncomputable section

namespace Cert.ReferenceIdeal.Attn

open Cert.ReferenceIdeal Cert.ReferenceIdeal.Gen
open Idealize.ShloMosaic Idealize.ShloMosaic.TcCoe

variable (a0 a1 : FVec Ideal S32x2048x8x64 .f32) (a2 : FVec Ideal S32x2048x4x128 .f32)
variable (a3 a4 a5 a6 : FVec Ideal S1x64 .f32) (a7 : FVec Ideal S1x128 .f32)

/-- One where a key is seen by a query. -/
def mask : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The scores, least where the key is not seen. -/
def scores : FVec Ideal S32x8x2048x2048 .f32 :=
  select (broadcastInDim S32x8x2048x2048 ![2, 3] bcast_S2048x2048_S32x8x2048x2048_2_3 mask)
    (mulf (Host.dotGeneral dot_S32x2048x8x64_S32x2048x8x64_S32x8x2048x2048_3_3_1_1_02_02 none a0 a1)
      (broadcastInDim S32x8x2048x2048 ![] bcast_S_S32x8x2048x2048 (constant S_ .f32 0x3E000000#32)))
    (broadcastInDim S32x8x2048x2048 ![] bcast_S_S32x8x2048x2048 (id (constant S_ .f32 0xFF800000#32)))

variable (s : FVec Ideal S32x8x2048x2048 .f32)

/-- A row's largest score. -/
def largest : FVec Ideal S32x8x2048 .f32 :=
  Host.reduce FloatOps.maximumf s (constant S_ .f32 0xFF800000#32) reducesTo_S32x8x2048x2048_S32x8x2048_d3 h_S_

/-- The same, at least the least number. -/
def top : FVec Ideal S32x8x2048 .f32 :=
  maximumf (broadcastInDim S32x8x2048 ![] bcast_S_S32x8x2048 (constant S_ .f32 0xFF800000#32)) (largest s)

/-- A value for each row, at every place of the row. -/
def spread (x : FVec Ideal S32x8x2048 .f32) : FVec Ideal S32x8x2048x2048 .f32 :=
  broadcastInDim S32x8x2048x2048 ![0, 1, 2, 3] bcast_S32x8x2048x1_S32x8x2048x2048_0_1_2_3
    (broadcastInDim S32x8x2048x1 ![0, 1, 2] bcast_S32x8x2048_S32x8x2048x1_0_1_2 x)

/-- The exponentials of the scores, against the row's largest. -/
def powers : FVec Ideal S32x8x2048x2048 .f32 := Host.exp (subf s (spread (top s)))

/-- The softmax of the scores. -/
def shares : FVec Ideal S32x8x2048x2048 .f32 :=
  Host.divf (powers s) (spread (Host.reduceAdd (powers s) (constant S_ .f32 0x00000000#32) reducesTo_S32x8x2048x2048_S32x8x2048_d3 h_S_))

/-- The factor of the second map. -/
def lam : FVec Ideal S_ .f32 :=
  addf (subf
      (Host.exp (Host.reduceAdd (mulf (shapeCast _ a3 shapeCasts_S1x64_S64) (shapeCast _ a4 shapeCasts_S1x64_S64)) (constant S_ .f32 0x00000000#32) reducesTo_S64_S_d0 h_S_))
      (Host.exp (Host.reduceAdd (mulf (shapeCast _ a5 shapeCasts_S1x64_S64) (shapeCast _ a6 shapeCasts_S1x64_S64)) (constant S_ .f32 0x00000000#32) reducesTo_S64_S_d0 h_S_)))
    (constant S_ .f32 0x3E4CCCCD#32)

/-- The difference of a head's two maps. -/
def differ (l : FVec Ideal S_ .f32) (p : FVec Ideal S32x8x2048x2048 .f32) : FVec Ideal S32x4x2048x2048 .f32 :=
  subf (shapeCast _ (extractStridedSlice S32x4x1x2048x2048 ![0, 0, 0, 0, 0] (shapeCast _ p shapeCasts_S32x8x2048x2048_S32x4x2x2048x2048) slices_S32x4x2x2048x2048_S32x4x1x2048x2048_0_0_0_0_0) shapeCasts_S32x4x1x2048x2048_S32x4x2048x2048)
    (mulf (broadcastInDim S32x4x2048x2048 ![] bcast_S_S32x4x2048x2048 l)
      (shapeCast _ (extractStridedSlice S32x4x1x2048x2048 ![0, 0, 1, 0, 0] (shapeCast _ p shapeCasts_S32x8x2048x2048_S32x4x2x2048x2048) slices_S32x4x2x2048x2048_S32x4x1x2048x2048_0_0_1_0_0) shapeCasts_S32x4x1x2048x2048_S32x4x2048x2048))

/-- The map's product with the values, query before head. -/
def mixed (d : FVec Ideal S32x4x2048x2048 .f32) : FVec Ideal S32x2048x4x128 .f32 :=
  transpose S32x2048x4x128 [0, 3, 1, 2] (Host.dotGeneral dot_S32x2048x4x128_S32x4x2048x2048_S32x4x128x2048_1_3_3_2_02_01 none a2 d) transposes_S32x4x128x2048_S32x2048x4x128_0_3_1_2

/-- Normalised, under the gain and the final scale. -/
def scaled (o : FVec Ideal S32x2048x4x128 .f32) : FVec Ideal S32x2048x4x128 .f32 :=
  mulf (mulf (mulf o (broadcastInDim S32x2048x4x128 ![0, 1, 2, 3] bcast_S32x2048x4x1_S32x2048x4x128_0_1_2_3
      (Host.rsqrt (addf (Host.divf (broadcastInDim S32x2048x4x1 ![0, 1, 2] bcast_S32x2048x4_S32x2048x4x1_0_1_2 (Host.reduceAdd (mulf o o) (constant S_ .f32 0x00000000#32) reducesTo_S32x2048x4x128_S32x2048x4_d3 h_S_)) (broadcastInDim S32x2048x4x1 ![] bcast_S_S32x2048x4x1 (constant S_ .f32 0x43000000#32))) (broadcastInDim S32x2048x4x1 ![] bcast_S_S32x2048x4x1 (constant S_ .f32 0x3727C5AC#32))))))
    (broadcastInDim S32x2048x4x128 ![0, 1, 2, 3] bcast_S1x1x1x128_S32x2048x4x128_0_1_2_3 (broadcastInDim S1x1x1x128 ![3] bcast_S128_S1x1x1x128_3 (shapeCast _ a7 shapeCasts_S1x128_S128))))
    (broadcastInDim S32x2048x4x128 ![] bcast_S_S32x2048x4x128 (constant S_ .f32 0x3F4CCCCD#32))

/-- In the layout of the result. -/
def laid (o : FVec Ideal S32x2048x4x128 .f32) : FVec Ideal S2x65536x256 .bf16 :=
  truncf .bf16 (transpose S2x65536x256 [1, 0, 2] (shapeCast _ o shapeCasts_S32x2048x4x128_S65536x2x256) transposes_S65536x2x256_S2x65536x256_1_0_2) bitsLt_bf16_f32

theorem res_eq (m : (ℓ : Loc nD τ sig) → Buf (Elt Ideal) ℓ) (c : Dev nD) :
    (Value.res_main_v61 m c : FVec Ideal S2x65536x256 .bf16)
      = laid (scaled (m ((c.tc : Thread nD τ).loc main_arg7)) (mixed (m ((c.tc : Thread nD τ).loc main_arg2))
          (differ (lam (m ((c.tc : Thread nD τ).loc main_arg3)) (m ((c.tc : Thread nD τ).loc main_arg4))
              (m ((c.tc : Thread nD τ).loc main_arg5)) (m ((c.tc : Thread nD τ).loc main_arg6)))
            (shares (scores (m ((c.tc : Thread nD τ).loc main_arg0)) (m ((c.tc : Thread nD τ).loc main_arg1))))))) := by
  unfold Value.res_main_v61
  rfl

theorem scores_apply (b : Fin 32) (h : Fin 8) (i j : Fin 2048) :
    scores a0 a1 (ix4 b h i j)
      = if j ≤ i then (∑ d : Fin 64, (a0 (ix4 b i h d) : EReal) * a1 (ix4 b j h d)) * Ideal.ofBits .f32 0x3E000000#32 else ⊥ := by
  pointwise [scores, mask]
  rw [Cert.KernelIdeal.Diff.select_prop _ (j ≤ i)
    ((WordCmp.cmpi_sle_ofNat_eq_one_iff (by omega) (by omega)).trans Fin.le_def.symm)]
  split
  · rfl
  · exact Cert.KernelIdeal.Diff.least_word

theorem fold_eq_sup {n : ℕ} (f : Fin n → EReal) : (Finset.univ : Finset (Fin n)).fold (max : EReal → EReal → EReal) ⊥ f = Finset.univ.sup f := rfl

/-- A reduction by maximum, along a row of the scores, from a least number. -/
theorem reduce_top (z : FVec Ideal S_ .f32) (hz : ∀ k, z k = (⊥ : EReal)) (b : Fin 32) (h : Fin 8) (i : Fin 2048) :
    Host.reduce FloatOps.maximumf s z reducesTo_S32x8x2048x2048_S32x8x2048_d3 h_S_ (ix3 b h i)
      = (Finset.univ.sup fun j => s (ix4 b h i j) : EReal) := by
  have e : Host.reduce FloatOps.maximumf s z reducesTo_S32x8x2048x2048_S32x8x2048_d3 h_S_ (ix3 b h i)
      = (Finset.univ : Finset (Fin 2048)).fold (max : EReal → EReal → EReal) (z (Shape.Idx.first h_S_)) fun j => s (ix4 b h i j) := by
    pointwise
  rw [e, hz]
  exact fold_eq_sup _

theorem largest_apply (b : Fin 32) (h : Fin 8) (i : Fin 2048) :
    largest s (ix3 b h i) = (Finset.univ.sup fun j => s (ix4 b h i j) : EReal) := by
  unfold largest
  rw [reduce_top]
  intro k
  exact Cert.KernelIdeal.Diff.least_word

theorem least_max (w : FVec Ideal S32x8x2048 .f32) (b : Fin 32) (h : Fin 8) (i : Fin 2048) :
    maximumf (broadcastInDim S32x8x2048 ![] bcast_S_S32x8x2048 (constant S_ .f32 0xFF800000#32)) w (ix3 b h i)
      = max (⊥ : EReal) (w (ix3 b h i)) := by
  pointwise
  rw [Cert.KernelIdeal.Diff.least_word]

theorem top_apply (b : Fin 32) (h : Fin 8) (i : Fin 2048) :
    top s (ix3 b h i) = max (⊥ : EReal) (Finset.univ.sup fun j => s (ix4 b h i j)) := by
  unfold top
  exact (least_max _ b h i).trans (congrArg (max (⊥ : EReal)) (largest_apply s b h i))

theorem spread_apply (x : FVec Ideal S32x8x2048 .f32) (b : Fin 32) (h : Fin 8) (i j : Fin 2048) : spread x (ix4 b h i j) = x (ix3 b h i) := by
  pointwise [spread]

theorem powers_apply (b : Fin 32) (h : Fin 8) (i j : Fin 2048) :
    powers s (ix4 b h i j) = Ideal.exp ((s (ix4 b h i j) : EReal) - top s (ix3 b h i)) := by
  pointwise [powers, spread]

theorem shares_apply (b : Fin 32) (h : Fin 8) (i j : Fin 2048) :
    shares s (ix4 b h i j) = Ideal.div (powers s (ix4 b h i j)) (0 + ∑ k, powers s (ix4 b h i k)) := by
  pointwise [shares, spread]

theorem lam_apply : lam a3 a4 a5 a6 ix0 = Ideal.exp (0 + ∑ x, (a3 (ix2 0 x) : EReal) * a4 (ix2 0 x))
    - Ideal.exp (0 + ∑ x, (a5 (ix2 0 x) : EReal) * a6 (ix2 0 x)) + Ideal.ofBits .f32 0x3E4CCCCD#32 := by
  pointwise [lam]

theorem differ_apply (l : FVec Ideal S_ .f32) (p : FVec Ideal S32x8x2048x2048 .f32) (b : Fin 32) (h : Fin 4) (i j : Fin 2048) :
    differ l p (ix4 b h i j) = (p (ix4 b ⟨2 * h.val, by omega⟩ i j) : EReal) - l ix0 * p (ix4 b ⟨2 * h.val + 1, by omega⟩ i j) := by
  pointwise [differ]
  simp only [Nat.mul_comm]

theorem mixed_apply (d : FVec Ideal S32x4x2048x2048 .f32) (b : Fin 32) (i : Fin 2048) (h : Fin 4) (e : Fin 128) :
    mixed a2 d (ix4 b i h e) = ∑ j, (a2 (ix4 b j h e) : EReal) * d (ix4 b h i j) := by
  pointwise [mixed]

theorem scaled_apply (o : FVec Ideal S32x2048x4x128 .f32) (b : Fin 32) (i : Fin 2048) (h : Fin 4) (e : Fin 128) :
    scaled a7 o (ix4 b i h e) = Cert.KernelIdeal.Diff.normed (fun x => o (ix4 b i h x)) (a7 (ix2 0 e)) e := by
  pointwise [scaled]
  rfl

theorem laid_apply (o : FVec Ideal S32x2048x4x128 .f32) (g : Fin 2) (s : Fin 65536) (e : Fin 256) :
    laid o (ix3 g s e) = o (ix4 ⟨s.val / 2048, by omega⟩ ⟨s.val % 2048, by omega⟩ ⟨g.val * 2 + e.val / 128, by omega⟩ ⟨e.val % 128, by omega⟩) := by
  pointwise [laid]

end Cert.ReferenceIdeal.Attn
-- ==== Proof.Diff.Means.lean ====
/-
  The reference over real numbers: each head's two weighted means of the values, their difference, normalised.
-/
module

public import proofs.«01_k».proof.Proof.Diff.Reference
public import proofs.«01_k».proof.Proof.Diff.Softmax

@[expose] public section

set_option maxRecDepth 16384

noncomputable section

namespace Cert.ReferenceIdeal.Attn

open Cert.ReferenceIdeal Cert.ReferenceIdeal.Gen
open Idealize.ShloMosaic Idealize.ShloMosaic.TcCoe
open Cert.KernelIdeal.Diff (seen wt share_eq mix_eq normed)

variable (q k : Fin 32 → Fin 2048 → Fin 8 → Fin 64 → ℝ) (v : Fin 32 → Fin 2048 → Fin 4 → Fin 128 → ℝ)

/-- The score of key `K` for query `R` in map `h`, in base two. -/
def logit (b : Fin 32) (h : Fin 8) (K R : Fin 2048) : ℝ := ∑ d, k b K h d * (q b R h d * (1 / 8 / Real.log 2))

/-- The key's weight. -/
def part (b : Fin 32) (h : Fin 8) (K R : Fin 2048) : ℝ := wt (K ≤ R) (logit q k b h K R)

/-- The mean of lane `e` of head `H`'s values, under map `h`'s weights. -/
def meanOf (b : Fin 32) (h : Fin 8) (H : Fin 4) (R : Fin 2048) (e : Fin 128) : ℝ :=
  (∑ K, v b K H e * part q k b h K R) / ∑ K, part q k b h K R

variable {q k v}
variable {a0 a1 : FVec Ideal S32x2048x8x64 .f32} {a2 : FVec Ideal S32x2048x4x128 .f32}
variable (h0 : ∀ b i h d, a0 (ix4 b i h d) = ((q b i h d : ℝ) : EReal)) (h1 : ∀ b i h d, a1 (ix4 b i h d) = ((k b i h d : ℝ) : EReal))
variable (h2 : ∀ b i h d, a2 (ix4 b i h d) = ((v b i h d : ℝ) : EReal))
variable (w8 : Ideal.ofBits .f32 0x3E000000#32 = ((1 / 8 : ℝ) : EReal))

include h0 h1 w8 in
theorem scores_real (b : Fin 32) (h : Fin 8) (i j : Fin 2048) :
    scores a0 a1 (ix4 b h i j) = seen (j ≤ i) (Real.log 2 * logit q k b h j i) := by
  have l2 : Real.log 2 ≠ 0 := (Real.log_pos (by norm_num)).ne'
  rw [scores_apply]
  unfold seen
  split
  · simp only [h0, h1, w8, ← EReal.coe_mul]
    rw [← Cert.KernelIdeal.Diff.coe_sum, ← EReal.coe_mul]
    congr 1
    unfold logit
    rw [Finset.sum_mul, Finset.mul_sum]
    refine Finset.sum_congr rfl fun d _ => ?_
    field_simp
  · rfl

include h0 h1 w8 in
theorem shares_real (b : Fin 32) (h : Fin 8) (i j : Fin 2048) :
    shares (scores a0 a1) (ix4 b h i j) = ((part q k b h j i / ∑ K, part q k b h K i : ℝ) : EReal) := by
  rw [shares_apply]
  simp only [powers_apply, top_apply, scores_real h0 h1 w8]
  exact share_eq (fun K => K ≤ i) (fun K => logit q k b h K i) i le_rfl j

include h0 h1 h2 w8 in
theorem mixed_real (lm : FVec Ideal S_ .f32) (l : ℝ) (hl : lm ix0 = (l : EReal)) (b : Fin 32) (i : Fin 2048) (h : Fin 4) (e : Fin 128) :
    mixed a2 (differ lm (shares (scores a0 a1))) (ix4 b i h e)
      = ((meanOf q k v b ⟨2 * h.val, by omega⟩ h i e - l * meanOf q k v b ⟨2 * h.val + 1, by omega⟩ h i e : ℝ) : EReal) := by
  rw [mixed_apply]
  simp only [differ_apply, shares_real h0 h1 w8, h2, hl]
  exact mix_eq _ _ _ _ _ _

include h0 h1 h2 w8 in
/-- The reference's result at an entry. -/
theorem laid_real (a7 : FVec Ideal S1x128 .f32) (lm : FVec Ideal S_ .f32) (l : ℝ) (hl : lm ix0 = (l : EReal))
    (g : Fin 2) (b : Fin 32) (i : Fin 2048) (hh : Fin 2) (e : Fin 128) :
    laid (scaled a7 (mixed a2 (differ lm (shares (scores a0 a1))))) (ix3 g ⟨2048 * b.val + i.val, by omega⟩ ⟨128 * hh.val + e.val, by omega⟩)
      = normed (fun x => ((meanOf q k v b ⟨4 * g.val + 2 * hh.val, by omega⟩ ⟨2 * g.val + hh.val, by omega⟩ i x
          - l * meanOf q k v b ⟨4 * g.val + 2 * hh.val + 1, by omega⟩ ⟨2 * g.val + hh.val, by omega⟩ i x : ℝ) : EReal)) (a7 (ix2 0 e)) e := by
  have eb : (⟨(2048 * b.val + i.val) / 2048, by omega⟩ : Fin 32) = b := Fin.ext (by dsimp only; omega)
  have ei : (⟨(2048 * b.val + i.val) % 2048, by omega⟩ : Fin 2048) = i := Fin.ext (by dsimp only; omega)
  have eh : (⟨g.val * 2 + (128 * hh.val + e.val) / 128, by omega⟩ : Fin 4) = ⟨2 * g.val + hh.val, by omega⟩ := Fin.ext (by dsimp only; omega)
  have ee : (⟨(128 * hh.val + e.val) % 128, by omega⟩ : Fin 128) = e := Fin.ext (by dsimp only; omega)
  have em : (⟨2 * (2 * g.val + hh.val), by omega⟩ : Fin 8) = ⟨4 * g.val + 2 * hh.val, by omega⟩ := Fin.ext (by dsimp only; omega)
  have em' : (⟨2 * (2 * g.val + hh.val) + 1, by omega⟩ : Fin 8) = ⟨4 * g.val + 2 * hh.val + 1, by omega⟩ := Fin.ext (by dsimp only; omega)
  rw [laid_apply]
  dsimp only
  rw [eb, ei, eh, ee, scaled_apply]
  congr 1
  funext x
  rw [mixed_real h0 h1 h2 w8 lm l hl]
  dsimp only
  rw [em, em']

end Cert.ReferenceIdeal.Attn
-- ==== Proof.Diff.Equation.lean ====
/-
  The attention call against the reference: at every grid point the body's result is the reference's there, and so the
  array that the call leaves is the reference's result.
-/
module

public import proofs.«01_k».proof.Proof.Diff.Inputs
public import proofs.«01_k».proof.Proof.Diff.Means
public import Idealize.ShloMosaic.Lib.Pipeline.ValueKit

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Cert.ReferenceIdeal.Attn (logit part meanOf)

variable (m : (ℓ : Loc nD τ sig) → Buf (Elt Ideal) ℓ) (c : Dev nD)

/-- The reference's result from this program's arguments. -/
def wanted : FVec Ideal S2x65536x256 .bf16 :=
  Cert.ReferenceIdeal.Attn.laid (Cert.ReferenceIdeal.Attn.scaled (A7 m c) (Cert.ReferenceIdeal.Attn.mixed (A2 m c)
    (Cert.ReferenceIdeal.Attn.differ (Cert.ReferenceIdeal.Attn.lam (A3 m c) (A4 m c) (A5 m c) (A6 m c))
      (Cert.ReferenceIdeal.Attn.shares (Cert.ReferenceIdeal.Attn.scores (A0 m c) (A1 m c))))))

/-- The reference's lam is the body's. -/
theorem lam_same (t : Fin cfg0.N) : lamOf (ctxAt m c t) (ix2 0 0)
    = Cert.ReferenceIdeal.Attn.lam (A3 m c) (A4 m c) (A5 m c) (A6 m c) ix0 := by
  rw [lam_entry, Cert.ReferenceIdeal.Attn.lam_apply, zero_add, zero_add]

/-- Of real vectors it is a real number. -/
theorem lam_real (h3 : ∀ i, A3 m c i = (((A3 m c i : EReal).toReal : ℝ) : EReal)) (h4 : ∀ i, A4 m c i = (((A4 m c i : EReal).toReal : ℝ) : EReal))
    (h5 : ∀ i, A5 m c i = (((A5 m c i : EReal).toReal : ℝ) : EReal)) (h6 : ∀ i, A6 m c i = (((A6 m c i : EReal).toReal : ℝ) : EReal)) :
    ∃ l : ℝ, Cert.ReferenceIdeal.Attn.lam (A3 m c) (A4 m c) (A5 m c) (A6 m c) ix0 = (l : EReal) := by
  obtain ⟨r, hr⟩ := offset_word
  rw [Cert.ReferenceIdeal.Attn.lam_apply, zero_add, zero_add, hr]
  have s1 : (∑ x, (A3 m c (ix2 0 x) : EReal) * A4 m c (ix2 0 x))
      = ((∑ x, (A3 m c (ix2 0 x) : EReal).toReal * (A4 m c (ix2 0 x) : EReal).toReal : ℝ) : EReal) := by
    rw [coe_sum]
    exact Finset.sum_congr rfl fun x _ => by rw [EReal.coe_mul, ← h3, ← h4]
  have s2 : (∑ x, (A5 m c (ix2 0 x) : EReal) * A6 m c (ix2 0 x))
      = ((∑ x, (A5 m c (ix2 0 x) : EReal).toReal * (A6 m c (ix2 0 x) : EReal).toReal : ℝ) : EReal) := by
    rw [coe_sum]
    exact Finset.sum_congr rfl fun x _ => by rw [EReal.coe_mul, ← h5, ← h6]
  rw [s1, s2, Ideal.exp_coe, Ideal.exp_coe, ← EReal.coe_sub, ← EReal.coe_add]
  exact ⟨_, rfl⟩

variable {q k : Fin 32 → Fin 2048 → Fin 8 → Fin 64 → ℝ} {v : Fin 32 → Fin 2048 → Fin 4 → Fin 128 → ℝ}
variable (hq : Real4 (A0 m c) q) (hk : Real4 (A1 m c) k) (hv : Real4 (A2 m c) v)

/-- A key's weight in a map of the point's group is its weight in that map of all. -/
theorem weight_same (t : Fin cfg0.N) (cc : Fin 4) (M : Fin 8) (hM : M.val = 4 * (t.val % 2) + cc.val) (K R : Fin 2048) :
    weight (inputs m c t hq hk hv) cc K R = part q k (batch t) M K R := by
  unfold weight part
  congr 1
  unfold prod logit
  refine Finset.sum_congr rfl fun d _ => ?_
  have e1 : (⟨4 * (t.val % 2) + (at64 cc d).val / 64, by have := (at64 cc d).isLt; omega⟩ : Fin 8) = M :=
    Fin.ext (by show 4 * (t.val % 2) + (64 * cc.val + d.val) / 64 = M.val; omega)
  have e2 : (⟨(at64 cc d).val % 64, by omega⟩ : Fin 64) = d :=
    Fin.ext (by show (64 * cc.val + d.val) % 64 = d.val; omega)
  show k (batch t) K _ _ * (q (batch t) R _ _ * _) = _
  rw [e1, e2]

/-- And so is the mean of a head's values under a map's weights. -/
theorem mean_same (t : Fin cfg0.N) (cc : Fin 4) (M : Fin 8) (hM : M.val = 4 * (t.val % 2) + cc.val) (H : Fin 4)
    (hH : H.val = 2 * (t.val % 2) + cc.val / 2) (R : Fin 2048) (e : Fin 128) :
    mean (inputs m c t hq hk hv) cc R e = meanOf q k v (batch t) M H R e := by
  unfold mean meanOf
  simp only [weight_same m c hq hk hv t cc M hM]
  congr 1
  refine Finset.sum_congr rfl fun K _ => ?_
  congr 1
  have e1 : (⟨2 * (t.val % 2) + (at128 (headOfMap cc) e).val / 128, by have := (at128 (headOfMap cc) e).isLt; omega⟩ : Fin 4) = H :=
    Fin.ext (by show 2 * (t.val % 2) + (128 * (cc.val / 2) + e.val) / 128 = H.val; omega)
  have e2 : (⟨(at128 (headOfMap cc) e).val % 128, by omega⟩ : Fin 128) = e :=
    Fin.ext (by show (128 * (cc.val / 2) + e.val) % 128 = e.val; omega)
  show v (batch t) K _ _ = _
  rw [e1, e2]

include hq hk hv in
/-- A row block's result for a head is the reference's there. -/
theorem tile_same (l : ℝ) (hl : Cert.ReferenceIdeal.Attn.lam (A3 m c) (A4 m c) (A5 m c) (A6 m c) ix0 = (l : EReal))
    (t : Fin cfg0.N) (i : Fin 4) (h : Fin 2) (x : Fin 512) (e : Fin 128) :
    headOut (ctxAt m c t) (gathered (ctxAt m c t) i) h (ix3 0 x e)
      = wanted m c (ix3 ⟨t.val % 2, by omega⟩ ⟨2048 * (batch t).val + (at512 i x).val, by omega⟩ ⟨128 * h.val + e.val, by omega⟩) := by
  rw [headOut_apply (inputs m c t hq hk hv) i h x e l ((lam_same m c t).trans hl)]
  unfold wanted
  rw [Cert.ReferenceIdeal.Attn.laid_real hq hk hv eighth_word (A7 m c) _ l hl ⟨t.val % 2, by omega⟩ (batch t) (at512 i x) h e]
  rw [g_entry]
  congr 1
  funext a
  rw [mean_same m c hq hk hv t (evenOf h) ⟨4 * (t.val % 2) + 2 * h.val, by omega⟩ rfl ⟨2 * (t.val % 2) + h.val, by omega⟩
      (by show 2 * (t.val % 2) + h.val = 2 * (t.val % 2) + (2 * h.val) / 2; omega),
    mean_same m c hq hk hv t (oddOf h) ⟨4 * (t.val % 2) + 2 * h.val + 1, by omega⟩ rfl ⟨2 * (t.val % 2) + h.val, by omega⟩
      (by show 2 * (t.val % 2) + h.val = 2 * (t.val % 2) + (2 * h.val + 1) / 2; omega)]

include hq hk hv in
/-- The array the call leaves. -/
theorem final (l : ℝ) (hl : Cert.ReferenceIdeal.Attn.lam (A3 m c) (A4 m c) (A5 m c) (A6 m c) ix0 = (l : EReal)) :
    (dats m 0 c).arrAt 5 cfg0.N = wanted m c := by
  refine (dats m 0 c).arrAt_eq_of_covers 5 (wanted m c) (by decide +kernel) fun t _ y => ?_
  blk_simp
  rw [after5]
  have y0 : (y 0).val < 1 := (y 0).isLt
  have y1 : (y 1).val < 2048 := (y 1).isLt
  have y2 : (y 2).val < 256 := (y 2).isLt
  refine (tile_same m c hq hk hv l hl t (rowOf y) (headOf y) ⟨(y 1).val % 512, by omega⟩ ⟨(y 2).val % 128, by omega⟩).trans ?_
  refine congrArg (wanted m c) ?_
  have r : (⟨2048 * (batch t).val + (at512 (rowOf y) ⟨(y 1).val % 512, by omega⟩).val, by omega⟩ : Fin 65536)
      = ⟨2048 * (t.val / 2) + (y 1).val, by have : t.val < 64 := t.isLt; omega⟩ :=
    Fin.ext (by show 2048 * (t.val / 2) + (512 * ((y 1).val / 512) + (y 1).val % 512) = 2048 * (t.val / 2) + (y 1).val; omega)
  have e : (⟨128 * (headOf y).val + (⟨(y 2).val % 128, by omega⟩ : Fin 128).val, by omega⟩ : Fin 256) = ⟨(y 2).val, y2⟩ :=
    Fin.ext (by show 128 * ((y 2).val / 128) + (y 2).val % 128 = (y 2).val; omega)
  rw [r, e]
  blk_ext [idx t]

end Cert.KernelIdeal.Diff
-- ==== Proof.Ffn.Blocks.lean ====
/-
  The blocks that the feed-forward call's body works on at a grid point, entry by entry, in terms of the arguments.
-/
module

public import proofs.«01_k».proof.Proof.Gen.Kernel2Ideal.Frame
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe

/-- The windows' blocks at a point: the point's 512 rows, and the weights whole. -/
theorem idx : ∀ t : Fin cfg0.N, win0_0.index t = ![t.val, 0] ∧ win0_1.index t = ![0, t.val, 0] ∧ win0_2.index t = ![0, t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- A row of a point's block, in the whole array. -/
def row (t : Fin cfg0.N) (r : Fin 512) : Fin 65536 := ⟨512 * t.val + r.val, by have : t.val < 128 := t.isLt; omega⟩

variable (m : (ℓ : Loc nD τ sig) → Buf (Elt Ideal) ℓ) (c : Dev nD) (t : Fin cfg0.N)

/-- The residual stream, and the outputs of the two groups of heads. -/
abbrev A0 : FVec Ideal S32x2048x1024 .f32 := m (c, Proc.tc.devRef main_arg0)
abbrev A1 : FVec Ideal S32x2048x512 .f32 := m (c, Proc.tc.devRef main_arg1)
abbrev A2 : FVec Ideal S32x2048x512 .f32 := m (c, Proc.tc.devRef main_arg2)

/-- The output projection, the gain of the feed-forward part, its three weights, and the gain of the last norm. -/
abbrev A3 : FVec Ideal S1x1024x1024 .f32 := m (c, Proc.tc.devRef main_arg3)
abbrev A4 : FVec Ideal S1x1024 .f32 := m (c, Proc.tc.devRef main_arg4)
abbrev A5 : FVec Ideal S1x1024x2816 .f32 := m (c, Proc.tc.devRef main_arg5)
abbrev A6 : FVec Ideal S1x1024x2816 .f32 := m (c, Proc.tc.devRef main_arg6)
abbrev A7 : FVec Ideal S1x2816x1024 .f32 := m (c, Proc.tc.devRef main_arg7)
abbrev A8 : FVec Ideal S1024 .f32 := m (c, Proc.tc.devRef main_arg8)

theorem v6_at (R : Fin 65536) (j : Fin 1024) : (V m c main_v6 : FVec Ideal S65536x1024 .f32) (ix2 R j)
    = A0 m c (ix3 ⟨R.val / 2048, by omega⟩ ⟨R.val % 2048, by omega⟩ j) := by
  entry_read
  pointwise

theorem v2_at (g : Fin 2) (R : Fin 65536) (e : Fin 256) : (V m c main_v2 : FVec Ideal S2x65536x256 .bf16) (ix3 g R e)
    = A1 m c (ix3 ⟨R.val / 2048, by omega⟩ ⟨R.val % 2048, by omega⟩ ⟨g.val * 256 + e.val, by omega⟩) := by
  entry_read
  pointwise

theorem v5_at (g : Fin 2) (R : Fin 65536) (e : Fin 256) : (V m c main_v5 : FVec Ideal S2x65536x256 .bf16) (ix3 g R e)
    = A2 m c (ix3 ⟨R.val / 2048, by omega⟩ ⟨R.val % 2048, by omega⟩ ⟨g.val * 256 + e.val, by omega⟩) := by
  entry_read
  pointwise

theorem v8_at (k j : Fin 1024) : (V m c main_v8 : FVec Ideal S1024x1024 .bf16) (ix2 k j) = A3 m c (ix3 0 k j) := by
  entry_read
  pointwise

theorem v10_at (j : Fin 1024) : (V m c main_v10 : FVec Ideal S1x1024 .f32) (ix2 0 j) = A4 m c (ix2 0 j) := by
  entry_read
  pointwise

theorem v12_at (k : Fin 1024) (f : Fin 2816) : (V m c main_v12 : FVec Ideal S1024x2816 .bf16) (ix2 k f) = A5 m c (ix3 0 k f) := by
  entry_read
  pointwise

theorem v14_at (k : Fin 1024) (f : Fin 2816) : (V m c main_v14 : FVec Ideal S1024x2816 .bf16) (ix2 k f) = A6 m c (ix3 0 k f) := by
  entry_read
  pointwise

theorem v16_at (f : Fin 2816) (j : Fin 1024) : (V m c main_v16 : FVec Ideal S2816x1024 .bf16) (ix2 f j) = A7 m c (ix3 0 f j) := by
  entry_read
  pointwise

theorem v17_at (j : Fin 1024) : (V m c main_v17 : FVec Ideal S1x1024 .f32) (ix2 0 j) = A8 m c (ix1 j) := by
  entry_read
  pointwise

theorem x_at (r : Fin 512) (j : Fin 1024) : (iblk m c 0 t : FVec Ideal S512x1024 .f32) (ix2 r j)
    = (V m c main_v6 : FVec Ideal S65536x1024 .f32) (ix2 (row t r) j) := by
  unfold row
  blk_ext [iblk, idx t]

theorem d_at (g : Fin 2) (r : Fin 512) (e : Fin 256) : (iblk m c 1 t : FVec Ideal S2x512x256 .bf16) (ix3 g r e)
    = (V m c main_v2 : FVec Ideal S2x65536x256 .bf16) (ix3 g (row t r) e) := by
  unfold row
  blk_ext [iblk, idx t]

theorem s_at (g : Fin 2) (r : Fin 512) (e : Fin 256) : (iblk m c 2 t : FVec Ideal S2x512x256 .bf16) (ix3 g r e)
    = (V m c main_v5 : FVec Ideal S2x65536x256 .bf16) (ix3 g (row t r) e) := by
  unfold row
  blk_ext [iblk, idx t]

theorem wo_at (k j : Fin 1024) : (iblk m c 3 t : FVec Ideal S1024x1024 .bf16) (ix2 k j)
    = (V m c main_v8 : FVec Ideal S1024x1024 .bf16) (ix2 k j) := by
  blk_ext [iblk, idx t]

theorem g_at (j : Fin 1024) : (iblk m c 4 t : FVec Ideal S1x1024 .f32) (ix2 0 j)
    = (V m c main_v10 : FVec Ideal S1x1024 .f32) (ix2 0 j) := by
  blk_ext [iblk, idx t]

theorem wg_at (k : Fin 1024) (f : Fin 2816) : (iblk m c 5 t : FVec Ideal S1024x2816 .bf16) (ix2 k f)
    = (V m c main_v12 : FVec Ideal S1024x2816 .bf16) (ix2 k f) := by
  blk_ext [iblk, idx t]

theorem wu_at (k : Fin 1024) (f : Fin 2816) : (iblk m c 6 t : FVec Ideal S1024x2816 .bf16) (ix2 k f)
    = (V m c main_v14 : FVec Ideal S1024x2816 .bf16) (ix2 k f) := by
  blk_ext [iblk, idx t]

theorem wd_at (f : Fin 2816) (j : Fin 1024) : (iblk m c 7 t : FVec Ideal S2816x1024 .bf16) (ix2 f j)
    = (V m c main_v16 : FVec Ideal S2816x1024 .bf16) (ix2 f j) := by
  blk_ext [iblk, idx t]

theorem gf_at (j : Fin 1024) : (iblk m c 8 t : FVec Ideal S1x1024 .f32) (ix2 0 j)
    = (V m c main_v17 : FVec Ideal S1x1024 .f32) (ix2 0 j) := by
  blk_ext [iblk, idx t]

end Cert.Kernel2Ideal.Ffn
-- ==== Proof.Ffn.Rows.lean ====
/-
  One token's row through the feed-forward part, over extended reals: the row of the residual stream in, the row of the
  result out.
-/
module

public import Idealize.ShloMosaic.Lib.Pointwise

@[expose] public section

noncomputable section

namespace Cert.Ffn

open Idealize.ShloMosaic

/-- A row's norm factor. -/
def rms (X : Fin 1024 → EReal) : EReal :=
  Ideal.rsqrt (Ideal.div (∑ k, X k * X k) (Ideal.ofBits .f32 0x44800000#32) + Ideal.ofBits .f32 0x3727C5AC#32)

/-- A row normalised, with its gain. -/
def normed (X g : Fin 1024 → EReal) (n : Fin 1024) : EReal := X n * rms X * g n

/-- The gated activation `f` of a normalised row. -/
def act (H : Fin 1024 → EReal) (wg wu : Fin 1024 → Fin 2816 → EReal) (f : Fin 2816) : EReal :=
  (∑ k, H k * wg k f) * Ideal.logistic (∑ k, H k * wg k f) * ∑ k, H k * wu k f

/-- The residual stream's row with the attention's added: the two groups' outputs, each in two pieces of 256 features, through the
    output projection. -/
def joined (X : Fin 1024 → EReal) (D S : Fin 512 → EReal) (wo : Fin 1024 → Fin 1024 → EReal) (n : Fin 1024) : EReal :=
  X n + ∑ j : Fin 256, D ⟨j.val, by omega⟩ * wo ⟨j.val, by omega⟩ n + ∑ j : Fin 256, D ⟨256 + j.val, by omega⟩ * wo ⟨256 + j.val, by omega⟩ n
    + ∑ j : Fin 256, S ⟨j.val, by omega⟩ * wo ⟨512 + j.val, by omega⟩ n + ∑ j : Fin 256, S ⟨256 + j.val, by omega⟩ * wo ⟨768 + j.val, by omega⟩ n

/-- The row after the feed-forward part, -/
def fed (X g2 : Fin 1024 → EReal) (wg wu : Fin 1024 → Fin 2816 → EReal) (wd : Fin 2816 → Fin 1024 → EReal) (n : Fin 1024) : EReal :=
  X n + ∑ f, act (normed X g2) wg wu f * wd f n

/-- and after the last norm. -/
def rowOut (X g2 : Fin 1024 → EReal) (wg wu : Fin 1024 → Fin 2816 → EReal) (wd : Fin 2816 → Fin 1024 → EReal) (gf : Fin 1024 → EReal)
    (n : Fin 1024) : EReal := normed (fed X g2 wg wu wd) gf n

end Cert.Ffn
-- ==== Proof.Ffn.Body.lean ====
/-
  What the feed-forward call's body leaves at a grid point, entry by entry: the row it belongs to goes through the
  feed-forward part.
-/
module

public import proofs.«01_k».proof.Proof.Gen.Kernel2Ideal.Frame
public import proofs.«01_k».proof.Proof.Ffn.Rows
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Cert.Ffn

theorem last_apply (x1 : FVec Ideal S512x1024 .f32) (A : Vec Ideal S512x2816 .bf16) (wd : Vec Ideal S2816x1024 .bf16)
    (gf : Vec Ideal S1x1024 .f32) (r : Fin 512) (n : Fin 1024) (T : Fin 2816 → EReal) (hT : ∀ f, A (ix2 r f) = T f) :
    k0_pay2 x1 A wd gf (ix2 r n)
      = normed (fun j => x1 (ix2 r j) + ∑ f, T f * (wd (ix2 f j) : EReal)) (fun j => gf (ix2 0 j)) n := by
  unfold k0_pay2 normed rms
  pointwise
  simp only [hT]

theorem norm_apply (x1 : FVec Ideal S512x1024 .f32) (v : FVec Ideal S512x1 .f32) (g2 : Vec Ideal S1x1024 .f32) (r : Fin 512)
    (hv : v (ix2 r 0) = Ideal.div (∑ k, x1 (ix2 r k) * x1 (ix2 r k)) (Ideal.ofBits .f32 0x44800000#32)) (n : Fin 1024) :
    k0_pay5 x1 v g2 (ix2 r n) = normed (fun j => x1 (ix2 r j)) (fun j => g2 (ix2 0 j)) n := by
  unfold k0_pay5 normed rms
  pointwise
  rw [hv]

theorem mean_apply (x : Vec Ideal S512x1024 .f32) (d0 : Vec Ideal S1x512x256 .bf16) (w0 : Vec Ideal S256x1024 .bf16)
    (d1 : Vec Ideal S1x512x256 .bf16) (w1 : Vec Ideal S256x1024 .bf16) (s0 : Vec Ideal S1x512x256 .bf16) (w2 : Vec Ideal S256x1024 .bf16)
    (s1 : Vec Ideal S1x512x256 .bf16) (w3 : Vec Ideal S256x1024 .bf16) (r : Fin 512) :
    k0_pay4 x d0 w0 d1 w1 s0 w2 s1 w3 (ix2 r 0)
      = Ideal.div (∑ k, k0_pay3 x d0 w0 d1 w1 s0 w2 s1 w3 (ix2 r k) * k0_pay3 x d0 w0 d1 w1 s0 w2 s1 w3 (ix2 r k))
          (Ideal.ofBits .f32 0x44800000#32) := by
  unfold k0_pay4
  generalize k0_pay3 (F := Ideal) x d0 w0 d1 w1 s0 w2 s1 w3 = X
  pointwise

theorem mixed_apply (x : Vec Ideal S512x1024 .f32) (d0 : Vec Ideal S1x512x256 .bf16) (w0 : Vec Ideal S256x1024 .bf16)
    (d1 : Vec Ideal S1x512x256 .bf16) (w1 : Vec Ideal S256x1024 .bf16) (s0 : Vec Ideal S1x512x256 .bf16) (w2 : Vec Ideal S256x1024 .bf16)
    (s1 : Vec Ideal S1x512x256 .bf16) (w3 : Vec Ideal S256x1024 .bf16) (r : Fin 512) (n : Fin 1024) :
    k0_pay3 x d0 w0 d1 w1 s0 w2 s1 w3 (ix2 r n)
      = (x (ix2 r n) : EReal) + ∑ j, (d0 (ix3 0 r j) : EReal) * w0 (ix2 j n) + ∑ j, (d1 (ix3 0 r j) : EReal) * w1 (ix2 j n)
          + ∑ j, (s0 (ix3 0 r j) : EReal) * w2 (ix2 j n) + ∑ j, (s1 (ix3 0 r j) : EReal) * w3 (ix2 j n) := by
  unfold k0_pay3
  pointwise

theorem whole_idx (r : Fin 512) (f : Fin 2816) :
    (Rect.unit (s := S512x2816) ![0, 0] ![512, 2816] inb_S512x2816_S512x2816_0_0).toLoadRect.idx (ix2 r f) = ix2 r f := by
  show (Rect.unit (s := S512x2816) ![0, 0] ![512, 2816] inb_S512x2816_S512x2816_0_0).emb (ix2 r f) = ix2 r f
  blk_ext

variable (m : (ℓ : Loc nD τ sig) → Buf (Elt Ideal) ℓ) (c : Dev nD) (t : Fin cfg0.N)

theorem out_at (r : Fin 512) (n : Fin 1024) : (show Vec Ideal S512x1024 .f32 from (dats m 0 c).after 9 t) (ix2 r n)
      = rowOut (joined (fun j => (iblk m c 0 t : FVec Ideal S512x1024 .f32) (ix2 r j))
          (fun k => (iblk m c 1 t : FVec Ideal S2x512x256 .bf16) (ix3 ⟨k.val / 256, by omega⟩ r ⟨k.val % 256, by omega⟩))
          (fun k => (iblk m c 2 t : FVec Ideal S2x512x256 .bf16) (ix3 ⟨k.val / 256, by omega⟩ r ⟨k.val % 256, by omega⟩))
          (fun k j => (iblk m c 3 t : FVec Ideal S1024x1024 .bf16) (ix2 k j)))
        (fun j => (iblk m c 4 t : FVec Ideal S1x1024 .f32) (ix2 0 j))
        (fun k f => (iblk m c 5 t : FVec Ideal S1024x2816 .bf16) (ix2 k f))
        (fun k f => (iblk m c 6 t : FVec Ideal S1024x2816 .bf16) (ix2 k f))
        (fun f j => (iblk m c 7 t : FVec Ideal S2816x1024 .bf16) (ix2 f j))
        (fun j => (iblk m c 8 t : FVec Ideal S1x1024 .f32) (ix2 0 j)) n := by
  rw [after0_9]
  unfold outsAt0
  frame_out
  generalize hX : k0_pay3 (F := Ideal) _ _ _ _ _ _ _ _ _ = x1
  generalize hV : k0_pay4 (F := Ideal) _ _ _ _ _ _ _ _ _ = v
  refine (last_apply _ _ _ _ r n (act (fun k => k0_pay5 (F := Ideal) x1 v (iblk m c 4 t) (ix2 r k))
    (fun k f => (iblk m c 5 t : Vec Ideal S1024x2816 .bf16) (ix2 k f))
    (fun k f => (iblk m c 6 t : Vec Ideal S1024x2816 .bf16) (ix2 k f))) fun f => ?_).trans ?_
  · refine (congrFun (View.readCov_eq_canon' _ _ _) _).trans ?_
    clear hX hV
    beta_reduce
    rw [whole_idx r f]
    canon_tiles x h
    all_goals
      try unfold k0_pay6
      try unfold k0_pay7
      generalize k0_pay5 (F := Ideal) x1 v (iblk m c 4 t) = H
      open_payloads
      pointwise
      unfold act
      obtain rfl : r = x 0 := Fin.ext h0
      obtain ⟨f, hf⟩ := f
      replace h1 : f = _ := h1
      subst h1
      rfl
  have hn : (fun k => k0_pay5 (F := Ideal) x1 v (iblk m c 4 t) (ix2 r k))
      = normed (fun j => x1 (ix2 r j)) (fun j => (iblk m c 4 t : Vec Ideal S1x1024 .f32) (ix2 0 j)) :=
    funext fun k => norm_apply x1 v _ r (by subst hX hV; exact mean_apply _ _ _ _ _ _ _ _ _ r) k
  rw [hn]
  show rowOut (fun j => x1 (ix2 r j)) _ _ _ _ _ n = _
  subst hX
  simp only [mixed_apply]
  pointwise
  refine congrArg (fun X => rowOut X _ _ _ _ _ n) (funext fun j => ?_)
  unfold joined
  refine congr (congrArg _ (congr (congrArg _ (congr (congrArg _ (congrArg _ ?_)) ?_)) ?_)) ?_
  all_goals
    refine Finset.sum_congr rfl fun k _ => ?_
    have hk : k.val < 256 := k.isLt
    congr 2 <;> first | rfl | (refine congrArg₂ (fun a b => ix3 a r b) (Fin.ext ?_) (Fin.ext ?_) <;> simp <;> omega)

end Cert.Kernel2Ideal.Ffn
-- ==== Proof.Ffn.Reference.lean ====
/-
  The reference of the feed-forward call in stages — the output projection on the residual stream, the norm, the gated
  activations, the last norm — and each stage read at an index.
-/
module

public import proofs.«01_k».proof.Proof.Gen.Reference2Ideal.Run
public import proofs.«01_k».proof.Proof.Ffn.Rows
public import Idealize.ShloMosaic.Lib.Pointwise
public import Idealize.ShloMosaic.Lib.Claim

@[expose] public section

set_option maxRecDepth 16384

noncomputable section

namespace Cert.Reference2Ideal.Ffn

open Cert.Reference2Ideal Cert.Reference2Ideal.Gen
open Idealize.ShloMosaic Idealize.ShloMosaic.TcCoe
open Cert.Ffn

variable (a0 : FVec Ideal S32x2048x1024 .f32) (a1 a2 : FVec Ideal S32x2048x512 .f32) (a3 : FVec Ideal S1x1024x1024 .f32)
variable (a4 : FVec Ideal S1x1024 .f32) (a5 a6 : FVec Ideal S1x1024x2816 .f32) (a7 : FVec Ideal S1x2816x1024 .f32) (a8 : FVec Ideal S1024 .f32)

/-- The two groups' outputs side by side, -/
def both : FVec Ideal S32x2048x1024 .f32 :=
  concatenate S32x2048x1024 2 [⟨S32x2048x512, a1⟩, ⟨S32x2048x512, a2⟩] concatenates_S32x2048x512_S32x2048x512_S32x2048x1024_d2

/-- and their projection, on the residual stream. -/
def join (b : FVec Ideal S32x2048x1024 .f32) : FVec Ideal S32x2048x1024 .f32 :=
  addf a0 (Host.dotGeneral dot_S32x2048x1024_S1024x1024_S32x2048x1024_2_0_01_1_n_n none b (shapeCast _ a3 shapeCasts_S1x1024x1024_S1024x1024))

/-- The norm. -/
def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
      (broadcastInDim S32x2048x1 ![] bcast_S_S32x2048x1 (constant S_ .f32 0x3727C5AC#32))))))
    (broadcastInDim S32x2048x1024 ![0, 1, 2] bcast_S1x1x1024_S32x2048x1024_0_1_2 (broadcastInDim S1x1x1024 ![2] bcast_S1024_S1x1x1024_2 g))

/-- A product with one of the two wide weights. -/
def wide (h : FVec Ideal S32x2048x1024 .f32) (w : FVec Ideal S1x1024x2816 .f32) : FVec Ideal S32x2048x2816 .f32 :=
  Host.dotGeneral dot_S32x2048x1024_S1024x2816_S32x2048x2816_2_0_01_1_n_n none h (shapeCast _ w shapeCasts_S1x1024x2816_S1024x2816)

/-- The gate. -/
def gate (z : FVec Ideal S32x2048x2816 .f32) : FVec Ideal S32x2048x2816 .f32 :=
  mulf z (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (Host.negf z))))

/-- The row that came in, and the activations' product with the last weight. -/
def feed (x : FVec Ideal S32x2048x1024 .f32) (p : FVec Ideal S32x2048x2816 .f32) : FVec Ideal S32x2048x1024 .f32 :=
  addf x (Host.dotGeneral dot_S32x2048x2816_S2816x1024_S32x2048x1024_2_0_01_1_n_n none p (shapeCast _ a7 shapeCasts_S1x2816x1024_S2816x1024))

/-- The feed-forward part, and the last norm. -/
def whole (x : FVec Ideal S32x2048x1024 .f32) : FVec Ideal S65536x1024 .f32 :=
  shapeCast _ (norm (feed a7 x (mulf (gate (wide (norm x (shapeCast _ a4 shapeCasts_S1x1024_S1024)) a5))
    (wide (norm x (shapeCast _ a4 shapeCasts_S1x1024_S1024)) a6))) a8) shapeCasts_S32x2048x1024_S65536x1024

theorem res_eq (m : (ℓ : Loc nD τ sig) → Buf (Elt Ideal) ℓ) (c : Dev nD) :
    (Value.res_main_v40 m c : FVec Ideal S65536x1024 .f32)
      = whole (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))
          (join (m ((c.tc : Thread nD τ).loc main_arg0)) (m ((c.tc : Thread nD τ).loc main_arg3))
            (both (m ((c.tc : Thread nD τ).loc main_arg1)) (m ((c.tc : Thread nD τ).loc main_arg2)))) := by
  unfold Value.res_main_v40
  rfl

theorem both_left (b : Fin 32) (s : Fin 2048) (k : Fin 512) : both a1 a2 (ix3 b s ⟨k.val, by omega⟩) = a1 (ix3 b s k) := by
  unfold both
  pointwise

theorem both_right (b : Fin 32) (s : Fin 2048) (k : Fin 512) : both a1 a2 (ix3 b s ⟨512 + k.val, by omega⟩) = a2 (ix3 b s k) := by
  unfold both
  pointwise

theorem join_apply (y : FVec Ideal S32x2048x1024 .f32) (b : Fin 32) (s : Fin 2048) (n : Fin 1024) :
    join a0 a3 y (ix3 b s n) = (a0 (ix3 b s n) : EReal) + ∑ k, (y (ix3 b s k) : EReal) * a3 (ix3 0 k n) := by
  unfold join
  pointwise

theorem norm_apply (x : FVec Ideal S32x2048x1024 .f32) (g : FVec Ideal S1024 .f32) (b : Fin 32) (s : Fin 2048) (n : Fin 1024) :
    norm x g (ix3 b s n) = normed (fun j => x (ix3 b s j)) (fun j => g (ix1 j)) n := by
  unfold norm normed rms
  pointwise

theorem wide_apply (h : FVec Ideal S32x2048x1024 .f32) (w : FVec Ideal S1x1024x2816 .f32) (b : Fin 32) (s : Fin 2048) (f : Fin 2816) :
    wide h w (ix3 b s f) = ∑ k, (h (ix3 b s k) : EReal) * w (ix3 0 k f) := by
  unfold wide
  pointwise

theorem gate_apply (z : FVec Ideal S32x2048x2816 .f32) (b : Fin 32) (s : Fin 2048) (f : Fin 2816) :
    gate z (ix3 b s f) = (z (ix3 b s f) : EReal) * Ideal.logistic (z (ix3 b s f)) := by
  unfold gate
  pointwise
  rfl

theorem feed_apply (x : FVec Ideal S32x2048x1024 .f32) (p : FVec Ideal S32x2048x2816 .f32) (b : Fin 32) (s : Fin 2048) (n : Fin 1024) :
    feed a7 x p (ix3 b s n) = (x (ix3 b s n) : EReal) + ∑ f, (p (ix3 b s f) : EReal) * a7 (ix3 0 f n) := by
  unfold feed
  pointwise

theorem times_apply (p q : FVec Ideal S32x2048x2816 .f32) (i : S32x2048x2816.Idx) : mulf p q i = (p i : EReal) * q i := rfl

theorem cast_apply (x : FVec Ideal S32x2048x1024 .f32) (R : Fin 65536) (n : Fin 1024) :
    (shapeCast _ x shapeCasts_S32x2048x1024_S65536x1024 : FVec Ideal S65536x1024 .f32) (ix2 R n)
      = x (ix3 ⟨R.val / 2048, by omega⟩ ⟨R.val % 2048, by omega⟩ n) := by
  pointwise

theorem gain_apply (j : Fin 1024) : (shapeCast _ a4 shapeCasts_S1x1024_S1024 : FVec Ideal S1024 .f32) (ix1 j) = a4 (ix2 0 j) := by
  pointwise

theorem whole_apply (x : FVec Ideal S32x2048x1024 .f32) (R : Fin 65536) (n : Fin 1024) :
    whole a4 a5 a6 a7 a8 x (ix2 R n)
      = rowOut (fun j => x (ix3 ⟨R.val / 2048, by omega⟩ ⟨R.val % 2048, by omega⟩ j)) (fun j => a4 (ix2 0 j))
          (fun k f => a5 (ix3 0 k f)) (fun k f => a6 (ix3 0 k f)) (fun f j => a7 (ix3 0 f j)) (fun j => a8 (ix1 j)) n := by
  unfold whole
  rw [cast_apply, norm_apply]
  unfold rowOut
  refine congrArg (fun X => normed X _ n) (funext fun j => ?_)
  rw [feed_apply]
  unfold fed act
  simp only [times_apply, gate_apply, wide_apply, norm_apply, gain_apply]

theorem sum_halves {n : ℕ} (f : Fin (n + n) → EReal) :
    ∑ k, f k = ∑ k : Fin n, f ⟨k.val, by omega⟩ + ∑ k : Fin n, f ⟨n + k.val, by omega⟩ := Fin.sum_univ_add f

/-- The projection's sum over the 1024 features, in the four pieces that the call adds. -/
theorem joined_eq (b : Fin 32) (s : Fin 2048) (n : Fin 1024) :
    join a0 a3 (both a1 a2) (ix3 b s n)
      = joined (fun j => a0 (ix3 b s j)) (fun k => a1 (ix3 b s k)) (fun k => a2 (ix3 b s k)) (fun k j => a3 (ix3 0 k j)) n := by
  rw [join_apply]
  have e : ∑ k, (both a1 a2 (ix3 b s k) : EReal) * a3 (ix3 0 k n)
      = ∑ k : Fin 512, (a1 (ix3 b s k) : EReal) * a3 (ix3 0 ⟨k.val, by omega⟩ n)
        + ∑ k : Fin 512, (a2 (ix3 b s k) : EReal) * a3 (ix3 0 ⟨512 + k.val, by omega⟩ n) := by
    refine (sum_halves (n := 512) fun k => (both a1 a2 (ix3 b s k) : EReal) * a3 (ix3 0 k n)).trans ?_
    refine congrArg₂ (· + ·) (Finset.sum_congr rfl fun k _ => ?_) (Finset.sum_congr rfl fun k _ => ?_)
    · exact congrArg (· * _) (both_left a1 a2 b s k)
    · exact congrArg (· * _) (both_right a1 a2 b s k)
  rw [e]
  unfold joined
  rw [sum_halves (n := 256) fun k => (a1 (ix3 b s k) : EReal) * a3 (ix3 0 ⟨k.val, by omega⟩ n),
    sum_halves (n := 256) fun k => (a2 (ix3 b s k) : EReal) * a3 (ix3 0 ⟨512 + k.val, by omega⟩ n)]
  simp only [← add_assoc]

end Cert.Reference2Ideal.Ffn
-- ==== Proof.Ffn.Equation.lean ====
/-
  The array that the feed-forward call leaves is the reference's result.
-/
module

public import proofs.«01_k».proof.Proof.Ffn.Blocks
public import proofs.«01_k».proof.Proof.Ffn.Body
public import proofs.«01_k».proof.Proof.Ffn.Reference

@[expose] public section

set_option maxRecDepth 16384

noncomputable section

namespace Cert.Kernel2Ideal.Ffn

open Cert.Kernel2Ideal Cert.Kernel2Ideal.Gen
open Idealize.ShloMosaic Idealize.ShloMosaic.TcCoe
open Cert.Ffn

variable (m : (ℓ : Loc nD τ sig) → Buf (Elt Ideal) ℓ) (c : Dev nD)

/-- The reference's result at the call's arguments. -/
def wanted : FVec Ideal S65536x1024 .f32 :=
  Cert.Reference2Ideal.Ffn.whole (A4 m c) (A5 m c) (A6 m c) (A7 m c) (A8 m c)
    (Cert.Reference2Ideal.Ffn.join (A0 m c) (A3 m c) (Cert.Reference2Ideal.Ffn.both (A1 m c) (A2 m c)))

/-- A group's output at a feature, which the call reads in two pieces. -/
theorem piece (a : FVec Ideal S32x2048x512 .f32) (b : Fin 32) (s : Fin 2048) (k : Fin 512) :
    a (ix3 b s ⟨(⟨k.val / 256, by omega⟩ : Fin 2).val * 256 + (⟨k.val % 256, by omega⟩ : Fin 256).val, by
      show k.val / 256 * 256 + k.val % 256 < 512; omega⟩) = a (ix3 b s k) :=
  congrArg (fun k => a (ix3 b s k)) (Fin.ext (by show k.val / 256 * 256 + k.val % 256 = k.val; omega))

variable (t : Fin cfg0.N)

theorem x_in (r : Fin 512) (j : Fin 1024) : (iblk m c 0 t : FVec Ideal S512x1024 .f32) (ix2 r j)
    = A0 m c (ix3 ⟨(row t r).val / 2048, by omega⟩ ⟨(row t r).val % 2048, by omega⟩ j) := (x_at m c t r j).trans (v6_at m c _ j)

theorem d_in (r : Fin 512) (k : Fin 512) :
    (iblk m c 1 t : FVec Ideal S2x512x256 .bf16) (ix3 ⟨k.val / 256, by omega⟩ r ⟨k.val % 256, by omega⟩)
      = A1 m c (ix3 ⟨(row t r).val / 2048, by omega⟩ ⟨(row t r).val % 2048, by omega⟩ k) :=
  (d_at m c t _ r _).trans ((v2_at m c _ _ _).trans (piece (A1 m c) _ _ k))

theorem s_in (r : Fin 512) (k : Fin 512) :
    (iblk m c 2 t : FVec Ideal S2x512x256 .bf16) (ix3 ⟨k.val / 256, by omega⟩ r ⟨k.val % 256, by omega⟩)
      = A2 m c (ix3 ⟨(row t r).val / 2048, by omega⟩ ⟨(row t r).val % 2048, by omega⟩ k) :=
  (s_at m c t _ r _).trans ((v5_at m c _ _ _).trans (piece (A2 m c) _ _ k))

theorem wo_in (k j : Fin 1024) : (iblk m c 3 t : FVec Ideal S1024x1024 .bf16) (ix2 k j) = A3 m c (ix3 0 k j) :=
  (wo_at m c t k j).trans (v8_at m c k j)

theorem g_in (j : Fin 1024) : (iblk m c 4 t : FVec Ideal S1x1024 .f32) (ix2 0 j) = A4 m c (ix2 0 j) :=
  (g_at m c t j).trans (v10_at m c j)

theorem wg_in (k : Fin 1024) (f : Fin 2816) : (iblk m c 5 t : FVec Ideal S1024x2816 .bf16) (ix2 k f) = A5 m c (ix3 0 k f) :=
  (wg_at m c t k f).trans (v12_at m c k f)

theorem wu_in (k : Fin 1024) (f : Fin 2816) : (iblk m c 6 t : FVec Ideal S1024x2816 .bf16) (ix2 k f) = A6 m c (ix3 0 k f) :=
  (wu_at m c t k f).trans (v14_at m c k f)

theorem wd_in (f : Fin 2816) (j : Fin 1024) : (iblk m c 7 t : FVec Ideal S2816x1024 .bf16) (ix2 f j) = A7 m c (ix3 0 f j) :=
  (wd_at m c t f j).trans (v16_at m c f j)

theorem gf_in (j : Fin 1024) : (iblk m c 8 t : FVec Ideal S1x1024 .f32) (ix2 0 j) = A8 m c (ix1 j) :=
  (gf_at m c t j).trans (v17_at m c j)

/-- A grid point leaves the reference's rows. -/
theorem rows_same (r : Fin 512) (n : Fin 1024) :
    (show Vec Ideal S512x1024 .f32 from (dats m 0 c).after 9 t) (ix2 r n) = wanted m c (ix2 (row t r) n) := by
  unfold wanted
  rw [out_at, Cert.Reference2Ideal.Ffn.whole_apply]
  simp only [Cert.Reference2Ideal.Ffn.joined_eq, x_in, d_in, s_in, wo_in, g_in, wg_in, wu_in, wd_in, gf_in]

/-- The array the call leaves. -/
theorem final : (dats m 0 c).arrAt 9 cfg0.N = wanted m c := by
  refine (dats m 0 c).arrAt_eq_of_covers 9 (wanted m c) (by decide +kernel) fun t _ y => ?_
  blk_simp
  have y0 : (y 0).val < 512 := (y 0).isLt
  have y1 : (y 1).val < 1024 := (y 1).isLt
  have hy : y = ix2 ⟨(y 0).val, y0⟩ ⟨(y 1).val, y1⟩ := by
    funext a
    fin_cases a <;> rfl
  rw [hy]
  refine (rows_same m c t ⟨(y 0).val, y0⟩ ⟨(y 1).val, y1⟩).trans ?_
  refine congrArg (wanted m c) ?_
  unfold row
  blk_ext [idx t]

end Cert.Kernel2Ideal.Ffn
-- ==== Proof.Proj.Rows.lean ====
/-
  One token's features after the input projections, over extended reals: the projected features, the rotary turn of the
  differential group's queries and keys, and the scale of the queries.
-/
module

public import proofs.«01_k».proof.Proof.Ffn.Rows

@[expose] public section

noncomputable section

namespace Cert.Proj

open Idealize.ShloMosaic

/-- The `k`-th pair's frequency, -/
def freq (k : Fin 8) : EReal :=
  Ideal.pow (Ideal.ofBits .f32 0x48F42400#32)
    (Ideal.div (-FloatOps.sitofp (F := Ideal) .f32 (BitVec.ofNat 32 k.val)) (Ideal.ofBits .f32 0x41000000#32))

/-- and a token's position. -/
def place (p : BitVec 32) : EReal := FloatOps.sitofp (F := Ideal) .f32 p

/-- Where a feature of the queries and keys stands in the weight: without the values between the two groups. -/
def src (n : Fin 2048) : Fin 3072 := ⟨if n.val < 1024 then n.val else n.val + 512, by split_ifs <;> omega⟩

/-- Where a feature of the values stands. -/
def vsrc (n : Fin 1024) : Fin 3072 := ⟨if n.val < 512 then n.val + 1024 else n.val + 2048, by split_ifs <;> omega⟩

/-- The rotary turn of the feature `n`: in each head of 64 features the first 8 and the next 8 turn as pairs, the others
    stay. -/
def turned (P : Fin 2048 → EReal) (C S : Fin 8 → EReal) (n : Fin 2048) : EReal :=
  if n.val % 64 < 8 then P n * C ⟨n.val % 8, by omega⟩ - P ⟨(n.val + 8) % 2048, by omega⟩ * S ⟨n.val % 8, by omega⟩
  else if n.val % 64 < 16 then P n * C ⟨n.val % 8, by omega⟩ + P ⟨(n.val + 2040) % 2048, by omega⟩ * S ⟨n.val % 8, by omega⟩
  else P n

/-- The feature `n` of a row of queries and keys: the differential group's, which turn, then the stick-breaking group's;
    in each group the 512 of the queries, which are scaled, then those of the keys. -/
def entry (P : Fin 2048 → EReal) (C S : Fin 8 → EReal) (n : Fin 2048) : EReal :=
  if n.val % 1024 < 512 then (if n.val < 1024 then turned P C S n else P n) * Ideal.ofBits .f32 0x3E38AA3B#32
  else if n.val < 1024 then turned P C S n else P n

theorem entry_turned_scaled (P : Fin 2048 → EReal) (C S : Fin 8 → EReal) (i n : Fin 2048) (h : n.val = i.val) (hn : n.val < 512) :
    turned P C S i * Ideal.ofBits .f32 0x3E38AA3B#32 = entry P C S n := by
  obtain rfl : n = i := Fin.ext h
  unfold entry
  rw [if_pos (by omega), if_pos (by omega)]

theorem entry_turned (P : Fin 2048 → EReal) (C S : Fin 8 → EReal) (i n : Fin 2048) (h : n.val = i.val) (hn : 512 ≤ n.val) (hm : n.val < 1024) :
    turned P C S i = entry P C S n := by
  obtain rfl : n = i := Fin.ext h
  unfold entry
  rw [if_neg (by omega), if_pos (by omega)]

theorem entry_scaled (P : Fin 2048 → EReal) (C S : Fin 8 → EReal) (i n : Fin 2048) (h : n.val = i.val) (hn : 1024 ≤ n.val) (hm : n.val < 1536)
    {X : EReal} (hX : X = P i) : X * Ideal.ofBits .f32 0x3E38AA3B#32 = entry P C S n := by
  obtain rfl : n = i := Fin.ext h
  subst hX
  unfold entry
  rw [if_pos (by omega), if_neg (by omega)]

theorem entry_plain (P : Fin 2048 → EReal) (C S : Fin 8 → EReal) (i n : Fin 2048) (h : n.val = i.val) (hn : 1536 ≤ n.val) {X : EReal} (hX : X = P i) :
    X = entry P C S n := by
  obtain rfl : n = i := Fin.ext h
  subst hX
  unfold entry
  rw [if_neg (by omega), if_neg (by omega)]

/-- The cosines' factor on a lane of 128, -/
def cosLane (C : Fin 8 → EReal) (l : Fin 128) : EReal := if l.val % 64 < 16 then C ⟨l.val % 8, by omega⟩ else 1

/-- the sines' factor on the feature 8 below, -/
def sinBelow (S : Fin 8 → EReal) (l : Fin 128) : EReal :=
  if 8 ≤ l.val % 64 ∧ l.val % 64 < 16 then S ⟨l.val % 8, by omega⟩ else 0

/-- and on the feature 8 above. -/
def sinAbove (S : Fin 8 → EReal) (l : Fin 128) : EReal := if l.val % 64 < 8 then 0 - S ⟨l.val % 8, by omega⟩ else 0

/-- The turn as three products: the feature itself, the one 8 below and the one 8 above, each by its lane's factor, which is
    zero where the feature takes no part. -/
theorem blend (P : Fin 2048 → EReal) (C S : Fin 8 → EReal) (l : Fin 128) (i b a : Fin 2048) (hi : i.val % 128 = l.val)
    (hb : b.val + l.val = i.val + (l.val + 128 - 8) % 128) (ha : a.val + l.val = i.val + (l.val + 128 - 120) % 128)
    {X Y Z c s u : EReal} (hX : X = P i) (hY : Y = P b) (hZ : Z = P a) (hc : c = cosLane C l) (hs : s = sinBelow S l)
    (hu : u = sinAbove S l) : X * c + Y * s + Z * u = turned P C S i := by
  subst hX hY hZ hc hs hu
  have e8 : (⟨l.val % 8, by omega⟩ : Fin 8) = ⟨i.val % 8, by omega⟩ := Fin.ext (by show l.val % 8 = i.val % 8; omega)
  have e64 : l.val % 64 = i.val % 64 := by omega
  unfold cosLane sinBelow sinAbove turned
  rw [e8, e64]
  by_cases h8 : i.val % 64 < 8
  · have ea : (⟨(i.val + 8) % 2048, by omega⟩ : Fin 2048) = a := Fin.ext (by show (i.val + 8) % 2048 = a.val; omega)
    rw [if_pos (by omega), if_neg (by omega), if_pos h8, if_pos h8, ea, mul_zero, add_zero, zero_sub, mul_neg, sub_eq_add_neg]
  · by_cases h16 : i.val % 64 < 16
    · have eb : (⟨(i.val + 2040) % 2048, by omega⟩ : Fin 2048) = b := Fin.ext (by show (i.val + 2040) % 2048 = b.val; omega)
      rw [if_pos h16, if_pos ⟨by omega, h16⟩, if_neg h8, if_neg h8, if_pos h16, eb, mul_zero, add_zero]
    · rw [if_neg h16, if_neg (by omega), if_neg h8, if_neg h8, if_neg h16, mul_zero, mul_zero, add_zero, add_zero, mul_one]

end Cert.Proj
-- ==== Proof.Proj.Blocks.lean ====
/-
  The blocks that the input projections' body works on at a grid point, entry by entry, in terms of the arguments.
-/
module

public import proofs.«01_k».proof.Proof.Gen.Kernel3Ideal.Frame
public import proofs.«01_k».proof.Proof.Proj.Rows
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Proj

open Cert.Kernel3Ideal Cert.Kernel3Ideal.Gen
open Idealize.ShloMosaic Idealize.ShloMosaic.TcCoe
open Cert.Proj

/-- The windows' blocks at a point: the point's 1024 tokens, and the weights whole. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, t.val, 0]
    ∧ win0_7.index t = ![0, t.val] :=
  (by decide +kernel : ∀ t : Fin grid0.N, _)

/-- A token of a point's block, among all. -/
def row (t : Fin cfg0.N) (r : Fin 1024) : Fin 65536 := ⟨1024 * t.val + r.val, by have : t.val < 64 := t.isLt; omega⟩

variable (m : (ℓ : Loc nD τ sig) → Buf (Elt Ideal) ℓ) (c : Dev nD) (t : Fin cfg0.N)

/-- The residual stream, the tokens' positions, the norm's gain and the weight of the projections. -/
abbrev A0 : FVec Ideal S32x2048x1024 .f32 := m (c, Proc.tc.devRef main_arg0)
abbrev A1 : IVec S32x2048 32 := m (c, Proc.tc.devRef main_arg1)
abbrev A2 : FVec Ideal S1x1024 .f32 := m (c, Proc.tc.devRef main_arg2)
abbrev A3 : FVec Ideal S1x1024x3072 .f32 := m (c, Proc.tc.devRef main_arg3)

theorem v0_at (R : Fin 65536) (j : Fin 1024) : (V m c main_v0 : FVec Ideal S65536x1024 .f32) (ix2 R j)
    = A0 m c (ix3 ⟨R.val / 2048, by omega⟩ ⟨R.val % 2048, by omega⟩ j) := by
  entry_read
  pointwise

theorem v2_at (T : Fin 64) (r : Fin 1024) (R : Fin 65536) (hR : R.val = 1024 * T.val + r.val) :
    (V m c main_v2 : FVec Ideal S64x1x1024 .f32) (ix3 T 0 r)
      = place (A1 m c (ix2 ⟨R.val / 2048, by omega⟩ ⟨R.val % 2048, by omega⟩)) := by
  entry_read
  pointwise
  unfold place
  refine congrArg (fun i => FloatOps.sitofp (F := Ideal) .f32 (A1 m c i)) (congrArg₂ ix2 (Fin.ext ?_) (Fin.ext ?_))
  · show T.val / 2 = R.val / 2048
    omega
  · show T.val % 2 * 1024 + r.val = R.val % 2048
    omega

theorem v9_at (k : Fin 8) : (V m c main_v9 : FVec Ideal S8x1 .f32) (ix2 k 0) = freq k := by
  entry_read
  pointwise
  rfl

theorem v14_at (k : Fin 1024) (n : Fin 2048) : (V m c main_v14 : FVec Ideal S1024x2048 .bf16) (ix2 k n)
    = A3 m c (ix3 0 k (src n)) := by
  entry_read
  pointwise
  unfold src
  split_ifs <;> refine congrArg (fun j => A3 m c (ix3 0 k j)) (Fin.ext ?_) <;> dsimp only <;> omega

theorem v18_at (n k : Fin 1024) : (V m c main_v18 : FVec Ideal S1024x1024 .bf16) (ix2 n k)
    = A3 m c (ix3 0 k (vsrc n)) := by
  entry_read
  pointwise
  unfold vsrc
  split_ifs <;> refine congrArg (fun j => A3 m c (ix3 0 k j)) (Fin.ext ?_) <;> dsimp only <;> omega

theorem v20_at (j : Fin 1024) : (V m c main_v20 : FVec Ideal S1x1024 .f32) (ix2 0 j) = A2 m c (ix2 0 j) := by
  entry_read
  pointwise

theorem x_at (r j : Fin 1024) : (iblk m c 0 t : FVec Ideal S1024x1024 .f32) (ix2 r j)
    = (V m c main_v0 : FVec Ideal S65536x1024 .f32) (ix2 (row t r) j) := by
  unfold row
  blk_ext [iblk, idx t]

theorem p_at (r : Fin 1024) : (iblk m c 1 t : FVec Ideal S1x1x1024 .f32) (ix3 0 0 r)
    = (V m c main_v2 : FVec Ideal S64x1x1024 .f32) (ix3 ⟨t.val, t.isLt⟩ 0 r) := by
  blk_ext [iblk, idx t]

theorem g_at (j : Fin 1024) : (iblk m c 2 t : FVec Ideal S1x1024 .f32) (ix2 0 j)
    = (V m c main_v20 : FVec Ideal S1x1024 .f32) (ix2 0 j) := by
  blk_ext [iblk, idx t]

theorem f_at (k : Fin 8) : (iblk m c 3 t : FVec Ideal S8x1 .f32) (ix2 k 0)
    = (V m c main_v9 : FVec Ideal S8x1 .f32) (ix2 k 0) := by
  blk_ext [iblk, idx t]

theorem w_at (k : Fin 1024) (n : Fin 2048) : (iblk m c 4 t : FVec Ideal S1024x2048 .bf16) (ix2 k n)
    = (V m c main_v14 : FVec Ideal S1024x2048 .bf16) (ix2 k n) := by
  blk_ext [iblk, idx t]

theorem wv_at (n k : Fin 1024) : (iblk m c 5 t : FVec Ideal S1024x1024 .bf16) (ix2 n k)
    = (V m c main_v18 : FVec Ideal S1024x1024 .bf16) (ix2 n k) := by
  blk_ext [iblk, idx t]

end Cert.Kernel3Ideal.Proj
-- ==== Proof.Proj.Body.lean ====
/-
  What the input projections' body leaves at a grid point, entry by entry.
-/
module

public import proofs.«01_k».proof.Proof.Gen.Kernel3Ideal.Frame
public import proofs.«01_k».proof.Proof.Proj.Rows
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Cert.Ffn Cert.Proj

/-- A lane's place in its head. -/
theorem lane (l : Fin 128) : k0_pay11 (iota .tc S1x128 32 [1] iota_S1x128_d1_w32) (Scalar.select (Scalar.cmpi .eq 64#32 0#32) 1#32 64#32) (ix2 0 l)
    = BitVec.ofNat 32 (l.val % 64) := by
  unfold k0_pay11
  pointwise
  revert l
  decide

/-- The angles' cosines and sines, and the same on the 128 lanes. -/
def cosAt (f : Vec Ideal S8x1 .f32) (p : Vec Ideal S1x1x1024 .f32) (r : Fin 1024) (k : Fin 8) : EReal :=
  Ideal.cos ((f (ix2 k 0) : EReal) * p (ix3 0 0 r))

def sinAt (f : Vec Ideal S8x1 .f32) (p : Vec Ideal S1x1x1024 .f32) (r : Fin 1024) (k : Fin 8) : EReal :=
  Ideal.sin ((f (ix2 k 0) : EReal) * p (ix3 0 0 r))

theorem cos_apply (f : Vec Ideal S8x1 .f32) (p : Vec Ideal S1x1x1024 .f32) (r : Fin 1024) (l : Fin 128) :
    k0_pay9 f p (ix2 r l) = cosAt f p r ⟨l.val % 8, by omega⟩ := by
  unfold k0_pay9
  refine (transpose_apply (s := S128x1024) _ _ _ (ix2 r l) (ix2 l r) (fun b => by fin_cases b <;> rfl)).trans ?_
  refine (concatenate_replicate_apply (t := S128x1024) (s₁ := S8x1024) 0 16 (cos (k0_pay8 f p)) _ rfl (ix2 l r) (ix2 ⟨l.val % 8, by omega⟩ r) ?_ ?_).trans ?_
  · rfl
  · intro b hb
    fin_cases b
    · exact absurd rfl hb
    · rfl
  · unfold k0_pay8 cosAt
    pointwise

theorem sin_apply (f : Vec Ideal S8x1 .f32) (p : Vec Ideal S1x1x1024 .f32) (r : Fin 1024) (l : Fin 128) :
    k0_pay10 f p (ix2 r l) = sinAt f p r ⟨l.val % 8, by omega⟩ := by
  unfold k0_pay10
  refine (transpose_apply (s := S128x1024) _ _ _ (ix2 r l) (ix2 l r) (fun b => by fin_cases b <;> rfl)).trans ?_
  refine (concatenate_replicate_apply (t := S128x1024) (s₁ := S8x1024) 0 16 (sin (k0_pay8 f p)) _ rfl (ix2 l r) (ix2 ⟨l.val % 8, by omega⟩ r) ?_ ?_).trans ?_
  · rfl
  · intro b hb
    fin_cases b
    · exact absurd rfl hb
    · rfl
  · unfold k0_pay8 sinAt
    pointwise

theorem tab12 (v : FVec Ideal S1024x128 .f32) (r : Fin 1024) (l : Fin 128) (C : Fin 8 → EReal) (hv : v (ix2 r l) = C ⟨l.val % 8, by omega⟩) :
    k0_pay12 (F := Ideal) v (iota .tc S1x128 32 [1] iota_S1x128_d1_w32) (Scalar.select (Scalar.cmpi .eq 64#32 0#32) 1#32 64#32) (ix2 r l)
      = cosLane C l := by
  unfold k0_pay12
  pointwise
  rw [lane, hv]
  have h : IntOp.cmpi CmpIPredicate.slt (BitVec.ofNat 32 (l.val % 64)) 16#32 = if l.val % 64 < 16 then 1#1 else 0#1 := by
    clear hv
    revert l
    decide
  rw [h]
  unfold cosLane
  split_ifs <;> rfl

theorem tab13 (v : FVec Ideal S1024x128 .f32) (r : Fin 1024) (l : Fin 128) (C : Fin 8 → EReal) (hv : v (ix2 r l) = C ⟨l.val % 8, by omega⟩) :
    k0_pay13 (F := Ideal) v (iota .tc S1x128 32 [1] iota_S1x128_d1_w32) (Scalar.select (Scalar.cmpi .eq 64#32 0#32) 1#32 64#32) (ix2 r l)
      = sinBelow C l := by
  unfold k0_pay13
  pointwise
  rw [lane, hv]
  have h : IntOp.andi (IntOp.cmpi CmpIPredicate.sge (BitVec.ofNat 32 (l.val % 64)) 8#32)
      (IntOp.cmpi CmpIPredicate.slt (BitVec.ofNat 32 (l.val % 64)) 16#32) = if 8 ≤ l.val % 64 ∧ l.val % 64 < 16 then 1#1 else 0#1 := by
    clear hv
    revert l
    decide
  rw [h]
  unfold sinBelow
  split_ifs <;> rfl

theorem tab14 (v : FVec Ideal S1024x128 .f32) (r : Fin 1024) (l : Fin 128) (C : Fin 8 → EReal) (hv : v (ix2 r l) = C ⟨l.val % 8, by omega⟩) :
    k0_pay14 (F := Ideal) v (iota .tc S1x128 32 [1] iota_S1x128_d1_w32) (Scalar.select (Scalar.cmpi .eq 64#32 0#32) 1#32 64#32) (ix2 r l)
      = sinAbove C l := by
  unfold k0_pay14
  pointwise
  rw [lane, hv]
  have h : IntOp.cmpi CmpIPredicate.slt (BitVec.ofNat 32 (l.val % 64)) 8#32 = if l.val % 64 < 8 then 1#1 else 0#1 := by
    clear hv
    revert l
    decide
  rw [h]
  unfold sinAbove
  split_ifs <;> rfl

theorem h_apply (x : Vec Ideal S1024x1024 .f32) (g : Vec Ideal S1x1024 .f32) (r n : Fin 1024) :
    k0_pay6 x g (ix2 r n) = normed (fun j => x (ix2 r j)) (fun j => g (ix2 0 j)) n := by
  unfold k0_pay6 normed rms
  pointwise

theorem v_apply (x : Vec Ideal S1024x1024 .f32) (g : Vec Ideal S1x1024 .f32) (w : Vec Ideal S1024x1024 .bf16) (n r : Fin 1024) :
    k0_pay7 x g w (ix2 n r) = ∑ k, (w (ix2 n k) : EReal) * k0_pay6 x g (ix2 r k) := by
  unfold k0_pay7
  generalize k0_pay6 (F := Ideal) x g = H
  pointwise

variable (m : (ℓ : Loc nD τ sig) → Buf (Elt Ideal) ℓ) (c : Dev nD) (t : Fin cfg0.N)

set_option maxHeartbeats 2000000 in
theorem rows_of (x0 : Vec Ideal S1024x1024 .f32) (x1 : Vec Ideal S1x1x1024 .f32) (x2 : Vec Ideal S1x1024 .f32) (x3 : Vec Ideal S8x1 .f32)
    (x4 : Vec Ideal S1024x2048 .bf16) (x5 : Vec Ideal S1024x1024 .bf16) (P : Fin 1024 → Fin 2048 → EReal)
    (hP : ∀ r n, ∑ k, (k0_pay41 x0 x1 x2 x3 x4 x5 (ix2 r k) : EReal) * x4 (ix2 k n) = P r n) (g : Fin 8) (r : Fin 1024) (e : Fin 256) :
    out0_6 x0 x1 x2 x3 x4 x5 (ix3 g r e) = entry (P r) (cosAt x3 x1 r) (sinAt x3 x1 r) ⟨256 * g.val + e.val, by omega⟩ := by
  have e44 : k0_pay12 (k0_pay42 x0 x1 x2 x3 x4 x5) (k0_pay40 x0 x1 x2 x3 x4 x5) (Scalar.select (Scalar.cmpi .eq 64#32 0#32) 1#32 64#32)
    = k0_pay44 x0 x1 x2 x3 x4 x5 := rfl
  have e45 : k0_pay13 (k0_pay43 x0 x1 x2 x3 x4 x5) (k0_pay40 x0 x1 x2 x3 x4 x5) (Scalar.select (Scalar.cmpi .eq 64#32 0#32) 1#32 64#32)
    = k0_pay45 x0 x1 x2 x3 x4 x5 := rfl
  have hc (r : Fin 1024) (l : Fin 128) : k0_pay44 x0 x1 x2 x3 x4 x5 (ix2 r l) = cosLane (cosAt x3 x1 r) l :=
    tab12 _ r l _ ((cos_apply _ _ r l).trans (by unfold cosAt; pointwise))
  have hb (r : Fin 1024) (l : Fin 128) : k0_pay45 x0 x1 x2 x3 x4 x5 (ix2 r l) = sinBelow (sinAt x3 x1 r) l :=
    tab13 _ r l _ ((sin_apply _ _ r l).trans (by unfold sinAt; pointwise))
  have ha (r : Fin 1024) (l : Fin 128) : k0_pay46 x0 x1 x2 x3 x4 x5 (ix2 r l) = sinAbove (sinAt x3 x1 r) l :=
    tab14 _ r l _ ((sin_apply _ _ r l).trans (by unfold sinAt; pointwise))
  unfold out0_6
  simp only [k0_pay17, e44, e45]
  generalize k0_pay41 x0 x1 x2 x3 x4 x5 = H at *
  generalize k0_pay44 x0 x1 x2 x3 x4 x5 = cm at *
  generalize k0_pay45 x0 x1 x2 x3 x4 x5 = sb at *
  generalize k0_pay46 x0 x1 x2 x3 x4 x5 = sa at *
  clear e44 e45
  canon_tiles x h
  all_goals
    obtain ⟨l, hl⟩ : ∃ l : Fin 128, l.val = (x 2).val := ⟨⟨_, x2_lt⟩, rfl⟩
    have hx : x = ix3 0 r l := by
      funext a
      fin_cases a
      · exact Fin.ext (by show (x 0).val = 0; omega)
      · exact Fin.ext h1.symm
      · exact Fin.ext hl.symm
    replace h0 : g.val = _ := h0
    replace h2 : e.val = _ := h2
    rw [hx]
    open_payloads
    pointwise
    first
      | refine (congrArg (· * Ideal.ofBits .f32 0x3E38AA3B#32) (blend (P r) _ _ l _ _ _ ?_ ?_ ?_ (hP r _) (hP r _) (hP r _)
          (hc r l) (hb r l) (ha r l))).trans (entry_turned_scaled _ _ _ _ _ ?_ ?_)
      | refine (blend (P r) _ _ l _ _ _ ?_ ?_ ?_ (hP r _) (hP r _) (hP r _) (hc r l) (hb r l) (ha r l)).trans
          (entry_turned _ _ _ _ _ ?_ ?_ ?_)
      | refine entry_scaled (P r) _ _ _ _ ?_ ?_ ?_ (hP r _)
      | refine entry_plain (P r) _ _ _ _ ?_ ?_ (hP r _)
    all_goals
      dsimp only
      omega

theorem rows_at (g : Fin 8) (r : Fin 1024) (e : Fin 256) : (show Vec Ideal S8x1024x256 .bf16 from (dats m 0 c).after 6 t) (ix3 g r e)
      = entry (fun n => ∑ k, normed (fun j => (iblk m c 0 t : FVec Ideal S1024x1024 .f32) (ix2 r j))
            (fun j => (iblk m c 2 t : FVec Ideal S1x1024 .f32) (ix2 0 j)) k * (iblk m c 4 t : FVec Ideal S1024x2048 .bf16) (ix2 k n))
          (cosAt (iblk m c 3 t) (iblk m c 1 t) r) (sinAt (iblk m c 3 t) (iblk m c 1 t) r) ⟨256 * g.val + e.val, by omega⟩ := by
  rw [after0_6]
  refine rows_of _ _ _ _ _ _ (fun r n => ∑ k, normed (fun j => (iblk m c 0 t : FVec Ideal S1024x1024 .f32) (ix2 r j))
            (fun j => (iblk m c 2 t : FVec Ideal S1x1024 .f32) (ix2 0 j)) k * (iblk m c 4 t : FVec Ideal S1024x2048 .bf16) (ix2 k n)) (fun r n => ?_) g r e
  refine Finset.sum_congr rfl fun k _ => congrArg (· * _) ?_
  unfold k0_pay41
  rw [h_apply]
  pointwise

theorem values_at (n r : Fin 1024) : (show Vec Ideal S1024x1024 .bf16 from (dats m 0 c).after 7 t) (ix2 n r)
      = ∑ k, normed (fun j => (iblk m c 0 t : FVec Ideal S1024x1024 .f32) (ix2 r j))
            (fun j => (iblk m c 2 t : FVec Ideal S1x1024 .f32) (ix2 0 j)) k * (iblk m c 5 t : FVec Ideal S1024x1024 .bf16) (ix2 n k) := by
  rw [after0_7]
  unfold out0_7
  canon_tiles x h
  have hx : x = ix2 n r := by
    funext a
    fin_cases a
    · exact Fin.ext h0.symm
    · exact Fin.ext h1.symm
  rw [hx]
  unfold k0_pay7
  pointwise
  refine Finset.sum_congr rfl fun k _ => (mul_comm _ _).trans (congrArg (· * _) ?_)
  rw [h_apply]
  pointwise

end Cert.Kernel3Ideal.Proj
-- ==== Proof.Proj.Reference.lean ====
/-
  The reference of the input projections in stages — the norm, the projection, the rotary turn, the two results' layouts —
  and each stage read at an index.
-/
module

public import proofs.«01_k».proof.Proof.Gen.Reference3Ideal.Run
public import proofs.«01_k».proof.Proof.Proj.Rows
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen
open Idealize.ShloMosaic Idealize.ShloMosaic.TcCoe
open Cert.Ffn Cert.Proj

variable (a0 : FVec Ideal S32x2048x1024 .f32) (a1 : IVec S32x2048 32) (a2 : FVec Ideal S1x1024 .f32) (a3 : FVec Ideal S1x1024x3072 .f32)

/-- The residual stream normalised, -/
def norm : FVec Ideal S32x2048x1024 .f32 :=
  mulf (mulf a0 (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf a0 a0) (constant S_ .f32 0x00000000#32) reducesTo_S32x2048x1024_S32x2048_d2 h_S_))
        (broadcastInDim S32x2048x1 ![] bcast_S_S32x2048x1 (constant S_ .f32 0x44800000#32)))
      (broadcastInDim S32x2048x1 ![] bcast_S_S32x2048x1 (constant S_ .f32 0x3727C5AC#32))))))
    (broadcastInDim S32x2048x1024 ![0, 1, 2] bcast_S1x1x1024_S32x2048x1024_0_1_2 (broadcastInDim S1x1x1024 ![2] bcast_S1024_S1x1x1024_2
      (shapeCast _ a2 shapeCasts_S1x1024_S1024)))

/-- and projected. -/
def proj (h : FVec Ideal S32x2048x1024 .f32) : FVec Ideal S32x2048x3072 .f32 :=
  Host.dotGeneral dot_S32x2048x1024_S1024x3072_S32x2048x3072_2_0_01_1_n_n none h (shapeCast _ a3 shapeCasts_S1x1024x3072_S1024x3072)

/-- The angles. -/
def angles : FVec Ideal S32x2048x8 .f32 :=
  mulf (broadcastInDim S32x2048x8 ![0, 1, 2] bcast_S32x2048x1_S32x2048x8_0_1_2 (broadcastInDim S32x2048x1 ![0, 1] bcast_S32x2048_S32x2048x1_0_1 (sitofp .f32 a1)))
    (broadcastInDim S32x2048x8 ![0, 1, 2] bcast_S1x1x8_S32x2048x8_0_1_2 (broadcastInDim S1x1x8 ![2] bcast_S8_S1x1x8_2
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- A table spread over the heads. -/
def spread (z : FVec Ideal S32x2048x8 .f32) : FVec Ideal S32x2048x8x8 .f32 :=
  broadcastInDim S32x2048x8x8 ![0, 1, 2, 3] bcast_S32x2048x1x8_S32x2048x8x8_0_1_2_3
    (broadcastInDim S32x2048x1x8 ![0, 1, 3] bcast_S32x2048x8_S32x2048x1x8_0_1_3 z)

/-- The turn of eight heads, whose features stand by head, -/
def turnHeads (x : FVec Ideal S32x2048x8x64 .f32) (cs sn : FVec Ideal S32x2048x8x8 .f32) : FVec Ideal S32x2048x8x64 .f32 :=
  concatenate S32x2048x8x64 3 [⟨S32x2048x8x8, subf (mulf (extractStridedSlice S32x2048x8x8 ![0, 0, 0, 0] x slices_S32x2048x8x64_S32x2048x8x8_0_0_0_0) cs)
      (mulf (extractStridedSlice S32x2048x8x8 ![0, 0, 0, 8] x slices_S32x2048x8x64_S32x2048x8x8_0_0_0_8) sn)⟩,
    ⟨S32x2048x8x8, addf (mulf (extractStridedSlice S32x2048x8x8 ![0, 0, 0, 8] x slices_S32x2048x8x64_S32x2048x8x8_0_0_0_8) cs)
      (mulf (extractStridedSlice S32x2048x8x8 ![0, 0, 0, 0] x slices_S32x2048x8x64_S32x2048x8x8_0_0_0_0) sn)⟩,
    ⟨S32x2048x8x48, extractStridedSlice S32x2048x8x48 ![0, 0, 0, 16] x slices_S32x2048x8x64_S32x2048x8x48_0_0_0_16⟩]
    concatenates_S32x2048x8x8_S32x2048x8x8_S32x2048x8x48_S32x2048x8x64_d3

/-- or side by side. -/
def turn (x : FVec Ideal S32x2048x512 .f32) (cs sn : FVec Ideal S32x2048x8x8 .f32) : FVec Ideal S32x2048x512 .f32 :=
  shapeCast _ (turnHeads (shapeCast _ x shapeCasts_S32x2048x512_S32x2048x8x64) cs sn) shapeCasts_S32x2048x8x64_S32x2048x512

/-- The queries' scale. -/
def scaled (x : FVec Ideal S32x2048x512 .f32) : FVec Ideal S32x2048x512 .f32 :=
  mulf x (broadcastInDim S32x2048x512 ![] bcast_S_S32x2048x512 (constant S_ .f32 0x3E38AA3B#32))

/-- The layout of the queries and keys, in groups of 256 features, -/
def rows (a b c d : FVec Ideal S32x2048x512 .f32) : FVec Ideal S8x65536x256 .bf16 :=
  truncf .bf16 (transpose S8x65536x256 [1, 0, 2] (shapeCast S65536x8x256 (concatenate S32x2048x2048 2 [⟨S32x2048x512, a⟩, ⟨S32x2048x512, b⟩,
    ⟨S32x2048x512, c⟩, ⟨S32x2048x512, d⟩] concatenates_S32x2048x512_S32x2048x512_S32x2048x512_S32x2048x512_S32x2048x2048_d2)
    shapeCasts_S32x2048x2048_S65536x8x256) transposes_S65536x8x256_S8x65536x256_1_0_2) bitsLt_bf16_f32

/-- and of the values, a column per token. -/
def columns (a b : FVec Ideal S32x2048x512 .f32) : FVec Ideal S1024x65536 .bf16 :=
  truncf .bf16 (transpose S1024x65536 [1, 0] (shapeCast S65536x1024 (concatenate S32x2048x1024 2 [⟨S32x2048x512, a⟩, ⟨S32x2048x512, b⟩]
    concatenates_S32x2048x512_S32x2048x512_S32x2048x1024_d2) shapeCasts_S32x2048x1024_S65536x1024) transposes_S65536x1024_S1024x65536_1_0) bitsLt_bf16_f32

/-- The first result, -/
def first (p : FVec Ideal S32x2048x3072 .f32) (z : FVec Ideal S32x2048x8 .f32) : FVec Ideal S8x65536x256 .bf16 :=
  rows (scaled (turn (extractStridedSlice S32x2048x512 ![0, 0, 0] p slices_S32x2048x3072_S32x2048x512_0_0_0) (spread (Host.cos z)) (spread (Host.sin z))))
    (turn (extractStridedSlice S32x2048x512 ![0, 0, 512] p slices_S32x2048x3072_S32x2048x512_0_0_512) (spread (Host.cos z)) (spread (Host.sin z)))
    (scaled (extractStridedSlice S32x2048x512 ![0, 0, 1536] p slices_S32x2048x3072_S32x2048x512_0_0_1536))
    (extractStridedSlice S32x2048x512 ![0, 0, 2048] p slices_S32x2048x3072_S32x2048x512_0_0_2048)

/-- and the second. -/
def second (p : FVec Ideal S32x2048x3072 .f32) : FVec Ideal S1024x65536 .bf16 :=
  columns (extractStridedSlice S32x2048x512 ![0, 0, 1024] p slices_S32x2048x3072_S32x2048x512_0_0_1024)
    (extractStridedSlice S32x2048x512 ![0, 0, 2560] p slices_S32x2048x3072_S32x2048x512_0_0_2560)

theorem first_eq (m : (ℓ : Loc nD τ sig) → Buf (Elt Ideal) ℓ) (c : Dev nD) :
    (Value.res_main_v96 m c : FVec Ideal S8x65536x256 .bf16)
      = first (proj (m ((c.tc : Thread nD τ).loc main_arg3)) (norm (m ((c.tc : Thread nD τ).loc main_arg0)) (m ((c.tc : Thread nD τ).loc main_arg2))))
          (angles (m ((c.tc : Thread nD τ).loc main_arg1))) := by
  unfold Value.res_main_v96
  rfl

theorem norm_apply (b : Fin 32) (s : Fin 2048) (n : Fin 1024) :
    norm a0 a2 (ix3 b s n) = normed (fun j => a0 (ix3 b s j)) (fun j => a2 (ix2 0 j)) n := by
  unfold norm normed rms
  pointwise

theorem proj_apply (h : FVec Ideal S32x2048x1024 .f32) (b : Fin 32) (s : Fin 2048) (n : Fin 3072) :
    proj a3 h (ix3 b s n) = ∑ k, (h (ix3 b s k) : EReal) * a3 (ix3 0 k n) := by
  unfold proj
  pointwise

theorem angles_apply (b : Fin 32) (s : Fin 2048) (k : Fin 8) : angles a1 (ix3 b s k) = place (a1 (ix2 b s)) * freq k := by
  unfold angles place freq
  pointwise

theorem spread_apply (z : FVec Ideal S32x2048x8 .f32) (b : Fin 32) (s : Fin 2048) (h k : Fin 8) : spread z (ix4 b s h k) = z (ix3 b s k) := by
  unfold spread
  pointwise

theorem turn_apply (x : FVec Ideal S32x2048x512 .f32) (cs sn : FVec Ideal S32x2048x8x8 .f32) (b : Fin 32) (s : Fin 2048) (n : Fin 512)
    (P : Fin 2048 → EReal) (C S : Fin 8 → EReal) (i : Fin 2048) (o : ℕ) (ho : o = 0 ∨ o = 512)
    (hP : ∀ k : Fin 512, x (ix3 b s k) = P ⟨o + k.val, by omega⟩) (hc : ∀ h k, cs (ix4 b s h k) = C k) (hs : ∀ h k, sn (ix4 b s h k) = S k)
    (hi : i.val = o + n.val) : turn x cs sn (ix3 b s n) = turned P C S i := by
  unfold turn turnHeads
  pointwise
  unfold turned
  by_cases h8 : n.val % 64 < 8
  · refine ((dif_pos h8).trans ?_).trans (if_pos (c := i.val % 64 < 8) (by omega)).symm
    refine congrArg₂ (fun u v : EReal => u - v)
      (congrArg₂ (fun u v : EReal => u * v) ((hP _).trans (congrArg P (Fin.ext ?_))) ((hc _ _).trans (congrArg C (Fin.ext ?_))))
      (congrArg₂ (fun u v : EReal => u * v) ((hP _).trans (congrArg P (Fin.ext ?_))) ((hs _ _).trans (congrArg S (Fin.ext ?_))))
    all_goals
      dsimp only
      omega
  · refine ((dif_neg h8).trans ?_).trans (if_neg (c := i.val % 64 < 8) (by omega)).symm
    by_cases h16 : n.val % 64 < 16
    · refine ((dif_pos (by omega)).trans ?_).trans (if_pos (c := i.val % 64 < 16) (by omega)).symm
      refine congrArg₂ (fun u v : EReal => u + v)
        (congrArg₂ (fun u v : EReal => u * v) ((hP _).trans (congrArg P (Fin.ext ?_))) ((hc _ _).trans (congrArg C (Fin.ext ?_))))
        (congrArg₂ (fun u v : EReal => u * v) ((hP _).trans (congrArg P (Fin.ext ?_))) ((hs _ _).trans (congrArg S (Fin.ext ?_))))
      all_goals
        dsimp only
        omega
    · refine ((dif_neg (by omega)).trans ?_).trans (if_neg (c := i.val % 64 < 16) (by omega)).symm
      refine (hP _).trans (congrArg P (Fin.ext ?_))
      dsimp only
      omega

theorem scaled_apply (x : FVec Ideal S32x2048x512 .f32) (i : S32x2048x512.Idx) : scaled x i = (x i : EReal) * Ideal.ofBits .f32 0x3E38AA3B#32 := rfl

theorem part0 (p : FVec Ideal S32x2048x3072 .f32) (b : Fin 32) (s : Fin 2048) (k : Fin 512) (n : Fin 3072) (hn : n.val = k.val) :
    (extractStridedSlice S32x2048x512 ![0, 0, 0] p slices_S32x2048x3072_S32x2048x512_0_0_0) (ix3 b s k) = p (ix3 b s n) := by
  pointwise
  exact congrArg (fun n => p (ix3 b s n)) (Fin.ext (by dsimp only; omega))

theorem part1 (p : FVec Ideal S32x2048x3072 .f32) (b : Fin 32) (s : Fin 2048) (k : Fin 512) (n : Fin 3072) (hn : n.val = k.val + 512) :
    (extractStridedSlice S32x2048x512 ![0, 0, 512] p slices_S32x2048x3072_S32x2048x512_0_0_512) (ix3 b s k) = p (ix3 b s n) := by
  pointwise
  exact congrArg (fun n => p (ix3 b s n)) (Fin.ext (by dsimp only; omega))

theorem part2 (p : FVec Ideal S32x2048x3072 .f32) (b : Fin 32) (s : Fin 2048) (k : Fin 512) (n : Fin 3072) (hn : n.val = k.val + 1024) :
    (extractStridedSlice S32x2048x512 ![0, 0, 1024] p slices_S32x2048x3072_S32x2048x512_0_0_1024) (ix3 b s k) = p (ix3 b s n) := by
  pointwise
  exact congrArg (fun n => p (ix3 b s n)) (Fin.ext (by dsimp only; omega))

theorem part3 (p : FVec Ideal S32x2048x3072 .f32) (b : Fin 32) (s : Fin 2048) (k : Fin 512) (n : Fin 3072) (hn : n.val = k.val + 1536) :
    (extractStridedSlice S32x2048x512 ![0, 0, 1536] p slices_S32x2048x3072_S32x2048x512_0_0_1536) (ix3 b s k) = p (ix3 b s n) := by
  pointwise
  exact congrArg (fun n => p (ix3 b s n)) (Fin.ext (by dsimp only; omega))

theorem part4 (p : FVec Ideal S32x2048x3072 .f32) (b : Fin 32) (s : Fin 2048) (k : Fin 512) (n : Fin 3072) (hn : n.val = k.val + 2048) :
    (extractStridedSlice S32x2048x512 ![0, 0, 2048] p slices_S32x2048x3072_S32x2048x512_0_0_2048) (ix3 b s k) = p (ix3 b s n) := by
  pointwise
  exact congrArg (fun n => p (ix3 b s n)) (Fin.ext (by dsimp only; omega))

theorem part5 (p : FVec Ideal S32x2048x3072 .f32) (b : Fin 32) (s : Fin 2048) (k : Fin 512) (n : Fin 3072) (hn : n.val = k.val + 2560) :
    (extractStridedSlice S32x2048x512 ![0, 0, 2560] p slices_S32x2048x3072_S32x2048x512_0_0_2560) (ix3 b s k) = p (ix3 b s n) := by
  pointwise
  exact congrArg (fun n => p (ix3 b s n)) (Fin.ext (by dsimp only; omega))

theorem src_low (n : Fin 2048) (h : n.val < 1024) : (src n).val = n.val := by
  unfold src
  exact if_pos h

theorem src_high (n : Fin 2048) (h : 1024 ≤ n.val) : (src n).val = n.val + 512 := by
  unfold src
  exact if_neg (by omega)

theorem cos_apply (z : FVec Ideal S32x2048x8 .f32) (b : Fin 32) (s : Fin 2048) (h k : Fin 8) :
    spread (Host.cos z) (ix4 b s h k) = Ideal.cos (z (ix3 b s k)) := spread_apply _ b s h k

theorem sin_apply (z : FVec Ideal S32x2048x8 .f32) (b : Fin 32) (s : Fin 2048) (h k : Fin 8) :
    spread (Host.sin z) (ix4 b s h k) = Ideal.sin (z (ix3 b s k)) := spread_apply _ b s h k

/-- The first result is each feature's entry. -/
theorem first_apply (p : FVec Ideal S32x2048x3072 .f32) (z : FVec Ideal S32x2048x8 .f32) (g : Fin 8) (R : Fin 65536) (e : Fin 256) :
    first p z (ix3 g R e)
      = entry (fun n => p (ix3 ⟨R.val / 2048, by omega⟩ ⟨R.val % 2048, by omega⟩ (src n)))
          (fun k => Ideal.cos (z (ix3 ⟨R.val / 2048, by omega⟩ ⟨R.val % 2048, by omega⟩ k)))
          (fun k => Ideal.sin (z (ix3 ⟨R.val / 2048, by omega⟩ ⟨R.val % 2048, by omega⟩ k))) ⟨256 * g.val + e.val, by omega⟩ := by
  unfold first
  generalize hq : scaled (turn (extractStridedSlice S32x2048x512 ![0, 0, 0] p slices_S32x2048x3072_S32x2048x512_0_0_0) _ _) = q
  generalize hk : turn (extractStridedSlice S32x2048x512 ![0, 0, 512] p slices_S32x2048x3072_S32x2048x512_0_0_512) _ _ = k
  generalize hu : scaled (extractStridedSlice S32x2048x512 ![0, 0, 1536] p slices_S32x2048x3072_S32x2048x512_0_0_1536) = u
  generalize hv : extractStridedSlice S32x2048x512 ![0, 0, 2048] p slices_S32x2048x3072_S32x2048x512_0_0_2048 = v
  unfold rows
  pointwise
  subst hq hk hu hv
  have he : e.val < 256 := e.isLt
  by_cases h0 : g.val * 256 + e.val < 512
  · rw [dif_pos h0]
    refine (scaled_apply _ _).trans ((congrArg (· * Ideal.ofBits .f32 0x3E38AA3B#32) (turn_apply _ _ _ _ _ _ _ _ _
      ⟨256 * g.val + e.val, by omega⟩ 0 (.inl rfl) (fun n => ?_) (cos_apply z _ _) (sin_apply z _ _) ?_)).trans
      (entry_turned_scaled _ _ _ _ _ rfl ?_))
    · refine part0 p _ _ n _ ?_
      rw [src_low _ (by dsimp only; omega)]
      dsimp only
      omega
    · dsimp only
      omega
    · dsimp only
      omega
  rw [dif_neg h0]
  by_cases h1 : g.val * 256 + e.val - 512 < 512
  · rw [dif_pos h1]
    refine (turn_apply _ _ _ _ _ _ _ _ _ ⟨256 * g.val + e.val, by omega⟩ 512 (.inr rfl) (fun n => ?_) (cos_apply z _ _)
      (sin_apply z _ _) ?_).trans (entry_turned _ _ _ _ _ rfl ?_ ?_)
    · refine part1 p _ _ n _ ?_
      rw [src_low _ (by dsimp only; omega)]
      dsimp only
      omega
    all_goals
      dsimp only
      omega
  rw [dif_neg h1]
  by_cases h2 : g.val * 256 + e.val - 512 - 512 < 512
  · rw [dif_pos h2]
    refine (scaled_apply _ _).trans (entry_scaled _ _ _ ⟨256 * g.val + e.val, by omega⟩ _ rfl ?_ ?_ ?_)
    · dsimp only
      omega
    · dsimp only
      omega
    · refine part3 p _ _ _ _ ?_
      rw [src_high _ (by dsimp only; omega)]
      dsimp only
      omega
  · rw [dif_neg h2]
    refine entry_plain _ _ _ ⟨256 * g.val + e.val, by omega⟩ _ rfl ?_ ?_
    · dsimp only
      omega
    · refine part4 p _ _ _ _ ?_
      rw [src_high _ (by dsimp only; omega)]
      dsimp only
      omega

/-- The second result is the projection at the values' features. -/
theorem second_apply (p : FVec Ideal S32x2048x3072 .f32) (n : Fin 1024) (R : Fin 65536) :
    second p (ix2 n R) = p (ix3 ⟨R.val / 2048, by omega⟩ ⟨R.val % 2048, by omega⟩ (vsrc n)) := by
  unfold second
  generalize hu : extractStridedSlice S32x2048x512 ![0, 0, 1024] p slices_S32x2048x3072_S32x2048x512_0_0_1024 = u
  generalize hv : extractStridedSlice S32x2048x512 ![0, 0, 2560] p slices_S32x2048x3072_S32x2048x512_0_0_2560 = v
  unfold columns
  pointwise
  subst hu hv
  unfold vsrc
  by_cases h : n.val < 512
  · rw [dif_pos h]
    refine part2 p _ _ _ _ ?_
    simp only [h, if_true]
  · rw [dif_neg h]
    refine part5 p _ _ _ _ ?_
    simp only [h, if_false]
    omega

end Cert.Reference3Ideal.Proj
-- ==== Proof.Proj.Equation.lean ====
/-
  The two arrays that the input projections leave are the reference's results.
-/
module

public import proofs.«01_k».proof.Proof.Proj.Blocks
public import proofs.«01_k».proof.Proof.Proj.Body
public import proofs.«01_k».proof.Proof.Proj.Reference

@[expose] public section

set_option maxRecDepth 16384

noncomputable section

namespace Cert.Kernel3Ideal.Proj

open Cert.Kernel3Ideal Cert.Kernel3Ideal.Gen
open Idealize.ShloMosaic Idealize.ShloMosaic.TcCoe
open Cert.Ffn Cert.Proj

variable (m : (ℓ : Loc nD τ sig) → Buf (Elt Ideal) ℓ) (c : Dev nD)

/-- The reference's projection at the call's arguments, -/
def projected : FVec Ideal Cert.Reference3Ideal.S32x2048x3072 .f32 :=
  Cert.Reference3Ideal.Proj.proj (A3 m c) (Cert.Reference3Ideal.Proj.norm (A0 m c) (A2 m c))

/-- and its two results. -/
def wantedRows : FVec Ideal S8x65536x256 .bf16 :=
  Cert.Reference3Ideal.Proj.first (projected m c) (Cert.Reference3Ideal.Proj.angles (A1 m c))

def wantedValues : FVec Ideal S1024x65536 .bf16 := Cert.Reference3Ideal.Proj.second (projected m c)

theorem projected_at (b : Fin 32) (s : Fin 2048) (n : Fin 3072) :
    projected m c (ix3 b s n)
      = ∑ k, normed (fun j => A0 m c (ix3 b s j)) (fun j => A2 m c (ix2 0 j)) k * (A3 m c (ix3 0 k n) : EReal) := by
  unfold projected
  rw [Cert.Reference3Ideal.Proj.proj_apply]
  simp only [Cert.Reference3Ideal.Proj.norm_apply]

variable (t : Fin cfg0.N)

theorem x_in (r j : Fin 1024) : (iblk m c 0 t : FVec Ideal S1024x1024 .f32) (ix2 r j)
    = A0 m c (ix3 ⟨(row t r).val / 2048, by omega⟩ ⟨(row t r).val % 2048, by omega⟩ j) := (x_at m c t r j).trans (v0_at m c _ j)

theorem p_in (r : Fin 1024) : (iblk m c 1 t : FVec Ideal S1x1x1024 .f32) (ix3 0 0 r)
    = place (A1 m c (ix2 ⟨(row t r).val / 2048, by omega⟩ ⟨(row t r).val % 2048, by omega⟩)) :=
  (p_at m c t r).trans (v2_at m c _ _ (row t r) rfl)

theorem g_in (j : Fin 1024) : (iblk m c 2 t : FVec Ideal S1x1024 .f32) (ix2 0 j) = A2 m c (ix2 0 j) :=
  (g_at m c t j).trans (v20_at m c j)

theorem f_in (k : Fin 8) : (iblk m c 3 t : FVec Ideal S8x1 .f32) (ix2 k 0) = freq k := (f_at m c t k).trans (v9_at m c k)

theorem w_in (k : Fin 1024) (n : Fin 2048) : (iblk m c 4 t : FVec Ideal S1024x2048 .bf16) (ix2 k n) = A3 m c (ix3 0 k (src n)) :=
  (w_at m c t k n).trans (v14_at m c k n)

theorem wv_in (n k : Fin 1024) : (iblk m c 5 t : FVec Ideal S1024x1024 .bf16) (ix2 n k) = A3 m c (ix3 0 k (vsrc n)) :=
  (wv_at m c t n k).trans (v18_at m c n k)

theorem cos_in (r : Fin 1024) (k : Fin 8) : cosAt (iblk m c 3 t) (iblk m c 1 t) r k
    = Ideal.cos (Cert.Reference3Ideal.Proj.angles (A1 m c) (ix3 ⟨(row t r).val / 2048, by omega⟩ ⟨(row t r).val % 2048, by omega⟩ k)) := by
  unfold cosAt
  rw [f_in m c t k, p_in m c t r, Cert.Reference3Ideal.Proj.angles_apply, mul_comm]

theorem sin_in (r : Fin 1024) (k : Fin 8) : sinAt (iblk m c 3 t) (iblk m c 1 t) r k
    = Ideal.sin (Cert.Reference3Ideal.Proj.angles (A1 m c) (ix3 ⟨(row t r).val / 2048, by omega⟩ ⟨(row t r).val % 2048, by omega⟩ k)) := by
  unfold sinAt
  rw [f_in m c t k, p_in m c t r, Cert.Reference3Ideal.Proj.angles_apply, mul_comm]

/-- A grid point leaves the reference's rows of queries and keys, -/
theorem rows_same (g : Fin 8) (r : Fin 1024) (e : Fin 256) :
    (show Vec Ideal S8x1024x256 .bf16 from (dats m 0 c).after 6 t) (ix3 g r e) = wantedRows m c (ix3 g (row t r) e) := by
  unfold wantedRows
  rw [rows_at, Cert.Reference3Ideal.Proj.first_apply, funext (cos_in m c t r), funext (sin_in m c t r)]
  simp only [projected_at, x_in, g_in, w_in]

/-- and the reference's columns of values. -/
theorem values_same (n r : Fin 1024) :
    (show Vec Ideal S1024x1024 .bf16 from (dats m 0 c).after 7 t) (ix2 n r) = wantedValues m c (ix2 n (row t r)) := by
  unfold wantedValues
  rw [values_at, Cert.Reference3Ideal.Proj.second_apply]
  simp only [projected_at, x_in, g_in, wv_in]

/-- The first array the call leaves, -/
theorem final_rows : (dats m 0 c).arrAt 6 cfg0.N = wantedRows m c := by
  refine (dats m 0 c).arrAt_eq_of_covers 6 (wantedRows m c) (by decide +kernel) fun t _ y => ?_
  blk_simp
  have y0 : (y 0).val < 8 := (y 0).isLt
  have y1 : (y 1).val < 1024 := (y 1).isLt
  have y2 : (y 2).val < 256 := (y 2).isLt
  have hy : y = ix3 ⟨(y 0).val, y0⟩ ⟨(y 1).val, y1⟩ ⟨(y 2).val, y2⟩ := by
    funext a
    fin_cases a <;> rfl
  rw [hy]
  refine (rows_same m c t ⟨(y 0).val, y0⟩ ⟨(y 1).val, y1⟩ ⟨(y 2).val, y2⟩).trans ?_
  refine congrArg (wantedRows m c) ?_
  unfold row
  blk_ext [idx t]

/-- and the second. -/
theorem final_values : (dats m 0 c).arrAt 7 cfg0.N = wantedValues m c := by
  refine (dats m 0 c).arrAt_eq_of_covers 7 (wantedValues m c) (by decide +kernel) fun t _ y => ?_
  blk_simp
  have y0 : (y 0).val < 1024 := (y 0).isLt
  have y1 : (y 1).val < 1024 := (y 1).isLt
  have hy : y = ix2 ⟨(y 0).val, y0⟩ ⟨(y 1).val, y1⟩ := by
    funext a
    fin_cases a <;> rfl
  rw [hy]
  refine (values_same m c t ⟨(y 0).val, y0⟩ ⟨(y 1).val, y1⟩).trans ?_
  refine congrArg (wantedValues m c) ?_
  unfold row
  blk_ext [idx t]

end Cert.Kernel3Ideal.Proj
-- ==== Proof.Sb.Rules.lean ====
/-
  A small program logic for the stick-breaking attention call's body, on the pattern of the differential attention's.
  The body works on twelve memory references: four inputs, the result and seven scratch arrays of four slots each, one
  slot per head. `St` is what the result and the scratch slots hold; `WP X p σ Q` says that the program `p`, run where
  the references of `X` hold the inputs of `X` and the state `σ`, ends with an answer and a state that satisfy `Q`.
-/
module

public import proofs.«01_k».proof.Proof.Gen.Kernel4Ideal.Skeleton
public import proofs.«01_k».proof.Proof.Gen.Kernel4Ideal.Launch
public import proofs.«01_k».proof.Proof.Diff.Rules

@[expose] public section

noncomputable section

namespace Cert.Kernel4Ideal.Sb

open Cert.Kernel4Ideal Cert.Kernel4Ideal.Gen
open Cert.KernelIdeal.Diff (Four Slots offSlot offSlot_inb)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Blocks of the inputs -/

/-- The offsets of row block `b`, head pair `h` of the queries, keys and results. -/
abbrev offRow (b : Fin 8) (h : Fin 2) : Fin 3 → Nat := ![0, 256 * b.val, 128 * h.val]
theorem offRow_inb (b : Fin 8) (h : Fin 2) : ∀ a, offRow b h a + S1x256x128.size a ≤ S1x2048x256.size a := by
  revert b h; decide
/-- The offsets of head `c`, column block `b` of the transposed values. -/
abbrev offCol (b : Fin 8) (c : Fin 4) : Fin 2 → Nat := ![64 * c.val, 256 * b.val]
theorem offCol_inb (b : Fin 8) (c : Fin 4) : ∀ a, offCol b c a + S64x256.size a ≤ S256x2048.size a := by
  revert b c; decide

section Blocks
variable {Val : EltTy → Type} {e : EltTy}
/-- Row block `b`, head pair `h` of a queries', keys' or results' array. -/
def rowBlk (X : S1x2048x256.Idx → Val e) (b : Fin 8) (h : Fin 2) : S1x256x128.Idx → Val e :=
  View.ld X (Rect.unit (s := S1x2048x256) (offRow b h) S1x256x128.size (offRow_inb b h))
/-- Head `c`, column block `b` of the transposed values. -/
def colBlk (X : S256x2048.Idx → Val e) (b : Fin 8) (c : Fin 4) : S64x256.Idx → Val e :=
  View.ld X (Rect.unit (s := S256x2048) (offCol b c) S64x256.size (offCol_inb b c))
/-- A results' array with its row block `b`, head pair `h` replaced. -/
def setRow (X : S1x2048x256.Idx → Val e) (b : Fin 8) (h : Fin 2) (w : S1x256x128.Idx → Val e) : S1x2048x256.Idx → Val e :=
  (Rect.unit (s := S1x2048x256) (offRow b h) S1x256x128.size (offRow_inb b h)).overlay X w
end Blocks

/-! ## The state and the logic -/

/-- What the body computes with: the memory references it is called on and the inputs they hold. -/
structure Ctx (F : FTy → Type) where
  c : Dev nD
  a2 : Memref sig .tc .vmem S1x128 .f32
  a3 : Memref sig .tc .vmem S1x2048x256 .bf16
  a4 : Memref sig .tc .vmem S1x2048x256 .bf16
  a5 : Memref sig .tc .vmem S256x2048 .bf16
  a6 : Memref sig .tc .vmem S1x2048x256 .bf16
  a7 : Memref sig .tc .vmem S4x256x256 .f32
  a8 : Memref sig .tc .vmem S4x256x256 .f32
  a9 : Memref sig .tc .vmem S4x1x256 .f32
  a10 : Memref sig .tc .vmem S4x1x256 .f32
  a11 : Memref sig .tc .vmem S4x256x256 .bf16
  a12 : Memref sig .tc .vmem S4x64x256 .f32
  a13 : Memref sig .tc .vmem S4x1x256 .f32
  g : Vec F S1x128 .f32
  q : Vec F S1x2048x256 .bf16
  k : Vec F S1x2048x256 .bf16
  v : Vec F S256x2048 .bf16

/-- What the body changes: the result, the two buffers of logits, the two of carries, the pending weights, the
    gathered products and the pending scales. -/
@[ext] structure St (F : FTy → Type) where
  O : Vec F S1x2048x256 .bf16
  WA : Four (Vec F S1x256x256 .f32)
  WB : Four (Vec F S1x256x256 .f32)
  CA : Four (Vec F S1x1x256 .f32)
  CB : Four (Vec F S1x1x256 .f32)
  P : Four (Vec F S1x256x256 .bf16)
  A : Four (Vec F S1x64x256 .f32)
  S : Four (Vec F S1x1x256 .f32)

variable (X : Ctx F)

/-- A reference owned whole at contents that satisfy `φ`. -/
def cell (c : Dev nD) {s : Shape} {e : EltTy} (m : Memref sig .tc .vmem s e) (φ : (s.Idx → Elt F e) → Prop) : sProp 𝕄 :=
  iprop(∃ Y, ⌜φ Y⌝ ∗ owns (c : Thread nD τ) m fullShare Y)

/-- The body's twelve references one by one. -/
def cells (σ : St F) : Fin 12 → sProp 𝕄
  | 0 => cell X.c X.a2 (· = X.g)
  | 1 => cell X.c X.a3 (· = X.q)
  | 2 => cell X.c X.a4 (· = X.k)
  | 3 => cell X.c X.a5 (· = X.v)
  | 4 => cell X.c X.a6 (· = σ.O)
  | 5 => cell X.c X.a7 (Slots · σ.WA)
  | 6 => cell X.c X.a8 (Slots · σ.WB)
  | 7 => cell X.c X.a9 (Slots · σ.CA)
  | 8 => cell X.c X.a10 (Slots · σ.CB)
  | 9 => cell X.c X.a11 (Slots · σ.P)
  | 10 => cell X.c X.a12 (Slots · σ.A)
  | 11 => cell X.c X.a13 (Slots · σ.S)

/-- All of them. -/
def own (σ : St F) : sProp 𝕄 := bigSep Finset.univ (cells X σ)

/-- `p` from state `σ` ends with an answer and a state in `Q`. -/
def WP {α : Type} (p : Prog (TpuEff nD τ sig (Elt F) Λ₀ .tc) α) (σ : St F) (Q : α → St F → Prop) : Prop :=
  ∀ (𝒱₀ : Variants) (E : Set ℕ), own X σ ⊢ wp (M := 𝕄) frame (wpE (defs₀ (F := F)) 𝒱₀ (X.c : Thread nD τ) none) E p
    (fun a => iprop(∃ σ', ⌜Q a σ'⌝ ∗ own X σ'))

variable {X} {α β : Type} {σ : St F}

theorem WP.ret {a : α} {Q : α → St F → Prop} (h : Q a σ) : WP X (.ret a) σ Q := by
  intro 𝒱₀ E
  rw [wp_ret]
  iintro H
  imodintro
  iexists σ
  isplitr
  · ipureintro; exact h
  · iexact H

theorem WP.pure {a : α} {Q : α → St F → Prop} (h : Q a σ) : WP X (Pure.pure a) σ Q := WP.ret h

theorem WP.bind {p : Prog (TpuEff nD τ sig (Elt F) Λ₀ .tc) α} {f : α → Prog (TpuEff nD τ sig (Elt F) Λ₀ .tc) β}
    {Q : β → St F → Prop} (h : WP X p σ fun a σ' => WP X (f a) σ' Q) : WP X (p >>= f) σ Q := by
  intro 𝒱₀ E
  rw [wp_bind]
  refine (h 𝒱₀ E).trans (wp_mono _ _ _ fun a => ?_)
  iintro ⟨%σ', %h', H⟩
  iapply (h' 𝒱₀ E)
  iexact H

/-- A last operation, as one that an answer follows. -/
theorem WP.tail {o : TpuEff nD τ sig (Elt F) Λ₀ .tc α} {Q : α → St F → Prop}
    (h : WP X (Prog.lift o >>= fun a => Pure.pure a) σ Q) : WP X (Prog.lift o) σ Q := h

theorem WP.mono {p : Prog (TpuEff nD τ sig (Elt F) Λ₀ .tc) α} {Q Q' : α → St F → Prop} (h : WP X p σ Q)
    (hQ : ∀ a σ', Q a σ' → Q' a σ') : WP X p σ Q' := by
  intro 𝒱₀ E
  refine (h 𝒱₀ E).trans (wp_mono _ _ _ fun a => ?_)
  iintro ⟨%σ', %h', H⟩
  iexists σ'
  isplitr
  · ipureintro; exact hQ a σ' h'
  · iexact H

/-- One reference taken out of the twelve, and put back where another state agrees on the others. -/
theorem own_split (j : Fin 12) (σ : St F) : own X σ = iprop(cells X σ j ∗ bigSep (Finset.univ.erase j) (cells X σ)) :=
  bigSep_univ_split j

theorem own_join (j : Fin 12) (σ σ' : St F) (h : ∀ i, i ≠ j → cells X σ' i = cells X σ i) :
    iprop(cells X σ' j ∗ bigSep (Finset.univ.erase j) (cells X σ)) = own X σ' := by
  rw [own_split j σ']
  congr 1
  exact (bigSep_congr fun i hi => h i (Finset.ne_of_mem_erase hi)).symm

section Step
variable {s : Shape} {e : EltTy} {m : Memref sig .tc .vmem s e} {Q : α → St F → Prop}

/-- A load of reference `j`: the program goes on at the block read. -/
theorem WP.load (j : Fin 12) {φ : (s.Idx → Elt F e) → Prop} (hj : cells X σ j = cell X.c m φ) {r : Rect s}
    {hl : m.view.LoadsAt r.toLoadRect} {k : (r.shape.Idx → Elt F e) → Prog (TpuEff nD τ sig (Elt F) Λ₀ .tc) α}
    {v : r.shape.Idx → Elt F e} (hv : ∀ Y, φ Y → View.ld Y r = v) (h : WP X (k v) σ Q) :
    WP X (Prog.lift (.load m r.toLoadRect hl) >>= k) σ Q := by
  intro 𝒱₀ E
  have hk := h 𝒱₀ E
  rw [own_split j, hj] at hk ⊢
  rw [Prog.bind_lift]
  unfold cell owns at hk ⊢
  iintro ⟨⟨%Y, %hY, %f, %hf, H⟩, HR⟩
  have hval : m.view.readAt (Elt F) r.toLoadRect f = v := by
    rw [← hv Y hY, ← hf]; rfl
  iapply (wp_load (defs := defs₀ (F := F)) 𝒱₀ (X.c : Thread nD τ) none E (m := m) (r := r.toLoadRect) (hl := hl) (k := k) (f := f)
    (m.view.setOn_subset_set _)) $$ H
  iintro H
  rw [hval]
  iapply hk
  isplitl [H]
  · iexists Y
    isplitr; · ipureintro; exact hY
    iexists f
    isplitr; · ipureintro; exact hf
    iexact H
  · iexact HR

/-- A store to reference `j`. -/
theorem WP.store (j : Fin 12) {φ φ' : (s.Idx → Elt F e) → Prop} (hj : cells X σ j = cell X.c m φ) {r : Rect s}
    {w : r.shape.Idx → Elt F e} {hx : (m.access r).Stores Finset.univ} {hm : Finset.univ = Finset.univ ∨ ∀ a, r.stride a = 1}
    {k : PUnit → Prog (TpuEff nD τ sig (Elt F) Λ₀ .tc) α} (σ' : St F)
    (hj' : cells X σ' j = cell X.c m φ') (hne : ∀ i, i ≠ j → cells X σ' i = cells X σ i)
    (hw : ∀ Y, φ Y → φ' (r.overlay Y w)) (h : WP X (k ⟨⟩) σ' Q) :
    WP X (Prog.lift (.store m r w Finset.univ hx hm) >>= k) σ Q := by
  intro 𝒱₀ E
  have hk := h 𝒱₀ E
  rw [← own_join j σ σ' hne, hj'] at hk
  rw [own_split j, hj]
  rw [Prog.bind_lift]
  unfold cell owns at hk ⊢
  iintro ⟨⟨%Y, %hY, %f, %hf, H⟩, HR⟩
  iapply (wp_store (defs := defs₀ (F := F)) 𝒱₀ (X.c : Thread nD τ) none E (m := m) (r := r) (w := w) (Mk := Finset.univ) (hx := hx) (hm := hm)
    (k := k) (f := f) (Memref.setOn_access_subset m r Finset.univ)) $$ H
  iintro H
  iapply hk
  isplitl [H]
  · iexists r.overlay Y w
    isplitr; · ipureintro; exact hw Y hY
    iexists ((m.access r).write (Elt F) f w Finset.univ)
    isplitr
    · ipureintro
      funext y
      by_cases hy : y ∈ Finset.univ.map r.emb
      · obtain ⟨x, -, rfl⟩ := Finset.mem_map.mp hy
        rw [Rect.overlay_emb]
        exact View.read_slice_write_emb r f w (Finset.mem_univ x)
      · rw [Rect.overlay_of_not_mem _ _ _ (by rwa [Rect.map_emb_univ] at hy), ← hf]
        exact View.read_slice_write_of_not_mem r f w Finset.univ hy
    iexact H
  · iexact HR

end Step

/-! ## The rules for the body's references -/

/-- The body's programs. -/
abbrev Pg (F : FTy → Type) (α : Type) : Type 1 := Prog (TpuEff nD τ sig (Elt F) Λ₀ .tc) α

/-! Changing one reference's contents leaves the others' cells. -/

theorem cells_O (σ : St F) (y) : ∀ i, i ≠ (4 : Fin 12) → cells X { σ with O := y } i = cells X σ i := by
  intro i hi
  fin_cases i <;> first | rfl | exact absurd rfl hi

theorem cells_WA (σ : St F) (y) : ∀ i, i ≠ (5 : Fin 12) → cells X { σ with WA := y } i = cells X σ i := by
  intro i hi
  fin_cases i <;> first | rfl | exact absurd rfl hi

theorem cells_WB (σ : St F) (y) : ∀ i, i ≠ (6 : Fin 12) → cells X { σ with WB := y } i = cells X σ i := by
  intro i hi
  fin_cases i <;> first | rfl | exact absurd rfl hi

theorem cells_CA (σ : St F) (y) : ∀ i, i ≠ (7 : Fin 12) → cells X { σ with CA := y } i = cells X σ i := by
  intro i hi
  fin_cases i <;> first | rfl | exact absurd rfl hi

theorem cells_CB (σ : St F) (y) : ∀ i, i ≠ (8 : Fin 12) → cells X { σ with CB := y } i = cells X σ i := by
  intro i hi
  fin_cases i <;> first | rfl | exact absurd rfl hi

theorem cells_P (σ : St F) (y) : ∀ i, i ≠ (9 : Fin 12) → cells X { σ with P := y } i = cells X σ i := by
  intro i hi
  fin_cases i <;> first | rfl | exact absurd rfl hi

theorem cells_A (σ : St F) (y) : ∀ i, i ≠ (10 : Fin 12) → cells X { σ with A := y } i = cells X σ i := by
  intro i hi
  fin_cases i <;> first | rfl | exact absurd rfl hi

theorem cells_S (σ : St F) (y) : ∀ i, i ≠ (11 : Fin 12) → cells X { σ with S := y } i = cells X σ i := by
  intro i hi
  fin_cases i <;> first | rfl | exact absurd rfl hi

section Named
variable {Q : α → St F → Prop}

theorem WP.load2 {r : Rect S1x128} {hl} {k : (r.shape.Idx → Elt F .f32) → Pg F α} (h : WP X (k (View.ld X.g r)) σ Q) :
    WP X (Prog.lift (.load X.a2 r.toLoadRect hl) >>= k) σ Q :=
  WP.load 0 rfl (fun _ hY => by rw [hY]) h

theorem WP.load3 (b : Fin 8) (hd : Fin 2) {off : Fin 3 → Nat} {inb : ∀ i, off i + S1x256x128.size i ≤ S1x2048x256.size i} {hl : X.a3.view.LoadsAt (Rect.unit (s := S1x2048x256) off S1x256x128.size inb).toLoadRect} {k : (S1x256x128.Idx → Elt F .bf16) → Pg F α}
    (ho : off = offRow b hd) (h : WP X (k (rowBlk X.q b hd)) σ Q) :
    WP X (Prog.lift (.load X.a3 (Rect.unit (s := S1x2048x256) off S1x256x128.size inb).toLoadRect hl) >>= k) σ Q := by
  subst ho
  exact WP.load (m := X.a3) (r := Rect.unit (s := S1x2048x256) (offRow b hd) S1x256x128.size inb) (hl := hl) (k := k) (v := rowBlk X.q b hd) 1 rfl (fun _ hY => by rw [hY]; rfl) h

theorem WP.load4 (b : Fin 8) (hd : Fin 2) {off : Fin 3 → Nat} {inb : ∀ i, off i + S1x256x128.size i ≤ S1x2048x256.size i} {hl : X.a4.view.LoadsAt (Rect.unit (s := S1x2048x256) off S1x256x128.size inb).toLoadRect} {k : (S1x256x128.Idx → Elt F .bf16) → Pg F α}
    (ho : off = offRow b hd) (h : WP X (k (rowBlk X.k b hd)) σ Q) :
    WP X (Prog.lift (.load X.a4 (Rect.unit (s := S1x2048x256) off S1x256x128.size inb).toLoadRect hl) >>= k) σ Q := by
  subst ho
  exact WP.load (m := X.a4) (r := Rect.unit (s := S1x2048x256) (offRow b hd) S1x256x128.size inb) (hl := hl) (k := k) (v := rowBlk X.k b hd) 2 rfl (fun _ hY => by rw [hY]; rfl) h

theorem WP.load5 (b : Fin 8) (c : Fin 4) {off : Fin 2 → Nat} {inb : ∀ i, off i + S64x256.size i ≤ S256x2048.size i} {hl : X.a5.view.LoadsAt (Rect.unit (s := S256x2048) off S64x256.size inb).toLoadRect} {k : (S64x256.Idx → Elt F .bf16) → Pg F α}
    (ho : off = offCol b c) (h : WP X (k (colBlk X.v b c)) σ Q) :
    WP X (Prog.lift (.load X.a5 (Rect.unit (s := S256x2048) off S64x256.size inb).toLoadRect hl) >>= k) σ Q := by
  subst ho
  exact WP.load (m := X.a5) (r := Rect.unit (s := S256x2048) (offCol b c) S64x256.size inb) (hl := hl) (k := k) (v := colBlk X.v b c) 3 rfl (fun _ hY => by rw [hY]; rfl) h

theorem WP.load6 {r : Rect S1x2048x256} {hl} {k : (r.shape.Idx → Elt F .bf16) → Pg F α} (h : WP X (k (View.ld σ.O r)) σ Q) :
    WP X (Prog.lift (.load X.a6 r.toLoadRect hl) >>= k) σ Q :=
  WP.load 4 rfl (fun _ hY => by rw [hY]) h

theorem WP.load7 (d : Fin 4) {off : Fin 3 → Nat} {inb : ∀ i, off i + S1x256x256.size i ≤ S4x256x256.size i} {hl : X.a7.view.LoadsAt (Rect.unit (s := S4x256x256) off S1x256x256.size inb).toLoadRect} {k : (S1x256x256.Idx → Elt F .f32) → Pg F α}
    (ho : off = offSlot d) (h : WP X (k (σ.WA.get d)) σ Q) :
    WP X (Prog.lift (.load X.a7 (Rect.unit (s := S4x256x256) off S1x256x256.size inb).toLoadRect hl) >>= k) σ Q :=
  WP.load (m := X.a7) (r := Rect.unit (s := S4x256x256) off S1x256x256.size inb) (hl := hl) (k := k) (v := σ.WA.get d) 5 rfl (fun _ hY => Slots.ld hY d ho inb) h

theorem WP.store7 (d : Fin 4) {off : Fin 3 → Nat} {inb : ∀ i, off i + S1x256x256.size i ≤ S4x256x256.size i} {w : S1x256x256.Idx → Elt F .f32} {hx : (X.a7.access (Rect.unit (s := S4x256x256) off S1x256x256.size inb)).Stores Finset.univ}
    {hm : (Finset.univ : Finset (Rect.unit (s := S4x256x256) off S1x256x256.size inb).shape.Idx) = Finset.univ ∨ ∀ i, (Rect.unit (s := S4x256x256) off S1x256x256.size inb).stride i = 1} {k : PUnit → Pg F α}
    (ho : off = offSlot d) (h : WP X (k ⟨⟩) { σ with WA := σ.WA.set d w } Q) :
    WP X (Prog.lift (.store X.a7 (Rect.unit (s := S4x256x256) off S1x256x256.size inb) w Finset.univ hx hm) >>= k) σ Q :=
  WP.store (k := k) 5 rfl { σ with WA := σ.WA.set d w } rfl
    (cells_WA σ _) (fun _ hY => Slots.overlay hY d ho inb w) h

theorem WP.load8 (d : Fin 4) {off : Fin 3 → Nat} {inb : ∀ i, off i + S1x256x256.size i ≤ S4x256x256.size i} {hl : X.a8.view.LoadsAt (Rect.unit (s := S4x256x256) off S1x256x256.size inb).toLoadRect} {k : (S1x256x256.Idx → Elt F .f32) → Pg F α}
    (ho : off = offSlot d) (h : WP X (k (σ.WB.get d)) σ Q) :
    WP X (Prog.lift (.load X.a8 (Rect.unit (s := S4x256x256) off S1x256x256.size inb).toLoadRect hl) >>= k) σ Q :=
  WP.load (m := X.a8) (r := Rect.unit (s := S4x256x256) off S1x256x256.size inb) (hl := hl) (k := k) (v := σ.WB.get d) 6 rfl (fun _ hY => Slots.ld hY d ho inb) h

theorem WP.store8 (d : Fin 4) {off : Fin 3 → Nat} {inb : ∀ i, off i + S1x256x256.size i ≤ S4x256x256.size i} {w : S1x256x256.Idx → Elt F .f32} {hx : (X.a8.access (Rect.unit (s := S4x256x256) off S1x256x256.size inb)).Stores Finset.univ}
    {hm : (Finset.univ : Finset (Rect.unit (s := S4x256x256) off S1x256x256.size inb).shape.Idx) = Finset.univ ∨ ∀ i, (Rect.unit (s := S4x256x256) off S1x256x256.size inb).stride i = 1} {k : PUnit → Pg F α}
    (ho : off = offSlot d) (h : WP X (k ⟨⟩) { σ with WB := σ.WB.set d w } Q) :
    WP X (Prog.lift (.store X.a8 (Rect.unit (s := S4x256x256) off S1x256x256.size inb) w Finset.univ hx hm) >>= k) σ Q :=
  WP.store (k := k) 6 rfl { σ with WB := σ.WB.set d w } rfl
    (cells_WB σ _) (fun _ hY => Slots.overlay hY d ho inb w) h

theorem WP.load9 (d : Fin 4) {off : Fin 3 → Nat} {inb : ∀ i, off i + S1x1x256.size i ≤ S4x1x256.size i} {hl : X.a9.view.LoadsAt (Rect.unit (s := S4x1x256) off S1x1x256.size inb).toLoadRect} {k : (S1x1x256.Idx → Elt F .f32) → Pg F α}
    (ho : off = offSlot d) (h : WP X (k (σ.CA.get d)) σ Q) :
    WP X (Prog.lift (.load X.a9 (Rect.unit (s := S4x1x256) off S1x1x256.size inb).toLoadRect hl) >>= k) σ Q :=
  WP.load (m := X.a9) (r := Rect.unit (s := S4x1x256) off S1x1x256.size inb) (hl := hl) (k := k) (v := σ.CA.get d) 7 rfl (fun _ hY => Slots.ld hY d ho inb) h

theorem WP.store9 (d : Fin 4) {off : Fin 3 → Nat} {inb : ∀ i, off i + S1x1x256.size i ≤ S4x1x256.size i} {w : S1x1x256.Idx → Elt F .f32} {hx : (X.a9.access (Rect.unit (s := S4x1x256) off S1x1x256.size inb)).Stores Finset.univ}
    {hm : (Finset.univ : Finset (Rect.unit (s := S4x1x256) off S1x1x256.size inb).shape.Idx) = Finset.univ ∨ ∀ i, (Rect.unit (s := S4x1x256) off S1x1x256.size inb).stride i = 1} {k : PUnit → Pg F α}
    (ho : off = offSlot d) (h : WP X (k ⟨⟩) { σ with CA := σ.CA.set d w } Q) :
    WP X (Prog.lift (.store X.a9 (Rect.unit (s := S4x1x256) off S1x1x256.size inb) w Finset.univ hx hm) >>= k) σ Q :=
  WP.store (k := k) 7 rfl { σ with CA := σ.CA.set d w } rfl
    (cells_CA σ _) (fun _ hY => Slots.overlay hY d ho inb w) h

theorem WP.load10 (d : Fin 4) {off : Fin 3 → Nat} {inb : ∀ i, off i + S1x1x256.size i ≤ S4x1x256.size i} {hl : X.a10.view.LoadsAt (Rect.unit (s := S4x1x256) off S1x1x256.size inb).toLoadRect} {k : (S1x1x256.Idx → Elt F .f32) → Pg F α}
    (ho : off = offSlot d) (h : WP X (k (σ.CB.get d)) σ Q) :
    WP X (Prog.lift (.load X.a10 (Rect.unit (s := S4x1x256) off S1x1x256.size inb).toLoadRect hl) >>= k) σ Q :=
  WP.load (m := X.a10) (r := Rect.unit (s := S4x1x256) off S1x1x256.size inb) (hl := hl) (k := k) (v := σ.CB.get d) 8 rfl (fun _ hY => Slots.ld hY d ho inb) h

theorem WP.store10 (d : Fin 4) {off : Fin 3 → Nat} {inb : ∀ i, off i + S1x1x256.size i ≤ S4x1x256.size i} {w : S1x1x256.Idx → Elt F .f32} {hx : (X.a10.access (Rect.unit (s := S4x1x256) off S1x1x256.size inb)).Stores Finset.univ}
    {hm : (Finset.univ : Finset (Rect.unit (s := S4x1x256) off S1x1x256.size inb).shape.Idx) = Finset.univ ∨ ∀ i, (Rect.unit (s := S4x1x256) off S1x1x256.size inb).stride i = 1} {k : PUnit → Pg F α}
    (ho : off = offSlot d) (h : WP X (k ⟨⟩) { σ with CB := σ.CB.set d w } Q) :
    WP X (Prog.lift (.store X.a10 (Rect.unit (s := S4x1x256) off S1x1x256.size inb) w Finset.univ hx hm) >>= k) σ Q :=
  WP.store (k := k) 8 rfl { σ with CB := σ.CB.set d w } rfl
    (cells_CB σ _) (fun _ hY => Slots.overlay hY d ho inb w) h

theorem WP.load11 (d : Fin 4) {off : Fin 3 → Nat} {inb : ∀ i, off i + S1x256x256.size i ≤ S4x256x256.size i} {hl : X.a11.view.LoadsAt (Rect.unit (s := S4x256x256) off S1x256x256.size inb).toLoadRect} {k : (S1x256x256.Idx → Elt F .bf16) → Pg F α}
    (ho : off = offSlot d) (h : WP X (k (σ.P.get d)) σ Q) :
    WP X (Prog.lift (.load X.a11 (Rect.unit (s := S4x256x256) off S1x256x256.size inb).toLoadRect hl) >>= k) σ Q :=
  WP.load (m := X.a11) (r := Rect.unit (s := S4x256x256) off S1x256x256.size inb) (hl := hl) (k := k) (v := σ.P.get d) 9 rfl (fun _ hY => Slots.ld hY d ho inb) h

theorem WP.store11 (d : Fin 4) {off : Fin 3 → Nat} {inb : ∀ i, off i + S1x256x256.size i ≤ S4x256x256.size i} {w : S1x256x256.Idx → Elt F .bf16} {hx : (X.a11.access (Rect.unit (s := S4x256x256) off S1x256x256.size inb)).Stores Finset.univ}
    {hm : (Finset.univ : Finset (Rect.unit (s := S4x256x256) off S1x256x256.size inb).shape.Idx) = Finset.univ ∨ ∀ i, (Rect.unit (s := S4x256x256) off S1x256x256.size inb).stride i = 1} {k : PUnit → Pg F α}
    (ho : off = offSlot d) (h : WP X (k ⟨⟩) { σ with P := σ.P.set d w } Q) :
    WP X (Prog.lift (.store X.a11 (Rect.unit (s := S4x256x256) off S1x256x256.size inb) w Finset.univ hx hm) >>= k) σ Q :=
  WP.store (k := k) 9 rfl { σ with P := σ.P.set d w } rfl
    (cells_P σ _) (fun _ hY => Slots.overlay hY d ho inb w) h

theorem WP.load12 (d : Fin 4) {off : Fin 3 → Nat} {inb : ∀ i, off i + S1x64x256.size i ≤ S4x64x256.size i} {hl : X.a12.view.LoadsAt (Rect.unit (s := S4x64x256) off S1x64x256.size inb).toLoadRect} {k : (S1x64x256.Idx → Elt F .f32) → Pg F α}
    (ho : off = offSlot d) (h : WP X (k (σ.A.get d)) σ Q) :
    WP X (Prog.lift (.load X.a12 (Rect.unit (s := S4x64x256) off S1x64x256.size inb).toLoadRect hl) >>= k) σ Q :=
  WP.load (m := X.a12) (r := Rect.unit (s := S4x64x256) off S1x64x256.size inb) (hl := hl) (k := k) (v := σ.A.get d) 10 rfl (fun _ hY => Slots.ld hY d ho inb) h

theorem WP.store12 (d : Fin 4) {off : Fin 3 → Nat} {inb : ∀ i, off i + S1x64x256.size i ≤ S4x64x256.size i} {w : S1x64x256.Idx → Elt F .f32} {hx : (X.a12.access (Rect.unit (s := S4x64x256) off S1x64x256.size inb)).Stores Finset.univ}
    {hm : (Finset.univ : Finset (Rect.unit (s := S4x64x256) off S1x64x256.size inb).shape.Idx) = Finset.univ ∨ ∀ i, (Rect.unit (s := S4x64x256) off S1x64x256.size inb).stride i = 1} {k : PUnit → Pg F α}
    (ho : off = offSlot d) (h : WP X (k ⟨⟩) { σ with A := σ.A.set d w } Q) :
    WP X (Prog.lift (.store X.a12 (Rect.unit (s := S4x64x256) off S1x64x256.size inb) w Finset.univ hx hm) >>= k) σ Q :=
  WP.store (k := k) 10 rfl { σ with A := σ.A.set d w } rfl
    (cells_A σ _) (fun _ hY => Slots.overlay hY d ho inb w) h

theorem WP.load13 (d : Fin 4) {off : Fin 3 → Nat} {inb : ∀ i, off i + S1x1x256.size i ≤ S4x1x256.size i} {hl : X.a13.view.LoadsAt (Rect.unit (s := S4x1x256) off S1x1x256.size inb).toLoadRect} {k : (S1x1x256.Idx → Elt F .f32) → Pg F α}
    (ho : off = offSlot d) (h : WP X (k (σ.S.get d)) σ Q) :
    WP X (Prog.lift (.load X.a13 (Rect.unit (s := S4x1x256) off S1x1x256.size inb).toLoadRect hl) >>= k) σ Q :=
  WP.load (m := X.a13) (r := Rect.unit (s := S4x1x256) off S1x1x256.size inb) (hl := hl) (k := k) (v := σ.S.get d) 11 rfl (fun _ hY => Slots.ld hY d ho inb) h

theorem WP.store13 (d : Fin 4) {off : Fin 3 → Nat} {inb : ∀ i, off i + S1x1x256.size i ≤ S4x1x256.size i} {w : S1x1x256.Idx → Elt F .f32} {hx : (X.a13.access (Rect.unit (s := S4x1x256) off S1x1x256.size inb)).Stores Finset.univ}
    {hm : (Finset.univ : Finset (Rect.unit (s := S4x1x256) off S1x1x256.size inb).shape.Idx) = Finset.univ ∨ ∀ i, (Rect.unit (s := S4x1x256) off S1x1x256.size inb).stride i = 1} {k : PUnit → Pg F α}
    (ho : off = offSlot d) (h : WP X (k ⟨⟩) { σ with S := σ.S.set d w } Q) :
    WP X (Prog.lift (.store X.a13 (Rect.unit (s := S4x1x256) off S1x1x256.size inb) w Finset.univ hx hm) >>= k) σ Q :=
  WP.store (k := k) 11 rfl { σ with S := σ.S.set d w } rfl
    (cells_S σ _) (fun _ hY => Slots.overlay hY d ho inb w) h

/-- A store to the result, the array it leaves given by an equation. -/
theorem WP.storeO {r : Rect S1x2048x256} {w : r.shape.Idx → Elt F .bf16} {hx : (X.a6.access r).Stores Finset.univ}
    {hm : (Finset.univ : Finset r.shape.Idx) = Finset.univ ∨ ∀ i, r.stride i = 1} {k : PUnit → Pg F α} (o : Vec F S1x2048x256 .bf16)
    (ho : r.overlay σ.O w = o) (h : WP X (k ⟨⟩) { σ with O := o } Q) :
    WP X (Prog.lift (.store X.a6 r w Finset.univ hx hm) >>= k) σ Q :=
  WP.store (k := k) 4 rfl { σ with O := o } rfl (cells_O σ _) (fun Y hY => by rw [hY]; exact ho) h

theorem WP.store6 (b : Fin 8) (hd : Fin 2) {off : Fin 3 → Nat} {inb : ∀ i, off i + S1x256x128.size i ≤ S1x2048x256.size i} {w : S1x256x128.Idx → Elt F .bf16} {hx : (X.a6.access (Rect.unit (s := S1x2048x256) off S1x256x128.size inb)).Stores Finset.univ}
    {hm : (Finset.univ : Finset (Rect.unit (s := S1x2048x256) off S1x256x128.size inb).shape.Idx) = Finset.univ ∨ ∀ i, (Rect.unit (s := S1x2048x256) off S1x256x128.size inb).stride i = 1} {k : PUnit → Pg F α}
    (ho : off = offRow b hd) (h : WP X (k ⟨⟩) { σ with O := setRow σ.O b hd w } Q) :
    WP X (Prog.lift (.store X.a6 (Rect.unit (s := S1x2048x256) off S1x256x128.size inb) w Finset.univ hx hm) >>= k) σ Q := by
  subst ho
  exact WP.storeO (k := k) (setRow σ.O b hd w) rfl h

/-- A counted loop, by an invariant on the answer and the state. -/
theorem WP.loop {n : Nat} {γ : Type} (L : Scf.Loop n) (ok) (init : γ) (body : Fin L.trips → γ → Pg F γ)
    (J : Nat → γ → St F → Prop) (h0 : J 0 init σ)
    (hstep : ∀ (t : Fin L.trips) (a : γ) (σ' : St F), J t a σ' → WP X (body t a) σ' fun a' σ'' => J (t.val + 1) a' σ'')
    {Q : γ → St F → Prop} (hk : ∀ a σ', J L.trips a σ' → Q a σ') :
    WP X (Scf.Loop.for L ok init body) σ Q := by
  intro 𝒱₀ E
  refine BIBase.Entails.trans ?_ (Scf.wp_for _ _ _ _ _ _ ok init body
    (fun t a => iprop(∃ σ', ⌜J t a σ'⌝ ∗ own X σ')) (fun t a => ?_))
  · iintro H
    isplitl
    · iexists σ
      isplitr; · ipureintro; exact h0
      iexact H
    · iintro %a ⟨%σ', %h, H⟩
      iexists σ'
      isplitr; · ipureintro; exact hk a σ' h
      iexact H
  · iintro ⟨%σ', %h, H⟩
    iapply (hstep t a σ' h 𝒱₀ E)
    iexact H

end Named

end Cert.Kernel4Ideal.Sb

end
-- ==== Proof.Sb.Step.lean ====
/-
  What one tile of the stick-breaking attention call computes, as plain functions of blocks: the logits (base two) of a
  block of keys against a block of queries for each of the four heads, one step over a key block, and the tile's result.
-/
module

public import proofs.«01_k».proof.Proof.Sb.Rules

@[expose] public section

noncomputable section

namespace Cert.Kernel4Ideal.Sb

open Cert.Kernel4Ideal Cert.Kernel4Ideal.Gen
open Cert.KernelIdeal.Diff (Four Slots offSlot offSlot_inb)
open Idealize.ShloMosaic Idealize.ShloMosaic.TcCoe Idealize.ShloMosaic.Tactic

variable {F : FTy → Type} [FloatOps F] [Named F]

/-- The lanes below 64: those of an even head. -/
abbrev evenLanes : IVec S1x128 1 := k0_pay272
/-- Ones where the column is at or after the row. -/
abbrev tri : FVec F S256x256 .bf16 := k0_pay273

/-- Entries above the diagonal of a block of keys (rows) against queries (columns): those that are kept. -/
def strict : IVec S256x256 1 :=
  cmpi .slt (iota .tc S256x256 32 [0] iota_S256x256_d0_w32) (iota .tc S256x256 32 [1] iota_S256x256_d1_w32)

/-- Keys (rows) against queries (columns), the queries' lanes of the odd head zeroed. -/
def scEven (kk qq : Vec F S1x256x128 .bf16) : FVec F S256x256 .f32 :=
  matmul dot_S256x128_S256x128_S256x256_1_1_0_0_n_n none (shapeCast S256x128 kk shapeCasts_S1x256x128_S256x128)
    (select (broadcastTo S256x128 (shapeCast S1x128 evenLanes shapeCasts_S1x128_S1x128) broadcasts_S1x128_S256x128)
      (shapeCast S256x128 qq shapeCasts_S1x256x128_S256x128)
      (broadcast S256x128 (Scalar.ofBits .bf16 0x0000#16))) (constant S256x256 .f32 0x00000000#32)

/-- Keys (rows) against queries (columns), the queries' lanes of the even head zeroed. -/
def scOdd (kk qq : Vec F S1x256x128 .bf16) : FVec F S256x256 .f32 :=
  matmul dot_S256x128_S256x128_S256x256_1_1_0_0_n_n none (shapeCast S256x128 kk shapeCasts_S1x256x128_S256x128)
    (select (broadcastTo S256x128 (shapeCast S1x128 evenLanes shapeCasts_S1x128_S1x128) broadcasts_S1x128_S256x128)
      (broadcast S256x128 (Scalar.ofBits .bf16 0x0000#16))
      (shapeCast S256x128 qq shapeCasts_S1x256x128_S256x128)) (constant S256x256 .f32 0x00000000#32)

/-- A slot's logits. -/
def slot (s : FVec F S256x256 .f32) : Vec F S1x256x256 .f32 := shapeCast S1x256x256 s shapeCasts_S256x256_S1x256x256
/-- The logits in a slot. -/
def unslot (s : Vec F S1x256x256 .f32) : FVec F S256x256 .f32 := shapeCast S256x256 s shapeCasts_S1x256x256_S256x256

variable (X : Ctx F)

/-- The four heads' logits of key block `b` against query block `i`, as the slots hold them. -/
def scores (i b : Fin 8) : Four (Vec F S1x256x256 .f32) :=
  ⟨slot (scEven (rowBlk X.k b 0) (rowBlk X.q i 0)), slot (scOdd (rowBlk X.k b 0) (rowBlk X.q i 0)),
   slot (scEven (rowBlk X.k b 1) (rowBlk X.q i 1)), slot (scOdd (rowBlk X.k b 1) (rowBlk X.q i 1))⟩

/-- An earlier block's entries, used as they are. -/
def plain (s : FVec F S256x256 .f32) : FVec F S256x256 .f32 := s
/-- A diagonal block's entries: those of the query itself and of later keys replaced by zero. -/
def masked (s : FVec F S256x256 .f32) : FVec F S256x256 .f32 :=
  select strict s (broadcast S256x256 (Scalar.ofBits .f32 0x00000000#32))

/-- Minus the base-two logarithm of what a key leaves of the stick. -/
def negl (w : Vec F S1x256x256 .f32) : FVec F S256x256 .f32 :=
  maximumf (unslot w) (mulf (log (addf (broadcast S256x256 (Scalar.ofBits .f32 0x3F800000#32))
    (exp2 (minimumf (unslot w) (broadcast S256x256 (Scalar.ofBits .f32 0x42800000#32))))))
    (broadcast S256x256 (Named.named κ "log2e" 0x3FB8AA3B#32)))

/-- Its sums from each key of the block to the block's last one. -/
def incl (f : FVec F S256x256 .f32 → FVec F S256x256 .f32) (w : Vec F S1x256x256 .f32) : FVec F S256x256 .f32 :=
  matmul dot_S256x256_S256x256_S256x256_1_0_0_1_n_n none tri (truncf .bf16 (f (negl w)) bitsLt_bf16_f32)
    (constant S256x256 .f32 0x00000000#32)

/-- The carry after a block, -/
def stC (f : FVec F S256x256 .f32 → FVec F S256x256 .f32) (w : Vec F S1x256x256 .f32) (c : Vec F S1x1x256 .f32) : Vec F S1x1x256 .f32 :=
  shapeCast S1x1x256 (addf (shapeCast S1x256 c shapeCasts_S1x1x256_S1x256)
    (extractStridedSlice S1x256 ![0, 0] (incl f w) slices_S256x256_o0_0_S1x256)) shapeCasts_S1x256_S1x1x256
/-- the block's weights without the carry, -/
def stP (f : FVec F S256x256 .f32 → FVec F S256x256 .f32) (w : Vec F S1x256x256 .f32) : Vec F S1x256x256 .bf16 :=
  shapeCast S1x256x256 (truncf .bf16 (f (exp2 (subf (unslot w) (incl f w)))) bitsLt_bf16_f32) shapeCasts_S256x256_S1x256x256
/-- the factor of the carry, -/
def stS (c : Vec F S1x1x256 .f32) : Vec F S1x1x256 .f32 :=
  shapeCast S1x1x256 (exp2 (subf (broadcast S1x256 (Scalar.ofBits .f32 0x00000000#32))
    (shapeCast S1x256 c shapeCasts_S1x1x256_S1x256))) shapeCasts_S1x256_S1x1x256
/-- and the product with the values, added. -/
def stA (v : Vec F S64x256 .bf16) (p : Vec F S1x256x256 .bf16) (s : Vec F S1x1x256 .f32) (a : Vec F S1x64x256 .f32) : Vec F S1x64x256 .f32 :=
  shapeCast S1x64x256 (addf (shapeCast S64x256 a shapeCasts_S1x64x256_S64x256)
    (mulf (broadcastTo S64x256 (shapeCast S1x256 s shapeCasts_S1x1x256_S1x256) broadcasts_S1x256_S64x256)
      (matmul dot_S64x256_S256x256_S64x256_1_0_0_1_n_n none (shapeCast S64x256 v shapeCasts_S64x256_S64x256)
        (shapeCast S256x256 p shapeCasts_S1x256x256_S256x256) (constant S64x256 .f32 0x00000000#32))))
    shapeCasts_S64x256_S1x64x256

/-- What a tile gathers: the carries, the pending weights and scales, and the products so far. -/
structure Run (F : FTy → Type) where
  C : Four (Vec F S1x1x256 .f32)
  P : Four (Vec F S1x256x256 .bf16)
  A : Four (Vec F S1x64x256 .f32)
  S : Four (Vec F S1x1x256 .f32)

/-- The carry at the start. -/
def zeroC : Vec F S1x1x256 .f32 := shapeCast S1x1x256 (broadcast S1x256 (Scalar.ofBits .f32 0x00000000#32)) shapeCasts_S1x256_S1x1x256
/-- The products at the start. -/
def zeroA : Vec F S1x64x256 .f32 := shapeCast S1x64x256 (broadcast S64x256 (Scalar.ofBits .f32 0x00000000#32)) shapeCasts_S64x256_S1x64x256

/-- The step over the diagonal block. -/
def stepD (i : Fin 8) : Run F :=
  let W := scores X i i
  { C := ⟨stC masked W.x0 zeroC, stC masked W.x1 zeroC, stC masked W.x2 zeroC, stC masked W.x3 zeroC⟩
    P := ⟨stP masked W.x0, stP masked W.x1, stP masked W.x2, stP masked W.x3⟩
    A := ⟨zeroA, zeroA, zeroA, zeroA⟩
    S := ⟨stS zeroC, stS zeroC, stS zeroC, stS zeroC⟩ }

/-- The pending products, added: those of key block `b`. -/
def addA (b : Fin 8) (r : Run F) : Four (Vec F S1x64x256 .f32) :=
  ⟨stA (colBlk X.v b 0) r.P.x0 r.S.x0 r.A.x0, stA (colBlk X.v b 1) r.P.x1 r.S.x1 r.A.x1,
   stA (colBlk X.v b 2) r.P.x2 r.S.x2 r.A.x2, stA (colBlk X.v b 3) r.P.x3 r.S.x3 r.A.x3⟩

/-- The step over an earlier block `b`, the products of the block `b'` after it pending. -/
def stepP (i b' b : Fin 8) (r : Run F) : Run F :=
  let W := scores X i b
  { C := ⟨stC plain W.x0 r.C.x0, stC plain W.x1 r.C.x1, stC plain W.x2 r.C.x2, stC plain W.x3 r.C.x3⟩
    P := ⟨stP plain W.x0, stP plain W.x1, stP plain W.x2, stP plain W.x3⟩
    A := addA X b' r
    S := ⟨stS r.C.x0, stS r.C.x1, stS r.C.x2, stS r.C.x3⟩ }

/-- A tile's number, capped at the last one. -/
def cap (n : Nat) : Fin 8 := ⟨min n 7, lt_of_le_of_lt (Nat.min_le_right _ _) (by decide)⟩

/-- The steps over the `n` blocks before the diagonal one. -/
def earlier (i : Fin 8) : Nat → Run F → Run F
  | 0, r => r
  | n + 1, r => stepP X i (cap (i.val - n)) (cap (i.val - 1 - n)) (earlier i n r)

/-- What tile `i` has gathered at its end. -/
def gathered (i : Fin 8) : Four (Vec F S1x64x256 .f32) := addA X 0 (earlier X i i.val (stepD X i))

/-- The norm's weights as read. -/
def gOf : Vec F S1x128 .f32 := View.ld X.g (Rect.unit (s := S1x128) ![0, 0] S1x128.size inb_S1x128_S1x128_0_0)

/-- One head's products over their root mean square. -/
def half (a : Vec F S1x64x256 .f32) : FVec F S64x256 .f32 :=
  let o := shapeCast S64x256 a shapeCasts_S1x64x256_S64x256
  mulf o (broadcastTo S64x256 (rsqrt (addf (divf (shapeCast S1x256
      (multiReduction .add [0] S256 (mulf o o) 0x00000000#32 reduces_S64x256_S256 (.inl rfl) rfl) shapeCasts_S256_S1x256)
      (broadcast S1x256 (Scalar.ofBits .f32 0x42800000#32))) (broadcast S1x256 (Scalar.ofBits .f32 0x3727C5AC#32))))
    broadcasts_S1x256_S64x256)

/-- Two heads' results side by side. -/
def outp (g : Vec F S1x128 .f32) (a0 a1 : Vec F S1x64x256 .f32) : Vec F S1x256x128 .bf16 := k0_pay2 (half a0) a1 g

/-- Head pair `h`'s result from what a tile gathered. -/
def headOut (A : Four (Vec F S1x64x256 .f32)) : Fin 2 → Vec F S1x256x128 .bf16
  | 0 => outp (gOf X) A.x0 A.x1
  | 1 => outp (gOf X) A.x2 A.x3

end Cert.Kernel4Ideal.Sb
-- ==== Proof.Sb.Pair.lean ====
/-
  The loop over pairs of earlier key blocks: one trip takes the block `b` whose logits wait in the second buffer and
  the block `b'` before it, and leaves the logits of the block `b''` before that waiting.
-/
module

public import proofs.«01_k».proof.Proof.Sb.Step

@[expose] public section

set_option maxRecDepth 65536

noncomputable section

namespace Cert.Kernel4Ideal.Sb

open Cert.Kernel4Ideal Cert.Kernel4Ideal.Gen
open Cert.KernelIdeal.Diff (Four Slots offSlot offSlot_inb)
open Idealize.ShloMosaic Idealize.ShloMosaic.TcCoe Idealize.ShloMosaic.Tactic

variable {F : FTy → Type} [FloatOps F] [Named F] {X : Ctx F}
variable (gi : grid0.Coords) (h2 : X.a2.IsWhole) (h3 : X.a3.IsWhole) (h4 : X.a4.IsWhole) (h5 : X.a5.IsWhole) (h6 : X.a6.IsWhole) (h7 : X.a7.IsWhole) (h8 : X.a8.IsWhole) (h9 : X.a9.IsWhole) (h10 : X.a10.IsWhole) (h11 : X.a11.IsWhole) (h12 : X.a12.IsWhole) (h13 : X.a13.IsWhole)

/-- The state of a tile: the result so far, the two buffers of logits, the first of carries, and what is gathered. -/
abbrev stOf (O : Vec F S1x2048x256 .bf16) (WA WB : Four (Vec F S1x256x256 .f32)) (CA : Four (Vec F S1x1x256 .f32)) (r : Run F) : St F :=
  ⟨O, WA, WB, CA, r.C, r.P, r.A, r.S⟩

theorem pair_run (t1 : Fin k0_t1_loop.trips) (t2 : Fin (k0_t2_loop t1).trips) (i bb b b' b'' : Fin 8) (w14 w16 : BitVec 32) (w337 : FVec F S1x256 .f32)
    (o5 : k0_off5 t1 t2 = offRow b' 0) (o6 : k0_off6 t1 = offRow i 0) (o7 : k0_off7 t1 t2 = offCol bb 0) (o8 : k0_off8 t1 t2 = offRow b' 1)
    (o9 : k0_off9 t1 = offRow i 1) (o10 : k0_off10 t1 t2 = offCol bb 1) (o11 : k0_off11 t1 t2 = offCol bb 2) (o12 : k0_off12 t1 t2 = offCol bb 3)
    (o13 : k0_off13 t1 t2 = offRow b'' 0) (o14 : k0_off14 t1 t2 = offCol b 0) (o15 : k0_off15 t1 t2 = offRow b'' 1)
    (o16 : k0_off16 t1 t2 = offCol b 1) (o17 : k0_off17 t1 t2 = offCol b 2) (o18 : k0_off18 t1 t2 = offCol b 3)
    (O : Vec F S1x2048x256 .bf16) (WA : Four (Vec F S1x256x256 .f32)) (CA : Four (Vec F S1x1x256 .f32)) (r : Run F) (Q : BitVec 32 → St F → Prop)
    (hQ : Q 0#32 (stOf O (scores X i b') (scores X i b'') (stepP X i bb b r).C (stepP X i b b' (stepP X i bb b r)))) :
    WP X (k0_t2_body gi X.a2 h2 X.a3 h3 X.a4 h4 X.a5 h5 X.a6 h6 X.a7 h7 X.a8 h8 X.a9 h9 X.a10 h10 X.a11 h11 X.a12 h12 X.a13 h13
      evenLanes tri t1 w14 w337 t2 w16) (stOf O WA (scores X i b) CA r) Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  obtain ⟨a0, a1, a2, a3⟩ := WA
  obtain ⟨e0, e1, e2, e3⟩ := CA
  obtain ⟨⟨m0, m1, m2, m3⟩, ⟨p0, p1, p2, p3⟩, ⟨l0, l1, l2, l3⟩, ⟨d0, d1, d2, d3⟩⟩ := r
  unfold stOf scores
  unfold k0_t2_body
  repeat first
    | with_reducible first
      | refine WP.load3 _ _ (by assumption) ?_
      | refine WP.load4 _ _ (by assumption) ?_
      | refine WP.load5 _ _ (by assumption) ?_
      | refine WP.load7 _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load13 _ (by assumption) ?_
      | refine WP.load2 ?_
      | refine WP.load6 ?_
    | ((with_reducible first
      | refine WP.store6 _ _ (by assumption) ?_
      | refine WP.store7 _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.store13 _ (by assumption) ?_
      | refine WP.pure ?_); dsimp only [Four.get, Four.set])
    | (with_reducible refine WP.pure ?_; show WP _ _ _ _)
    | with_reducible refine WP.bind ?_
    | with_reducible refine WP.tail ?_
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
  exact WP.pure hQ

end Cert.Kernel4Ideal.Sb
-- ==== Proof.Sb.Offsets.lean ====
/-
  The offsets that the tile loop computes, in closed form, and which of the tile's cases run.
-/
module

public import proofs.«01_k».proof.Proof.Sb.Step

@[expose] public section

set_option maxRecDepth 65536

namespace Cert.Kernel4Ideal.Sb

open Cert.Kernel4Ideal Cert.Kernel4Ideal.Gen
open Idealize.ShloMosaic Idealize.ShloMosaic.TcCoe

theorem trips1 : k0_t1_loop.trips = 8 := by decide

/-- A trip's tile. -/
def blk (t : Fin k0_t1_loop.trips) : Fin 8 := ⟨t.val, trips1 ▸ t.isLt⟩
/-- The tile after it, the last one standing for its own successor. -/
def nxt (t : Fin k0_t1_loop.trips) : Fin 8 := cap (t.val + 1)

theorem off1_eq : ∀ t, k0_off1 t = offRow (cap ((blk t).val - 1)) 0 := by decide
theorem off2_eq : ∀ t, k0_off2 t = offRow (blk t) 0 := by decide
theorem off3_eq : ∀ t, k0_off3 t = offRow (cap ((blk t).val - 1)) 1 := by decide
theorem off4_eq : ∀ t, k0_off4 t = offRow (blk t) 1 := by decide
theorem off6_eq : ∀ t, k0_off6 t = offRow (blk t) 0 := by decide
theorem off9_eq : ∀ t, k0_off9 t = offRow (blk t) 1 := by decide
theorem off5_eq : ∀ t (u : Fin (k0_t2_loop t).trips), k0_off5 t u = offRow (cap ((blk t).val - 1 - (2 * u.val + 1))) 0 := by decide
theorem off7_eq : ∀ t (u : Fin (k0_t2_loop t).trips), k0_off7 t u = offCol (cap ((blk t).val - 2 * u.val)) 0 := by decide
theorem off8_eq : ∀ t (u : Fin (k0_t2_loop t).trips), k0_off8 t u = offRow (cap ((blk t).val - 1 - (2 * u.val + 1))) 1 := by decide
theorem off10_eq : ∀ t (u : Fin (k0_t2_loop t).trips), k0_off10 t u = offCol (cap ((blk t).val - 2 * u.val)) 1 := by decide
theorem off11_eq : ∀ t (u : Fin (k0_t2_loop t).trips), k0_off11 t u = offCol (cap ((blk t).val - 2 * u.val)) 2 := by decide
theorem off12_eq : ∀ t (u : Fin (k0_t2_loop t).trips), k0_off12 t u = offCol (cap ((blk t).val - 2 * u.val)) 3 := by decide
theorem off13_eq : ∀ t (u : Fin (k0_t2_loop t).trips), k0_off13 t u = offRow (cap ((blk t).val - 1 - 2 * (u.val + 1))) 0 := by decide
theorem off14_eq : ∀ t (u : Fin (k0_t2_loop t).trips), k0_off14 t u = offCol (cap ((blk t).val - 1 - 2 * u.val)) 0 := by decide
theorem off15_eq : ∀ t (u : Fin (k0_t2_loop t).trips), k0_off15 t u = offRow (cap ((blk t).val - 1 - 2 * (u.val + 1))) 1 := by decide
theorem off16_eq : ∀ t (u : Fin (k0_t2_loop t).trips), k0_off16 t u = offCol (cap ((blk t).val - 1 - 2 * u.val)) 1 := by decide
theorem off17_eq : ∀ t (u : Fin (k0_t2_loop t).trips), k0_off17 t u = offCol (cap ((blk t).val - 1 - 2 * u.val)) 2 := by decide
theorem off18_eq : ∀ t (u : Fin (k0_t2_loop t).trips), k0_off18 t u = offCol (cap ((blk t).val - 1 - 2 * u.val)) 3 := by decide
theorem off33_eq : k0_off33 = offRow 0 0 := by decide
theorem off34_eq : ∀ t, k0_off34 t = offRow (blk t) 0 := by decide
theorem off35_eq : k0_off35 = offRow 0 1 := by decide
theorem off36_eq : ∀ t, k0_off36 t = offRow (blk t) 1 := by decide
theorem off37_eq : ∀ t, k0_off37 t = offRow (nxt t) 0 := by decide
theorem off38_eq : ∀ t, k0_off38 t = offRow (nxt t) 1 := by decide

theorem trips2 : ∀ t, (k0_t2_loop t).trips = ((blk t).val - 1) / 2 := by decide
theorem trips3 : ∀ t, (k0_t3_loop t).trips = 0 := by decide
theorem cond1_iff : ∀ t, k0_cond1 t = 1#1 ↔ (blk t).val % 2 = 1 := by decide
theorem cond2_iff : ∀ t, k0_cond2 t = 1#1 ↔ ((blk t).val % 2 = 0 ∧ 2 ≤ (blk t).val) := by decide

end Cert.Kernel4Ideal.Sb
-- ==== Proof.Sb.Earlier.lean ====
/-
  The earlier key blocks of one tile: the pair loop, the odd tile's last block, and the even tile's last pair.
-/
module

public import proofs.«01_k».proof.Proof.Sb.Pair
public import proofs.«01_k».proof.Proof.Sb.Offsets

@[expose] public section

set_option maxRecDepth 65536

noncomputable section

namespace Cert.Kernel4Ideal.Sb

open Cert.Kernel4Ideal Cert.Kernel4Ideal.Gen
open Cert.KernelIdeal.Diff (Four Slots offSlot offSlot_inb)
open Idealize.ShloMosaic Idealize.ShloMosaic.TcCoe Idealize.ShloMosaic.Tactic

variable {F : FTy → Type} [FloatOps F] [Named F] {X : Ctx F}
variable (gi : grid0.Coords) (h2 : X.a2.IsWhole) (h3 : X.a3.IsWhole) (h4 : X.a4.IsWhole) (h5 : X.a5.IsWhole) (h6 : X.a6.IsWhole) (h7 : X.a7.IsWhole) (h8 : X.a8.IsWhole) (h9 : X.a9.IsWhole) (h10 : X.a10.IsWhole) (h11 : X.a11.IsWhole) (h12 : X.a12.IsWhole) (h13 : X.a13.IsWhole)

/-- The blocks that the pair loop has taken in tile `i`. -/
def paired (i : Fin 8) : Nat := 2 * ((i.val - 1) / 2)

theorem part66_run (t : Fin k0_t1_loop.trips) (w14 : BitVec 32) (w337 : FVec F S1x256 .f32)
    (O : Vec F S1x2048x256 .bf16) (WA : Four (Vec F S1x256x256 .f32)) (CA : Four (Vec F S1x1x256 .f32)) (r : Run F)
    (z : Vec F S1x1x256 .f32) (hS : r.S.x3 = k0_pay251 w337) (Q : _ → St F → Prop)
    (hQ : ∀ a WA' CA', Q a (stOf O WA' (scores X (blk t) (cap ((blk t).val - 1 - paired (blk t)))) CA' (earlier X (blk t) (paired (blk t)) r))) :
    WP X (k0_part66 gi X.a2 h2 X.a3 h3 X.a4 h4 X.a5 h5 X.a6 h6 X.a7 h7 X.a8 h8 X.a9 h9 X.a10 h10 X.a11 h11 X.a12 h12 X.a13 h13 evenLanes tri t w14 w337)
      ⟨O, WA, scores X (blk t) (cap ((blk t).val - 1)), CA, r.C, r.P, r.A, ⟨r.S.x0, r.S.x1, r.S.x2, z⟩⟩ Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  rw [k0_part66_eq_skeleton]; unfold k0_part66_skel
  dsimp only
  refine WP.store13 _ s3 ?_
  dsimp only [Four.set]
  rw [← hS]
  refine WP.bind ?_
  refine WP.loop _ _ _ _ (fun n _ σ => ∃ WA1 CA1, σ = stOf O WA1 (scores X (blk t) (cap ((blk t).val - 1 - 2 * n))) CA1 (earlier X (blk t) (2 * n) r))
    ⟨WA, CA, rfl⟩ ?_ ?_
  · rintro u a σ' ⟨WA1, CA1, rfl⟩
    refine pair_run gi h2 h3 h4 h5 h6 h7 h8 h9 h10 h11 h12 h13 t u (blk t) _ _ _ _ w14 a w337 (off5_eq t u) (off6_eq t) (off7_eq t u) (off8_eq t u) (off9_eq t) (off10_eq t u)
      (off11_eq t u) (off12_eq t u) (off13_eq t u) (off14_eq t u) (off15_eq t u) (off16_eq t u) (off17_eq t u) (off18_eq t u) O WA1 CA1 _ _ ?_
    have he : earlier X (blk t) (2 * (u.val + 1)) r = stepP X (blk t) (cap ((blk t).val - 1 - 2 * u.val)) (cap ((blk t).val - 1 - (2 * u.val + 1)))
        (stepP X (blk t) (cap ((blk t).val - 2 * u.val)) (cap ((blk t).val - 1 - 2 * u.val)) (earlier X (blk t) (2 * u.val) r)) := by
      rw [show 2 * (u.val + 1) = 2 * u.val + 1 + 1 from rfl]
      simp only [earlier]
      rw [show (blk t).val - (2 * u.val + 1) = (blk t).val - 1 - 2 * u.val by omega]
    exact ⟨scores X (blk t) (cap ((blk t).val - 1 - (2 * u.val + 1))),
      (stepP X (blk t) (cap ((blk t).val - 2 * u.val)) (cap ((blk t).val - 1 - 2 * u.val)) (earlier X (blk t) (2 * u.val) r)).C, by rw [he]⟩
  · rintro a σ' ⟨WA1, CA1, rfl⟩
    refine WP.bind ?_
    refine WP.loop _ _ _ _ (fun _ _ σ => σ = _) rfl ?_ ?_
    · intro u
      exact absurd (lt_of_lt_of_eq u.isLt (trips3 t)) (Nat.not_lt_zero _)
    · rintro a' _ rfl
      refine WP.pure ?_
      rw [trips2 t]
      exact hQ _ _ _

theorem part67_run (t : Fin k0_t1_loop.trips) (w14 : BitVec 32) (w377 : BitVec 1)
    (O : Vec F S1x2048x256 .bf16) (WA : Four (Vec F S1x256x256 .f32)) (CA : Four (Vec F S1x1x256 .f32)) (r : Run F) (Q : _ → St F → Prop)
    (hQ : ∀ WA' WB' CA' CB', let e := earlier X (blk t) (blk t).val r
      Q (k0_pay255 (colBlk X.v 0 0) e.A.x0 e.S.x0 e.P.x0) ⟨O, WA', WB', CA', CB', e.P, e.A, e.S⟩) :
    WP X (k0_part67 gi X.a2 h2 X.a3 h3 X.a4 h4 X.a5 h5 X.a6 h6 X.a7 h7 X.a8 h8 X.a9 h9 X.a10 h10 X.a11 h11 X.a12 h12 X.a13 h13 evenLanes tri t w14 w377)
      (stOf O WA (scores X (blk t) (cap ((blk t).val - 1 - paired (blk t)))) CA (earlier X (blk t) (paired (blk t)) r)) Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  have c00 : (![0, 0] : Fin 2 → Nat) = offCol 0 0 := rfl
  have c01 : (![64, 0] : Fin 2 → Nat) = offCol 0 1 := rfl
  have c02 : (![128, 0] : Fin 2 → Nat) = offCol 0 2 := rfl
  have c03 : (![192, 0] : Fin 2 → Nat) = offCol 0 3 := rfl
  have c10 : (![0, 256] : Fin 2 → Nat) = offCol 1 0 := rfl
  have c11 : (![64, 256] : Fin 2 → Nat) = offCol 1 1 := rfl
  have c12 : (![128, 256] : Fin 2 → Nat) = offCol 1 2 := rfl
  have c13 : (![192, 256] : Fin 2 → Nat) = offCol 1 3 := rfl
  have c20 : (![0, 512] : Fin 2 → Nat) = offCol 2 0 := rfl
  have c21 : (![64, 512] : Fin 2 → Nat) = offCol 2 1 := rfl
  have c22 : (![128, 512] : Fin 2 → Nat) = offCol 2 2 := rfl
  have c23 : (![192, 512] : Fin 2 → Nat) = offCol 2 3 := rfl
  have o33 := off33_eq
  have o34 := off34_eq t
  have o35 := off35_eq
  have o36 := off36_eq t
  rw [k0_part67_eq_skeleton]; unfold k0_part67_skel
  dsimp only
  have hlt := (blk t).isLt
  by_cases h1 : (blk t).val % 2 = 1
  · have e1 : (blk t).val = paired (blk t) + 1 := by unfold paired; omega
    rw [dif_pos ((cond1_iff t).mpr h1), dif_neg (fun h => by have := ((cond2_iff t).mp h).1; omega)]
    rw [show cap ((blk t).val - 1 - paired (blk t)) = 0 by rw [show (blk t).val - 1 - paired (blk t) = 0 by omega]; rfl]
    rw [show earlier X (blk t) (blk t).val r = stepP X (blk t) 1 0 (earlier X (blk t) (paired (blk t)) r) by
      rw [show earlier X (blk t) (blk t).val r = earlier X (blk t) (paired (blk t) + 1) r from congrArg (fun n => earlier X (blk t) n r) e1]
      simp only [earlier]
      rw [show (blk t).val - paired (blk t) = 1 by omega, show (blk t).val - 1 - paired (blk t) = 0 by omega]; rfl] at hQ
    generalize earlier X (blk t) (paired (blk t)) r = e at hQ ⊢
    obtain ⟨a0, a1, a2, a3⟩ := WA
    obtain ⟨e0, e1, e2, e3⟩ := CA
    obtain ⟨⟨m0, m1, m2, m3⟩, ⟨p0, p1, p2, p3⟩, ⟨l0, l1, l2, l3⟩, ⟨d0, d1, d2, d3⟩⟩ := e
    unfold stOf scores
    repeat first
      | with_reducible first
        | refine WP.load3 _ _ (by assumption) ?_
        | refine WP.load4 _ _ (by assumption) ?_
        | refine WP.load5 _ _ (by assumption) ?_
        | refine WP.load7 _ (by assumption) ?_
        | refine WP.load8 _ (by assumption) ?_
        | refine WP.load9 _ (by assumption) ?_
        | refine WP.load10 _ (by assumption) ?_
        | refine WP.load11 _ (by assumption) ?_
        | refine WP.load12 _ (by assumption) ?_
        | refine WP.load13 _ (by assumption) ?_
        | refine WP.load2 ?_
        | refine WP.load6 ?_
      | ((with_reducible first
        | refine WP.store6 _ _ (by assumption) ?_
        | refine WP.store7 _ (by assumption) ?_
        | refine WP.store8 _ (by assumption) ?_
        | refine WP.store9 _ (by assumption) ?_
        | refine WP.store10 _ (by assumption) ?_
        | refine WP.store11 _ (by assumption) ?_
        | refine WP.store12 _ (by assumption) ?_
        | refine WP.store13 _ (by assumption) ?_
        | refine WP.pure ?_); dsimp only [Four.get, Four.set])
      | (with_reducible refine WP.pure ?_; show WP _ _ _ _)
      | with_reducible refine WP.bind ?_
      | with_reducible refine WP.tail ?_
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
    exact (hQ _ _ (stepP X (blk t) 1 0 ⟨⟨m0, m1, m2, m3⟩, ⟨p0, p1, p2, p3⟩, ⟨l0, l1, l2, l3⟩, ⟨d0, d1, d2, d3⟩⟩).C ⟨m0, m1, m2, m3⟩)
  · rw [dif_neg (fun h => h1 ((cond1_iff t).mp h))]
    by_cases h2 : 2 ≤ (blk t).val
    · have e1 : (blk t).val = paired (blk t) + 1 + 1 := by unfold paired; omega
      rw [dif_pos ((cond2_iff t).mpr ⟨by omega, h2⟩)]
      rw [show cap ((blk t).val - 1 - paired (blk t)) = 1 by rw [show (blk t).val - 1 - paired (blk t) = 1 by omega]; rfl]
      rw [show earlier X (blk t) (blk t).val r = stepP X (blk t) 1 0 (stepP X (blk t) 2 1 (earlier X (blk t) (paired (blk t)) r)) by
        rw [show earlier X (blk t) (blk t).val r = earlier X (blk t) (paired (blk t) + 1 + 1) r from congrArg (fun n => earlier X (blk t) n r) e1]
        simp only [earlier]
        rw [show (blk t).val - paired (blk t) = 2 by omega, show (blk t).val - 1 - paired (blk t) = 1 by omega,
          show (blk t).val - (paired (blk t) + 1) = 1 by omega, show (blk t).val - 1 - (paired (blk t) + 1) = 0 by omega]; rfl] at hQ
      generalize earlier X (blk t) (paired (blk t)) r = e at hQ ⊢
      obtain ⟨a0, a1, a2, a3⟩ := WA
      obtain ⟨e0, e1, e2, e3⟩ := CA
      obtain ⟨⟨m0, m1, m2, m3⟩, ⟨p0, p1, p2, p3⟩, ⟨l0, l1, l2, l3⟩, ⟨d0, d1, d2, d3⟩⟩ := e
      unfold stOf scores
      repeat first
        | with_reducible first
          | refine WP.load3 _ _ (by assumption) ?_
          | refine WP.load4 _ _ (by assumption) ?_
          | refine WP.load5 _ _ (by assumption) ?_
          | refine WP.load7 _ (by assumption) ?_
          | refine WP.load8 _ (by assumption) ?_
          | refine WP.load9 _ (by assumption) ?_
          | refine WP.load10 _ (by assumption) ?_
          | refine WP.load11 _ (by assumption) ?_
          | refine WP.load12 _ (by assumption) ?_
          | refine WP.load13 _ (by assumption) ?_
          | refine WP.load2 ?_
          | refine WP.load6 ?_
        | ((with_reducible first
          | refine WP.store6 _ _ (by assumption) ?_
          | refine WP.store7 _ (by assumption) ?_
          | refine WP.store8 _ (by assumption) ?_
          | refine WP.store9 _ (by assumption) ?_
          | refine WP.store10 _ (by assumption) ?_
          | refine WP.store11 _ (by assumption) ?_
          | refine WP.store12 _ (by assumption) ?_
          | refine WP.store13 _ (by assumption) ?_
          | refine WP.pure ?_); dsimp only [Four.get, Four.set])
        | (with_reducible refine WP.pure ?_; show WP _ _ _ _)
        | with_reducible refine WP.bind ?_
        | with_reducible refine WP.tail ?_
        | (rw [k0_part43_eq_skeleton]; unfold k0_part43_skel)
        | (rw [k0_part44_eq_skeleton]; unfold k0_part44_skel)
        | (rw [k0_part45_eq_skeleton]; unfold k0_part45_skel)
        | (rw [k0_part46_eq_skeleton]; unfold k0_part46_skel)
        | (rw [k0_part47_eq_skeleton]; unfold k0_part47_skel)
        | (rw [k0_part48_eq_skeleton]; unfold k0_part48_skel)
        | (rw [k0_part49_eq_skeleton]; unfold k0_part49_skel)
        | (rw [k0_part50_eq_skeleton]; unfold k0_part50_skel)
        | (rw [k0_part51_eq_skeleton]; unfold k0_part51_skel)
        | (rw [k0_part52_eq_skeleton]; unfold k0_part52_skel)
        | (rw [k0_part53_eq_skeleton]; unfold k0_part53_skel)
        | (rw [k0_part54_eq_skeleton]; unfold k0_part54_skel)
        | (rw [k0_part55_eq_skeleton]; unfold k0_part55_skel)
        | (rw [k0_part56_eq_skeleton]; unfold k0_part56_skel)
        | (rw [k0_part57_eq_skeleton]; unfold k0_part57_skel)
      exact (hQ (scores X (blk t) 0) (scores X (blk t) 1) (stepP X (blk t) 2 1 ⟨⟨m0, m1, m2, m3⟩, ⟨p0, p1, p2, p3⟩, ⟨l0, l1, l2, l3⟩, ⟨d0, d1, d2, d3⟩⟩).C
        (stepP X (blk t) 1 0 (stepP X (blk t) 2 1 ⟨⟨m0, m1, m2, m3⟩, ⟨p0, p1, p2, p3⟩, ⟨l0, l1, l2, l3⟩, ⟨d0, d1, d2, d3⟩⟩)).C)
    · have e0 : (blk t).val = 0 := by omega
      have e1 : paired (blk t) = (blk t).val := by unfold paired; rw [e0]
      rw [dif_neg (fun h => h2 ((cond2_iff t).mp h).2)]
      rw [e1]
      generalize earlier X (blk t) (blk t).val r = e at hQ ⊢
      generalize scores X (blk t) (cap ((blk t).val - 1 - (blk t).val)) = WB
      obtain ⟨⟨m0, m1, m2, m3⟩, ⟨p0, p1, p2, p3⟩, ⟨l0, l1, l2, l3⟩, ⟨d0, d1, d2, d3⟩⟩ := e
      repeat first
        | with_reducible first
          | refine WP.load3 _ _ (by assumption) ?_
          | refine WP.load4 _ _ (by assumption) ?_
          | refine WP.load5 _ _ (by assumption) ?_
          | refine WP.load7 _ (by assumption) ?_
          | refine WP.load8 _ (by assumption) ?_
          | refine WP.load9 _ (by assumption) ?_
          | refine WP.load10 _ (by assumption) ?_
          | refine WP.load11 _ (by assumption) ?_
          | refine WP.load12 _ (by assumption) ?_
          | refine WP.load13 _ (by assumption) ?_
          | refine WP.load2 ?_
          | refine WP.load6 ?_
        | ((with_reducible first
          | refine WP.store6 _ _ (by assumption) ?_
          | refine WP.store7 _ (by assumption) ?_
          | refine WP.store8 _ (by assumption) ?_
          | refine WP.store9 _ (by assumption) ?_
          | refine WP.store10 _ (by assumption) ?_
          | refine WP.store11 _ (by assumption) ?_
          | refine WP.store12 _ (by assumption) ?_
          | refine WP.store13 _ (by assumption) ?_
          | refine WP.pure ?_); dsimp only [Four.get, Four.set])
        | (with_reducible refine WP.pure ?_; show WP _ _ _ _)
        | with_reducible refine WP.bind ?_
        | with_reducible refine WP.tail ?_
      exact (hQ _ _ _ _)

end Cert.Kernel4Ideal.Sb
-- ==== Proof.Sb.Tile.lean ====
/-
  One tile: the diagonal block, the earlier blocks, the last products, the next tile's logits, and the tile's two
  results; then the body, which prepares the first tile's logits and runs the eight tiles.
-/
module

public import proofs.«01_k».proof.Proof.Sb.Earlier

@[expose] public section

set_option maxRecDepth 65536

noncomputable section

namespace Cert.Kernel4Ideal.Sb

open Cert.Kernel4Ideal Cert.Kernel4Ideal.Gen
open Cert.KernelIdeal.Diff (Four Slots offSlot offSlot_inb)
open Idealize.ShloMosaic Idealize.ShloMosaic.TcCoe Idealize.ShloMosaic.Tactic

variable {F : FTy → Type} [FloatOps F] [Named F] {X : Ctx F}
variable (gi : grid0.Coords) (h2 : X.a2.IsWhole) (h3 : X.a3.IsWhole) (h4 : X.a4.IsWhole) (h5 : X.a5.IsWhole) (h6 : X.a6.IsWhole) (h7 : X.a7.IsWhole) (h8 : X.a8.IsWhole) (h9 : X.a9.IsWhole) (h10 : X.a10.IsWhole) (h11 : X.a11.IsWhole) (h12 : X.a12.IsWhole) (h13 : X.a13.IsWhole)

/-- The result after tile `i`. -/
def tileO (X : Ctx F) (i : Fin 8) (O : Vec F S1x2048x256 .bf16) : Vec F S1x2048x256 .bf16 :=
  setRow (setRow O i 0 (headOut X (gathered X i) 0)) i 1 (headOut X (gathered X i) 1)

theorem tile_run (t : Fin k0_t1_loop.trips) (O : Vec F S1x2048x256 .bf16) (WB : Four (Vec F S1x256x256 .f32)) (CA CB : Four (Vec F S1x1x256 .f32))
    (P : Four (Vec F S1x256x256 .bf16)) (A : Four (Vec F S1x64x256 .f32)) (S : Four (Vec F S1x1x256 .f32)) (Q : Unit → St F → Prop)
    (hQ : ∀ WB' CA' CB' P' A' S', Q ⟨⟩ ⟨tileO X (blk t) O, scores X (nxt t) (nxt t), WB', CA', CB', P', A', S'⟩) :
    WP X (k0_t1_body gi X.a2 h2 X.a3 h3 X.a4 h4 X.a5 h5 X.a6 h6 X.a7 h7 X.a8 h8 X.a9 h9 X.a10 h10 X.a11 h11 X.a12 h12 X.a13 h13
      evenLanes (iota .tc S256x256 32 [0] iota_S256x256_d0_w32) (iota .tc S256x256 32 [1] iota_S256x256_d1_w32) tri t ⟨⟩)
      ⟨O, scores X (blk t) (blk t), WB, CA, CB, P, A, S⟩ Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  have c00 : (![0, 0] : Fin 2 → Nat) = offCol 0 0 := rfl
  have c01 : (![64, 0] : Fin 2 → Nat) = offCol 0 1 := rfl
  have c02 : (![128, 0] : Fin 2 → Nat) = offCol 0 2 := rfl
  have c03 : (![192, 0] : Fin 2 → Nat) = offCol 0 3 := rfl
  have c10 : (![0, 256] : Fin 2 → Nat) = offCol 1 0 := rfl
  have c11 : (![64, 256] : Fin 2 → Nat) = offCol 1 1 := rfl
  have c12 : (![128, 256] : Fin 2 → Nat) = offCol 1 2 := rfl
  have c13 : (![192, 256] : Fin 2 → Nat) = offCol 1 3 := rfl
  have c20 : (![0, 512] : Fin 2 → Nat) = offCol 2 0 := rfl
  have c21 : (![64, 512] : Fin 2 → Nat) = offCol 2 1 := rfl
  have c22 : (![128, 512] : Fin 2 → Nat) = offCol 2 2 := rfl
  have c23 : (![192, 512] : Fin 2 → Nat) = offCol 2 3 := rfl
  have o1 := off1_eq t
  have o2 := off2_eq t
  have o3 := off3_eq t
  have o4 := off4_eq t
  have o37 := off37_eq t
  have o38 := off38_eq t
  obtain ⟨b0, b1, b2, b3⟩ := WB
  obtain ⟨f0, f1, f2, f3⟩ := CA
  obtain ⟨m0, m1, m2, m3⟩ := CB
  obtain ⟨p0, p1, p2, p3⟩ := P
  obtain ⟨l0, l1, l2, l3⟩ := A
  obtain ⟨d0, d1, d2, d3⟩ := S
  unfold scores
  unfold k0_t1_body
  repeat first
    | with_reducible first
      | refine WP.load3 _ _ (by assumption) ?_
      | refine WP.load4 _ _ (by assumption) ?_
      | refine WP.load5 _ _ (by assumption) ?_
      | refine WP.load7 _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load13 _ (by assumption) ?_
      | refine WP.load2 ?_
      | refine WP.load6 ?_
    | ((with_reducible first
      | refine WP.store6 _ _ (by assumption) ?_
      | refine WP.store7 _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.store13 _ (by assumption) ?_
      | refine WP.pure ?_); dsimp only [Four.get, Four.set])
    | (with_reducible refine WP.pure ?_; show WP _ _ _ _)
    | with_reducible refine WP.bind ?_
    | with_reducible refine WP.tail ?_
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | (rw [k0_part64_eq_skeleton]; unfold k0_part64_skel)
    | (rw [k0_part65_eq_skeleton]; unfold k0_part65_skel)
  refine part66_run gi h2 h3 h4 h5 h6 h7 h8 h9 h10 h11 h12 h13 t _ _ O (scores X (blk t) (blk t)) ⟨zeroC, zeroC, zeroC, zeroC⟩ (stepD X (blk t)) d3 rfl _ ?_
  intro a WA' CA'
  refine WP.bind ?_
  refine part67_run gi h2 h3 h4 h5 h6 h7 h8 h9 h10 h11 h12 h13 t _ _ O WA' CA' (stepD X (blk t)) _ ?_
  intro WA'' WB'' CA'' CB''
  generalize hG : earlier X (blk t) (blk t).val (stepD X (blk t)) = G
  unfold tileO gathered at hQ
  rw [hG] at hQ
  obtain ⟨⟨m0, m1, m2, m3⟩, ⟨p0, p1, p2, p3⟩, ⟨l0, l1, l2, l3⟩, ⟨d0, d1, d2, d3⟩⟩ := G
  obtain ⟨a0, a1, a2, a3⟩ := WA''
  dsimp only
  repeat first
    | with_reducible first
      | refine WP.load3 _ _ (by assumption) ?_
      | refine WP.load4 _ _ (by assumption) ?_
      | refine WP.load5 _ _ (by assumption) ?_
      | refine WP.load7 _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load13 _ (by assumption) ?_
      | refine WP.load2 ?_
      | refine WP.load6 ?_
    | ((with_reducible first
      | refine WP.store6 _ _ (by assumption) ?_
      | refine WP.store7 _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.store13 _ (by assumption) ?_
      | refine WP.pure ?_); dsimp only [Four.get, Four.set])
    | (with_reducible refine WP.pure ?_; show WP _ _ _ _)
    | with_reducible refine WP.bind ?_
    | with_reducible refine WP.tail ?_
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
  exact WP.pure (hQ _ _ _ _ (addA X 0 ⟨⟨m0, m1, m2, m3⟩, ⟨p0, p1, p2, p3⟩, ⟨l0, l1, l2, l3⟩, ⟨d0, d1, d2, d3⟩⟩) _)

theorem blk_cap : ∀ t, blk t = cap t.val := by decide

/-- The result after `n` tiles. -/
def tilesO (X : Ctx F) (O : Vec F S1x2048x256 .bf16) : Nat → Vec F S1x2048x256 .bf16
  | 0 => O
  | n + 1 => tileO X (cap n) (tilesO X O n)

theorem body_run (σ : St F) (Q : PUnit → St F → Prop) (hQ : ∀ WA WB CA CB P A S, Q ⟨⟩ ⟨tilesO X σ.O 8, WA, WB, CA, CB, P, A, S⟩) :
    WP X (cc0_sb_attn gi X.a2 h2 X.a3 h3 X.a4 h4 X.a5 h5 X.a6 h6 X.a7 h7 X.a8 h8 X.a9 h9 X.a10 h10 X.a11 h11 X.a12 h12 X.a13 h13) σ Q := by
  have s0 : (![0, 0, 0] : Fin 3 → Nat) = offSlot 0 := rfl
  have s1 : (![1, 0, 0] : Fin 3 → Nat) = offSlot 1 := rfl
  have s2 : (![2, 0, 0] : Fin 3 → Nat) = offSlot 2 := rfl
  have s3 : (![3, 0, 0] : Fin 3 → Nat) = offSlot 3 := rfl
  have r0 : (![0, 0, 0] : Fin 3 → Nat) = offRow 0 0 := rfl
  have r1 : (![0, 0, 128] : Fin 3 → Nat) = offRow 0 1 := rfl
  obtain ⟨O, ⟨a0, a1, a2, a3⟩, WB, CA, CB, P, A, S⟩ := σ
  rw [cc0_sb_attn_eq_skeleton]; unfold cc0_sb_attn_skel
  repeat first
    | with_reducible first
      | refine WP.load3 _ _ (by assumption) ?_
      | refine WP.load4 _ _ (by assumption) ?_
      | refine WP.load5 _ _ (by assumption) ?_
      | refine WP.load7 _ (by assumption) ?_
      | refine WP.load8 _ (by assumption) ?_
      | refine WP.load9 _ (by assumption) ?_
      | refine WP.load10 _ (by assumption) ?_
      | refine WP.load11 _ (by assumption) ?_
      | refine WP.load12 _ (by assumption) ?_
      | refine WP.load13 _ (by assumption) ?_
      | refine WP.load2 ?_
      | refine WP.load6 ?_
    | ((with_reducible first
      | refine WP.store6 _ _ (by assumption) ?_
      | refine WP.store7 _ (by assumption) ?_
      | refine WP.store8 _ (by assumption) ?_
      | refine WP.store9 _ (by assumption) ?_
      | refine WP.store10 _ (by assumption) ?_
      | refine WP.store11 _ (by assumption) ?_
      | refine WP.store12 _ (by assumption) ?_
      | refine WP.store13 _ (by assumption) ?_
      | refine WP.pure ?_); dsimp only [Four.get, Four.set])
    | (with_reducible refine WP.pure ?_; show WP _ _ _ _)
    | with_reducible refine WP.bind ?_
    | with_reducible refine WP.tail ?_
    | (rw [k0_part73_eq_skeleton]; unfold k0_part73_skel)
    | (rw [k0_part74_eq_skeleton]; unfold k0_part74_skel)
  refine WP.loop _ _ _ _ (fun n _ σ => ∃ WB CA CB P A S, σ = (⟨tilesO X O n, scores X (cap n) (cap n), WB, CA, CB, P, A, S⟩ : St F))
    ⟨WB, CA, CB, P, A, S, rfl⟩ ?_ ?_
  · rintro t ⟨⟩ _ ⟨WB', CA', CB', P', A', S', rfl⟩
    rw [← blk_cap t]
    refine tile_run gi h2 h3 h4 h5 h6 h7 h8 h9 h10 h11 h12 h13 t (tilesO X O t) WB' CA' CB' P' A' S' _ ?_
    intro WB'' CA'' CB'' P'' A'' S''
    refine ⟨WB'', CA'', CB'', P'', A'', S'', ?_⟩
    rw [blk_cap t]; rfl
  · rintro ⟨⟩ _ ⟨WB', CA', CB', P', A', S', rfl⟩
    refine WP.pure ?_
    rw [trips1]
    exact hQ _ _ _ _ _ _ _

end Cert.Kernel4Ideal.Sb
-- ==== Proof.Sb.Result.lean ====
/-
  What the body leaves in its result, entry by entry: the tile of the entry's row, the head pair of its column. Nothing of
  what the result's buffer held before is left.
-/
module

public import proofs.«01_k».proof.Proof.Sb.Tile
public import Idealize.ShloMosaic.Lib.ValueIdxCore

@[expose] public section

noncomputable section

namespace Cert.Kernel4Ideal.Sb

open Cert.Kernel4Ideal Cert.Kernel4Ideal.Gen
open Idealize.ShloMosaic Idealize.ShloMosaic.TcCoe Idealize.ShloMosaic.Tactic

variable {F : FTy → Type} [FloatOps F] [Named F]

/-- The row block of an entry, -/
def rowOf (y : S1x2048x256.Idx) : Fin 8 := ⟨(y 1).val / 256, by have h : (y 1).val < 2048 := (y 1).isLt; omega⟩
/-- its head pair, -/
def headOf (y : S1x2048x256.Idx) : Fin 2 := ⟨(y 2).val / 128, by have h : (y 2).val < 256 := (y 2).isLt; omega⟩
/-- and its place within them. -/
def within (y : S1x2048x256.Idx) : S1x256x128.Idx :=
  ValueIdx.ix3 0 ⟨(y 1).val % 256, Nat.mod_lt _ (by decide)⟩ ⟨(y 2).val % 128, Nat.mod_lt _ (by decide)⟩

theorem setRow_apply {Val : EltTy → Type} {e : EltTy} (X : S1x2048x256.Idx → Val e) (b : Fin 8) (h : Fin 2)
    (w : S1x256x128.Idx → Val e) (y : S1x2048x256.Idx) :
    setRow X b h w y = if rowOf y = b ∧ headOf y = h then w (within y) else X y := by
  unfold setRow
  have y0 : (y 0).val < 1 := (y 0).isLt
  split
  · next hy =>
    obtain ⟨rfl, rfl⟩ := hy
    have he : y = (Rect.unit (s := S1x2048x256) (offRow (rowOf y) (headOf y)) S1x256x128.size (offRow_inb _ _)).emb (within y) := by
      funext a
      apply Fin.ext
      match a with
      | ⟨0, _⟩ => exact (show (y 0).val = 0 + 1 * 0 by omega)
      | ⟨1, _⟩ => exact (show (y 1).val = 256 * ((y 1).val / 256) + 1 * ((y 1).val % 256) by omega)
      | ⟨2, _⟩ => exact (show (y 2).val = 128 * ((y 2).val / 128) + 1 * ((y 2).val % 128) by omega)
    have ho := Rect.overlay_emb (Rect.unit (s := S1x2048x256) (offRow (rowOf y) (headOf y)) S1x256x128.size (offRow_inb _ _)) X w (within y)
    rw [← he] at ho
    exact ho
  · next hy =>
    refine Rect.overlay_of_not_mem _ _ _ ?_
    rw [Rect.mem_set_unit]
    intro hm
    have h1 := hm 1
    have h2 := hm 2
    change 256 * b.val ≤ (y 1).val ∧ (y 1).val < 256 * b.val + 256 at h1
    change 128 * h.val ≤ (y 2).val ∧ (y 2).val < 128 * h.val + 128 at h2
    refine hy ⟨Fin.ext ?_, Fin.ext ?_⟩
    · show (y 1).val / 256 = b.val; omega
    · show (y 2).val / 128 = h.val; omega

/-- The body's result. -/
def res (X : Ctx F) : Vec F S1x2048x256 .bf16 := fun y => headOut X (gathered X (rowOf y)) (headOf y) (within y)

theorem tilesO_eq (X : Ctx F) (O : Vec F S1x2048x256 .bf16) : tilesO X O 8 = res X := by
  funext y
  unfold res
  simp only [tilesO, tileO, setRow_apply]
  generalize rowOf y = b
  generalize headOf y = h
  have c0 : cap 0 = 0 := rfl
  have c1 : cap 1 = 1 := rfl
  have c2 : cap 2 = 2 := rfl
  have c3 : cap 3 = 3 := rfl
  have c4 : cap 4 = 4 := rfl
  have c5 : cap 5 = 5 := rfl
  have c6 : cap 6 = 6 := rfl
  have c7 : cap 7 = 7 := rfl
  rw [c0, c1, c2, c3, c4, c5, c6, c7]
  fin_cases b <;> fin_cases h <;> simp

end Cert.Kernel4Ideal.Sb
-- ==== Proof.Sb.Run.lean ====
/-
  The stick-breaking attention call's run: its body at every grid point, from the point's blocks of the inputs to the body's result
  there, and from that the run of the whole program with its frame.
-/
module

public import proofs.«01_k».proof.Proof.Gen.Kernel4Ideal.Frame
public import proofs.«01_k».proof.Proof.Sb.Result
public import Idealize.ShloMosaic.Lib.Claim

@[expose] public section

noncomputable section

namespace Cert.Kernel4Ideal.Sb

open Cert.Kernel4Ideal Cert.Kernel4Ideal.Gen
open Cert.KernelIdeal.Diff (Four Slots offSlot offSlot_inb)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body works on at point `t` of core `c`. -/
def ctxAt (c : Dev nD) (t : Fin cfg0.N) : Ctx F where
  c := c
  a2 := st0_0 t
  a3 := st0_1 t
  a4 := st0_2 t
  a5 := st0_3 t
  a6 := st0_4 t
  a7 := Memref.whole cc0_scratch0
  a8 := Memref.whole cc0_scratch1
  a9 := Memref.whole cc0_scratch2
  a10 := Memref.whole cc0_scratch3
  a11 := Memref.whole cc0_scratch4
  a12 := Memref.whole cc0_scratch5
  a13 := Memref.whole cc0_scratch6
  g := iblk m c 0 t
  q := iblk m c 1 t
  k := iblk m c 2 t
  v := iblk m c 3 t

/-- The proof data: the arrays as the call finds them, each input's block left in place, the result's block at the
    body's result, the scratch arrays at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res (ctxAt m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = res (ctxAt m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
/-- The twelve references one by one. -/
theorem own_eq (X : Ctx F) (σ : St F) : own X σ = iprop(cell X.c X.a2 (· = X.g) ∗ cell X.c X.a3 (· = X.q) ∗ cell X.c X.a4 (· = X.k) ∗ cell X.c X.a5 (· = X.v) ∗ cell X.c X.a6 (· = σ.O) ∗ cell X.c X.a7 (Slots · σ.WA) ∗ cell X.c X.a8 (Slots · σ.WB) ∗ cell X.c X.a9 (Slots · σ.CA) ∗ cell X.c X.a10 (Slots · σ.CB) ∗ cell X.c X.a11 (Slots · σ.P) ∗ cell X.c X.a12 (Slots · σ.A) ∗ cell X.c X.a13 (Slots · σ.S)) :=
  bigSep_univ_eq_bigSepL [(0 : Fin 12), 1, 2, 3, 4, 5, 6, 7, 8, 9, 10, 11] (by decide) (by decide) (cells X σ)

/-- The body as an entailment between what it is handed and what it hands back, each reference spelled out. -/
theorem body_triple (X : Ctx F) (gi : grid0.Coords) (h2 : X.a2.IsWhole) (h3 : X.a3.IsWhole) (h4 : X.a4.IsWhole) (h5 : X.a5.IsWhole) (h6 : X.a6.IsWhole) (h7 : X.a7.IsWhole) (h8 : X.a8.IsWhole) (h9 : X.a9.IsWhole) (h10 : X.a10.IsWhole) (h11 : X.a11.IsWhole) (h12 : X.a12.IsWhole) (h13 : X.a13.IsWhole)
    (K : PUnit → sProp 𝕄) :
    iprop(owns (X.c : Thread nD τ) X.a2 fullShare X.g ∗ owns (X.c : Thread nD τ) X.a3 fullShare X.q ∗ owns (X.c : Thread nD τ) X.a4 fullShare X.k ∗ owns (X.c : Thread nD τ) X.a5 fullShare X.v ∗ (∃ d, owns (X.c : Thread nD τ) X.a6 fullShare d) ∗ (∃ d, owns (X.c : Thread nD τ) X.a7 fullShare d) ∗ (∃ d, owns (X.c : Thread nD τ) X.a8 fullShare d) ∗ (∃ d, owns (X.c : Thread nD τ) X.a9 fullShare d) ∗ (∃ d, owns (X.c : Thread nD τ) X.a10 fullShare d) ∗ (∃ d, owns (X.c : Thread nD τ) X.a11 fullShare d) ∗ (∃ d, owns (X.c : Thread nD τ) X.a12 fullShare d) ∗ (∃ d, owns (X.c : Thread nD τ) X.a13 fullShare d)
      ∗ (iprop(owns (X.c : Thread nD τ) X.a2 fullShare X.g ∗ owns (X.c : Thread nD τ) X.a3 fullShare X.q ∗ owns (X.c : Thread nD τ) X.a4 fullShare X.k ∗ owns (X.c : Thread nD τ) X.a5 fullShare X.v ∗ owns (X.c : Thread nD τ) X.a6 fullShare (res X) ∗ (∃ d, owns (X.c : Thread nD τ) X.a7 fullShare d) ∗ (∃ d, owns (X.c : Thread nD τ) X.a8 fullShare d) ∗ (∃ d, owns (X.c : Thread nD τ) X.a9 fullShare d) ∗ (∃ d, owns (X.c : Thread nD τ) X.a10 fullShare d) ∗ (∃ d, owns (X.c : Thread nD τ) X.a11 fullShare d) ∗ (∃ d, owns (X.c : Thread nD τ) X.a12 fullShare d) ∗ (∃ d, owns (X.c : Thread nD τ) X.a13 fullShare d)) -∗ K ⟨⟩))
      ⊢ wp frame (wpE (defs₀ (F := F)) Variants.none X.c none) Set.univ
        (cc0_sb_attn gi X.a2 h2 X.a3 h3 X.a4 h4 X.a5 h5 X.a6 h6 X.a7 h7 X.a8 h8 X.a9 h9 X.a10 h10 X.a11 h11 X.a12 h12 X.a13 h13) K := by
  iintro ⟨H2, H3, H4, H5, ⟨%d6, H6⟩, ⟨%d7, H7⟩, ⟨%d8, H8⟩, ⟨%d9, H9⟩, ⟨%d10, H10⟩, ⟨%d11, H11⟩, ⟨%d12, H12⟩, ⟨%d13, H13⟩, Hk⟩
  obtain ⟨s7, hs7⟩ := Slots.exists d7
  obtain ⟨s8, hs8⟩ := Slots.exists d8
  obtain ⟨s9, hs9⟩ := Slots.exists d9
  obtain ⟨s10, hs10⟩ := Slots.exists d10
  obtain ⟨s11, hs11⟩ := Slots.exists d11
  obtain ⟨s12, hs12⟩ := Slots.exists d12
  obtain ⟨s13, hs13⟩ := Slots.exists d13
  have hrun := body_run (X := X) gi h2 h3 h4 h5 h6 h7 h8 h9 h10 h11 h12 h13 ⟨d6, s7, s8, s9, s10, s11, s12, s13⟩
    (fun _ σ' => σ'.O = res X) (fun _ _ _ _ _ _ _ => tilesO_eq X d6) Variants.none Set.univ
  simp only [own_eq] at hrun
  unfold cell at hrun
  iapply (wp_wand_r frame (wpE (defs₀ (F := F)) Variants.none (X.c : Thread nD τ) none) Set.univ)
  isplitr [Hk]
  · iapply hrun
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; exact hs7
    isplitl [H8]; · iexists _; isplitr; swap; (· iexact H8); ipureintro; exact hs8
    isplitl [H9]; · iexists _; isplitr; swap; (· iexact H9); ipureintro; exact hs9
    isplitl [H10]; · iexists _; isplitr; swap; (· iexact H10); ipureintro; exact hs10
    isplitl [H11]; · iexists _; isplitr; swap; (· iexact H11); ipureintro; exact hs11
    isplitl [H12]; · iexists _; isplitr; swap; (· iexact H12); ipureintro; exact hs12
    iexists _; isplitr; swap; (· iexact H13); ipureintro; exact hs13
  · iintro %a
    iintro ⟨%σ', %hσ, ⟨%Y2, %e2, H2⟩, ⟨%Y3, %e3, H3⟩, ⟨%Y4, %e4, H4⟩, ⟨%Y5, %e5, H5⟩, ⟨%Y6, %e6, H6⟩, ⟨%Y7, %e7, H7⟩, ⟨%Y8, %e8, H8⟩, ⟨%Y9, %e9, H9⟩, ⟨%Y10, %e10, H10⟩, ⟨%Y11, %e11, H11⟩, ⟨%Y12, %e12, H12⟩, ⟨%Y13, %e13, H13⟩⟩
    rw [hσ] at e6
    subst e2 e3 e4 e5 e6
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0, after1, after2, after3, after4]
  unfold Pipeline.ΦA
  rw [scopedRest0_eq]
  iintro ⟨⟨⟨⟨%f7, S7⟩, ⟨%f8, S8⟩, ⟨%f9, S9⟩, ⟨%f10, S10⟩, ⟨%f11, S11⟩, ⟨%f12, S12⟩, ⟨%f13, S13⟩⟩, HP⟩, Ho, ⟨%d0, H0⟩, ⟨%d1, H1⟩, ⟨%d2, H2⟩, ⟨%d3, H3⟩, ⟨%d4, H4⟩⟩
  iapply (body_triple (ctxAt m c t) (grid0.coords t) _ _ _ _ _ _ _ _ _ _ _ _ _)
  simp only [ctxAt, owns_whole]
  isplitl [H0]; · iexact H0
  isplitl [H1]; · iexact H1
  isplitl [H2]; · iexact H2
  isplitl [H3]; · iexact H3
  isplitl [H4]; · iexists _; iexact H4
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [S13]; · iexists _; iexact S13
  iintro ⟨H0, H1, H2, H3, H4, S7, S8, S9, S10, S11, S12, S13⟩
  isplitl [HP S7 S8 S9 S10 S11 S12 S13]
  · isplitr [HP]
    · isplitl [S7]; · iexact S7
      isplitl [S8]; · iexact S8
      isplitl [S9]; · iexact S9
      isplitl [S10]; · iexact S10
      isplitl [S11]; · iexact S11
      isplitl [S12]; · iexact S12
      iexact S13
    · iexact HP
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: the arrays at what the grid points leave, every other buffer as the call found it, every
    semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its argument arrays end unchanged, and every semaphore counter is zero again. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Sb
-- ==== Proof.Sb.Bits.lean ====
/-
  The stick-breaking attention call as compiled has the text of its ideal reading, so that the run proved once gives its frame too.
-/
module

public import proofs.«01_k».proof.Kernel4
public import proofs.«01_k».proof.Proof.Gen.Kernel4
public import proofs.«01_k».proof.Proof.Sb.Run

@[expose] public section

set_option maxRecDepth 65536

noncomputable section

namespace Cert.Kernel4.Sb

open Idealize.ShloMosaic Idealize.ShloMosaic.TcCoe Idealize.SL.Sem

variable {F : FTy → Type} [FloatOps F]

/-- Every named constant read as its bits. -/
@[reducible] def bitsNamed : Named F := ⟨fun _ _ {φ} b => Scalar.ofBits φ b⟩

attribute [local instance] bitsNamed

theorem body_eq : @Cert.Kernel4.cc0_sb_attn F _ _ = @Cert.Kernel4Ideal.cc0_sb_attn F _ _ _ := rfl

theorem defs₀_eq : Cert.Kernel4.defs₀ (F := F) = Cert.Kernel4Ideal.defs₀ (F := F) := by
  unfold Cert.Kernel4.defs₀ Cert.Kernel4Ideal.defs₀
  refine congrArg Defs.onTc ?_
  funext l a
  match l, a with
  | ⟨0, _⟩, (t, s) => exact congrFun rfl _
  | ⟨_ + 1, h⟩, _ => exact absurd h (Nat.not_lt.2 (Nat.le_add_left _ _))

theorem defs_eq : Cert.Kernel4.defs (F := F) = Cert.Kernel4Ideal.defs (F := F) := by
  unfold Cert.Kernel4.defs Cert.Kernel4Ideal.defs
  rw [defs₀_eq]; rfl

theorem main_eq : Cert.Kernel4.main (F := F) = Cert.Kernel4Ideal.main (F := F) := rfl

/-- What the program leaves is what its ideal reading leaves, at any floats. -/
theorem run_of {m : (ℓ : Loc Cert.Kernel4.nD Cert.Kernel4.τ Cert.Kernel4.sig) → Buf (Elt F) ℓ} {ρ : Dev Cert.Kernel4.nD → PrngReg}
    {Q : PUnit × MemSt Cert.Kernel4Ideal.nD Cert.Kernel4Ideal.τ Cert.Kernel4Ideal.sig (Elt F) → Prop}
    (h : θ_run Cert.Kernel4Ideal.defs (onTc (τ := Cert.Kernel4Ideal.τ) (Cert.Kernel4Ideal.main (F := F))) ⟨m, fun _ => 0, ρ⟩ Q) :
    θ_run Cert.Kernel4.defs (onTc (τ := Cert.Kernel4.τ) (Cert.Kernel4.main (F := F))) ⟨m, fun _ => 0, ρ⟩ Q := by
  rw [defs_eq]
  exact h

end Cert.Kernel4.Sb
-- ==== Proof.Sb.Bounded.lean ====
/-
  What the claim's precondition says: no base-two score of a key before its query exceeds 64.
-/
module

public import proofs.«01_k».proof.Proof.Gen.Pre_bounded
public import Idealize.ShloMosaic.Lib.Pointwise
public import Idealize.ShloMosaic.Lib.ReduceAll
public import Idealize.ShloMosaic.Lib.WordCmp
public import proofs.«01_k».proof.Proof.Diff.Entry

@[expose] public section

set_option maxRecDepth 16384

noncomputable section

namespace Cert.Pre_bounded.Read

open Cert.Pre_bounded Cert.Pre_bounded.Gen
open Idealize.ShloMosaic

variable {a0 a1 a2 : FVec Ideal S32x2048x8x64 .f32} {a3 : FVec Ideal S1x64 .f32}

instance : Subsingleton S_.Idx := ⟨fun a b => funext fun i => i.elim0⟩

/-- Where a comparison holds, its left side is at most its right side. -/
theorem le_of_cmp (x y : EReal) (h : Ideal.cmp .ole x y = 1#1) : x ≤ y := by
  rcases Classical.em (x ≤ y) with p | p
  · exact p
  · simp only [Ideal.cmp, p, decide_false] at h
    exact absurd h (by decide)

/-- The base-two scores that the precondition bounds. -/
def logits (a0 a1 : FVec Ideal S32x2048x8x64 .f32) : FVec Ideal S32x8x2048x2048 .f32 :=
  mulf (Host.dotGeneral dot_S32x2048x8x64_S32x2048x8x64_S32x8x2048x2048_3_3_1_1_02_02 none a0 a1)
    (broadcastInDim S32x8x2048x2048 ![] bcast_S_S32x8x2048x2048
      (Host.divf (constant S_ .f32 0x3E000000#32) (Host.log (constant S_ .f32 0x40000000#32))))

theorem logits_apply (b : Fin 32) (h : Fin 8) (i j : Fin 2048) : logits a0 a1 (ix4 b h i j)
    = (∑ d : Fin 64, (a0 (ix4 b i h d) : EReal) * a1 (ix4 b j h d))
      * Ideal.div (Ideal.ofBits .f32 0x3E000000#32) (Ideal.log (Ideal.ofBits .f32 0x40000000#32)) := by
  pointwise [logits]

/-- Those of the keys before a query. -/
def kept (x : FVec Ideal S32x8x2048x2048 .f32) : FVec Ideal S32x8x2048x2048 .f32 :=
  select (broadcastInDim S32x8x2048x2048 ![2, 3] bcast_S2048x2048_S32x8x2048x2048_2_3
      (cmpi .slt (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    x (broadcastInDim S32x8x2048x2048 ![] bcast_S_S32x8x2048x2048 (id (constant S_ .f32 0x00000000#32)))

theorem kept_apply (x : FVec Ideal S32x8x2048x2048 .f32) (b : Fin 32) (h : Fin 8) (i j : Fin 2048) (hj : j < i) :
    kept x (ix4 b h i j) = x (ix4 b h i j) := by
  pointwise [kept]
  rw [Cert.KernelIdeal.Diff.select_prop _ (j < i)
    ((WordCmp.cmpi_slt_ofNat_eq_one_iff (by omega) (by omega)).trans Fin.lt_def.symm)]
  exact if_pos hj

theorem reads (h : fn (F := Ideal) a0 a1 a2 a3 = fun _ => 1#1) (b : Fin 32) (hh : Fin 8) (i j : Fin 2048) (hj : j < i) :
    (logits a0 a1 (ix4 b hh i j) : EReal) ≤ Ideal.ofBits .f32 0x42800000#32 := by
  have e := congrFun h ix0
  unfold fn at e
  have l := le_of_cmp _ _ (Host.reduce_andi_all _ _ _ _ _ e (ix4 b hh i j))
  have k : (kept (logits a0 a1) (ix4 b hh i j) : EReal) ≤ Ideal.ofBits .f32 0x42800000#32 := l
  rwa [kept_apply _ b hh i j hj] at k

end Cert.Pre_bounded.Read
-- ==== Proof.Sb.Blocks.lean ====
/-
  The blocks that the stick-breaking attention call's body works on at a grid point, entry by entry, in terms of the arguments.
-/
module

public import proofs.«01_k».proof.Proof.Gen.Kernel4Ideal.Frame
public import Idealize.ShloMosaic.Lib.Pointwise
public import Idealize.ShloMosaic.Lib.Pipeline.ValueKit
public import Idealize.ShloMosaic.Lib.Claim

@[expose] public section

set_option maxRecDepth 16384

noncomputable section

namespace Cert.Kernel4Ideal.Sb

open Cert.Kernel4Ideal Cert.Kernel4Ideal.Gen
open Idealize.ShloMosaic Idealize.ShloMosaic.TcCoe

/-- The windows' blocks at a point: the batch is the point's half, the group of heads its parity. -/
theorem idx : ∀ t : Fin cfg0.N, win0_0.index t = ![0, 0]
    ∧ win0_1.index t = ![t.val % 2, t.val / 2, 0] ∧ win0_2.index t = ![2 + t.val % 2, t.val / 2, 0]
    ∧ win0_3.index t = ![t.val % 2, t.val / 2] ∧ win0_4.index t = ![t.val % 2, t.val / 2, 0] :=
  (by decide +kernel : ∀ t : Fin grid0.N, _)

/-- A point's batch. -/
def batch (t : Fin cfg0.N) : Fin 32 := ⟨t.val / 2, by have : t.val < 64 := t.isLt; omega⟩

variable (m : (ℓ : Loc nD τ sig) → Buf (Elt Ideal) ℓ) (c : Dev nD)

theorem g_at (t : Fin cfg0.N) (e : Fin 128) :
    (iblk m c 0 t : FVec Ideal S1x128 .f32) (ix2 0 e) = (V m c main_v17 : FVec Ideal S1x128 .f32) (ix2 0 e) := by
  blk_ext [iblk, idx t]

theorem q_at (t : Fin cfg0.N) (s : Fin 2048) (e : Fin 256) :
    (iblk m c 1 t : FVec Ideal S1x2048x256 .bf16) (ix3 0 s e)
      = (V m c main_v9 : FVec Ideal S4x65536x256 .bf16) (ix3 ⟨t.val % 2, by omega⟩ ⟨2048 * (batch t).val + s.val, by omega⟩ e) := by
  unfold batch
  blk_ext [iblk, idx t]

theorem k_at (t : Fin cfg0.N) (s : Fin 2048) (e : Fin 256) :
    (iblk m c 2 t : FVec Ideal S1x2048x256 .bf16) (ix3 0 s e)
      = (V m c main_v9 : FVec Ideal S4x65536x256 .bf16) (ix3 ⟨2 + t.val % 2, by omega⟩ ⟨2048 * (batch t).val + s.val, by omega⟩ e) := by
  unfold batch
  blk_ext [iblk, idx t]

theorem v_at (t : Fin cfg0.N) (e : Fin 256) (s : Fin 2048) :
    (iblk m c 3 t : FVec Ideal S256x2048 .bf16) (ix2 e s)
      = (V m c main_v12 : FVec Ideal S512x65536 .bf16) (ix2 ⟨256 * (t.val % 2) + e.val, by omega⟩ ⟨2048 * (batch t).val + s.val, by omega⟩) := by
  unfold batch
  blk_ext [iblk, idx t]

/-- The queries that are given, the keys, the values, and the gain of the normalisation. -/
abbrev A0 : FVec Ideal S32x2048x8x64 .f32 := m (c, Proc.tc.devRef main_arg0)
abbrev A1 : FVec Ideal S32x2048x8x64 .f32 := m (c, Proc.tc.devRef main_arg1)
abbrev A2 : FVec Ideal S32x2048x8x64 .f32 := m (c, Proc.tc.devRef main_arg2)
abbrev A3 : FVec Ideal S1x64 .f32 := m (c, Proc.tc.devRef main_arg3)

/-- The scale that the host multiplies the queries by: 1/8 over the logarithm of two. -/
def scaleQ : EReal := Ideal.div (Ideal.ofBits .f32 0x3E000000#32) (Ideal.log (Ideal.ofBits .f32 0x40000000#32))

/-- The gain once for each of two heads. -/
theorem v17_at (e : Fin 128) : (V m c main_v17 : FVec Ideal S1x128 .f32) (ix2 0 e)
    = A3 m c (ix2 0 ⟨e.val % 64, by omega⟩) := by
  entry_read
  pointwise

theorem v12_at (e : Fin 512) (s : Fin 65536) : (V m c main_v12 : FVec Ideal S512x65536 .bf16) (ix2 e s)
    = A2 m c
        (ix4 ⟨s.val / 2048, by omega⟩ ⟨s.val % 2048, by omega⟩ ⟨e.val / 64, by omega⟩ ⟨e.val % 64, by omega⟩) := by
  entry_read
  pointwise

theorem v9_query (g : Fin 4) (s : Fin 65536) (e : Fin 256) (h : g.val < 2) : (V m c main_v9 : FVec Ideal S4x65536x256 .bf16) (ix3 g s e)
    = (A0 m c
        (ix4 ⟨s.val / 2048, by omega⟩ ⟨s.val % 2048, by omega⟩ ⟨g.val * 4 + e.val / 64, by omega⟩ ⟨e.val % 64, by omega⟩) : EReal) * scaleQ := by
  entry_read
  pointwise
  rw [dif_pos h]
  rfl

theorem v9_key (g : Fin 4) (s : Fin 65536) (e : Fin 256) (h : ¬ g.val < 2) : (V m c main_v9 : FVec Ideal S4x65536x256 .bf16) (ix3 g s e)
    = A1 m c
        (ix4 ⟨s.val / 2048, by omega⟩ ⟨s.val % 2048, by omega⟩ ⟨(g.val - 2) * 4 + e.val / 64, by omega⟩ ⟨e.val % 64, by omega⟩) := by
  entry_read
  pointwise
  rw [dif_neg h]

end Cert.Kernel4Ideal.Sb
-- ==== Proof.Sb.Entry.lean ====
/-
  The stick-breaking attention body's arithmetic read at one entry, over the extended reals.
-/
module

public import proofs.«01_k».proof.Proof.Sb.Step
public import proofs.«01_k».proof.Proof.Diff.Entry
public import Idealize.ShloMosaic.Lib.Pointwise
public import Idealize.ShloMosaic.Lib.WordCmp

@[expose] public section

set_option maxRecDepth 16384

noncomputable section

namespace Cert.Kernel4Ideal.Sb

open Cert.Kernel4Ideal Cert.Kernel4Ideal.Gen
open Idealize.ShloMosaic

open Cert.KernelIdeal.Diff (select_prop coe_sum)

/-! ## Blocks -/

/-- Place `j` of block `b` of 256. -/
def at256 (b : Fin 8) (j : Fin 256) : Fin 2048 := ⟨256 * b.val + j.val, by omega⟩
/-- Lane `d` of head `c`'s 64. -/
def at64 (c : Fin 4) (d : Fin 64) : Fin 256 := ⟨64 * c.val + d.val, by omega⟩
/-- Lane `e` of head pair `h`'s 128. -/
def at128 (h : Fin 2) (e : Fin 128) : Fin 256 := ⟨128 * h.val + e.val, by omega⟩
/-- The even head of a pair, -/
def evenOf (h : Fin 2) : Fin 4 := ⟨2 * h.val, by omega⟩
/-- and the odd one. -/
def oddOf (h : Fin 2) : Fin 4 := ⟨2 * h.val + 1, by omega⟩

theorem rowBlk_apply (X : Vec Ideal S1x2048x256 .bf16) (b : Fin 8) (h : Fin 2) (r : Fin 256) (d : Fin 128) :
    rowBlk X b h (ix3 0 r d) = X (ix3 0 (at256 b r) (at128 h d)) := by
  unfold rowBlk at256 at128
  pointwise

theorem colBlk_apply (X : Vec Ideal S256x2048 .bf16) (b : Fin 8) (c : Fin 4) (e : Fin 64) (j : Fin 256) :
    colBlk X b c (ix2 e j) = X (ix2 (at64 c e) (at256 b j)) := by
  unfold colBlk at256 at64
  pointwise

/-! ## Scores -/

theorem lane_even (x : Fin 128) : IntOp.cmpi CmpIPredicate.slt (BitVec.ofNat 32 x.val) 64#32 = 1#1 ↔ x.val < 64 := by
  rw [show (64#32 : BitVec 32) = BitVec.ofNat 32 64 from rfl]
  exact WordCmp.cmpi_slt_ofNat_eq_one_iff (by have := x.isLt; omega) (by norm_num)

variable {k q : Vec Ideal S1x2048x256 .bf16}

theorem scEven_apply (i b : Fin 8) (h : Fin 2) (j r : Fin 256) :
    scEven (rowBlk k b h) (rowBlk q i h) (ix2 j r)
      = ∑ d, (k (ix3 0 (at256 b j) (at64 (evenOf h) d)) : EReal) * q (ix3 0 (at256 i r) (at64 (evenOf h) d)) := by
  unfold scEven evenLanes k0_pay272
  pointwise
  simp only [select_prop _ _ (lane_even _), rowBlk_apply]
  rw [Fin.sum_univ_two_halves 64 64 rfl]
  simp only [Fin.is_lt, if_true, show ∀ x : Fin 64, ¬ (64 + x.val < 64) from fun x => by omega, if_false,
    Finset.sum_const_zero, add_zero]
  refine Finset.sum_congr rfl fun d _ => ?_
  have : at128 h ⟨d.val, by omega⟩ = at64 (evenOf h) d := Fin.ext (by simp only [at128, at64, evenOf]; omega)
  rw [this]

theorem scOdd_apply (i b : Fin 8) (h : Fin 2) (j r : Fin 256) :
    scOdd (rowBlk k b h) (rowBlk q i h) (ix2 j r)
      = ∑ d, (k (ix3 0 (at256 b j) (at64 (oddOf h) d)) : EReal) * q (ix3 0 (at256 i r) (at64 (oddOf h) d)) := by
  unfold scOdd evenLanes k0_pay272
  pointwise
  simp only [select_prop _ _ (lane_even _), rowBlk_apply]
  rw [Fin.sum_univ_two_halves 64 64 rfl]
  simp only [Fin.is_lt, if_true, show ∀ x : Fin 64, ¬ (64 + x.val < 64) from fun x => by omega, if_false,
    Finset.sum_const_zero, zero_add]
  refine Finset.sum_congr rfl fun d _ => ?_
  have : at128 h ⟨64 + d.val, by omega⟩ = at64 (oddOf h) d := Fin.ext (by simp only [at128, at64, oddOf]; omega)
  rw [this]

/-- A bit that says whether `p` holds, as a number. -/
theorem one_of_bit (p : Prop) [Decidable p] (c : BitVec 1) (h : c = 1#1 ↔ p) :
    (((c.setWidth 32).toInt : ℝ) : EReal) = ((if p then 1 else 0 : ℝ) : EReal) := by
  have hc : c = 0#1 ∨ c = 1#1 := (by decide : ∀ c : BitVec 1, c = 0#1 ∨ c = 1#1) c
  rcases hc with rfl | rfl
  · rw [if_neg fun hp => absurd (h.2 hp) (by decide)]
    simp
  · rw [if_pos (h.1 rfl)]
    simp

/-- Ones at and after the diagonal. -/
theorem tri_apply (j r : Fin 256) : (tri (F := Ideal)) (ix2 j r) = ((if j ≤ r then 1 else 0 : ℝ) : EReal) := by
  unfold tri k0_pay273
  pointwise
  exact one_of_bit (j ≤ r) _ (WordCmp.cmpi_sge_ofNat_eq_one_iff (by have := r.isLt; omega) (by have := j.isLt; omega))

theorem unslot_slot (s : FVec Ideal S256x256 .f32) (j r : Fin 256) : unslot (slot s) (ix2 j r) = s (ix2 j r) := by
  unfold unslot slot
  pointwise

theorem masked_apply (s : FVec Ideal S256x256 .f32) (j r : Fin 256) :
    masked s (ix2 j r) = if j < r then s (ix2 j r) else 0 := by
  unfold masked strict
  pointwise
  rw [select_prop _ _ (WordCmp.cmpi_slt_ofNat_eq_one_iff (by have := j.isLt; omega) (by have := r.isLt; omega))]
  rfl

theorem plain_apply (s : FVec Ideal S256x256 .f32) (j r : Fin 256) : plain s (ix2 j r) = s (ix2 j r) := rfl

/-! ## One step -/

theorem negl_apply (w : Vec Ideal S1x256x256 .f32) (j r : Fin 256) :
    negl w (ix2 j r) = max (unslot w (ix2 j r)) (Ideal.log (Ideal.ofBits .f32 0x3F800000#32
      + Ideal.exp2 (min (unslot w (ix2 j r)) (Ideal.ofBits .f32 0x42800000#32))) * (((Real.log 2)⁻¹ : ℝ) : EReal)) := by
  unfold negl
  rfl

theorem incl_apply (f : FVec Ideal S256x256 .f32 → FVec Ideal S256x256 .f32) (w : Vec Ideal S1x256x256 .f32) (j r : Fin 256) :
    incl f w (ix2 j r) = ∑ j', ((if j ≤ j' then 1 else 0 : ℝ) : EReal) * f (negl w) (ix2 j' r) := by
  simp only [← tri_apply]
  unfold incl
  generalize tri (F := Ideal) = u
  pointwise

theorem stC_apply (f : FVec Ideal S256x256 .f32 → FVec Ideal S256x256 .f32) (w : Vec Ideal S1x256x256 .f32)
    (c : Vec Ideal S1x1x256 .f32) (r : Fin 256) : stC f w c (ix3 0 0 r) = c (ix3 0 0 r) + incl f w (ix2 0 r) := by
  unfold stC
  pointwise

theorem stP_apply (f : FVec Ideal S256x256 .f32 → FVec Ideal S256x256 .f32) (w : Vec Ideal S1x256x256 .f32) (j r : Fin 256) :
    stP f w (ix3 0 j r) = f (exp2 (subf (unslot w) (incl f w))) (ix2 j r) := by
  unfold stP
  pointwise

theorem pow_apply (w u : FVec Ideal S256x256 .f32) (j r : Fin 256) :
    exp2 (subf w u) (ix2 j r) = Ideal.exp2 (w (ix2 j r) - u (ix2 j r)) := rfl

theorem stS_apply (c : Vec Ideal S1x1x256 .f32) (r : Fin 256) : stS c (ix3 0 0 r) = Ideal.exp2 (0 - c (ix3 0 0 r)) := by
  unfold stS
  pointwise
  rfl

theorem stA_apply (v : Vec Ideal S64x256 .bf16) (p : Vec Ideal S1x256x256 .bf16) (s : Vec Ideal S1x1x256 .f32)
    (a : Vec Ideal S1x64x256 .f32) (e : Fin 64) (r : Fin 256) :
    stA v p s a (ix3 0 e r) = a (ix3 0 e r) + s (ix3 0 0 r) * ∑ j, v (ix2 e j) * p (ix3 0 j r) := by
  unfold stA
  pointwise

theorem zeroC_apply (r : Fin 256) : (zeroC (F := Ideal)) (ix3 0 0 r) = 0 := by
  unfold zeroC
  pointwise

theorem zeroA_apply (e : Fin 64) (r : Fin 256) : (zeroA (F := Ideal)) (ix3 0 e r) = 0 := by
  unfold zeroA
  pointwise

/-! ## The result -/

/-- Lane `e` of a head's result from its 64 lanes: the norm and its weight. -/
def normed (o : Fin 64 → EReal) (g : EReal) (e : Fin 64) : EReal :=
  o e * Ideal.rsqrt (Ideal.div (∑ x, o x * o x) (Ideal.ofBits .f32 0x42800000#32) + Ideal.ofBits .f32 0x3727C5AC#32) * g

theorem outp_even (g : Vec Ideal S1x128 .f32) (a0 a1 : Vec Ideal S1x64x256 .f32) (r : Fin 256) (e : Fin 128) (h : e.val < 64) :
    outp g a0 a1 (ix3 0 r e) = normed (fun x => a0 (ix3 0 x r)) (g (ix2 0 e)) ⟨e.val, h⟩ := by
  unfold outp k0_pay2 half normed
  pointwise
  rw [dif_pos h]

theorem outp_odd (g : Vec Ideal S1x128 .f32) (a0 a1 : Vec Ideal S1x64x256 .f32) (r : Fin 256) (e : Fin 128) (h : ¬ e.val < 64) :
    outp g a0 a1 (ix3 0 r e) = normed (fun x => a1 (ix3 0 x r)) (g (ix2 0 e)) ⟨e.val - 64, by omega⟩ := by
  unfold outp k0_pay2 half normed
  pointwise
  rw [dif_neg h]

theorem gOf_apply (X : Ctx Ideal) (e : Fin 128) : gOf X (ix2 0 e) = X.g (ix2 0 e) := by
  unfold gOf
  pointwise

end Cert.Kernel4Ideal.Sb
-- ==== Proof.Sb.Stick.lean ====
/-
  One query's stick. Of the base-two scores `w` of the keys before query `R`, none of them `⊤`: what each key leaves of
  the stick, in base-two logarithms; the sums of those over a key and the later ones, in blocks of 256 and as a whole; and
  the weights.
-/
module

public import proofs.«01_k».proof.Proof.Sb.Entry
public import proofs.«01_k».proof.Proof.Diff.Inputs

@[expose] public section

noncomputable section

namespace Cert.Kernel4Ideal.Sb

open Idealize.ShloMosaic
open Cert.KernelIdeal.Diff (coe_sum exp2_real)

theorem log_two_pos : 0 < Real.log 2 := Real.log_pos (by norm_num)

/-- The base-two logarithm of `1 + 2 ^ w`. -/
def lg (w : ℝ) : ℝ := Real.log (1 + Real.exp (Real.log 2 * w)) * (Real.log 2)⁻¹

theorem le_lg (w : ℝ) : w ≤ lg w := by
  unfold lg
  rw [← div_eq_mul_inv, le_div_iff₀ log_two_pos, mul_comm]
  calc Real.log 2 * w = Real.log (Real.exp (Real.log 2 * w)) := (Real.log_exp _).symm
    _ ≤ _ := Real.log_le_log (Real.exp_pos _) (by linarith)

theorem one_word : Ideal.ofBits .f32 0x3F800000#32 = ((1 : ℝ) : EReal) := by
  simp [Ideal.ofBits, Ideal.ieee, -EReal.coe_mul]; norm_num

theorem clamp_word : Ideal.ofBits .f32 0x42800000#32 = ((64 : ℝ) : EReal) := by
  simp [Ideal.ofBits, Ideal.ieee, -EReal.coe_mul]; norm_num

/-- That of an extended real that is not `⊤`, -/
def lgOf (w : EReal) : ℝ := if w = ⊥ then 0 else lg w.toReal
/-- and `2 ^ (w - u)`. -/
def powOf (w : EReal) (u : ℝ) : ℝ := if w = ⊥ then 0 else Real.exp (Real.log 2 * (w.toReal - u))

theorem lgOf_bot : lgOf ⊥ = 0 := if_pos rfl
theorem lgOf_coe (w : ℝ) : lgOf (w : EReal) = lg w := by
  unfold lgOf
  rw [if_neg (EReal.coe_ne_bot w), EReal.toReal_coe]
theorem powOf_bot (u : ℝ) : powOf ⊥ u = 0 := if_pos rfl
theorem powOf_coe (w u : ℝ) : powOf (w : EReal) u = Real.exp (Real.log 2 * (w - u)) := by
  unfold powOf
  rw [if_neg (EReal.coe_ne_bot w), EReal.toReal_coe]

/-- At most the clamp, the body's logarithm is that of `1 + 2 ^ w`. -/
theorem lg_eq (w : EReal) (h : w ≤ Ideal.ofBits .f32 0x42800000#32) :
    max w (Ideal.log (Ideal.ofBits .f32 0x3F800000#32 + Ideal.exp2 (min w (Ideal.ofBits .f32 0x42800000#32)))
      * (((Real.log 2)⁻¹ : ℝ) : EReal)) = ((lgOf w : ℝ) : EReal) := by
  rw [min_eq_left h]
  rw [clamp_word] at h
  induction w using EReal.rec with
  | bot =>
    rw [lgOf_bot, Ideal.exp2_bot, add_zero, one_word, Ideal.log_coe, if_neg (by norm_num), Real.log_one, ← EReal.coe_mul, zero_mul]
    exact max_eq_right bot_le
  | coe w =>
    rw [lgOf_coe, exp2_real, one_word, ← EReal.coe_add, Ideal.log_coe,
      if_neg (not_le.2 (by have := Real.exp_pos (Real.log 2 * w); linarith)), ← EReal.coe_mul]
    exact max_eq_right (EReal.coe_le_coe_iff.2 (le_lg w))
  | top => exact absurd (top_le_iff.1 h) (EReal.coe_ne_top _)

theorem pow_eq (w : EReal) (h : w ≤ Ideal.ofBits .f32 0x42800000#32) (u : ℝ) : Ideal.exp2 (w - (u : EReal)) = ((powOf w u : ℝ) : EReal) := by
  rw [clamp_word] at h
  induction w using EReal.rec with
  | bot => rw [EReal.bot_sub, Ideal.exp2_bot, powOf_bot, EReal.coe_zero]
  | coe w => rw [powOf_coe, ← EReal.coe_sub, exp2_real]
  | top => exact absurd (top_le_iff.1 h) (EReal.coe_ne_top _)

theorem powOf_add (w : EReal) (u t : ℝ) : Real.exp (Real.log 2 * (0 - t)) * powOf w u = powOf w (u + t) := by
  unfold powOf
  split
  · rw [mul_zero]
  · rw [← Real.exp_add]
    congr 1
    ring

/-! ## Sums over later keys -/

variable (w : Fin 2048 → EReal) (R : Fin 2048)

/-- Minus the logarithm of what key `K` leaves of the stick. -/
def used (K : Fin 2048) : ℝ := if K < R then lgOf (w K) else 0

/-- The sum over a key and the later ones. -/
def upTo (K : Fin 2048) : ℝ := ∑ K', if K ≤ K' then used w R K' else 0

/-- A key's weight. -/
def wgt (K : Fin 2048) : ℝ := if K < R then powOf (w K) (upTo w R K) else 0

/-- A block's sum, -/
def blkSum (b : Fin 8) : ℝ := ∑ j, used w R (at256 b j)
/-- the sum over the blocks from the `n`-th on, -/
def blksFrom (n : ℕ) : ℝ := ∑ b : Fin 8, if n ≤ b.val then blkSum w R b else 0
/-- and the sum within a block. -/
def inBlk (b : Fin 8) (j : Fin 256) : ℝ := ∑ j', if j ≤ j' then used w R (at256 b j') else 0

/-- Blocks of 256 keys make up the 2048. -/
theorem sum_blocks {M : Type*} [AddCommMonoid M] (f : Fin 2048 → M) : ∑ b, ∑ j, f (at256 b j) = ∑ K, f K := by
  rw [← Fintype.sum_prod_type']
  refine Fintype.sum_equiv (finProdFinEquiv (m := 8) (n := 256)) _ _ fun p => congrArg f (Fin.ext ?_)
  show 256 * p.1.val + p.2.val = p.2.val + 256 * p.1.val
  omega

theorem at_le {b b' : Fin 8} {j j' : Fin 256} : at256 b j ≤ at256 b' j' ↔ 256 * b.val + j.val ≤ 256 * b'.val + j'.val := Iff.rfl
theorem at_lt {b b' : Fin 8} {j j' : Fin 256} : at256 b j < at256 b' j' ↔ 256 * b.val + j.val < 256 * b'.val + j'.val := Iff.rfl

theorem upTo_at (b : Fin 8) (j : Fin 256) : upTo w R (at256 b j) = inBlk w R b j + blksFrom w R (b.val + 1) := by
  unfold upTo
  rw [← sum_blocks]
  have e : ∀ b', (∑ j', if at256 b j ≤ at256 b' j' then used w R (at256 b' j') else 0)
      = (if b' = b then inBlk w R b' j else 0) + if b.val + 1 ≤ b'.val then blkSum w R b' else 0 := by
    intro b'
    rcases lt_trichotomy b'.val b.val with h | h | h
    · rw [if_neg (fun e => by rw [e] at h; exact lt_irrefl _ h), if_neg (by omega), add_zero]
      exact Finset.sum_eq_zero fun j' _ => if_neg (by rw [at_le]; have := j'.isLt; omega)
    · have : b' = b := Fin.ext h
      subst this
      rw [if_pos rfl, if_neg (by omega), add_zero]
      unfold inBlk
      refine Finset.sum_congr rfl fun j' _ => if_congr ?_ rfl rfl
      rw [at_le, Fin.le_def]
      omega
    · rw [if_neg (fun e => by rw [e] at h; exact lt_irrefl _ h), if_pos (by omega), zero_add]
      unfold blkSum
      refine Finset.sum_congr rfl fun j' _ => if_pos ?_
      rw [at_le]
      have := j.isLt
      omega
  simp only [e]
  rw [Finset.sum_add_distrib, Finset.sum_ite_eq' Finset.univ b, if_pos (Finset.mem_univ _)]
  rfl

theorem blksFrom_step (b : Fin 8) : blksFrom w R b.val = blksFrom w R (b.val + 1) + blkSum w R b := by
  unfold blksFrom
  have e : ∀ b' : Fin 8, (if b.val ≤ b'.val then blkSum w R b' else 0)
      = (if b.val + 1 ≤ b'.val then blkSum w R b' else 0) + if b' = b then blkSum w R b' else 0 := by
    intro b'
    rcases lt_trichotomy b'.val b.val with h | h | h
    · rw [if_neg (by omega), if_neg (by omega), if_neg (fun e => by rw [e] at h; exact lt_irrefl _ h), add_zero]
    · rw [if_pos (by omega), if_neg (by omega), if_pos (Fin.ext h), zero_add]
    · rw [if_pos (by omega), if_pos (by omega), if_neg (fun e => by rw [e] at h; exact lt_irrefl _ h), add_zero]
  simp only [e]
  rw [Finset.sum_add_distrib, Finset.sum_ite_eq' Finset.univ b, if_pos (Finset.mem_univ _)]

/-- No key of a block after the query's is used. -/
theorem used_later (i b : Fin 8) (x j : Fin 256) (h : i.val < b.val) : used w (at256 i x) (at256 b j) = 0 := by
  unfold used
  rw [if_neg]
  rw [at_lt]
  have := x.isLt
  omega

theorem wgt_later (i b : Fin 8) (x j : Fin 256) (h : i.val < b.val) : wgt w (at256 i x) (at256 b j) = 0 := by
  unfold wgt
  rw [if_neg]
  rw [at_lt]
  have := x.isLt
  omega

theorem blksFrom_end (i : Fin 8) (x : Fin 256) : blksFrom w (at256 i x) (i.val + 1) = 0 := by
  unfold blksFrom
  refine Finset.sum_eq_zero fun b _ => ?_
  by_cases h : i.val + 1 ≤ b.val
  · rw [if_pos h]
    exact Finset.sum_eq_zero fun j _ => used_later w i b x j (by omega)
  · rw [if_neg h]

theorem inBlk_zero (b : Fin 8) : inBlk w R b 0 = blkSum w R b := by
  unfold inBlk blkSum
  exact Finset.sum_congr rfl fun j' _ => if_pos (Fin.zero_le _)

/-- A block's weight without the later blocks. -/
def inWgt (b : Fin 8) (j : Fin 256) : ℝ := if at256 b j < R then powOf (w (at256 b j)) (inBlk w R b j) else 0

theorem wgt_split (b : Fin 8) (j : Fin 256) :
    Real.exp (Real.log 2 * (0 - blksFrom w R (b.val + 1))) * inWgt w R b j = wgt w R (at256 b j) := by
  unfold inWgt wgt
  rw [upTo_at]
  split
  · exact powOf_add _ _ _
  · rw [mul_zero]

/-- A positive factor goes into a sum, whatever the terms. -/
theorem mul_sum {n : ℕ} (s : ℝ) (h : 0 ≤ s) (f : Fin n → EReal) : (s : EReal) * ∑ j, f j = ∑ j, (s : EReal) * f j := by
  have d : ∀ t : Finset (Fin n), (s : EReal) * ∑ j ∈ t, f j = ∑ j ∈ t, (s : EReal) * f j := by
    intro t
    induction t using Finset.induction_on with
    | empty => simp
    | insert a t ha ih =>
      rw [Finset.sum_insert ha, Finset.sum_insert ha, EReal.left_distrib_of_nonneg_of_ne_top (EReal.coe_nonneg.2 h) (EReal.coe_ne_top _), ih]
  exact d _

/-- So into a weighted sum, into its weights. -/
theorem scale_sum {n : ℕ} (s : ℝ) (h : 0 ≤ s) (v : Fin n → EReal) (p : Fin n → ℝ) :
    (s : EReal) * ∑ j, v j * ((p j : ℝ) : EReal) = ∑ j, v j * ((s * p j : ℝ) : EReal) := by
  rw [mul_sum s h]
  exact Finset.sum_congr rfl fun j _ => by rw [EReal.coe_mul, mul_left_comm]

end Cert.Kernel4Ideal.Sb
-- ==== Proof.Sb.Total.lean ====
/-
  What a tile of the stick-breaking attention call has gathered at its end, over the extended reals: in every column and lane
  the values of all the keys before the query, under their weights.
-/
module

public import proofs.«01_k».proof.Proof.Sb.Stick

@[expose] public section

set_option maxRecDepth 16384

noncomputable section

namespace Cert.Kernel4Ideal.Sb

open Cert.Kernel4Ideal Cert.Kernel4Ideal.Gen
open Idealize.ShloMosaic
open Cert.KernelIdeal.Diff (coe_sum exp2_real Four)

variable (X : Ctx Ideal)

/-- The scores of a query in head `c`. -/
def row (c : Fin 4) (R : Fin 2048) : Fin 2048 → EReal := fun K =>
  ∑ d, (X.k (ix3 0 K (at64 c d)) : EReal) * X.q (ix3 0 R (at64 c d))

/-- No score of a key before its query is above the clamp. -/
def Under : Prop := ∀ c R K, K < R → row X c R K ≤ Ideal.ofBits .f32 0x42800000#32

/-- Block `b`'s part of head `c`'s lane `e`. -/
def part (c : Fin 4) (R : Fin 2048) (e : Fin 64) (b : Fin 8) : EReal :=
  ∑ j, X.v (ix2 (at64 c e) (at256 b j)) * ((wgt (row X c R) R (at256 b j) : ℝ) : EReal)

/-- Head `c`'s attention. -/
def att (c : Fin 4) (R : Fin 2048) (e : Fin 64) : EReal := ∑ K, X.v (ix2 (at64 c e) K) * ((wgt (row X c R) R K : ℝ) : EReal)

/-- The parts of the blocks from the `n`-th on. -/
def partsFrom (c : Fin 4) (R : Fin 2048) (e : Fin 64) (n : ℕ) : EReal := ∑ b : Fin 8, if n ≤ b.val then part X c R e b else 0

theorem partsFrom_step (c : Fin 4) (R : Fin 2048) (e : Fin 64) (b : Fin 8) :
    partsFrom X c R e b.val = partsFrom X c R e (b.val + 1) + part X c R e b := by
  unfold partsFrom
  have h : ∀ b' : Fin 8, (if b.val ≤ b'.val then part X c R e b' else 0)
      = (if b.val + 1 ≤ b'.val then part X c R e b' else 0) + if b' = b then part X c R e b' else 0 := by
    intro b'
    rcases lt_trichotomy b'.val b.val with h | h | h
    · rw [if_neg (by omega), if_neg (by omega), if_neg (fun e => by rw [e] at h; exact lt_irrefl _ h), add_zero]
    · rw [if_pos (by omega), if_neg (by omega), if_pos (Fin.ext h), zero_add]
    · rw [if_pos (by omega), if_pos (by omega), if_neg (fun e => by rw [e] at h; exact lt_irrefl _ h), add_zero]
  simp only [h]
  rw [Finset.sum_add_distrib, Finset.sum_ite_eq' Finset.univ b, if_pos (Finset.mem_univ _)]

theorem partsFrom_end (c : Fin 4) (i : Fin 8) (x : Fin 256) (e : Fin 64) : partsFrom X c (at256 i x) e (i.val + 1) = 0 := by
  unfold partsFrom
  refine Finset.sum_eq_zero fun b _ => ?_
  by_cases h : i.val + 1 ≤ b.val
  · rw [if_pos h]
    exact Finset.sum_eq_zero fun j _ => by rw [wgt_later _ i b x j (by omega), EReal.coe_zero, mul_zero]
  · rw [if_neg h]

theorem partsFrom_zero (c : Fin 4) (R : Fin 2048) (e : Fin 64) : partsFrom X c R e 0 = att X c R e := by
  unfold partsFrom att
  rw [← sum_blocks]
  exact Finset.sum_congr rfl fun b _ => if_pos (Nat.zero_le _)

/-- What the run holds in head `c` once block `b` has been met and its products are pending. -/
def Holds (c : Fin 4) (i b : Fin 8) (r : Run Ideal) : Prop := ∀ x,
  r.C.get c (ix3 0 0 x) = ((blksFrom (row X c (at256 i x)) (at256 i x) b.val : ℝ) : EReal)
  ∧ r.S.get c (ix3 0 0 x) = ((Real.exp (Real.log 2 * (0 - blksFrom (row X c (at256 i x)) (at256 i x) (b.val + 1))) : ℝ) : EReal)
  ∧ (∀ j, r.P.get c (ix3 0 j x) = ((inWgt (row X c (at256 i x)) (at256 i x) b j : ℝ) : EReal))
  ∧ ∀ e, r.A.get c (ix3 0 e x) = partsFrom X c (at256 i x) e (b.val + 1)

/-- The score slots of key block `b` against query block `i`. -/
theorem scores_get (c : Fin 4) (i b : Fin 8) : ∃ s : FVec Ideal S256x256 .f32, (scores X i b).get c = slot s
    ∧ ∀ j x, s (ix2 j x) = row X c (at256 i x) (at256 b j) := by
  fin_cases c
  · exact ⟨_, rfl, fun j x => scEven_apply i b 0 j x⟩
  · exact ⟨_, rfl, fun j x => scOdd_apply i b 0 j x⟩
  · exact ⟨_, rfl, fun j x => scEven_apply i b 1 j x⟩
  · exact ⟨_, rfl, fun j x => scOdd_apply i b 1 j x⟩

/-- A way of using a block's entries that keeps those of the keys before the query. -/
def Keeps (f : FVec Ideal S256x256 .f32 → FVec Ideal S256x256 .f32) (i b : Fin 8) : Prop :=
  ∀ s j x, f s (ix2 j x) = if at256 b j < at256 i x then s (ix2 j x) else (0 : EReal)

theorem masked_keeps (i : Fin 8) : Keeps masked i i := fun s j x => by
  rw [masked_apply]
  refine if_congr ?_ rfl rfl
  rw [at_lt, Fin.lt_def]
  omega

theorem plain_keeps (i b : Fin 8) (h : b.val < i.val) : Keeps plain i b := fun s j x => by
  rw [plain_apply, if_pos]
  rw [at_lt]
  have := j.isLt
  omega

variable {X} (D : Under X)

variable (f : FVec Ideal S256x256 .f32 → FVec Ideal S256x256 .f32)

include D in
theorem incl_real (c : Fin 4) (i b : Fin 8) (hf : Keeps f i b) (s : FVec Ideal S256x256 .f32)
    (hs : ∀ j x, s (ix2 j x) = row X c (at256 i x) (at256 b j)) (j x : Fin 256) :
    incl f (slot s) (ix2 j x) = ((inBlk (row X c (at256 i x)) (at256 i x) b j : ℝ) : EReal) := by
  rw [incl_apply]
  unfold inBlk
  rw [coe_sum]
  refine Finset.sum_congr rfl fun j' _ => ?_
  have u : f (negl (slot s)) (ix2 j' x) = ((used (row X c (at256 i x)) (at256 i x) (at256 b j') : ℝ) : EReal) := by
    rw [hf, negl_apply, unslot_slot, hs]
    unfold used
    split
    · next h => exact lg_eq _ (D _ _ _ h)
    · exact EReal.coe_zero.symm
  rw [u, ← EReal.coe_mul]
  congr 1
  split
  · rw [one_mul]
  · rw [zero_mul]

include D in
theorem stP_real (c : Fin 4) (i b : Fin 8) (hf : Keeps f i b) (s : FVec Ideal S256x256 .f32)
    (hs : ∀ j x, s (ix2 j x) = row X c (at256 i x) (at256 b j)) (j x : Fin 256) :
    stP f (slot s) (ix3 0 j x) = ((inWgt (row X c (at256 i x)) (at256 i x) b j : ℝ) : EReal) := by
  rw [stP_apply, hf, pow_apply, unslot_slot, hs, incl_real D f c i b hf s hs]
  unfold inWgt
  split
  · next h => exact pow_eq _ (D _ _ _ h) _
  · exact EReal.coe_zero.symm

include D in
theorem stC_real (c : Fin 4) (i b : Fin 8) (hf : Keeps f i b) (s : FVec Ideal S256x256 .f32)
    (hs : ∀ j x, s (ix2 j x) = row X c (at256 i x) (at256 b j)) (C : Vec Ideal S1x1x256 .f32) (x : Fin 256)
    (hC : C (ix3 0 0 x) = ((blksFrom (row X c (at256 i x)) (at256 i x) (b.val + 1) : ℝ) : EReal)) :
    stC f (slot s) C (ix3 0 0 x) = ((blksFrom (row X c (at256 i x)) (at256 i x) b.val : ℝ) : EReal) := by
  rw [stC_apply, hC, incl_real D f c i b hf s hs, inBlk_zero, ← EReal.coe_add, ← blksFrom_step]

theorem stS_real (C : Vec Ideal S1x1x256 .f32) (x : Fin 256) (u : ℝ) (hC : C (ix3 0 0 x) = (u : EReal)) :
    stS C (ix3 0 0 x) = ((Real.exp (Real.log 2 * (0 - u)) : ℝ) : EReal) := by
  rw [stS_apply, hC, ← exp2_real, EReal.coe_sub, EReal.coe_zero]

theorem addA_get (c : Fin 4) (b : Fin 8) (r : Run Ideal) :
    (addA X b r).get c = stA (colBlk X.v b c) (r.P.get c) (r.S.get c) (r.A.get c) := by
  fin_cases c <;> rfl

theorem addA_holds (c : Fin 4) (i b : Fin 8) {r : Run Ideal} (h : Holds X c i b r) (x : Fin 256) (e : Fin 64) :
    (addA X b r).get c (ix3 0 e x) = partsFrom X c (at256 i x) e b.val := by
  obtain ⟨_, hS, hP, hA⟩ := h x
  rw [addA_get, stA_apply, hS, hA, partsFrom_step]
  simp only [hP, colBlk_apply]
  rw [scale_sum _ (Real.exp_pos _).le]
  simp only [wgt_split]
  rfl

theorem stepD_get (c : Fin 4) (i : Fin 8) :
    (stepD X i).C.get c = stC masked ((scores X i i).get c) zeroC
    ∧ (stepD X i).P.get c = stP masked ((scores X i i).get c)
    ∧ (stepD X i).S.get c = stS zeroC ∧ (stepD X i).A.get c = zeroA := by
  fin_cases c <;> exact ⟨rfl, rfl, rfl, rfl⟩

theorem stepP_get (c : Fin 4) (i b' b : Fin 8) (r : Run Ideal) :
    (stepP X i b' b r).C.get c = stC plain ((scores X i b).get c) (r.C.get c)
    ∧ (stepP X i b' b r).P.get c = stP plain ((scores X i b).get c)
    ∧ (stepP X i b' b r).S.get c = stS (r.C.get c) ∧ (stepP X i b' b r).A.get c = (addA X b' r).get c := by
  fin_cases c <;> exact ⟨rfl, rfl, rfl, rfl⟩

include D in
theorem stepD_holds (c : Fin 4) (i : Fin 8) : Holds X c i i (stepD X i) := by
  intro x
  obtain ⟨s, hs, hv⟩ := scores_get X c i i
  obtain ⟨eC, eP, eS, eA⟩ := stepD_get (X := X) c i
  have z : (zeroC (F := Ideal)) (ix3 0 0 x) = ((blksFrom (row X c (at256 i x)) (at256 i x) (i.val + 1) : ℝ) : EReal) := by
    rw [zeroC_apply, blksFrom_end, EReal.coe_zero]
  rw [eC, eP, eS, eA, hs]
  refine ⟨stC_real D masked c i i (masked_keeps i) s hv _ x z, stS_real _ x _ z, fun j => stP_real D masked c i i (masked_keeps i) s hv j x,
    fun e => ?_⟩
  rw [zeroA_apply, partsFrom_end]

include D in
theorem stepP_holds (c : Fin 4) (i b' b : Fin 8) (hb : b'.val = b.val + 1) (hi : b.val < i.val) {r : Run Ideal} (h : Holds X c i b' r) :
    Holds X c i b (stepP X i b' b r) := by
  intro x
  obtain ⟨s, hs, hv⟩ := scores_get X c i b
  obtain ⟨eC, eP, eS, eA⟩ := stepP_get (X := X) c i b' b r
  have z := (h x).1
  rw [hb] at z
  rw [eC, eP, eS, eA, hs]
  refine ⟨stC_real D plain c i b (plain_keeps i b hi) s hv _ x z, stS_real _ x _ z, fun j => stP_real D plain c i b (plain_keeps i b hi) s hv j x,
    fun e => ?_⟩
  rw [addA_holds c i b' h, hb]

theorem cap_val (n : ℕ) (h : n < 8) : (cap n).val = n := by
  show min n 7 = n
  omega

include D in
theorem earlier_holds (c : Fin 4) (i : Fin 8) : ∀ n, n ≤ i.val → Holds X c i (cap (i.val - n)) (earlier X i n (stepD X i))
  | 0, _ => by
    have : cap (i.val - 0) = i := Fin.ext (cap_val _ (by omega))
    rw [this]
    exact stepD_holds D c i
  | n + 1, h => by
    have e : cap (i.val - (n + 1)) = cap (i.val - 1 - n) := congrArg cap (by omega)
    rw [e]
    refine stepP_holds D c i _ _ ?_ ?_ (earlier_holds c i n (by omega))
    · rw [cap_val _ (by omega), cap_val _ (by omega)]; omega
    · rw [cap_val _ (by omega)]; omega

include D in
/-- What tile `i` has gathered in head `c` is the attention. -/
theorem gathered_eq (c : Fin 4) (i : Fin 8) (x : Fin 256) (e : Fin 64) :
    (gathered X i).get c (ix3 0 e x) = att X c (at256 i x) e := by
  have h := earlier_holds D c i i.val le_rfl
  have z : cap (i.val - i.val) = 0 := Fin.ext (by rw [cap_val _ (by omega)]; exact Nat.sub_self _)
  rw [z] at h
  exact (addA_holds c i 0 h x e).trans (partsFrom_zero X c _ e)

/-- The head of a pair that a lane belongs to. -/
def headAt (h : Fin 2) (e : Fin 128) : Fin 4 := ⟨2 * h.val + e.val / 64, by omega⟩

theorem headOut_get (A : Four (Vec Ideal S1x64x256 .f32)) (h : Fin 2) :
    headOut X A h = outp (gOf X) (A.get (evenOf h)) (A.get (oddOf h)) := by
  fin_cases h <;> rfl

include D in
/-- A head pair's result for query `x` of block `i`, in lane `e`. -/
theorem headOut_apply (i : Fin 8) (h : Fin 2) (x : Fin 256) (e : Fin 128) :
    headOut X (gathered X i) h (ix3 0 x e)
      = normed (fun a => att X (headAt h e) (at256 i x) a) (X.g (ix2 0 e)) ⟨e.val % 64, by omega⟩ := by
  rw [headOut_get]
  by_cases he : e.val < 64
  · rw [outp_even _ _ _ _ _ he, gOf_apply]
    have e1 : headAt h e = evenOf h := Fin.ext (by show 2 * h.val + e.val / 64 = 2 * h.val; omega)
    have e2 : (⟨e.val % 64, by omega⟩ : Fin 64) = ⟨e.val, he⟩ := Fin.ext (by show e.val % 64 = e.val; omega)
    rw [e1, e2]
    simp only [gathered_eq D]
  · rw [outp_odd _ _ _ _ _ he, gOf_apply]
    have e1 : headAt h e = oddOf h := Fin.ext (by show 2 * h.val + e.val / 64 = 2 * h.val + 1; have := e.isLt; omega)
    have e2 : (⟨e.val % 64, by omega⟩ : Fin 64) = ⟨e.val - 64, by omega⟩ := Fin.ext (by show e.val % 64 = e.val - 64; have := e.isLt; omega)
    rw [e1, e2]
    simp only [gathered_eq D]

end Cert.Kernel4Ideal.Sb
-- ==== Proof.Sb.Reference.lean ====
/-
  The stick-breaking reference in stages — the scores, the logarithms of the logistic function, the sums over later keys, the
  weights, the product with the values, the normalisation — and each stage read at an index.
-/
module

public import proofs.«01_k».proof.Proof.Gen.Reference4Ideal.Run
public import proofs.«01_k».proof.Proof.Sb.Entry
public import Idealize.ShloMosaic.Lib.Pointwise
public import Idealize.ShloMosaic.Lib.WordCmp

@[expose] public section

set_option maxRecDepth 16384

noncomputable section

namespace Cert.Reference4Ideal.Attn

open Cert.Reference4Ideal Cert.Reference4Ideal.Gen
open Idealize.ShloMosaic Idealize.ShloMosaic.TcCoe

variable (a0 a1 a2 : FVec Ideal S32x2048x8x64 .f32) (a3 : FVec Ideal S1x64 .f32)
variable (z x : FVec Ideal S32x8x2048x2048 .f32)

/-- One where a key comes before a query. -/
def before : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- Zero except where the key comes before the query. -/
def kept : FVec Ideal S32x8x2048x2048 .f32 :=
  select (broadcastInDim S32x8x2048x2048 ![2, 3] bcast_S2048x2048_S32x8x2048x2048_2_3 before) x
    (broadcastInDim S32x8x2048x2048 ![] bcast_S_S32x8x2048x2048 (id (constant S_ .f32 0x00000000#32)))

/-- The scores. -/
def scores : FVec Ideal S32x8x2048x2048 .f32 :=
  mulf (Host.dotGeneral dot_S32x2048x8x64_S32x2048x8x64_S32x8x2048x2048_3_3_1_1_02_02 none a0 a1)
    (broadcastInDim S32x8x2048x2048 ![] bcast_S_S32x8x2048x2048 (constant S_ .f32 0x3E000000#32))

/-- A zero everywhere. -/
def zeros : FVec Ideal S32x8x2048x2048 .f32 :=
  broadcastInDim S32x8x2048x2048 ![] bcast_S_S32x8x2048x2048 (constant S_ .f32 0x00000000#32)

/-- The logarithm of one plus the exponential. -/
def softplus : FVec Ideal S32x8x2048x2048 .f32 :=
  select (cmpf .une (subf x zeros) (subf x zeros)) (addf x zeros)
    (addf (maximumf x zeros) (Host.log1p (Host.exp (Host.negf (Host.absf (subf x zeros))))))

/-- The logarithm of the logistic function. -/
def logSigmoid : FVec Ideal S32x8x2048x2048 .f32 := Host.negf (softplus (Host.negf z))

/-- The sum over a key and the later ones. -/
def fromHere : FVec Ideal S32x8x2048x2048 .f32 :=
  Host.reduceWindowAdd ![1, 1, 1, 2048] ![1, 1, 1, 1] ![0, 0, 0, 0] ![0, 0, 0, 2047] x
    (broadcastInDim S_ ![] bcast_S_S_ (constant S_ .f32 0x00000000#32)) reduceWindows_S32x8x2048x2048_S32x8x2048x2048_w1s1p0_0_w1s1p0_0_w1s1p0_0_w2048s1p0_2047 h_S_

/-- The weights. -/
def weights : FVec Ideal S32x8x2048x2048 .f32 :=
  kept (Host.exp (addf (logSigmoid z) (subf (fromHere (kept (logSigmoid (Host.negf z)))) (kept (logSigmoid (Host.negf z))))))

/-- The weights' product with the values, query before head. -/
def mixed : FVec Ideal S32x2048x8x64 .f32 :=
  transpose S32x2048x8x64 [0, 3, 1, 2] (Host.dotGeneral dot_S32x2048x8x64_S32x8x2048x2048_S32x8x64x2048_1_3_3_2_02_01 none a2 x) transposes_S32x8x64x2048_S32x2048x8x64_0_3_1_2

/-- Normalised, under the gain. -/
def scaled (o : FVec Ideal S32x2048x8x64 .f32) : FVec Ideal S32x2048x8x64 .f32 :=
  mulf (mulf o (broadcastInDim S32x2048x8x64 ![0, 1, 2, 3] bcast_S32x2048x8x1_S32x2048x8x64_0_1_2_3
      (Host.rsqrt (addf (Host.divf (broadcastInDim S32x2048x8x1 ![0, 1, 2] bcast_S32x2048x8_S32x2048x8x1_0_1_2 (Host.reduceAdd (mulf o o) (constant S_ .f32 0x00000000#32) reducesTo_S32x2048x8x64_S32x2048x8_d3 h_S_)) (broadcastInDim S32x2048x8x1 ![] bcast_S_S32x2048x8x1 (constant S_ .f32 0x42800000#32)))
        (broadcastInDim S32x2048x8x1 ![] bcast_S_S32x2048x8x1 (constant S_ .f32 0x3727C5AC#32))))))
    (broadcastInDim S32x2048x8x64 ![0, 1, 2, 3] bcast_S1x1x1x64_S32x2048x8x64_0_1_2_3 (broadcastInDim S1x1x1x64 ![3] bcast_S64_S1x1x1x64_3 (shapeCast _ a3 shapeCasts_S1x64_S64)))

/-- In the layout of the result. -/
def laid (o : FVec Ideal S32x2048x8x64 .f32) : FVec Ideal S2x65536x256 .bf16 :=
  truncf .bf16 (transpose S2x65536x256 [1, 0, 2] (shapeCast _ o shapeCasts_S32x2048x8x64_S65536x2x256) transposes_S65536x2x256_S2x65536x256_1_0_2) bitsLt_bf16_f32

theorem res_eq (m : (ℓ : Loc nD τ sig) → Buf (Elt Ideal) ℓ) (c : Dev nD) :
    (Value.res_main_v36 m c : FVec Ideal S2x65536x256 .bf16)
      = laid (scaled (m ((c.tc : Thread nD τ).loc main_arg3)) (mixed (m ((c.tc : Thread nD τ).loc main_arg2))
          (weights (scores (m ((c.tc : Thread nD τ).loc main_arg0)) (m ((c.tc : Thread nD τ).loc main_arg1)))))) := by
  unfold Value.res_main_v36
  rfl

theorem zero_word : Ideal.ofBits .f32 0x00000000#32 = (0 : EReal) := by
  simp [Ideal.ofBits, Ideal.ieee]

theorem kept_apply (b : Fin 32) (h : Fin 8) (i j : Fin 2048) :
    kept x (ix4 b h i j) = if j < i then x (ix4 b h i j) else (0 : EReal) := by
  pointwise [kept, before]
  rw [Cert.KernelIdeal.Diff.select_prop _ (j < i)
    ((WordCmp.cmpi_slt_ofNat_eq_one_iff (by omega) (by omega)).trans Fin.lt_def.symm)]
  exact if_congr Iff.rfl rfl zero_word

theorem scores_apply (b : Fin 32) (h : Fin 8) (i j : Fin 2048) :
    scores a0 a1 (ix4 b h i j)
      = (∑ d : Fin 64, (a0 (ix4 b i h d) : EReal) * a1 (ix4 b j h d)) * Ideal.ofBits .f32 0x3E000000#32 := by
  pointwise [scores]

/-- The logarithm of one plus the exponential, in the form that does not overflow. -/
def sp (y : EReal) : EReal := max y 0 + Ideal.log1p (Ideal.exp (-(max y (-y))))

theorem softplus_apply (i : S32x8x2048x2048.Idx) : softplus x i = sp (x i) := by
  have h0 : ∀ i, zeros i = (0 : EReal) := fun i => zero_word
  have e : softplus x i = Scalar.select (Ideal.cmp .une ((x i : EReal) - zeros i) (x i - zeros i)) ((x i : EReal) + zeros i)
      (max (x i : EReal) (zeros i) + Ideal.log1p (Ideal.exp (-(max ((x i : EReal) - zeros i) (-(x i - zeros i)))))) := rfl
  rw [e, h0, sub_zero]
  have c : Ideal.cmp .une (x i) (x i) = 0#1 := by simp [Ideal.cmp]
  rw [c]
  rfl

theorem logSigmoid_apply (i : S32x8x2048x2048.Idx) : logSigmoid z i = -sp (-(z i : EReal)) := by
  show -(softplus (Host.negf z) i : EReal) = _
  rw [softplus_apply]
  rfl

theorem foldl_add {α : Type} (l : List α) (f : α → EReal) (v : EReal) : l.foldl (fun r k => r + f k) v = v + (l.map f).sum := by
  induction l generalizing v with
  | nil => simp
  | cons a l ih => rw [List.foldl_cons, ih, List.map_cons, List.sum_cons, add_assoc]

/-- The window's places, one by one. -/
def places : Fin 2048 ≃ (⟨4, ![1, 1, 1, 2048]⟩ : Shape).Idx where
  toFun k := ix4 (0 : Fin 1) (0 : Fin 1) (0 : Fin 1) k
  invFun w := w 3
  left_inv k := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem fromHere_apply (b : Fin 32) (h : Fin 8) (i j : Fin 2048) :
    fromHere x (ix4 b h i j) = ∑ k : Fin 2048, if hk : j.val + k.val < 2048 then (x (ix4 b h i ⟨j.val + k.val, hk⟩) : EReal) else 0 := by
  unfold fromHere Host.reduceWindowAdd
  rw [Ideal.hostReduceWindowAdd_def]
  unfold Ideal.hostReduceWindowAdd Host.reduceWindow
  dsimp only
  refine (foldl_add _ _ _).trans ?_
  have z0 : ∀ y, (broadcastInDim S_ ![] bcast_S_S_ (constant (F := Ideal) S_ .f32 0x00000000#32)) y = (0 : EReal) := fun y => zero_word
  rw [z0, zero_add, ← Fin.sum_univ_def]
  let p : (⟨4, ![1, 1, 1, 2048]⟩ : Shape).Idx → Fin 4 → ℕ := fun w a => (ix4 b h i j a).val * (![1, 1, 1, 1] : Fin 4 → ℕ) a + (w a).val
  let f : (⟨4, ![1, 1, 1, 2048]⟩ : Shape).Idx → EReal := fun w =>
    if hin : ∀ a, (![0, 0, 0, 0] : Fin 4 → ℕ) a ≤ p w a ∧ p w a - (![0, 0, 0, 0] : Fin 4 → ℕ) a < S32x8x2048x2048.size a
      then x (fun a => ⟨p w a - (![0, 0, 0, 0] : Fin 4 → ℕ) a, (hin a).2⟩) else 0
  refine Eq.trans (b := ∑ n, f ((⟨4, ![1, 1, 1, 2048]⟩ : Shape).rowMajor.symm n)) (Finset.sum_congr rfl fun n _ => ?_) ?_
  · have fe : ∀ w, f w = if hin : ∀ a, (![0, 0, 0, 0] : Fin 4 → ℕ) a ≤ p w a ∧ p w a - (![0, 0, 0, 0] : Fin 4 → ℕ) a < S32x8x2048x2048.size a
      then x (fun a => ⟨p w a - (![0, 0, 0, 0] : Fin 4 → ℕ) a, (hin a).2⟩) else (0 : EReal) := fun w => rfl
    rw [fe]
    by_cases hin : ∀ a, (![0, 0, 0, 0] : Fin 4 → ℕ) a ≤ p ((⟨4, ![1, 1, 1, 2048]⟩ : Shape).rowMajor.symm n) a
        ∧ p ((⟨4, ![1, 1, 1, 2048]⟩ : Shape).rowMajor.symm n) a - (![0, 0, 0, 0] : Fin 4 → ℕ) a < S32x8x2048x2048.size a
    · refine (dif_pos hin).trans ?_
      symm
      exact dif_pos hin
    · refine (dif_neg hin).trans ?_
      symm
      exact dif_neg hin
  refine (Equiv.sum_comp (⟨4, ![1, 1, 1, 2048]⟩ : Shape).rowMajor.symm f).trans
    ((Equiv.sum_comp places f).symm.trans (Finset.sum_congr rfl fun k _ => ?_))
  have fe : ∀ w, f w = if hin : ∀ a, (![0, 0, 0, 0] : Fin 4 → ℕ) a ≤ p w a ∧ p w a - (![0, 0, 0, 0] : Fin 4 → ℕ) a < S32x8x2048x2048.size a
    then x (fun a => ⟨p w a - (![0, 0, 0, 0] : Fin 4 → ℕ) a, (hin a).2⟩) else (0 : EReal) := fun w => rfl
  rw [fe]
  by_cases hk : j.val + k.val < 2048
  · rw [dif_pos hk]
    refine (dif_pos ?_).trans (congrArg x ?_)
    · intro a
      match a with
      | ⟨0, _⟩ => exact ⟨Nat.zero_le _, show b.val * 1 + 0 - 0 < 32 by omega⟩
      | ⟨1, _⟩ => exact ⟨Nat.zero_le _, show h.val * 1 + 0 - 0 < 8 by omega⟩
      | ⟨2, _⟩ => exact ⟨Nat.zero_le _, show i.val * 1 + 0 - 0 < 2048 by omega⟩
      | ⟨3, _⟩ => exact ⟨Nat.zero_le _, show j.val * 1 + k.val - 0 < 2048 by omega⟩
    · funext a
      apply Fin.ext
      match a with
      | ⟨0, _⟩ => exact (show b.val * 1 + 0 - 0 = b.val by omega)
      | ⟨1, _⟩ => exact (show h.val * 1 + 0 - 0 = h.val by omega)
      | ⟨2, _⟩ => exact (show i.val * 1 + 0 - 0 = i.val by omega)
      | ⟨3, _⟩ => exact (show j.val * 1 + k.val - 0 = j.val + k.val by omega)
  · rw [dif_neg hk]
    refine dif_neg fun hin => ?_
    have h3 := (hin 3).2
    change j.val * 1 + k.val - 0 < 2048 at h3
    omega

theorem weights_apply (b : Fin 32) (h : Fin 8) (i j : Fin 2048) :
    weights z (ix4 b h i j) = if j < i then Ideal.exp (-sp (-(z (ix4 b h i j) : EReal))
      + ((fromHere (kept (logSigmoid (Host.negf z)))) (ix4 b h i j) - (kept (logSigmoid (Host.negf z))) (ix4 b h i j))) else 0 := by
  unfold weights
  rw [kept_apply]
  refine if_congr Iff.rfl ?_ rfl
  rw [← logSigmoid_apply]
  rfl

theorem later_apply (b : Fin 32) (h : Fin 8) (i j : Fin 2048) :
    kept (logSigmoid (Host.negf z)) (ix4 b h i j) = if j < i then -sp (- -(z (ix4 b h i j) : EReal)) else (0 : EReal) := by
  rw [kept_apply, logSigmoid_apply]
  rfl

theorem mixed_apply (b : Fin 32) (i : Fin 2048) (h : Fin 8) (e : Fin 64) :
    mixed a2 x (ix4 b i h e) = ∑ j, (a2 (ix4 b j h e) : EReal) * x (ix4 b h i j) := by
  pointwise [mixed]

theorem scaled_apply (o : FVec Ideal S32x2048x8x64 .f32) (b : Fin 32) (i : Fin 2048) (h : Fin 8) (e : Fin 64) :
    scaled a3 o (ix4 b i h e) = Cert.Kernel4Ideal.Sb.normed (fun x => o (ix4 b i h x)) (a3 (ix2 0 e)) e := by
  pointwise [scaled]
  rfl

theorem laid_apply (o : FVec Ideal S32x2048x8x64 .f32) (g : Fin 2) (s : Fin 65536) (e : Fin 256) :
    laid o (ix3 g s e) = o (ix4 ⟨s.val / 2048, by omega⟩ ⟨s.val % 2048, by omega⟩ ⟨g.val * 4 + e.val / 64, by omega⟩ ⟨e.val % 64, by omega⟩) := by
  pointwise [laid]

end Cert.Reference4Ideal.Attn
-- ==== Proof.Sb.Weights.lean ====
/-
  The stick-breaking reference where no score of a key before its query exceeds the clamp: its weights are those of the sticks, and its result is their
  product with the values, normalised.
-/
module

public import proofs.«01_k».proof.Proof.Sb.Reference
public import proofs.«01_k».proof.Proof.Sb.Stick

@[expose] public section

set_option maxRecDepth 16384

noncomputable section

namespace Cert.Reference4Ideal.Attn

open Cert.Reference4Ideal Cert.Reference4Ideal.Gen
open Idealize.ShloMosaic Idealize.ShloMosaic.TcCoe
open Cert.KernelIdeal.Diff (coe_sum)
open Cert.Kernel4Ideal.Sb (normed lg lgOf lgOf_bot lgOf_coe powOf powOf_bot powOf_coe used upTo wgt log_two_pos mul_sum clamp_word)

theorem log_one_add_exp (y : ℝ) : Real.log (1 + Real.exp y) = y + Real.log (1 + Real.exp (-y)) := by
  have h : 1 + Real.exp y = Real.exp y * (1 + Real.exp (-y)) := by
    rw [mul_add, ← Real.exp_add, add_neg_cancel, Real.exp_zero, mul_one, add_comm]
  rw [h, Real.log_mul (Real.exp_pos _).ne' (by have := Real.exp_pos (-y); linarith), Real.log_exp]

theorem log1p_exp (y : ℝ) : Ideal.log1p (Ideal.exp (y : EReal)) = ((Real.log (1 + Real.exp y) : ℝ) : EReal) := by
  have p : 0 < 1 + Real.exp y := by have := Real.exp_pos y; linarith
  show Ideal.log (1 + Ideal.exp (y : EReal)) = _
  rw [Ideal.exp_coe, ← EReal.coe_one, ← EReal.coe_add, Ideal.log_coe, if_neg (not_le.2 p)]

theorem sp_real (y : ℝ) : sp (y : EReal) = ((Real.log (1 + Real.exp y) : ℝ) : EReal) := by
  unfold sp
  rw [← EReal.coe_neg]
  rcases le_total 0 y with h | h
  · rw [max_eq_left (EReal.coe_nonneg.2 h), max_eq_left (EReal.coe_le_coe_iff.2 (by linarith)), ← EReal.coe_neg, log1p_exp, ← EReal.coe_add,
      log_one_add_exp y]
  · rw [max_eq_right (EReal.coe_nonpos.2 h), max_eq_right (EReal.coe_le_coe_iff.2 (by linarith)), ← EReal.coe_neg, log1p_exp, zero_add, neg_neg]

theorem lg_mul (w : ℝ) : Real.log (1 + Real.exp (Real.log 2 * w)) = Real.log 2 * lg w := by
  unfold lg
  have := log_two_pos.ne'
  field_simp

/-- The sum over a key and the later ones, by its distance or by the key. -/
theorem sum_later (f : Fin 2048 → ℝ) (j : Fin 2048) :
    (∑ k : Fin 2048, if hk : j.val + k.val < 2048 then f ⟨j.val + k.val, hk⟩ else 0) = ∑ K, if j ≤ K then f K else 0 := by
  let g : ℕ → ℝ := fun n => if h : n < 2048 then f ⟨n, h⟩ else 0
  let u : ℕ → ℝ := fun n => if j.val ≤ n then g n else 0
  have l : (∑ k : Fin 2048, if hk : j.val + k.val < 2048 then f ⟨j.val + k.val, hk⟩ else 0) = ∑ n ∈ Finset.range 2048, u (j.val + n) := by
    rw [← Fin.sum_univ_eq_sum_range (fun n => u (j.val + n))]
    exact Finset.sum_congr rfl fun k _ => (if_pos (Nat.le_add_right _ _)).symm
  have r : (∑ K, if j ≤ K then f K else 0) = ∑ n ∈ Finset.range 2048, u n := by
    rw [← Fin.sum_univ_eq_sum_range u]
    refine Finset.sum_congr rfl fun K _ => ?_
    have : g K.val = f K := dif_pos K.isLt
    show _ = if j.val ≤ K.val then g K.val else 0
    rw [this]
    rfl
  have a : ∑ n ∈ Finset.range (j.val + 2048), u n = ∑ n ∈ Finset.range 2048, u (j.val + n) := by
    rw [Finset.sum_range_add, Finset.sum_eq_zero (fun n hn => if_neg (not_le.2 (Finset.mem_range.1 hn))), zero_add]
  have b : ∑ n ∈ Finset.range (2048 + j.val), u n = ∑ n ∈ Finset.range 2048, u n := by
    rw [Finset.sum_range_add]
    rw [Finset.sum_eq_zero (s := Finset.range j.val) (fun n _ => ?_), add_zero]
    have z : g (2048 + n) = 0 := dif_neg (by omega)
    show (if j.val ≤ 2048 + n then g (2048 + n) else 0) = 0
    rw [z, ite_self]
  rw [l, r, ← a, ← b, Nat.add_comm]

theorem neg_sums (w : Fin 2048 → EReal) (i j : Fin 2048) :
    (∑ K, if j ≤ K then -(Real.log 2 * used w i K) else 0) = -(Real.log 2 * upTo w i j) := by
  unfold upTo
  rw [Finset.mul_sum, ← Finset.sum_neg_distrib]
  refine Finset.sum_congr rfl fun K _ => ?_
  split
  · rfl
  · rw [mul_zero, neg_zero]

/-- The base-two scores of a query's keys. -/
def logit (a0 a1 : FVec Ideal S32x2048x8x64 .f32) (b : Fin 32) (h : Fin 8) (R K : Fin 2048) : EReal :=
  ∑ d, (a1 (ix4 b K h d) : EReal) * ((a0 (ix4 b R h d) : EReal) * ((1 / 8 / Real.log 2 : ℝ) : EReal))

/-- A head's attention for a query. -/
def attOf (a0 a1 a2 : FVec Ideal S32x2048x8x64 .f32) (b : Fin 32) (h : Fin 8) (R : Fin 2048) (e : Fin 64) : EReal :=
  ∑ K, (a2 (ix4 b K h e) : EReal) * ((wgt (logit a0 a1 b h R) R K : ℝ) : EReal)

theorem sp_top : sp ⊤ = ⊤ := by
  unfold sp
  rw [max_eq_left le_top, EReal.neg_top, max_eq_left bot_le, EReal.neg_top, Ideal.exp_bot]
  show ⊤ + Ideal.log (1 + 0) = ⊤
  rw [add_zero, ← EReal.coe_one, Ideal.log_coe, if_neg (by norm_num), EReal.top_add_coe]

theorem sp_bot : sp ⊥ = 0 := by
  unfold sp
  rw [max_eq_right bot_le, EReal.neg_bot, max_eq_right bot_le, EReal.neg_top, Ideal.exp_bot]
  show 0 + Ideal.log (1 + 0) = 0
  rw [add_zero, ← EReal.coe_one, Ideal.log_coe, if_neg (by norm_num), Real.log_one, EReal.coe_zero, zero_add]

/-- A key leaves of the stick what its base-two score says. -/
theorem leaves (w : EReal) (h : w ≤ Ideal.ofBits .f32 0x42800000#32) :
    -sp (- -(((Real.log 2 : ℝ) : EReal) * w)) = ((-(Real.log 2 * lgOf w) : ℝ) : EReal) := by
  rw [clamp_word] at h
  rw [neg_neg]
  induction w using EReal.rec with
  | bot => rw [EReal.coe_mul_bot_of_pos log_two_pos, sp_bot, lgOf_bot, mul_zero, neg_zero, neg_zero, EReal.coe_zero]
  | coe w => rw [← EReal.coe_mul, sp_real, ← EReal.coe_neg, lg_mul, lgOf_coe]
  | top => exact absurd (top_le_iff.1 h) (EReal.coe_ne_top _)

/-- Its weight, when it and the later keys leave `u` and the later ones `u` without its own. -/
theorem weight_eq (w : EReal) (h : w ≤ Ideal.ofBits .f32 0x42800000#32) (u : ℝ) :
    Ideal.exp (-sp (-(((Real.log 2 : ℝ) : EReal) * w))
      + (((-(Real.log 2 * u) : ℝ) : EReal) - ((-(Real.log 2 * lgOf w) : ℝ) : EReal))) = ((powOf w u : ℝ) : EReal) := by
  rw [clamp_word] at h
  rw [← EReal.coe_sub]
  induction w using EReal.rec with
  | bot =>
    rw [EReal.coe_mul_bot_of_pos log_two_pos, EReal.neg_bot, sp_top, EReal.neg_top, EReal.bot_add, Ideal.exp_bot, powOf_bot, EReal.coe_zero]
  | coe w =>
    rw [← EReal.coe_mul, ← EReal.coe_neg, sp_real, ← EReal.coe_neg, ← EReal.coe_add, Ideal.exp_coe, powOf_coe, lgOf_coe]
    have t := log_one_add_exp (Real.log 2 * w)
    rw [lg_mul] at t
    refine congrArg (fun y : ℝ => ((Real.exp y : ℝ) : EReal)) ?_
    linear_combination t
  | top => exact absurd (top_le_iff.1 h) (EReal.coe_ne_top _)

theorem weights_real (z : FVec Ideal S32x8x2048x2048 .f32) (b : Fin 32) (h : Fin 8) (i : Fin 2048) (w : Fin 2048 → EReal)
    (hz : ∀ K, z (ix4 b h i K) = ((Real.log 2 : ℝ) : EReal) * w K) (hw : ∀ K, K < i → w K ≤ Ideal.ofBits .f32 0x42800000#32) (j : Fin 2048) :
    weights z (ix4 b h i j) = ((wgt w i j : ℝ) : EReal) := by
  have e : ∀ K, kept (logSigmoid (Host.negf z)) (ix4 b h i K) = ((-(Real.log 2 * used w i K) : ℝ) : EReal) := by
    intro K
    rw [later_apply, hz]
    unfold used
    split
    · next hK => exact leaves _ (hw K hK)
    · rw [mul_zero, neg_zero, EReal.coe_zero]
  have f : fromHere (kept (logSigmoid (Host.negf z))) (ix4 b h i j) = ((-(Real.log 2 * upTo w i j) : ℝ) : EReal) := by
    rw [fromHere_apply]
    have d : ∀ kk : Fin 2048, (if hk : j.val + kk.val < 2048
        then (kept (logSigmoid (Host.negf z)) (ix4 b h i ⟨j.val + kk.val, hk⟩) : EReal) else 0)
        = ((if hk : j.val + kk.val < 2048 then -(Real.log 2 * used w i ⟨j.val + kk.val, hk⟩) else 0 : ℝ) : EReal) := by
      intro kk
      by_cases hk : j.val + kk.val < 2048
      · rw [dif_pos hk, dif_pos hk, e]
      · rw [dif_neg hk, dif_neg hk, EReal.coe_zero]
    simp only [d]
    rw [← coe_sum, sum_later (fun K => -(Real.log 2 * used w i K)), neg_sums]
  rw [weights_apply, f, e, hz]
  unfold wgt
  by_cases hj : j < i
  · have u : used w i j = lgOf (w j) := if_pos hj
    rw [if_pos hj, if_pos hj, u]
    exact weight_eq _ (hw j hj) _
  · rw [if_neg hj, if_neg hj, EReal.coe_zero]

variable {a0 a1 : FVec Ideal S32x2048x8x64 .f32}
variable (w8 : Ideal.ofBits .f32 0x3E000000#32 = ((1 / 8 : ℝ) : EReal))

/-- The factor of the queries comes out of a score. -/
theorem logit_eq (b : Fin 32) (h : Fin 8) (R K : Fin 2048) :
    logit a0 a1 b h R K = (∑ d, (a0 (ix4 b R h d) : EReal) * a1 (ix4 b K h d)) * ((1 / 8 / Real.log 2 : ℝ) : EReal) := by
  rw [mul_comm, mul_sum _ (by have := log_two_pos; positivity)]
  unfold logit
  refine Finset.sum_congr rfl fun d _ => ?_
  rw [mul_comm (a1 (ix4 b K h d) : EReal), mul_comm (a0 (ix4 b R h d) : EReal) ((1 / 8 / Real.log 2 : ℝ) : EReal), mul_assoc]

include w8 in
theorem scores_eq (b : Fin 32) (h : Fin 8) (i j : Fin 2048) :
    scores a0 a1 (ix4 b h i j) = ((Real.log 2 : ℝ) : EReal) * logit a0 a1 b h i j := by
  have l2 : Real.log 2 ≠ 0 := log_two_pos.ne'
  have f : (1 / 8 : ℝ) = Real.log 2 * (1 / 8 / Real.log 2) := by field_simp
  rw [scores_apply, w8, f, EReal.coe_mul, mul_left_comm, logit_eq]

include w8 in
/-- The reference's result at an entry. -/
theorem laid_real (hw : ∀ b h R K, K < R → logit a0 a1 b h R K ≤ Ideal.ofBits .f32 0x42800000#32)
    (a2 : FVec Ideal S32x2048x8x64 .f32) (a3 : FVec Ideal S1x64 .f32) (g : Fin 2) (b : Fin 32) (i : Fin 2048) (e : Fin 256) :
    laid (scaled a3 (mixed a2 (weights (scores a0 a1)))) (ix3 g ⟨2048 * b.val + i.val, by omega⟩ e)
      = normed (fun x => attOf a0 a1 a2 b ⟨4 * g.val + e.val / 64, by omega⟩ i x) (a3 (ix2 0 ⟨e.val % 64, by omega⟩)) ⟨e.val % 64, by omega⟩ := by
  have eb : (⟨(2048 * b.val + i.val) / 2048, by omega⟩ : Fin 32) = b := Fin.ext (by dsimp only; omega)
  have ei : (⟨(2048 * b.val + i.val) % 2048, by omega⟩ : Fin 2048) = i := Fin.ext (by dsimp only; omega)
  have eh : (⟨g.val * 4 + e.val / 64, by omega⟩ : Fin 8) = ⟨4 * g.val + e.val / 64, by omega⟩ := Fin.ext (by dsimp only; omega)
  rw [laid_apply]
  dsimp only
  rw [eb, ei, eh, scaled_apply]
  congr 1
  funext x
  rw [mixed_apply]
  unfold attOf
  refine Finset.sum_congr rfl fun K _ => ?_
  rw [weights_real _ b _ i (logit a0 a1 b ⟨4 * g.val + e.val / 64, by omega⟩ i) (fun K => scores_eq w8 b _ i K) (hw b _ i) K]

end Cert.Reference4Ideal.Attn
-- ==== Proof.Sb.Inputs.lean ====
/-
  The inputs of the stick-breaking attention call's body at a grid point, from the arguments, and the bound on the
  scores.
-/
module

public import proofs.«01_k».proof.Proof.Sb.Blocks
public import proofs.«01_k».proof.Proof.Sb.Bounded
public import proofs.«01_k».proof.Proof.Sb.Run
public import proofs.«01_k».proof.Proof.Sb.Total
public import proofs.«01_k».proof.Proof.Sb.Weights

@[expose] public section

set_option maxRecDepth 16384

noncomputable section

namespace Cert.Kernel4Ideal.Sb

open Cert.Kernel4Ideal Cert.Kernel4Ideal.Gen
open Idealize.ShloMosaic Idealize.ShloMosaic.TcCoe
open Cert.KernelIdeal.Diff (ix4_congr)
open Cert.Reference4Ideal.Attn (logit logit_eq)

theorem scaleQ_eq : scaleQ = ((1 / 8 / Real.log 2 : ℝ) : EReal) := Cert.KernelIdeal.Diff.scaleQ_eq

variable (m : (ℓ : Loc nD τ sig) → Buf (Elt Ideal) ℓ) (c : Dev nD) (t : Fin cfg0.N)

theorem q_entry (s : Fin 2048) (e : Fin 256) : (ctxAt m c t).q (ix3 0 s e)
    = (A0 m c (ix4 (batch t) s ⟨4 * (t.val % 2) + e.val / 64, by omega⟩ ⟨e.val % 64, by omega⟩) : EReal) * scaleQ := by
  refine (q_at m c t s e).trans ((v9_query m c _ _ e (by dsimp only; omega)).trans ?_)
  rw [ix4_congr]
  all_goals dsimp only <;> omega

theorem k_entry (s : Fin 2048) (e : Fin 256) : (ctxAt m c t).k (ix3 0 s e)
    = A1 m c (ix4 (batch t) s ⟨4 * (t.val % 2) + e.val / 64, by omega⟩ ⟨e.val % 64, by omega⟩) := by
  refine (k_at m c t s e).trans ((v9_key m c _ _ e (by dsimp only; omega)).trans ?_)
  rw [ix4_congr]
  all_goals dsimp only <;> omega

theorem v_entry (e : Fin 256) (s : Fin 2048) : (ctxAt m c t).v (ix2 e s)
    = A2 m c (ix4 (batch t) s ⟨4 * (t.val % 2) + e.val / 64, by omega⟩ ⟨e.val % 64, by omega⟩) := by
  refine (v_at m c t e s).trans ((v12_at m c _ _).trans ?_)
  rw [ix4_congr]
  all_goals dsimp only <;> omega

theorem g_entry (e : Fin 128) : (ctxAt m c t).g (ix2 0 e) = A3 m c (ix2 0 ⟨e.val % 64, by omega⟩) := (g_at m c t e).trans (v17_at m c e)

/-- A query's scores in the point's group are its base-two scores in that head of all. -/
theorem row_same (cc : Fin 4) (H : Fin 8) (hH : H.val = 4 * (t.val % 2) + cc.val) (R : Fin 2048) :
    row (ctxAt m c t) cc R = logit (A0 m c) (A1 m c) (batch t) H R := by
  funext K
  unfold row logit
  refine Finset.sum_congr rfl fun d _ => ?_
  have e1 : (⟨4 * (t.val % 2) + (at64 cc d).val / 64, by have := (at64 cc d).isLt; omega⟩ : Fin 8) = H :=
    Fin.ext (by show 4 * (t.val % 2) + (64 * cc.val + d.val) / 64 = H.val; omega)
  have e2 : (⟨(at64 cc d).val % 64, by omega⟩ : Fin 64) = d :=
    Fin.ext (by show (64 * cc.val + d.val) % 64 = d.val; omega)
  rw [k_entry, q_entry, e1, e2, scaleQ_eq]

/-- The body's scores at a point are under the clamp. -/
theorem inputs (hw : ∀ b h R K, K < R → logit (A0 m c) (A1 m c) b h R K ≤ Ideal.ofBits .f32 0x42800000#32) : Under (ctxAt m c t) := by
  intro cc R K h
  rw [row_same m c t cc ⟨4 * (t.val % 2) + cc.val, by omega⟩ rfl]
  exact hw _ _ _ _ h

/-- The precondition's scores are the base-two scores. -/
theorem logits_eq (a0 a1 : FVec Ideal S32x2048x8x64 .f32) (b : Fin 32) (h : Fin 8) (R K : Fin 2048) :
    Cert.Pre_bounded.Read.logits a0 a1 (ix4 b h R K) = logit a0 a1 b h R K := by
  have s : Ideal.div (Ideal.ofBits .f32 0x3E000000#32) (Ideal.log (Ideal.ofBits .f32 0x40000000#32)) = ((1 / 8 / Real.log 2 : ℝ) : EReal) := scaleQ_eq
  rw [Cert.Pre_bounded.Read.logits_apply, s, logit_eq]

end Cert.Kernel4Ideal.Sb
-- ==== Proof.Sb.Equation.lean ====
/-
  The stick-breaking attention call against the reference: at every grid point the body's result is the reference's there,
  and so the array that the call leaves is the reference's result.
-/
module

public import proofs.«01_k».proof.Proof.Sb.Inputs
public import Idealize.ShloMosaic.Lib.Pipeline.ValueKit

@[expose] public section

set_option maxRecDepth 16384

noncomputable section

namespace Cert.Kernel4Ideal.Sb

open Cert.Kernel4Ideal Cert.Kernel4Ideal.Gen
open Idealize.ShloMosaic Idealize.ShloMosaic.TcCoe Idealize.ShloMosaic.Tactic
open Cert.KernelIdeal.Diff (eighth_word)
open Cert.Reference4Ideal.Attn (logit attOf)

variable (m : (ℓ : Loc nD τ sig) → Buf (Elt Ideal) ℓ) (c : Dev nD)

/-- The reference's result from this program's arguments. -/
def wanted : FVec Ideal S2x65536x256 .bf16 :=
  Cert.Reference4Ideal.Attn.laid (Cert.Reference4Ideal.Attn.scaled (A3 m c) (Cert.Reference4Ideal.Attn.mixed (A2 m c)
    (Cert.Reference4Ideal.Attn.weights (Cert.Reference4Ideal.Attn.scores (A0 m c) (A1 m c)))))

/-- A head's attention in the point's group is that of the head. -/
theorem att_same (t : Fin cfg0.N) (cc : Fin 4) (H : Fin 8) (hH : H.val = 4 * (t.val % 2) + cc.val) (R : Fin 2048) (e : Fin 64) :
    att (ctxAt m c t) cc R e = attOf (A0 m c) (A1 m c) (A2 m c) (batch t) H R e := by
  unfold att attOf
  rw [row_same m c t cc H hH]
  refine Finset.sum_congr rfl fun K _ => ?_
  have e1 : (⟨4 * (t.val % 2) + (at64 cc e).val / 64, by have := (at64 cc e).isLt; omega⟩ : Fin 8) = H :=
    Fin.ext (by show 4 * (t.val % 2) + (64 * cc.val + e.val) / 64 = H.val; omega)
  have e2 : (⟨(at64 cc e).val % 64, by omega⟩ : Fin 64) = e :=
    Fin.ext (by show (64 * cc.val + e.val) % 64 = e.val; omega)
  rw [v_entry, e1, e2]

variable (hw : ∀ b h R K, K < R → logit (A0 m c) (A1 m c) b h R K ≤ Ideal.ofBits .f32 0x42800000#32)

include hw in
/-- A row block's result for a head pair is the reference's there. -/
theorem tile_same (t : Fin cfg0.N) (i : Fin 8) (h : Fin 2) (x : Fin 256) (e : Fin 128) :
    headOut (ctxAt m c t) (gathered (ctxAt m c t) i) h (ix3 0 x e)
      = wanted m c (ix3 ⟨t.val % 2, by omega⟩ ⟨2048 * (batch t).val + (at256 i x).val, by omega⟩ ⟨128 * h.val + e.val, by omega⟩) := by
  rw [headOut_apply (inputs m c t hw) i h x e]
  unfold wanted
  rw [Cert.Reference4Ideal.Attn.laid_real eighth_word hw (A2 m c) (A3 m c) ⟨t.val % 2, by omega⟩ (batch t) (at256 i x) ⟨128 * h.val + e.val, by omega⟩]
  have el : (⟨(128 * h.val + e.val) % 64, by omega⟩ : Fin 64) = ⟨e.val % 64, by omega⟩ := Fin.ext (by dsimp only; omega)
  dsimp only
  rw [g_entry, el]
  congr 1
  funext a
  exact att_same m c t (headAt h e) _ (by show 4 * (t.val % 2) + (128 * h.val + e.val) / 64 = 4 * (t.val % 2) + (2 * h.val + e.val / 64); omega) _ _

include hw in
/-- The array the call leaves. -/
theorem final : (dats m 0 c).arrAt 4 cfg0.N = wanted m c := by
  refine (dats m 0 c).arrAt_eq_of_covers 4 (wanted m c) (by decide +kernel) fun t _ y => ?_
  blk_simp
  rw [after4]
  have y0 : (y 0).val < 1 := (y 0).isLt
  have y1 : (y 1).val < 2048 := (y 1).isLt
  have y2 : (y 2).val < 256 := (y 2).isLt
  refine (tile_same m c hw t (rowOf y) (headOf y) ⟨(y 1).val % 256, by omega⟩ ⟨(y 2).val % 128, by omega⟩).trans ?_
  refine congrArg (wanted m c) ?_
  have r : (⟨2048 * (batch t).val + (at256 (rowOf y) ⟨(y 1).val % 256, by omega⟩).val, by omega⟩ : Fin 65536)
      = ⟨2048 * (t.val / 2) + (y 1).val, by have : t.val < 64 := t.isLt; omega⟩ :=
    Fin.ext (by show 2048 * (t.val / 2) + (256 * ((y 1).val / 256) + (y 1).val % 256) = 2048 * (t.val / 2) + (y 1).val; omega)
  have e : (⟨128 * (headOf y).val + (⟨(y 2).val % 128, by omega⟩ : Fin 128).val, by omega⟩ : Fin 256) = ⟨(y 2).val, y2⟩ :=
    Fin.ext (by show 128 * ((y 2).val / 128) + (y 2).val % 128 = (y 2).val; omega)
  rw [r, e]
  blk_ext [idx t]

end Cert.Kernel4Ideal.Sb
-- ==== Proof.lean ====
/-
  The proof of `Cert.Claim`: the frames from the attention call's run, which is proved once for both readings of the
  program, and the reference's from its own run; and the equation of the two results. The same for the feed-forward call,
  for the input projections and for the stick-breaking attention.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Pre_bounded
public import proofs.«01_k».proof.Proof.Diff.Run
public import proofs.«01_k».proof.Proof.Diff.Bits
public import proofs.«01_k».proof.Proof.Diff.Finite
public import proofs.«01_k».proof.Proof.Diff.Equation
public import proofs.«01_k».proof.Proof.Gen.Kernel2.Frame
public import proofs.«01_k».proof.Proof.Ffn.Equation
public import proofs.«01_k».proof.Proof.Proj.Equation
public import proofs.«01_k».proof.Proof.Sb.Run
public import proofs.«01_k».proof.Proof.Sb.Bits
public import proofs.«01_k».proof.Proof.Sb.Bounded
public import proofs.«01_k».proof.Proof.Sb.Equation

@[expose] public section

noncomputable section

namespace Cert.Proof

open Idealize.ShloMosaic Idealize.SL.Sem

/-- The program as the device runs it: the run over any reading of the floats, at the machine's own. -/
theorem frame_p : Cert.quiescent_Kernel := fun m ρ _ => Cert.Kernel.Diff.run_of (Cert.KernelIdeal.Diff.frame_quiescent m ρ)

/-- The program over the extended reals: the same run. -/
theorem frame_pi : Cert.quiescent_KernelIdeal := fun m ρ _ => Cert.KernelIdeal.Diff.frame_quiescent m ρ

/-- The reference's run; it declares no semaphore, so its counters are zero. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From finite arguments both programs leave the reference's result. -/
theorem algebraic : Cert.algebraic_KernelIdeal_ReferenceIdeal_pre_finite := fun m g m' g' hpre hagree => by
  refine ⟨fun c => Cert.KernelIdeal.Diff.wanted m c, ?_, ?_⟩
  · refine (θ_run Cert.KernelIdeal.defs _ _).mono (fun r h c => ⟨?_, h.2.1 c⟩)
      (θ_run_and (Cert.KernelIdeal.Diff.run_main m g) (Cert.KernelIdeal.Diff.frame_quiescent m g))
    obtain ⟨h0, h1, h2, h3, h4, h5, h6⟩ := Cert.Pre_finite.Read.reals (hpre c)
    obtain ⟨l, hl⟩ := Cert.KernelIdeal.Diff.lam_real m c h3 h4 h5 h6
    exact (h.1.out_eq c 5).trans
      (Cert.KernelIdeal.Diff.final m c (fun _ _ _ _ => h0 _) (fun _ _ _ _ => h1 _) (fun _ _ _ _ => h2 _) l hl)
  · refine (θ_run Cert.ReferenceIdeal.defs _ _).mono (fun r h c => ⟨?_, (h c).2⟩) (Cert.ReferenceIdeal.Value.run (F := Ideal) m' g')
    obtain ⟨e0, e1, e2, e3, e4, e5, e6, e7⟩ := hagree c
    refine ((h c).1.trans (Cert.ReferenceIdeal.Attn.res_eq m' c)).trans ?_
    rw [e0, e1, e2, e3, e4, e5, e6, e7]
    rfl

/-- The feed-forward call, as the device runs it and over the extended reals, and its reference. -/
theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- From any arguments the feed-forward call and its reference leave the same result. -/
theorem algebraic2 : Cert.algebraic_Kernel2Ideal_Reference2Ideal := fun m g m' g' _ hagree => by
  refine ⟨fun c => Cert.Kernel2Ideal.Ffn.wanted m c, ?_, ?_⟩
  · exact (θ_run Cert.Kernel2Ideal.defs _ _).mono (fun r h c => ⟨(h c).1.trans (Cert.Kernel2Ideal.Ffn.final m c), (h c).2⟩)
      (Cert.Kernel2Ideal.Value.run_blocks m g)
  · refine (θ_run Cert.Reference2Ideal.defs _ _).mono (fun r h c => ⟨?_, (h c).2⟩) (Cert.Reference2Ideal.Value.run (F := Ideal) m' g')
    obtain ⟨e0, e1, e2, e3, e4, e5, e6, e7, e8⟩ := hagree c
    refine ((h c).1.trans (Cert.Reference2Ideal.Ffn.res_eq m' c)).trans ?_
    rw [e0, e1, e2, e3, e4, e5, e6, e7, e8]
    rfl

/-- The input projections, as the device runs them and over the extended reals, and their reference. -/
theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- From any arguments the input projections and their reference leave the same two results. -/
theorem algebraic3 : Cert.algebraic_Kernel3Ideal_Reference3Ideal := fun m g m' g' _ hagree => by
  refine ⟨fun c => Cert.Kernel3Ideal.Proj.wantedRows m c, fun c => Cert.Kernel3Ideal.Proj.wantedValues m c, ?_, ?_⟩
  · exact (θ_run Cert.Kernel3Ideal.defs _ _).mono
      (fun r h c => ⟨(h c).1.trans (Cert.Kernel3Ideal.Proj.final_rows m c), (h c).2.1.trans (Cert.Kernel3Ideal.Proj.final_values m c), (h c).2.2⟩)
      (Cert.Kernel3Ideal.Value.run_blocks m g)
  · refine (θ_run Cert.Reference3Ideal.defs _ _).mono (fun r h c => ⟨?_, ?_, (h c).2.2⟩) (Cert.Reference3Ideal.Value.run (F := Ideal) m' g')
    · obtain ⟨e0, e1, e2, e3⟩ := hagree c
      refine ((h c).1.trans (Cert.Reference3Ideal.Proj.first_eq m' c)).trans ?_
      rw [e0, e1, e2, e3]
      rfl
    · obtain ⟨e0, e1, e2, e3⟩ := hagree c
      refine (h c).2.1.trans ?_
      rw [e0, e2, e3]
      rfl

/-- The stick-breaking attention as the device runs it, over the extended reals, and its reference. -/
theorem frame_p4 : Cert.quiescent_Kernel4 := fun m ρ _ =>
  letI : Named Bits := Cert.Kernel4.Sb.bitsNamed
  Cert.Kernel4.Sb.run_of (Cert.Kernel4Ideal.Sb.frame_quiescent m ρ)

theorem frame_pi4 : Cert.quiescent_Kernel4Ideal := fun m ρ _ => Cert.Kernel4Ideal.Sb.frame_quiescent m ρ

theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The printed factor is the named `1 / log 2`, wherever it stands. -/
theorem preserves4 : Cert.preserves_Kernel4_Kernel4Ideal :=
  IdealRules.named_const.statement Cert.Kernel4Ideal.κ "log2e" .f32 0x3FB8AA3B#32 (((Real.log 2)⁻¹ : ℝ) : EReal) rfl

/-- Where the base-two scores of the keys before a query are at most the clamp, both programs leave the reference's result. -/
theorem algebraic4 : Cert.algebraic_Kernel4Ideal_Reference4Ideal_pre_bounded := fun m g m' g' hpre hagree => by
  refine ⟨fun c => Cert.Kernel4Ideal.Sb.wanted m c, ?_, ?_⟩
  · refine (θ_run Cert.Kernel4Ideal.defs _ _).mono (fun r h c => ⟨?_, h.2.1 c⟩)
      (θ_run_and (Cert.Kernel4Ideal.Sb.run_main m g) (Cert.Kernel4Ideal.Sb.frame_quiescent m g))
    refine (h.1.out_eq c 4).trans (Cert.Kernel4Ideal.Sb.final m c fun b hh R K hK => ?_)
    rw [← Cert.Kernel4Ideal.Sb.logits_eq]
    exact Cert.Pre_bounded.Read.reads (hpre c) b hh R K hK
  · refine (θ_run Cert.Reference4Ideal.defs _ _).mono (fun r h c => ⟨?_, (h c).2⟩) (Cert.Reference4Ideal.Value.run (F := Ideal) m' g')
    obtain ⟨e0, e1, e2, e3⟩ := hagree c
    refine ((h c).1.trans (Cert.Reference4Ideal.Attn.res_eq m' c)).trans ?_
    rw [e0, e1, e2, e3]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_bounded.Gen.facts, frame_p, frame_pi, fun m ρ _ => frame_pi m ρ trivial, frame_ri,
    fun m ρ _ => frame_ri m ρ trivial, frame_p2, frame_pi2, frame_ri2, frame_p3, frame_pi3, frame_ri3, frame_p4, frame_pi4,
    fun m ρ _ => frame_pi4 m ρ trivial, frame_ri4, fun m ρ _ => frame_ri4 m ρ trivial, trivial, algebraic, trivial,
    algebraic2, trivial, algebraic3, preserves4, algebraic4⟩

end Cert.Proof

end
